-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_ids_in_range_segments_finite [hPre_ids_in_range_segments_finite : Cert.Pre_ids_in_range_segments_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_segments_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_segments_finite [hPre_ids_in_range_segments_finite : Cert.Pre_ids_in_range_segments_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_segments_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_ids_in_range_segments_finite [hKernelIdeal : Cert.KernelIdeal.Facts] [hPre_ids_in_range_segments_finite : Cert.Pre_ids_in_range_segments_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_segments_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ids_in_range_segments_finite [hReferenceIdeal : Cert.ReferenceIdeal.Facts] [hPre_ids_in_range_segments_finite : Cert.Pre_ids_in_range_segments_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_segments_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_ids_in_range_segments_finite [hKernelIdeal : Cert.KernelIdeal.Facts] [hReferenceIdeal : Cert.ReferenceIdeal.Facts] [hPre_ids_in_range_segments_finite : Cert.Pre_ids_in_range_segments_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_segments_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_in_range_segments_finite : Cert.Pre_ids_in_range_segments_finite.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_in_range_segments_finite (hKernelIdeal := hKernelIdeal) (hPre_ids_in_range_segments_finite := hPre_ids_in_range_segments_finite)
    ∧ quiescent_ReferenceIdeal (hReferenceIdeal := hReferenceIdeal)
    ∧ quiescent_ReferenceIdeal_pre_ids_in_range_segments_finite (hReferenceIdeal := hReferenceIdeal) (hPre_ids_in_range_segments_finite := hPre_ids_in_range_segments_finite)
    ∧ preserves_Kernel_KernelIdeal
    ∧ algebraic_KernelIdeal_ReferenceIdeal_pre_ids_in_range_segments_finite (hKernelIdeal := hKernelIdeal) (hReferenceIdeal := hReferenceIdeal) (hPre_ids_in_range_segments_finite := hPre_ids_in_range_segments_finite)
-- ==== Pre_ids_in_range.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S_ : Shape := ⟨0, ![]⟩

class Facts : Prop where
  bcast_S_S1024x200 : S_.BroadcastsInDim S1024x200 (![] : Fin 0 → Fin S1024x200.rank)

variable [Facts]

def fn {F : FTy → Type} [FloatOps F] (main_arg0 : IVec S1024x200 32) (main_arg1 : IVec S1024x200 32) (main_arg2 : FVec F S100000x128 .f32) (main_arg3 : FVec F S512x128 .f32) (main_arg4 : FVec F S2x128 .f32) (main_arg5 : FVec F S128 .f32) (main_arg6 : FVec F S128 .f32) : IVec S1024x200 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 32 := constantI S_ 32 0#32
  let main_v5 : IVec S1024x200 32 := broadcastInDim S1024x200 ![] bcast_S_S1024x200 main_c_1
  let main_v6 : IVec S1024x200 1 := cmpi .sge main_arg1 main_v5
  let main_v7 : IVec S1024x200 1 := andi main_v4 main_v6
  let main_c_2 : IVec S_ 32 := constantI S_ 32 2#32
  let main_v8 : IVec S1024x200 32 := broadcastInDim S1024x200 ![] bcast_S_S1024x200 main_c_2
  let main_v9 : IVec S1024x200 1 := cmpi .slt main_arg1 main_v8
  let main_v10 : IVec S1024x200 1 := andi main_v7 main_v9
  main_v10
-- ==== Pre_ids_in_range_segments_finite.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S_ : Shape := ⟨0, ![]⟩

class Facts : Prop where
  bcast_S_S1024x200 : S_.BroadcastsInDim S1024x200 (![] : Fin 0 → Fin S1024x200.rank)
  bcast_S_S2x128 : S_.BroadcastsInDim S2x128 (![] : Fin 0 → Fin S2x128.rank)
  reducesTo_S2x128_S_d0_1 : S2x128.ReducesTo [0, 1] S_
  h_S_ : 0 < S_.numel

variable [Facts]

def fn {F : FTy → Type} [FloatOps F] (main_arg0 : IVec S1024x200 32) (main_arg1 : IVec S1024x200 32) (main_arg2 : FVec F S100000x128 .f32) (main_arg3 : FVec F S512x128 .f32) (main_arg4 : FVec F S2x128 .f32) (main_arg5 : FVec F S128 .f32) (main_arg6 : FVec F S128 .f32) : IVec S1024x200 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 32 := constantI S_ 32 0#32
  let main_v5 : IVec S1024x200 32 := broadcastInDim S1024x200 ![] bcast_S_S1024x200 main_c_1
  let main_v6 : IVec S1024x200 1 := cmpi .sge main_arg1 main_v5
  let main_v7 : IVec S1024x200 1 := andi main_v4 main_v6
  let main_c_2 : IVec S_ 32 := constantI S_ 32 2#32
  let main_v8 : IVec S1024x200 32 := broadcastInDim S1024x200 ![] bcast_S_S1024x200 main_c_2
  let main_v9 : IVec S1024x200 1 := cmpi .slt main_arg1 main_v8
  let main_v10 : IVec S1024x200 1 := andi main_v7 main_v9
  let main_v11 : FVec F S2x128 .f32 := Host.absf main_arg4
  let main_cst : FVec F S_ .f32 := constant S_ .f32 0x7F800000#32
  let main_v12 : FVec F S2x128 .f32 := broadcastInDim S2x128 ![] bcast_S_S2x128 main_cst
  let main_v13 : IVec S2x128 1 := cmpf .olt main_v11 main_v12
  let main_c_3 : IVec S_ 1 := constantI S_ 1 1#1
  let main_v14 : IVec S_ 1 := (fun x v => Host.reduce IntOp.andi x v reducesTo_S2x128_S_d0_1 h_S_) main_v13 main_c_3
  let main_v15 : IVec S1024x200 1 := broadcastInDim S1024x200 ![] bcast_S_S1024x200 main_v14
  let main_v16 : IVec S1024x200 1 := andi main_v10 main_v15
  main_v16
-- ==== Kernel.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S200x128 : Shape := ⟨2, ![200, 128]⟩
abbrev S1x128 : Shape := ⟨2, ![1, 128]⟩
abbrev S1x204800 : Shape := ⟨2, ![1, 204800]⟩
abbrev S51200x128 : Shape := ⟨2, ![51200, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S256x200x128 : Shape := ⟨3, ![256, 200, 128]⟩
abbrev S1024x200x128 : Shape := ⟨3, ![1024, 200, 128]⟩
abbrev S32x200x128 : Shape := ⟨3, ![32, 200, 128]⟩
abbrev S32x200 : Shape := ⟨2, ![32, 200]⟩
abbrev S1x200x128 : Shape := ⟨3, ![1, 200, 128]⟩
abbrev S32x200x1 : Shape := ⟨3, ![32, 200, 1]⟩

abbrev nBuf : Table → Nat
  | .hbm => 28
  | .local .tc .vmem => 40
  | .local .scVector .vmem => 8
  | _ => 0

abbrev bufTy : (tb : Table) → Fin (nBuf tb) → BufTy
  | .hbm, ⟨0, _⟩ => ⟨S1024x200, .i32⟩
  | .hbm, ⟨1, _⟩ => ⟨S1024x200, .i32⟩
  | .hbm, ⟨2, _⟩ => ⟨S100000x128, .f32⟩
  | .hbm, ⟨3, _⟩ => ⟨S512x128, .f32⟩
  | .hbm, ⟨4, _⟩ => ⟨S2x128, .f32⟩
  | .hbm, ⟨5, _⟩ => ⟨S128, .f32⟩
  | .hbm, ⟨6, _⟩ => ⟨S128, .f32⟩
  | .hbm, ⟨7, _⟩ => ⟨S1024x200, .bf16⟩
  | .hbm, ⟨8, _⟩ => ⟨S200x128, .f32⟩
  | .hbm, ⟨9, _⟩ => ⟨S200x128, .bf16⟩
  | .hbm, ⟨10, _⟩ => ⟨S2x128, .bf16⟩
  | .hbm, ⟨11, _⟩ => ⟨S128, .bf16⟩
  | .hbm, ⟨12, _⟩ => ⟨S1x128, .bf16⟩
  | .hbm, ⟨13, _⟩ => ⟨S128, .bf16⟩
  | .hbm, ⟨14, _⟩ => ⟨S1x128, .bf16⟩
  | .hbm, ⟨15, _⟩ => ⟨S1x204800, .i32⟩
  | .hbm, ⟨16, _⟩ => ⟨S51200x128, .f32⟩
  | .hbm, ⟨17, _⟩ => ⟨S256x200x128, .f32⟩
  | .hbm, ⟨18, _⟩ => ⟨S51200x128, .f32⟩
  | .hbm, ⟨19, _⟩ => ⟨S256x200x128, .f32⟩
  | .hbm, ⟨20, _⟩ => ⟨S51200x128, .f32⟩
  | .hbm, ⟨21, _⟩ => ⟨S256x200x128, .f32⟩
  | .hbm, ⟨22, _⟩ => ⟨S51200x128, .f32⟩
  | .hbm, ⟨23, _⟩ => ⟨S256x200x128, .f32⟩
  | .hbm, ⟨24, _⟩ => ⟨S1024x200x128, .f32⟩
  | .hbm, ⟨25, _⟩ => ⟨S1024x200x128, .f32⟩
  | .hbm, ⟨26, _⟩ => ⟨S1024x200x128, .f32⟩
  | .hbm, ⟨27, _⟩ => ⟨S1024x200x128, .f32⟩
  | .local .tc .vmem, ⟨0, _⟩ => ⟨S32x200x128, .f32⟩
  | .local .tc .vmem, ⟨1, _⟩ => ⟨S32x200x128, .f32⟩
  | .local .tc .vmem, ⟨2, _⟩ => ⟨S32x200, .bf16⟩
  | .local .tc .vmem, ⟨3, _⟩ => ⟨S32x200, .bf16⟩
  | .local .tc .vmem, ⟨4, _⟩ => ⟨S200x128, .bf16⟩
  | .local .tc .vmem, ⟨5, _⟩ => ⟨S2x128, .bf16⟩
  | .local .tc .vmem, ⟨6, _⟩ => ⟨S1x128, .bf16⟩
  | .local .tc .vmem, ⟨7, _⟩ => ⟨S1x128, .bf16⟩
  | .local .tc .vmem, ⟨8, _⟩ => ⟨S32x200x128, .f32⟩
  | .local .tc .vmem, ⟨9, _⟩ => ⟨S32x200x128, .f32⟩
  | .local .tc .vmem, ⟨10, _⟩ => ⟨S32x200x128, .f32⟩
  | .local .tc .vmem, ⟨11, _⟩ => ⟨S32x200x128, .f32⟩
  | .local .tc .vmem, ⟨12, _⟩ => ⟨S32x200, .bf16⟩
  | .local .tc .vmem, ⟨13, _⟩ => ⟨S32x200, .bf16⟩
  | .local .tc .vmem, ⟨14, _⟩ => ⟨S200x128, .bf16⟩
  | .local .tc .vmem, ⟨15, _⟩ => ⟨S2x128, .bf16⟩
  | .local .tc .vmem, ⟨16, _⟩ => ⟨S1x128, .bf16⟩
  | .local .tc .vmem, ⟨17, _⟩ => ⟨S1x128, .bf16⟩
  | .local .tc .vmem, ⟨18, _⟩ => ⟨S32x200x128, .f32⟩
  | .local .tc .vmem, ⟨19, _⟩ => ⟨S32x200x128, .f32⟩
  | .local .tc .vmem, ⟨20, _⟩ => ⟨S32x200x128, .f32⟩
  | .local .tc .vmem, ⟨21, _⟩ => ⟨S32x200x128, .f32⟩
  | .local .tc .vmem, ⟨22, _⟩ => ⟨S32x200, .bf16⟩
  | .local .tc .vmem, ⟨23, _⟩ => ⟨S32x200, .bf16⟩
  | .local .tc .vmem, ⟨24, _⟩ => ⟨S200x128, .bf16⟩
  | .local .tc .vmem, ⟨25, _⟩ => ⟨S2x128, .bf16⟩
  | .local .tc .vmem, ⟨26, _⟩ => ⟨S1x128, .bf16⟩
  | .local .tc .vmem, ⟨27, _⟩ => ⟨S1x128, .bf16⟩
  | .local .tc .vmem, ⟨28, _⟩ => ⟨S32x200x128, .f32⟩
  | .local .tc .vmem, ⟨29, _⟩ => ⟨S32x200x128, .f32⟩
  | .local .tc .vmem, ⟨30, _⟩ => ⟨S32x200x128, .f32⟩
  | .local .tc .vmem, ⟨31, _⟩ => ⟨S32x200x128, .f32⟩
  | .local .tc .vmem, ⟨32, _⟩ => ⟨S32x200, .bf16⟩
  | .local .tc .vmem, ⟨33, _⟩ => ⟨S32x200, .bf16⟩
  | .local .tc .vmem, ⟨34, _⟩ => ⟨S200x128, .bf16⟩
  | .local .tc .vmem, ⟨35, _⟩ => ⟨S2x128, .bf16⟩
  | .local .tc .vmem, ⟨36, _⟩ => ⟨S1x128, .bf16⟩
  | .local .tc .vmem, ⟨37, _⟩ => ⟨S1x128, .bf16⟩
  | .local .tc .vmem, ⟨38, _⟩ => ⟨S32x200x128, .f32⟩
  | .local .tc .vmem, ⟨39, _⟩ => ⟨S32x200x128, .f32⟩
  | .local .scVector .vmem, ⟨0, _⟩ => ⟨S2x1x128, .i32⟩
  | .local .scVector .vmem, ⟨1, _⟩ => ⟨S2x128x128, .f32⟩
  | .local .scVector .vmem, ⟨2, _⟩ => ⟨S2x1x128, .i32⟩
  | .local .scVector .vmem, ⟨3, _⟩ => ⟨S2x128x128, .f32⟩
  | .local .scVector .vmem, ⟨4, _⟩ => ⟨S2x1x128, .i32⟩
  | .local .scVector .vmem, ⟨5, _⟩ => ⟨S2x128x128, .f32⟩
  | .local .scVector .vmem, ⟨6, _⟩ => ⟨S2x1x128, .i32⟩
  | .local .scVector .vmem, ⟨7, _⟩ => ⟨S2x128x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 64 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTables nBuf rfl bufTy 4 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_arg2_scv : Ref sig .scVector := ⟨.hbm, 2, rfl⟩
abbrev main_v8_scv : Ref sig .scVector := ⟨.hbm, 15, rfl⟩
abbrev main_v9_scv : Ref sig .scVector := ⟨.hbm, 16, rfl⟩
abbrev main_v11_scv : Ref sig .scVector := ⟨.hbm, 18, rfl⟩
abbrev main_v13_scv : Ref sig .scVector := ⟨.hbm, 20, rfl⟩
abbrev main_v15_scv : Ref sig .scVector := ⟨.hbm, 22, rfl⟩
abbrev cc4_stg0_0 : Ref sig .tc := ⟨.vmem, 0, rfl⟩
abbrev cc4_stg0_1 : Ref sig .tc := ⟨.vmem, 1, rfl⟩
abbrev cc4_stg1_0 : Ref sig .tc := ⟨.vmem, 2, rfl⟩
abbrev cc4_stg1_1 : Ref sig .tc := ⟨.vmem, 3, rfl⟩
abbrev cc4_stg2_0 : Ref sig .tc := ⟨.vmem, 4, rfl⟩
abbrev cc4_stg3_0 : Ref sig .tc := ⟨.vmem, 5, rfl⟩
abbrev cc4_stg4_0 : Ref sig .tc := ⟨.vmem, 6, rfl⟩
abbrev cc4_stg5_0 : Ref sig .tc := ⟨.vmem, 7, rfl⟩
abbrev cc4_stg6_0 : Ref sig .tc := ⟨.vmem, 8, rfl⟩
abbrev cc4_stg6_1 : Ref sig .tc := ⟨.vmem, 9, rfl⟩
abbrev cc5_stg0_0 : Ref sig .tc := ⟨.vmem, 10, rfl⟩
abbrev cc5_stg0_1 : Ref sig .tc := ⟨.vmem, 11, rfl⟩
abbrev cc5_stg1_0 : Ref sig .tc := ⟨.vmem, 12, rfl⟩
abbrev cc5_stg1_1 : Ref sig .tc := ⟨.vmem, 13, rfl⟩
abbrev cc5_stg2_0 : Ref sig .tc := ⟨.vmem, 14, rfl⟩
abbrev cc5_stg3_0 : Ref sig .tc := ⟨.vmem, 15, rfl⟩
abbrev cc5_stg4_0 : Ref sig .tc := ⟨.vmem, 16, rfl⟩
abbrev cc5_stg5_0 : Ref sig .tc := ⟨.vmem, 17, rfl⟩
abbrev cc5_stg6_0 : Ref sig .tc := ⟨.vmem, 18, rfl⟩
abbrev cc5_stg6_1 : Ref sig .tc := ⟨.vmem, 19, rfl⟩
abbrev cc6_stg0_0 : Ref sig .tc := ⟨.vmem, 20, rfl⟩
abbrev cc6_stg0_1 : Ref sig .tc := ⟨.vmem, 21, rfl⟩
abbrev cc6_stg1_0 : Ref sig .tc := ⟨.vmem, 22, rfl⟩
abbrev cc6_stg1_1 : Ref sig .tc := ⟨.vmem, 23, rfl⟩
abbrev cc6_stg2_0 : Ref sig .tc := ⟨.vmem, 24, rfl⟩
abbrev cc6_stg3_0 : Ref sig .tc := ⟨.vmem, 25, rfl⟩
abbrev cc6_stg4_0 : Ref sig .tc := ⟨.vmem, 26, rfl⟩
abbrev cc6_stg5_0 : Ref sig .tc := ⟨.vmem, 27, rfl⟩
abbrev cc6_stg6_0 : Ref sig .tc := ⟨.vmem, 28, rfl⟩
abbrev cc6_stg6_1 : Ref sig .tc := ⟨.vmem, 29, rfl⟩
abbrev cc7_stg0_0 : Ref sig .tc := ⟨.vmem, 30, rfl⟩
abbrev cc7_stg0_1 : Ref sig .tc := ⟨.vmem, 31, rfl⟩
abbrev cc7_stg1_0 : Ref sig .tc := ⟨.vmem, 32, rfl⟩
abbrev cc7_stg1_1 : Ref sig .tc := ⟨.vmem, 33, rfl⟩
abbrev cc7_stg2_0 : Ref sig .tc := ⟨.vmem, 34, rfl⟩
abbrev cc7_stg3_0 : Ref sig .tc := ⟨.vmem, 35, rfl⟩
abbrev cc7_stg4_0 : Ref sig .tc := ⟨.vmem, 36, rfl⟩
abbrev cc7_stg5_0 : Ref sig .tc := ⟨.vmem, 37, rfl⟩
abbrev cc7_stg6_0 : Ref sig .tc := ⟨.vmem, 38, rfl⟩
abbrev cc7_stg6_1 : Ref sig .tc := ⟨.vmem, 39, rfl⟩
abbrev cc0_scoped0 : Ref sig .scVector := ⟨.vmem, 0, rfl⟩
abbrev cc0_scoped2 : Ref sig .scVector := ⟨.vmem, 1, rfl⟩
abbrev cc1_scoped0 : Ref sig .scVector := ⟨.vmem, 2, rfl⟩
abbrev cc1_scoped2 : Ref sig .scVector := ⟨.vmem, 3, rfl⟩
abbrev cc2_scoped0 : Ref sig .scVector := ⟨.vmem, 4, rfl⟩
abbrev cc2_scoped2 : Ref sig .scVector := ⟨.vmem, 5, rfl⟩
abbrev cc3_scoped0 : Ref sig .scVector := ⟨.vmem, 6, rfl⟩
abbrev cc3_scoped2 : Ref sig .scVector := ⟨.vmem, 7, rfl⟩
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem3_0 : DmaSem sig := 29
abbrev cc4_sem4_0 : DmaSem sig := 30
abbrev cc4_sem5_0 : DmaSem sig := 31
abbrev cc4_sem6_0 : DmaSem sig := 32
abbrev cc4_sem6_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem6_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem3_0 : DmaSem sig := 49
abbrev cc6_sem4_0 : DmaSem sig := 50
abbrev cc6_sem5_0 : DmaSem sig := 51
abbrev cc6_sem6_0 : DmaSem sig := 52
abbrev cc6_sem6_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem3_0 : DmaSem sig := 59
abbrev cc7_sem4_0 : DmaSem sig := 60
abbrev cc7_sem5_0 : DmaSem sig := 61
abbrev cc7_sem6_0 : DmaSem sig := 62
abbrev cc7_sem6_1 : DmaSem sig := 63
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let c0_i32_6_r0 : BitVec 32 := 0#32
  let v14_r0 : BitVec 1 := Scalar.cmpi .sgt v11 c0_i32_6_r0
  let v15_r0 : BitVec 32 := Scalar.extui v14_r0
  let c0_i32_7_r0 : BitVec 32 := 0#32
  let v16_r0 : BitVec 1 := Scalar.cmpi .ne v15_r0 c0_i32_7_r0
  v16_r0

def k0_cond2 (i : grid0.Coords) : BitVec 1 :=
  let true_23_r0 : BitVec 1 := 1#1
  let c1_i32_8_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v17_r0 : BitVec 32 := Scalar.muli c1_i32_8_r0 v5
  let c0_i32_22_r0 : BitVec 32 := 0#32
  let v35_r0 : BitVec 1 := Scalar.cmpi .sgt v17_r0 c0_i32_22_r0
  let v36_r0 : BitVec 1 := Scalar.andi true_23_r0 v35_r0
  let true_24_r0 : BitVec 1 := 1#1
  let v37_r0 : BitVec 1 := Scalar.andi v36_r0 true_24_r0
  let v38_r0 : BitVec 32 := Scalar.extui v37_r0
  let c0_i32_26_r0 : BitVec 32 := 0#32
  let v39_r0 : BitVec 1 := Scalar.cmpi .ne v38_r0 c0_i32_26_r0
  v39_r0

def k0_off1 : Fin 3 → Nat :=
  let c0_i32_25_r0 : BitVec 32 := 0#32
  let c2_i32_r0 : BitVec 32 := 2#32
  let v80_r0 : BitVec 32 := Scalar.remui c0_i32_25_r0 c2_i32_r0
  let c0_i32_59_r0 : BitVec 32 := 0#32
  let c0_i32_60_r0 : BitVec 32 := 0#32
  ![v80_r0.toNat, 0, 0]
def k0_off2 (i : grid0.Coords) : Fin 2 → Nat :=
  let c0_i32_61_r0 : BitVec 32 := 0#32
  let c128_i32_r0 : BitVec 32 := 128#32
  let c0_i32_58_r0 : BitVec 32 := 0#32
  let c0_i32_11_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v20_r0 : BitVec 32 := Scalar.addi c0_i32_11_r0 v10
  let v81_r0 : BitVec 32 := Scalar.addi c0_i32_58_r0 v20_r0
  let v82_r0 : BitVec 32 := Scalar.muli c128_i32_r0 v81_r0
  ![0, v82_r0.toNat]
def k0_off3 : Fin 1 → Nat :=
  let c0_i32_25_r0 : BitVec 32 := 0#32
  let c2_i32_r0 : BitVec 32 := 2#32
  let v80_r0 : BitVec 32 := Scalar.remui c0_i32_25_r0 c2_i32_r0
  ![v80_r0.toNat]
@[reducible] def k0_t1_loop (i : grid0.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_36_r0 : BitVec 32 := 1#32
  ⟨c0_i32_30_r0, v46_r0, c1_i32_36_r0⟩
def k0_off4 (arg6_r0 : BitVec 32) : Fin 3 → Nat :=
  let c2_i32_105_r0 : BitVec 32 := 2#32
  let v170_r0 : BitVec 32 := Scalar.remui arg6_r0 c2_i32_105_r0
  let c0_i32_107_r0 : BitVec 32 := 0#32
  let c0_i32_108_r0 : BitVec 32 := 0#32
  ![v170_r0.toNat, 0, 0]
def k0_cond3 (i : grid0.Coords) (k0_t1 : Fin (k0_t1_loop i).trips) (arg10_r0 : BitVec 32) : BitVec 1 :=
  let c0_i32_71_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v101_r0 : BitVec 32 := Scalar.addi c0_i32_71_r0 v84_r0
  let c0_i32_72_r0 : BitVec 32 := 0#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v102_r0 : BitVec 32 := Scalar.addi c0_i32_72_r0 v95_r0
  let v103_r0 : BitVec 1 := Scalar.cmpi .ne v101_r0 v102_r0
  let c0_i32_30_r0 : BitVec 32 := 0#32
  let c1_i32_36_r0 : BitVec 32 := 1#32
  let arg5_r0 : BitVec 32 := Scf.iv c0_i32_30_r0 c1_i32_36_r0 k0_t1
  let c1_i32_58_r0 : BitVec 32 := 1#32
  let v80_r0 : BitVec 32 := Scalar.muli c1_i32_58_r0 v5
  let c2_i32_r0 : BitVec 32 := 2#32
  let v104_r0 : BitVec 32 := Scalar.subi v80_r0 c2_i32_r0
  let c1_i32_73_r0 : BitVec 32 := 1#32
  let v105_r0 : BitVec 32 := Scalar.addi v104_r0 c1_i32_73_r0
  let v106_r0 : BitVec 1 := Scalar.cmpi .sge arg5_r0 v105_r0
  let true_74_r0 : BitVec 1 := 1#1
  let v107_r0 : BitVec 1 := Scalar.xori v106_r0 true_74_r0
  let v108_r0 : BitVec 1 := Scalar.andi v103_r0 v107_r0
  let true_75_r0 : BitVec 1 := 1#1
  let v109_r0 : BitVec 1 := Scalar.andi v108_r0 true_75_r0
  let v110_r0 : BitVec 32 := Scalar.extui v109_r0
  let c0_i32_76_r0 : BitVec 32 := 0#32
  let v111_r0 : BitVec 1 := Scalar.cmpi .ne v110_r0 c0_i32_76_r0
  v111_r0

def k0_off5 (i : grid0.Coords) (arg10_r0 : BitVec 32) : Fin 2 → Nat :=
  let c0_i32_109_r0 : BitVec 32 := 0#32
  let c128_i32_r0 : BitVec 32 := 128#32
  let c0_i32_106_r0 : BitVec 32 := 0#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v171_r0 : BitVec 32 := Scalar.addi c0_i32_106_r0 v95_r0
  let v172_r0 : BitVec 32 := Scalar.muli c128_i32_r0 v171_r0
  ![0, v172_r0.toNat]
def k0_off6 (arg6_r0 : BitVec 32) : Fin 1 → Nat :=
  let c2_i32_105_r0 : BitVec 32 := 2#32
  let v170_r0 : BitVec 32 := Scalar.remui arg6_r0 c2_i32_105_r0
  ![v170_r0.toNat]
def k0_off7 (arg7_r0 : BitVec 32) : Fin 3 → Nat :=
  let c2_i32_106_r0 : BitVec 32 := 2#32
  let v172_r0 : BitVec 32 := Scalar.remui arg7_r0 c2_i32_106_r0
  let c0_i32_107_r0 : BitVec 32 := 0#32
  let c0_i32_108_r0 : BitVec 32 := 0#32
  ![v172_r0.toNat, 0, 0]
def k0_cond4 (i : grid0.Coords) (k0_t1 : Fin (k0_t1_loop i).trips) (arg10_r0 : BitVec 32) : BitVec 1 :=
  let c0_i32_71_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v101_r0 : BitVec 32 := Scalar.addi c0_i32_71_r0 v84_r0
  let c0_i32_82_r0 : BitVec 32 := 0#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v121_r0 : BitVec 32 := Scalar.addi c0_i32_82_r0 v90_r0
  let v122_r0 : BitVec 1 := Scalar.cmpi .ne v101_r0 v121_r0
  let c0_i32_30_r0 : BitVec 32 := 0#32
  let c1_i32_36_r0 : BitVec 32 := 1#32
  let arg5_r0 : BitVec 32 := Scf.iv c0_i32_30_r0 c1_i32_36_r0 k0_t1
  let c0_i32_59_r0 : BitVec 32 := 0#32
  let v81_r0 : BitVec 1 := Scalar.cmpi .eq arg5_r0 c0_i32_59_r0
  let v123_r0 : BitVec 1 := Scalar.ori v122_r0 v81_r0
  let c0_i32_83_r0 : BitVec 32 := 0#32
  let v124_r0 : BitVec 1 := Scalar.cmpi .sge arg5_r0 c0_i32_83_r0
  let v125_r0 : BitVec 1 := Scalar.andi v123_r0 v124_r0
  let v126_r0 : BitVec 32 := Scalar.extui v125_r0
  let c0_i32_84_r0 : BitVec 32 := 0#32
  let v127_r0 : BitVec 1 := Scalar.cmpi .ne v126_r0 c0_i32_84_r0
  v127_r0

def k0_off8 (i : grid0.Coords) (arg10_r0 : BitVec 32) : Fin 2 → Nat :=
  let c0_i32_109_r0 : BitVec 32 := 0#32
  let c128_i32_r0 : BitVec 32 := 128#32
  let c0_i32_105_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v170_r0 : BitVec 32 := Scalar.addi c0_i32_105_r0 v84_r0
  let v171_r0 : BitVec 32 := Scalar.muli c128_i32_r0 v170_r0
  ![0, v171_r0.toNat]
def k0_off9 (arg7_r0 : BitVec 32) : Fin 1 → Nat :=
  let c2_i32_106_r0 : BitVec 32 := 2#32
  let v172_r0 : BitVec 32 := Scalar.remui arg7_r0 c2_i32_106_r0
  ![v172_r0.toNat]
def k0_off10 (arg8_r0 : BitVec 32) : Fin 3 → Nat :=
  let c2_i32_88_r0 : BitVec 32 := 2#32
  let v135_r0 : BitVec 32 := Scalar.remui arg8_r0 c2_i32_88_r0
  let c0_i32_105_r1 : BitVec 32 := 0#32
  let c0_i32_106_r1 : BitVec 32 := 0#32
  ![v135_r0.toNat, 0, 0]

def k0_chk2 (i : grid0.Coords) (arg8_r0 : BitVec 32) : Prop :=
  (∀ (k0_h1 : k0_cond1 i = 1#1), ∀ a, (k0_off10 arg8_r0) a + S1x128x128.size a ≤ S2x128x128.size a)
theorem k0_off10_inb : ∀ (i : grid0.Coords) (arg8_r0 : BitVec 32) (k0_hw2 : k0_chk2 i arg8_r0), ∀ (k0_h1 : k0_cond1 i = 1#1), ∀ a, (k0_off10 arg8_r0) a + S1x128x128.size a ≤ S2x128x128.size a := fun i arg8_r0 k0_hw2 k0_h1 => k0_hw2 k0_h1

def k0_off11 (arg7_r0 : BitVec 32) : Fin 3 → Nat :=
  let c2_i32_87_r0 : BitVec 32 := 2#32
  let v134_r0 : BitVec 32 := Scalar.remui arg7_r0 c2_i32_87_r0
  let c0_i32_107_r1 : BitVec 32 := 0#32
  let c0_i32_108_r1 : BitVec 32 := 0#32
  ![v134_r0.toNat, 0, 0]

def k0_chk3 (i : grid0.Coords) (arg7_r0 : BitVec 32) : Prop :=
  (∀ (k0_h1 : k0_cond1 i = 1#1), ∀ a, (k0_off11 arg7_r0) a + S1x1x128.size a ≤ S2x1x128.size a)
theorem k0_off11_inb : ∀ (i : grid0.Coords) (arg7_r0 : BitVec 32) (k0_hw3 : k0_chk3 i arg7_r0), ∀ (k0_h1 : k0_cond1 i = 1#1), ∀ a, (k0_off11 arg7_r0) a + S1x1x128.size a ≤ S2x1x128.size a := fun i arg7_r0 k0_hw3 k0_h1 => k0_hw3 k0_h1

def k0_off12 (arg8_r0 : BitVec 32) : Fin 3 → Nat :=
  let c2_i32_105_r0 : BitVec 32 := 2#32
  let v170_r0 : BitVec 32 := Scalar.remui arg8_r0 c2_i32_105_r0
  let c0_i32_106_r0 : BitVec 32 := 0#32
  let c0_i32_107_r0 : BitVec 32 := 0#32
  ![v170_r0.toNat, 0, 0]
def k0_cond7 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v141_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k0_t1
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v142_r0 : BitVec 1 := Scalar.ori v141_r0 v83_r0
  let v143_r0 : BitVec 32 := Scalar.extui v142_r0
  let c0_i32_91_r0 : BitVec 32 := 0#32
  let v144_r0 : BitVec 1 := Scalar.cmpi .ne v143_r0 c0_i32_91_r0
  v144_r0

def k0_off13 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v171_r0 : BitVec 32 := Scalar.muli c128_i32_r0 v84_r0
  let c0_i32_108_r0 : BitVec 32 := 0#32
  ![v171_r0.toNat, 0]
def k0_off14 (arg8_r0 : BitVec 32) : Fin 1 → Nat :=
  let c2_i32_105_r0 : BitVec 32 := 2#32
  let v170_r0 : BitVec 32 := Scalar.remui arg8_r0 c2_i32_105_r0
  ![v170_r0.toNat]
def k0_off15 (arg9_r0 : BitVec 32) : Fin 3 → Nat :=
  let c2_i32_105_r0 : BitVec 32 := 2#32
  let v170_r0 : BitVec 32 := Scalar.remui arg9_r0 c2_i32_105_r0
  let c0_i32_106_r0 : BitVec 32 := 0#32
  let c0_i32_107_r0 : BitVec 32 := 0#32
  ![v170_r0.toNat, 0, 0]
def k0_cond9 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v154_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k0_t1
  let c0_i32_59_r0 : BitVec 32 := 0#32
  let v81_r0 : BitVec 1 := Scalar.cmpi .eq arg5_r0 c0_i32_59_r0
  let true_97_r0 : BitVec 1 := 1#1
  let v155_r0 : BitVec 1 := Scalar.xori v81_r0 true_97_r0
  let v156_r0 : BitVec 1 := Scalar.andi v154_r0 v155_r0
  let v157_r0 : BitVec 32 := Scalar.extui v156_r0
  let c0_i32_98_r0 : BitVec 32 := 0#32
  let v158_r0 : BitVec 1 := Scalar.cmpi .ne v157_r0 c0_i32_98_r0
  v158_r0

def k0_off16 (i : grid0.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v171_r0 : BitVec 32 := Scalar.muli c128_i32_r0 v90_r0
  let c0_i32_108_r0 : BitVec 32 := 0#32
  ![v171_r0.toNat, 0]
def k0_off17 (arg9_r0 : BitVec 32) : Fin 1 → Nat :=
  let c2_i32_105_r0 : BitVec 32 := 2#32
  let v170_r0 : BitVec 32 := Scalar.remui arg9_r0 c2_i32_105_r0
  ![v170_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x128.size a ≤ S2x1x128.size a) ∧
  (∀ (k0_h1 : k0_cond1 i = 1#1), ∀ (k0_h3 : k0_cond3 i k0_t1 arg10_r0 = 1#1), ∀ a, (k0_off5 i arg10_r0) a + S1x128.size a ≤ S1x204800.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x128.size a ≤ S2x1x128.size a) ∧
  (∀ (k0_h1 : k0_cond1 i = 1#1), ∀ (k0_h4 : k0_cond4 i k0_t1 arg10_r0 = 1#1), ∀ a, (k0_off8 i arg10_r0) a + S1x128.size a ≤ S1x204800.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x128x128.size a ≤ S2x128x128.size a) ∧
  (∀ (k0_h1 : k0_cond1 i = 1#1), ∀ (k0_h7 : k0_cond7 i k0_t1 arg10_r0 = 1#1), ∀ a, (k0_off13 i arg10_r0) a + S128x128.size a ≤ S51200x128.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x128x128.size a ≤ S2x128x128.size a) ∧
  (∀ (k0_h1 : k0_cond1 i = 1#1), ∀ (k0_h9 : k0_cond9 i k0_t1 arg10_r0 = 1#1), ∀ a, (k0_off16 i arg10_r0) a + S128x128.size a ≤ S51200x128.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x128.size a ≤ S2x1x128.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x128.size a ≤ S1x204800.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x128.size a ≤ S2x1x128.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x128.size a ≤ S1x204800.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x128x128.size a ≤ S2x128x128.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S128x128.size a ≤ S51200x128.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x128x128.size a ≤ S2x128x128.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S128x128.size a ≤ S51200x128.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let v43_r0 : BitVec 32 := Scalar.addi c0_i32_30_r0 v42_r0
  let c1_i32_37_r0 : BitVec 32 := 1#32
  ⟨v46_r0, v43_r0, c1_i32_37_r0⟩
def k0_off18 (arg6_r0 : BitVec 32) : Fin 3 → Nat :=
  let c2_i32_105_r0 : BitVec 32 := 2#32
  let v170_r0 : BitVec 32 := Scalar.remui arg6_r0 c2_i32_105_r0
  let c0_i32_107_r0 : BitVec 32 := 0#32
  let c0_i32_108_r0 : BitVec 32 := 0#32
  ![v170_r0.toNat, 0, 0]
def k0_cond10 (i : grid0.Coords) (k0_t2 : Fin (k0_t2_loop i).trips) (arg10_r0 : BitVec 32) : BitVec 1 :=
  let c0_i32_71_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v101_r0 : BitVec 32 := Scalar.addi c0_i32_71_r0 v84_r0
  let c0_i32_72_r0 : BitVec 32 := 0#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v102_r0 : BitVec 32 := Scalar.addi c0_i32_72_r0 v95_r0
  let v103_r0 : BitVec 1 := Scalar.cmpi .ne v101_r0 v102_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k0_t2
  let c1_i32_58_r0 : BitVec 32 := 1#32
  let v80_r0 : BitVec 32 := Scalar.muli c1_i32_58_r0 v5
  let c2_i32_r0 : BitVec 32 := 2#32
  let v104_r0 : BitVec 32 := Scalar.subi v80_r0 c2_i32_r0
  let c1_i32_73_r0 : BitVec 32 := 1#32
  let v105_r0 : BitVec 32 := Scalar.addi v104_r0 c1_i32_73_r0
  let v106_r0 : BitVec 1 := Scalar.cmpi .sge arg5_r0 v105_r0
  let true_74_r0 : BitVec 1 := 1#1
  let v107_r0 : BitVec 1 := Scalar.xori v106_r0 true_74_r0
  let v108_r0 : BitVec 1 := Scalar.andi v103_r0 v107_r0
  let true_75_r0 : BitVec 1 := 1#1
  let v109_r0 : BitVec 1 := Scalar.andi v108_r0 true_75_r0
  let v110_r0 : BitVec 32 := Scalar.extui v109_r0
  let c0_i32_76_r0 : BitVec 32 := 0#32
  let v111_r0 : BitVec 1 := Scalar.cmpi .ne v110_r0 c0_i32_76_r0
  v111_r0

def k0_off19 (i : grid0.Coords) (arg10_r0 : BitVec 32) : Fin 2 → Nat :=
  let c0_i32_109_r0 : BitVec 32 := 0#32
  let c128_i32_r0 : BitVec 32 := 128#32
  let c0_i32_106_r0 : BitVec 32 := 0#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v171_r0 : BitVec 32 := Scalar.addi c0_i32_106_r0 v95_r0
  let v172_r0 : BitVec 32 := Scalar.muli c128_i32_r0 v171_r0
  ![0, v172_r0.toNat]
def k0_off20 (arg6_r0 : BitVec 32) : Fin 1 → Nat :=
  let c2_i32_105_r0 : BitVec 32 := 2#32
  let v170_r0 : BitVec 32 := Scalar.remui arg6_r0 c2_i32_105_r0
  ![v170_r0.toNat]
def k0_off21 (arg7_r0 : BitVec 32) : Fin 3 → Nat :=
  let c2_i32_106_r0 : BitVec 32 := 2#32
  let v172_r0 : BitVec 32 := Scalar.remui arg7_r0 c2_i32_106_r0
  let c0_i32_107_r0 : BitVec 32 := 0#32
  let c0_i32_108_r0 : BitVec 32 := 0#32
  ![v172_r0.toNat, 0, 0]
def k0_cond11 (i : grid0.Coords) (k0_t2 : Fin (k0_t2_loop i).trips) (arg10_r0 : BitVec 32) : BitVec 1 :=
  let c0_i32_71_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v101_r0 : BitVec 32 := Scalar.addi c0_i32_71_r0 v84_r0
  let c0_i32_82_r0 : BitVec 32 := 0#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v121_r0 : BitVec 32 := Scalar.addi c0_i32_82_r0 v90_r0
  let v122_r0 : BitVec 1 := Scalar.cmpi .ne v101_r0 v121_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k0_t2
  let c0_i32_59_r0 : BitVec 32 := 0#32
  let v81_r0 : BitVec 1 := Scalar.cmpi .eq arg5_r0 c0_i32_59_r0
  let v123_r0 : BitVec 1 := Scalar.ori v122_r0 v81_r0
  let c0_i32_83_r0 : BitVec 32 := 0#32
  let v124_r0 : BitVec 1 := Scalar.cmpi .sge arg5_r0 c0_i32_83_r0
  let v125_r0 : BitVec 1 := Scalar.andi v123_r0 v124_r0
  let v126_r0 : BitVec 32 := Scalar.extui v125_r0
  let c0_i32_84_r0 : BitVec 32 := 0#32
  let v127_r0 : BitVec 1 := Scalar.cmpi .ne v126_r0 c0_i32_84_r0
  v127_r0

def k0_off22 (i : grid0.Coords) (arg10_r0 : BitVec 32) : Fin 2 → Nat :=
  let c0_i32_109_r0 : BitVec 32 := 0#32
  let c128_i32_r0 : BitVec 32 := 128#32
  let c0_i32_105_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v170_r0 : BitVec 32 := Scalar.addi c0_i32_105_r0 v84_r0
  let v171_r0 : BitVec 32 := Scalar.muli c128_i32_r0 v170_r0
  ![0, v171_r0.toNat]
def k0_off23 (arg7_r0 : BitVec 32) : Fin 1 → Nat :=
  let c2_i32_106_r0 : BitVec 32 := 2#32
  let v172_r0 : BitVec 32 := Scalar.remui arg7_r0 c2_i32_106_r0
  ![v172_r0.toNat]
def k0_off24 (arg8_r0 : BitVec 32) : Fin 3 → Nat :=
  let c2_i32_88_r0 : BitVec 32 := 2#32
  let v135_r0 : BitVec 32 := Scalar.remui arg8_r0 c2_i32_88_r0
  let c0_i32_105_r2 : BitVec 32 := 0#32
  let c0_i32_106_r2 : BitVec 32 := 0#32
  ![v135_r0.toNat, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x128x128.size a ≤ S2x128x128.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x128x128.size a ≤ S2x128x128.size a := fun i k0_t2 arg8_r0 k0_hw5 k0_h1 => k0_hw5 k0_h1

def k0_off25 (arg7_r0 : BitVec 32) : Fin 3 → Nat :=
  let c2_i32_87_r0 : BitVec 32 := 2#32
  let v134_r0 : BitVec 32 := Scalar.remui arg7_r0 c2_i32_87_r0
  let c0_i32_107_r2 : BitVec 32 := 0#32
  let c0_i32_108_r2 : BitVec 32 := 0#32
  ![v134_r0.toNat, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x128.size a ≤ S2x1x128.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x128.size a ≤ S2x1x128.size a := fun i k0_t2 arg7_r0 k0_hw6 k0_h1 => k0_hw6 k0_h1

def k0_off26 (arg8_r0 : BitVec 32) : Fin 3 → Nat :=
  let c2_i32_105_r0 : BitVec 32 := 2#32
  let v170_r0 : BitVec 32 := Scalar.remui arg8_r0 c2_i32_105_r0
  let c0_i32_106_r0 : BitVec 32 := 0#32
  let c0_i32_107_r0 : BitVec 32 := 0#32
  ![v170_r0.toNat, 0, 0]
def k0_cond14 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v141_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k0_t2
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v142_r0 : BitVec 1 := Scalar.ori v141_r0 v83_r0
  let v143_r0 : BitVec 32 := Scalar.extui v142_r0
  let c0_i32_91_r0 : BitVec 32 := 0#32
  let v144_r0 : BitVec 1 := Scalar.cmpi .ne v143_r0 c0_i32_91_r0
  v144_r0

def k0_off27 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v171_r0 : BitVec 32 := Scalar.muli c128_i32_r0 v84_r0
  let c0_i32_108_r0 : BitVec 32 := 0#32
  ![v171_r0.toNat, 0]
def k0_off28 (arg8_r0 : BitVec 32) : Fin 1 → Nat :=
  let c2_i32_105_r0 : BitVec 32 := 2#32
  let v170_r0 : BitVec 32 := Scalar.remui arg8_r0 c2_i32_105_r0
  ![v170_r0.toNat]
def k0_off29 (arg9_r0 : BitVec 32) : Fin 3 → Nat :=
  let c2_i32_105_r0 : BitVec 32 := 2#32
  let v170_r0 : BitVec 32 := Scalar.remui arg9_r0 c2_i32_105_r0
  let c0_i32_106_r0 : BitVec 32 := 0#32
  let c0_i32_107_r0 : BitVec 32 := 0#32
  ![v170_r0.toNat, 0, 0]
def k0_cond16 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v154_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k0_t2
  let c0_i32_59_r0 : BitVec 32 := 0#32
  let v81_r0 : BitVec 1 := Scalar.cmpi .eq arg5_r0 c0_i32_59_r0
  let true_97_r0 : BitVec 1 := 1#1
  let v155_r0 : BitVec 1 := Scalar.xori v81_r0 true_97_r0
  let v156_r0 : BitVec 1 := Scalar.andi v154_r0 v155_r0
  let v157_r0 : BitVec 32 := Scalar.extui v156_r0
  let c0_i32_98_r0 : BitVec 32 := 0#32
  let v158_r0 : BitVec 1 := Scalar.cmpi .ne v157_r0 c0_i32_98_r0
  v158_r0

def k0_off30 (i : grid0.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v171_r0 : BitVec 32 := Scalar.muli c128_i32_r0 v90_r0
  let c0_i32_108_r0 : BitVec 32 := 0#32
  ![v171_r0.toNat, 0]
def k0_off31 (arg9_r0 : BitVec 32) : Fin 1 → Nat :=
  let c2_i32_105_r0 : BitVec 32 := 2#32
  let v170_r0 : BitVec 32 := Scalar.remui arg9_r0 c2_i32_105_r0
  ![v170_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x128.size a ≤ S2x1x128.size a) ∧
  (∀ (k0_h1 : k0_cond1 i = 1#1), ∀ (k0_h10 : k0_cond10 i k0_t2 arg10_r0 = 1#1), ∀ a, (k0_off19 i arg10_r0) a + S1x128.size a ≤ S1x204800.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x128.size a ≤ S2x1x128.size a) ∧
  (∀ (k0_h1 : k0_cond1 i = 1#1), ∀ (k0_h11 : k0_cond11 i k0_t2 arg10_r0 = 1#1), ∀ a, (k0_off22 i arg10_r0) a + S1x128.size a ≤ S1x204800.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x128x128.size a ≤ S2x128x128.size a) ∧
  (∀ (k0_h1 : k0_cond1 i = 1#1), ∀ (k0_h14 : k0_cond14 i k0_t2 arg10_r0 = 1#1), ∀ a, (k0_off27 i arg10_r0) a + S128x128.size a ≤ S51200x128.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x128x128.size a ≤ S2x128x128.size a) ∧
  (∀ (k0_h1 : k0_cond1 i = 1#1), ∀ (k0_h16 : k0_cond16 i k0_t2 arg10_r0 = 1#1), ∀ a, (k0_off30 i arg10_r0) a + S128x128.size a ≤ S51200x128.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x128.size a ≤ S2x1x128.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x128.size a ≤ S1x204800.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x128.size a ≤ S2x1x128.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x128.size a ≤ S1x204800.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x128x128.size a ≤ S2x128x128.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S128x128.size a ≤ S51200x128.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x128x128.size a ≤ S2x128x128.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S128x128.size a ≤ S51200x128.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let c1_i32_42_r0 : BitVec 32 := 1#32
  let v54_r0 : BitVec 32 := Scalar.subi v11 c1_i32_42_r0
  let c1_i32_43_r0 : BitVec 32 := 1#32
  let v55_r0 : BitVec 32 := Scalar.muli c1_i32_43_r0 v5
  let c1_i32_45_r0 : BitVec 32 := 1#32
  let v57_r0 : BitVec 32 := Scalar.subi v55_r0 c1_i32_45_r0
  let v58_r0 : BitVec 1 := Scalar.cmpi .eq v54_r0 v57_r0
  let v78_r0 : BitVec 32 := Scalar.extui v58_r0
  let c0_i32_57_r0 : BitVec 32 := 0#32
  let v79_r0 : BitVec 1 := Scalar.cmpi .ne v78_r0 c0_i32_57_r0
  v79_r0

def k0_off32 (v48_3_r0 : BitVec 32) : Fin 3 → Nat :=
  let c2_i32_r0 : BitVec 32 := 2#32
  let v80_r0 : BitVec 32 := Scalar.remui v48_3_r0 c2_i32_r0
  let c0_i32_58_r0 : BitVec 32 := 0#32
  let c0_i32_59_r0 : BitVec 32 := 0#32
  ![v80_r0.toNat, 0, 0]

def k0_off33 (i : grid0.Coords) (v48_4_r0 : BitVec 32) : Fin 2 → Nat :=
  let c128_i32_r0 : BitVec 32 := 128#32
  let true_39_r0 : BitVec 1 := 1#1
  let c1_i32_38_r0 : BitVec 32 := 1#32
  let v49_r0 : BitVec 32 := Scalar.subi v48_4_r0 c1_i32_38_r0
  let v50_r0 : BitVec 32 := Scalar.select true_39_r0 v49_r0 v48_4_r0
  let c_m1_i32_40_r0 : BitVec 32 := 4294967295#32
  let v51_r0 : BitVec 1 := Scalar.cmpi .eq v50_r0 c_m1_i32_40_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let c1_i32_41_r0 : BitVec 32 := 1#32
  let v52_r0 : BitVec 32 := Scalar.subi v5 c1_i32_41_r0
  let v53_r0 : BitVec 32 := Scalar.select v51_r0 v52_r0 v50_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v59_r0 : BitVec 32 := Scalar.addi v53_r0 v10
  let v81_r0 : BitVec 32 := Scalar.muli c128_i32_r0 v59_r0
  let c0_i32_60_r0 : BitVec 32 := 0#32
  ![v81_r0.toNat, 0]

def k0_chk8 (i : grid0.Coords) (v48_4_r0 : BitVec 32) : Prop :=
  (∀ (k0_h1 : k0_cond1 i = 1#1), ∀ (k0_h18 : k0_cond18 i = 1#1), ∀ a, (k0_off33 i v48_4_r0) a + S128x128.size a ≤ S51200x128.size a)
theorem k0_off33_inb : ∀ (i : grid0.Coords) (v48_4_r0 : BitVec 32) (k0_hw8 : k0_chk8 i v48_4_r0), ∀ (k0_h1 : k0_cond1 i = 1#1), ∀ (k0_h18 : k0_cond18 i = 1#1), ∀ a, (k0_off33 i v48_4_r0) a + S128x128.size a ≤ S51200x128.size a := fun i v48_4_r0 k0_hw8 k0_h1 k0_h18 => k0_hw8 k0_h1 k0_h18

def k0_off34 (v48_3_r0 : BitVec 32) : Fin 1 → Nat :=
  let c2_i32_r0 : BitVec 32 := 2#32
  let v80_r0 : BitVec 32 := Scalar.remui v48_3_r0 c2_i32_r0
  ![v80_r0.toNat]
def k0_off35 (v48_3_r0 : BitVec 32) : Fin 3 → Nat :=
  let c2_i32_r0 : BitVec 32 := 2#32
  let v80_r0 : BitVec 32 := Scalar.remui v48_3_r0 c2_i32_r0
  let c0_i32_62_r0 : BitVec 32 := 0#32
  let c0_i32_63_r0 : BitVec 32 := 0#32
  ![v80_r0.toNat, 0, 0]

def k0_chk7 (i : grid0.Coords) (v48_3_r0 : BitVec 32) : Prop :=
  (∀ (k0_h1 : k0_cond1 i = 1#1), ∀ (k0_h18 : k0_cond18 i = 1#1), ∀ a, (k0_off32 v48_3_r0) a + S1x128x128.size a ≤ S2x128x128.size a) ∧
  (∀ (k0_h1 : k0_cond1 i = 1#1), ∀ (k0_h18 : k0_cond18 i = 1#1), ∀ a, (k0_off34 v48_3_r0) a + S1.size a ≤ S2.size a) ∧
  (∀ (k0_h1 : k0_cond1 i = 1#1), ∀ (k0_h18 : k0_cond18 i = 1#1), ∀ a, (k0_off35 v48_3_r0) a + S1x128x128.size a ≤ S2x128x128.size a)
theorem k0_off32_inb : ∀ (i : grid0.Coords) (v48_3_r0 : BitVec 32) (k0_hw7 : k0_chk7 i v48_3_r0), ∀ (k0_h1 : k0_cond1 i = 1#1), ∀ (k0_h18 : k0_cond18 i = 1#1), ∀ a, (k0_off32 v48_3_r0) a + S1x128x128.size a ≤ S2x128x128.size a := fun i v48_3_r0 k0_hw7 k0_h1 k0_h18 => k0_hw7.1 k0_h1 k0_h18
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1.size a ≤ S2.size a := fun i v48_3_r0 k0_hw7 k0_h1 k0_h18 => k0_hw7.2.1 k0_h1 k0_h18
theorem k0_off35_inb : ∀ (i : grid0.Coords) (v48_3_r0 : BitVec 32) (k0_hw7 : k0_chk7 i v48_3_r0), ∀ (k0_h1 : k0_cond1 i = 1#1), ∀ (k0_h18 : k0_cond18 i = 1#1), ∀ a, (k0_off35 v48_3_r0) a + S1x128x128.size a ≤ S2x128x128.size a := fun i v48_3_r0 k0_hw7 k0_h1 k0_h18 => k0_hw7.2.2 k0_h1 k0_h18

abbrev grid1 : Pipeline.Grid := ⟨2, ![2, 16], ![false, false]⟩

def k1_cond1 (i : grid1.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let c0_i32_6_r0 : BitVec 32 := 0#32
  let v14_r0 : BitVec 1 := Scalar.cmpi .sgt v11 c0_i32_6_r0
  let v15_r0 : BitVec 32 := Scalar.extui v14_r0
  let c0_i32_7_r0 : BitVec 32 := 0#32
  let v16_r0 : BitVec 1 := Scalar.cmpi .ne v15_r0 c0_i32_7_r0
  v16_r0

def k1_cond2 (i : grid1.Coords) : BitVec 1 :=
  let true_23_r0 : BitVec 1 := 1#1
  let c1_i32_8_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v17_r0 : BitVec 32 := Scalar.muli c1_i32_8_r0 v5
  let c0_i32_22_r0 : BitVec 32 := 0#32
  let v35_r0 : BitVec 1 := Scalar.cmpi .sgt v17_r0 c0_i32_22_r0
  let v36_r0 : BitVec 1 := Scalar.andi true_23_r0 v35_r0
  let true_24_r0 : BitVec 1 := 1#1
  let v37_r0 : BitVec 1 := Scalar.andi v36_r0 true_24_r0
  let v38_r0 : BitVec 32 := Scalar.extui v37_r0
  let c0_i32_26_r0 : BitVec 32 := 0#32
  let v39_r0 : BitVec 1 := Scalar.cmpi .ne v38_r0 c0_i32_26_r0
  v39_r0

def k1_off1 : Fin 3 → Nat :=
  let c0_i32_25_r0 : BitVec 32 := 0#32
  let c2_i32_r0 : BitVec 32 := 2#32
  let v80_r0 : BitVec 32 := Scalar.remui c0_i32_25_r0 c2_i32_r0
  let c0_i32_58_r0 : BitVec 32 := 0#32
  let c0_i32_59_r0 : BitVec 32 := 0#32
  ![v80_r0.toNat, 0, 0]
def k1_off2 (i : grid1.Coords) : Fin 2 → Nat :=
  let c0_i32_60_r0 : BitVec 32 := 0#32
  let c128_i32_r0 : BitVec 32 := 128#32
  let c400_i32_r0 : BitVec 32 := 400#32
  let c0_i32_11_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v20_r0 : BitVec 32 := Scalar.addi c0_i32_11_r0 v10
  let v81_r0 : BitVec 32 := Scalar.addi c400_i32_r0 v20_r0
  let v82_r0 : BitVec 32 := Scalar.muli c128_i32_r0 v81_r0
  ![0, v82_r0.toNat]
def k1_off3 : Fin 1 → Nat :=
  let c0_i32_25_r0 : BitVec 32 := 0#32
  let c2_i32_r0 : BitVec 32 := 2#32
  let v80_r0 : BitVec 32 := Scalar.remui c0_i32_25_r0 c2_i32_r0
  ![v80_r0.toNat]
@[reducible] def k1_t1_loop (i : grid1.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_36_r0 : BitVec 32 := 1#32
  ⟨c0_i32_30_r0, v46_r0, c1_i32_36_r0⟩
def k1_off4 (arg6_r0 : BitVec 32) : Fin 3 → Nat :=
  let c2_i32_104_r0 : BitVec 32 := 2#32
  let v170_r0 : BitVec 32 := Scalar.remui arg6_r0 c2_i32_104_r0
  let c0_i32_106_r0 : BitVec 32 := 0#32
  let c0_i32_107_r0 : BitVec 32 := 0#32
  ![v170_r0.toNat, 0, 0]
def k1_cond3 (i : grid1.Coords) (k1_t1 : Fin (k1_t1_loop i).trips) (arg10_r0 : BitVec 32) : BitVec 1 :=
  let c400_i32_r0 : BitVec 32 := 400#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v101_r0 : BitVec 32 := Scalar.addi c400_i32_r0 v84_r0
  let c400_i32_71_r0 : BitVec 32 := 400#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v102_r0 : BitVec 32 := Scalar.addi c400_i32_71_r0 v95_r0
  let v103_r0 : BitVec 1 := Scalar.cmpi .ne v101_r0 v102_r0
  let c0_i32_30_r0 : BitVec 32 := 0#32
  let c1_i32_36_r0 : BitVec 32 := 1#32
  let arg5_r0 : BitVec 32 := Scf.iv c0_i32_30_r0 c1_i32_36_r0 k1_t1
  let c1_i32_58_r0 : BitVec 32 := 1#32
  let v80_r0 : BitVec 32 := Scalar.muli c1_i32_58_r0 v5
  let c2_i32_r0 : BitVec 32 := 2#32
  let v104_r0 : BitVec 32 := Scalar.subi v80_r0 c2_i32_r0
  let c1_i32_72_r0 : BitVec 32 := 1#32
  let v105_r0 : BitVec 32 := Scalar.addi v104_r0 c1_i32_72_r0
  let v106_r0 : BitVec 1 := Scalar.cmpi .sge arg5_r0 v105_r0
  let true_73_r0 : BitVec 1 := 1#1
  let v107_r0 : BitVec 1 := Scalar.xori v106_r0 true_73_r0
  let v108_r0 : BitVec 1 := Scalar.andi v103_r0 v107_r0
  let true_74_r0 : BitVec 1 := 1#1
  let v109_r0 : BitVec 1 := Scalar.andi v108_r0 true_74_r0
  let v110_r0 : BitVec 32 := Scalar.extui v109_r0
  let c0_i32_75_r0 : BitVec 32 := 0#32
  let v111_r0 : BitVec 1 := Scalar.cmpi .ne v110_r0 c0_i32_75_r0
  v111_r0

def k1_off5 (i : grid1.Coords) (arg10_r0 : BitVec 32) : Fin 2 → Nat :=
  let c0_i32_108_r0 : BitVec 32 := 0#32
  let c128_i32_r0 : BitVec 32 := 128#32
  let c400_i32_105_r0 : BitVec 32 := 400#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v171_r0 : BitVec 32 := Scalar.addi c400_i32_105_r0 v95_r0
  let v172_r0 : BitVec 32 := Scalar.muli c128_i32_r0 v171_r0
  ![0, v172_r0.toNat]
def k1_off6 (arg6_r0 : BitVec 32) : Fin 1 → Nat :=
  let c2_i32_104_r0 : BitVec 32 := 2#32
  let v170_r0 : BitVec 32 := Scalar.remui arg6_r0 c2_i32_104_r0
  ![v170_r0.toNat]
def k1_off7 (arg7_r0 : BitVec 32) : Fin 3 → Nat :=
  let c2_i32_105_r0 : BitVec 32 := 2#32
  let v172_r0 : BitVec 32 := Scalar.remui arg7_r0 c2_i32_105_r0
  let c0_i32_106_r0 : BitVec 32 := 0#32
  let c0_i32_107_r0 : BitVec 32 := 0#32
  ![v172_r0.toNat, 0, 0]
def k1_cond4 (i : grid1.Coords) (k1_t1 : Fin (k1_t1_loop i).trips) (arg10_r0 : BitVec 32) : BitVec 1 :=
  let c400_i32_r0 : BitVec 32 := 400#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v101_r0 : BitVec 32 := Scalar.addi c400_i32_r0 v84_r0
  let c400_i32_81_r0 : BitVec 32 := 400#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v121_r0 : BitVec 32 := Scalar.addi c400_i32_81_r0 v90_r0
  let v122_r0 : BitVec 1 := Scalar.cmpi .ne v101_r0 v121_r0
  let c0_i32_30_r0 : BitVec 32 := 0#32
  let c1_i32_36_r0 : BitVec 32 := 1#32
  let arg5_r0 : BitVec 32 := Scf.iv c0_i32_30_r0 c1_i32_36_r0 k1_t1
  let c0_i32_59_r0 : BitVec 32 := 0#32
  let v81_r0 : BitVec 1 := Scalar.cmpi .eq arg5_r0 c0_i32_59_r0
  let v123_r0 : BitVec 1 := Scalar.ori v122_r0 v81_r0
  let c0_i32_82_r0 : BitVec 32 := 0#32
  let v124_r0 : BitVec 1 := Scalar.cmpi .sge arg5_r0 c0_i32_82_r0
  let v125_r0 : BitVec 1 := Scalar.andi v123_r0 v124_r0
  let v126_r0 : BitVec 32 := Scalar.extui v125_r0
  let c0_i32_83_r0 : BitVec 32 := 0#32
  let v127_r0 : BitVec 1 := Scalar.cmpi .ne v126_r0 c0_i32_83_r0
  v127_r0

def k1_off8 (i : grid1.Coords) (arg10_r0 : BitVec 32) : Fin 2 → Nat :=
  let c0_i32_108_r0 : BitVec 32 := 0#32
  let c128_i32_r0 : BitVec 32 := 128#32
  let c400_i32_104_r0 : BitVec 32 := 400#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v170_r0 : BitVec 32 := Scalar.addi c400_i32_104_r0 v84_r0
  let v171_r0 : BitVec 32 := Scalar.muli c128_i32_r0 v170_r0
  ![0, v171_r0.toNat]
def k1_off9 (arg7_r0 : BitVec 32) : Fin 1 → Nat :=
  let c2_i32_105_r0 : BitVec 32 := 2#32
  let v172_r0 : BitVec 32 := Scalar.remui arg7_r0 c2_i32_105_r0
  ![v172_r0.toNat]
def k1_off10 (arg8_r0 : BitVec 32) : Fin 3 → Nat :=
  let c2_i32_87_r0 : BitVec 32 := 2#32
  let v135_r0 : BitVec 32 := Scalar.remui arg8_r0 c2_i32_87_r0
  let c0_i32_104_r1 : BitVec 32 := 0#32
  let c0_i32_105_r1 : BitVec 32 := 0#32
  ![v135_r0.toNat, 0, 0]

def k1_chk2 (i : grid1.Coords) (arg8_r0 : BitVec 32) : Prop :=
  (∀ (k1_h1 : k1_cond1 i = 1#1), ∀ a, (k1_off10 arg8_r0) a + S1x128x128.size a ≤ S2x128x128.size a)
theorem k1_off10_inb : ∀ (i : grid1.Coords) (arg8_r0 : BitVec 32) (k1_hw2 : k1_chk2 i arg8_r0), ∀ (k1_h1 : k1_cond1 i = 1#1), ∀ a, (k1_off10 arg8_r0) a + S1x128x128.size a ≤ S2x128x128.size a := fun i arg8_r0 k1_hw2 k1_h1 => k1_hw2 k1_h1

def k1_off11 (arg7_r0 : BitVec 32) : Fin 3 → Nat :=
  let c2_i32_86_r0 : BitVec 32 := 2#32
  let v134_r0 : BitVec 32 := Scalar.remui arg7_r0 c2_i32_86_r0
  let c0_i32_106_r1 : BitVec 32 := 0#32
  let c0_i32_107_r1 : BitVec 32 := 0#32
  ![v134_r0.toNat, 0, 0]

def k1_chk3 (i : grid1.Coords) (arg7_r0 : BitVec 32) : Prop :=
  (∀ (k1_h1 : k1_cond1 i = 1#1), ∀ a, (k1_off11 arg7_r0) a + S1x1x128.size a ≤ S2x1x128.size a)
theorem k1_off11_inb : ∀ (i : grid1.Coords) (arg7_r0 : BitVec 32) (k1_hw3 : k1_chk3 i arg7_r0), ∀ (k1_h1 : k1_cond1 i = 1#1), ∀ a, (k1_off11 arg7_r0) a + S1x1x128.size a ≤ S2x1x128.size a := fun i arg7_r0 k1_hw3 k1_h1 => k1_hw3 k1_h1

def k1_off12 (arg8_r0 : BitVec 32) : Fin 3 → Nat :=
  let c2_i32_104_r0 : BitVec 32 := 2#32
  let v170_r0 : BitVec 32 := Scalar.remui arg8_r0 c2_i32_104_r0
  let c0_i32_105_r0 : BitVec 32 := 0#32
  let c0_i32_106_r0 : BitVec 32 := 0#32
  ![v170_r0.toNat, 0, 0]
def k1_cond7 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v141_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k1_t1
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v142_r0 : BitVec 1 := Scalar.ori v141_r0 v83_r0
  let v143_r0 : BitVec 32 := Scalar.extui v142_r0
  let c0_i32_90_r0 : BitVec 32 := 0#32
  let v144_r0 : BitVec 1 := Scalar.cmpi .ne v143_r0 c0_i32_90_r0
  v144_r0

def k1_off13 (i : grid1.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v171_r0 : BitVec 32 := Scalar.muli c128_i32_r0 v84_r0
  let c0_i32_107_r0 : BitVec 32 := 0#32
  ![v171_r0.toNat, 0]
def k1_off14 (arg8_r0 : BitVec 32) : Fin 1 → Nat :=
  let c2_i32_104_r0 : BitVec 32 := 2#32
  let v170_r0 : BitVec 32 := Scalar.remui arg8_r0 c2_i32_104_r0
  ![v170_r0.toNat]
def k1_off15 (arg9_r0 : BitVec 32) : Fin 3 → Nat :=
  let c2_i32_104_r0 : BitVec 32 := 2#32
  let v170_r0 : BitVec 32 := Scalar.remui arg9_r0 c2_i32_104_r0
  let c0_i32_105_r0 : BitVec 32 := 0#32
  let c0_i32_106_r0 : BitVec 32 := 0#32
  ![v170_r0.toNat, 0, 0]
def k1_cond9 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v154_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k1_t1
  let c0_i32_59_r0 : BitVec 32 := 0#32
  let v81_r0 : BitVec 1 := Scalar.cmpi .eq arg5_r0 c0_i32_59_r0
  let true_96_r0 : BitVec 1 := 1#1
  let v155_r0 : BitVec 1 := Scalar.xori v81_r0 true_96_r0
  let v156_r0 : BitVec 1 := Scalar.andi v154_r0 v155_r0
  let v157_r0 : BitVec 32 := Scalar.extui v156_r0
  let c0_i32_97_r0 : BitVec 32 := 0#32
  let v158_r0 : BitVec 1 := Scalar.cmpi .ne v157_r0 c0_i32_97_r0
  v158_r0

def k1_off16 (i : grid1.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v171_r0 : BitVec 32 := Scalar.muli c128_i32_r0 v90_r0
  let c0_i32_107_r0 : BitVec 32 := 0#32
  ![v171_r0.toNat, 0]
def k1_off17 (arg9_r0 : BitVec 32) : Fin 1 → Nat :=
  let c2_i32_104_r0 : BitVec 32 := 2#32
  let v170_r0 : BitVec 32 := Scalar.remui arg9_r0 c2_i32_104_r0
  ![v170_r0.toNat]

def k1_chk1 (i : grid1.Coords) (k1_t1 : Fin (k1_t1_loop i).trips) (arg6_r0 : BitVec 32) (arg7_r0 : BitVec 32) (arg8_r0 : BitVec 32) (arg9_r0 : BitVec 32) (arg10_r0 : BitVec 32) : Prop :=
  (∀ (k1_h1 : k1_cond1 i = 1#1), ∀ (k1_h3 : k1_cond3 i k1_t1 arg10_r0 = 1#1), ∀ a, (k1_off4 arg6_r0) a + S1x1x128.size a ≤ S2x1x128.size a) ∧
  (∀ (k1_h1 : k1_cond1 i = 1#1), ∀ (k1_h3 : k1_cond3 i k1_t1 arg10_r0 = 1#1), ∀ a, (k1_off5 i arg10_r0) a + S1x128.size a ≤ S1x204800.size a) ∧
  (∀ (k1_h1 : k1_cond1 i = 1#1), ∀ (k1_h3 : k1_cond3 i k1_t1 arg10_r0 = 1#1), ∀ a, (k1_off6 arg6_r0) a + S1.size a ≤ S2.size a) ∧
  (∀ (k1_h1 : k1_cond1 i = 1#1), ∀ (k1_h4 : k1_cond4 i k1_t1 arg10_r0 = 1#1), ∀ a, (k1_off7 arg7_r0) a + S1x1x128.size a ≤ S2x1x128.size a) ∧
  (∀ (k1_h1 : k1_cond1 i = 1#1), ∀ (k1_h4 : k1_cond4 i k1_t1 arg10_r0 = 1#1), ∀ a, (k1_off8 i arg10_r0) a + S1x128.size a ≤ S1x204800.size a) ∧
  (∀ (k1_h1 : k1_cond1 i = 1#1), ∀ (k1_h4 : k1_cond4 i k1_t1 arg10_r0 = 1#1), ∀ a, (k1_off9 arg7_r0) a + S1.size a ≤ S2.size a) ∧
  (∀ (k1_h1 : k1_cond1 i = 1#1), ∀ (k1_h7 : k1_cond7 i k1_t1 arg10_r0 = 1#1), ∀ a, (k1_off12 arg8_r0) a + S1x128x128.size a ≤ S2x128x128.size a) ∧
  (∀ (k1_h1 : k1_cond1 i = 1#1), ∀ (k1_h7 : k1_cond7 i k1_t1 arg10_r0 = 1#1), ∀ a, (k1_off13 i arg10_r0) a + S128x128.size a ≤ S51200x128.size a) ∧
  (∀ (k1_h1 : k1_cond1 i = 1#1), ∀ (k1_h7 : k1_cond7 i k1_t1 arg10_r0 = 1#1), ∀ a, (k1_off14 arg8_r0) a + S1.size a ≤ S2.size a) ∧
  (∀ (k1_h1 : k1_cond1 i = 1#1), ∀ (k1_h9 : k1_cond9 i k1_t1 arg10_r0 = 1#1), ∀ a, (k1_off15 arg9_r0) a + S1x128x128.size a ≤ S2x128x128.size a) ∧
  (∀ (k1_h1 : k1_cond1 i = 1#1), ∀ (k1_h9 : k1_cond9 i k1_t1 arg10_r0 = 1#1), ∀ a, (k1_off16 i arg10_r0) a + S128x128.size a ≤ S51200x128.size a) ∧
  (∀ (k1_h1 : k1_cond1 i = 1#1), ∀ (k1_h9 : k1_cond9 i k1_t1 arg10_r0 = 1#1), ∀ a, (k1_off17 arg9_r0) a + S1.size a ≤ S2.size a)
theorem k1_off4_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off4 arg6_r0) a + S1x1x128.size a ≤ S2x1x128.size a := fun i k1_t1 arg6_r0 arg7_r0 arg8_r0 arg9_r0 arg10_r0 k1_hw1 k1_h1 k1_h3 => k1_hw1.1 k1_h1 k1_h3
theorem k1_off5_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off5 i arg10_r0) a + S1x128.size a ≤ S1x204800.size a := fun i k1_t1 arg6_r0 arg7_r0 arg8_r0 arg9_r0 arg10_r0 k1_hw1 k1_h1 k1_h3 => k1_hw1.2.1 k1_h1 k1_h3
theorem k1_off6_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off6 arg6_r0) a + S1.size a ≤ S2.size a := fun i k1_t1 arg6_r0 arg7_r0 arg8_r0 arg9_r0 arg10_r0 k1_hw1 k1_h1 k1_h3 => k1_hw1.2.2.1 k1_h1 k1_h3
theorem k1_off7_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h4 : k1_cond4 i k1_t1 arg10_r0 = 1#1), ∀ a, (k1_off7 arg7_r0) a + S1x1x128.size a ≤ S2x1x128.size a := fun i k1_t1 arg6_r0 arg7_r0 arg8_r0 arg9_r0 arg10_r0 k1_hw1 k1_h1 k1_h4 => k1_hw1.2.2.2.1 k1_h1 k1_h4
theorem k1_off8_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h4 : k1_cond4 i k1_t1 arg10_r0 = 1#1), ∀ a, (k1_off8 i arg10_r0) a + S1x128.size a ≤ S1x204800.size a := fun i k1_t1 arg6_r0 arg7_r0 arg8_r0 arg9_r0 arg10_r0 k1_hw1 k1_h1 k1_h4 => k1_hw1.2.2.2.2.1 k1_h1 k1_h4
theorem k1_off9_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h4 : k1_cond4 i k1_t1 arg10_r0 = 1#1), ∀ a, (k1_off9 arg7_r0) a + S1.size a ≤ S2.size a := fun i k1_t1 arg6_r0 arg7_r0 arg8_r0 arg9_r0 arg10_r0 k1_hw1 k1_h1 k1_h4 => k1_hw1.2.2.2.2.2.1 k1_h1 k1_h4
theorem k1_off12_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h7 : k1_cond7 i k1_t1 arg10_r0 = 1#1), ∀ a, (k1_off12 arg8_r0) a + S1x128x128.size a ≤ S2x128x128.size a := fun i k1_t1 arg6_r0 arg7_r0 arg8_r0 arg9_r0 arg10_r0 k1_hw1 k1_h1 k1_h7 => k1_hw1.2.2.2.2.2.2.1 k1_h1 k1_h7
theorem k1_off13_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h7 : k1_cond7 i k1_t1 arg10_r0 = 1#1), ∀ a, (k1_off13 i arg10_r0) a + S128x128.size a ≤ S51200x128.size a := fun i k1_t1 arg6_r0 arg7_r0 arg8_r0 arg9_r0 arg10_r0 k1_hw1 k1_h1 k1_h7 => k1_hw1.2.2.2.2.2.2.2.1 k1_h1 k1_h7
theorem k1_off14_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h7 : k1_cond7 i k1_t1 arg10_r0 = 1#1), ∀ a, (k1_off14 arg8_r0) a + S1.size a ≤ S2.size a := fun i k1_t1 arg6_r0 arg7_r0 arg8_r0 arg9_r0 arg10_r0 k1_hw1 k1_h1 k1_h7 => k1_hw1.2.2.2.2.2.2.2.2.1 k1_h1 k1_h7
theorem k1_off15_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h9 : k1_cond9 i k1_t1 arg10_r0 = 1#1), ∀ a, (k1_off15 arg9_r0) a + S1x128x128.size a ≤ S2x128x128.size a := fun i k1_t1 arg6_r0 arg7_r0 arg8_r0 arg9_r0 arg10_r0 k1_hw1 k1_h1 k1_h9 => k1_hw1.2.2.2.2.2.2.2.2.2.1 k1_h1 k1_h9
theorem k1_off16_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h9 : k1_cond9 i k1_t1 arg10_r0 = 1#1), ∀ a, (k1_off16 i arg10_r0) a + S128x128.size a ≤ S51200x128.size a := fun i k1_t1 arg6_r0 arg7_r0 arg8_r0 arg9_r0 arg10_r0 k1_hw1 k1_h1 k1_h9 => k1_hw1.2.2.2.2.2.2.2.2.2.2.1 k1_h1 k1_h9
theorem k1_off17_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h9 : k1_cond9 i k1_t1 arg10_r0 = 1#1), ∀ a, (k1_off17 arg9_r0) a + S1.size a ≤ S2.size a := fun i k1_t1 arg6_r0 arg7_r0 arg8_r0 arg9_r0 arg10_r0 k1_hw1 k1_h1 k1_h9 => k1_hw1.2.2.2.2.2.2.2.2.2.2.2 k1_h1 k1_h9

@[reducible] def k1_t2_loop (i : grid1.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let v43_r0 : BitVec 32 := Scalar.addi c0_i32_30_r0 v42_r0
  let c1_i32_37_r0 : BitVec 32 := 1#32
  ⟨v46_r0, v43_r0, c1_i32_37_r0⟩
def k1_off18 (arg6_r0 : BitVec 32) : Fin 3 → Nat :=
  let c2_i32_104_r0 : BitVec 32 := 2#32
  let v170_r0 : BitVec 32 := Scalar.remui arg6_r0 c2_i32_104_r0
  let c0_i32_106_r0 : BitVec 32 := 0#32
  let c0_i32_107_r0 : BitVec 32 := 0#32
  ![v170_r0.toNat, 0, 0]
def k1_cond10 (i : grid1.Coords) (k1_t2 : Fin (k1_t2_loop i).trips) (arg10_r0 : BitVec 32) : BitVec 1 :=
  let c400_i32_r0 : BitVec 32 := 400#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v101_r0 : BitVec 32 := Scalar.addi c400_i32_r0 v84_r0
  let c400_i32_71_r0 : BitVec 32 := 400#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v102_r0 : BitVec 32 := Scalar.addi c400_i32_71_r0 v95_r0
  let v103_r0 : BitVec 1 := Scalar.cmpi .ne v101_r0 v102_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k1_t2
  let c1_i32_58_r0 : BitVec 32 := 1#32
  let v80_r0 : BitVec 32 := Scalar.muli c1_i32_58_r0 v5
  let c2_i32_r0 : BitVec 32 := 2#32
  let v104_r0 : BitVec 32 := Scalar.subi v80_r0 c2_i32_r0
  let c1_i32_72_r0 : BitVec 32 := 1#32
  let v105_r0 : BitVec 32 := Scalar.addi v104_r0 c1_i32_72_r0
  let v106_r0 : BitVec 1 := Scalar.cmpi .sge arg5_r0 v105_r0
  let true_73_r0 : BitVec 1 := 1#1
  let v107_r0 : BitVec 1 := Scalar.xori v106_r0 true_73_r0
  let v108_r0 : BitVec 1 := Scalar.andi v103_r0 v107_r0
  let true_74_r0 : BitVec 1 := 1#1
  let v109_r0 : BitVec 1 := Scalar.andi v108_r0 true_74_r0
  let v110_r0 : BitVec 32 := Scalar.extui v109_r0
  let c0_i32_75_r0 : BitVec 32 := 0#32
  let v111_r0 : BitVec 1 := Scalar.cmpi .ne v110_r0 c0_i32_75_r0
  v111_r0

def k1_off19 (i : grid1.Coords) (arg10_r0 : BitVec 32) : Fin 2 → Nat :=
  let c0_i32_108_r0 : BitVec 32 := 0#32
  let c128_i32_r0 : BitVec 32 := 128#32
  let c400_i32_105_r0 : BitVec 32 := 400#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v171_r0 : BitVec 32 := Scalar.addi c400_i32_105_r0 v95_r0
  let v172_r0 : BitVec 32 := Scalar.muli c128_i32_r0 v171_r0
  ![0, v172_r0.toNat]
def k1_off20 (arg6_r0 : BitVec 32) : Fin 1 → Nat :=
  let c2_i32_104_r0 : BitVec 32 := 2#32
  let v170_r0 : BitVec 32 := Scalar.remui arg6_r0 c2_i32_104_r0
  ![v170_r0.toNat]
def k1_off21 (arg7_r0 : BitVec 32) : Fin 3 → Nat :=
  let c2_i32_105_r0 : BitVec 32 := 2#32
  let v172_r0 : BitVec 32 := Scalar.remui arg7_r0 c2_i32_105_r0
  let c0_i32_106_r0 : BitVec 32 := 0#32
  let c0_i32_107_r0 : BitVec 32 := 0#32
  ![v172_r0.toNat, 0, 0]
def k1_cond11 (i : grid1.Coords) (k1_t2 : Fin (k1_t2_loop i).trips) (arg10_r0 : BitVec 32) : BitVec 1 :=
  let c400_i32_r0 : BitVec 32 := 400#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v101_r0 : BitVec 32 := Scalar.addi c400_i32_r0 v84_r0
  let c400_i32_81_r0 : BitVec 32 := 400#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v121_r0 : BitVec 32 := Scalar.addi c400_i32_81_r0 v90_r0
  let v122_r0 : BitVec 1 := Scalar.cmpi .ne v101_r0 v121_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k1_t2
  let c0_i32_59_r0 : BitVec 32 := 0#32
  let v81_r0 : BitVec 1 := Scalar.cmpi .eq arg5_r0 c0_i32_59_r0
  let v123_r0 : BitVec 1 := Scalar.ori v122_r0 v81_r0
  let c0_i32_82_r0 : BitVec 32 := 0#32
  let v124_r0 : BitVec 1 := Scalar.cmpi .sge arg5_r0 c0_i32_82_r0
  let v125_r0 : BitVec 1 := Scalar.andi v123_r0 v124_r0
  let v126_r0 : BitVec 32 := Scalar.extui v125_r0
  let c0_i32_83_r0 : BitVec 32 := 0#32
  let v127_r0 : BitVec 1 := Scalar.cmpi .ne v126_r0 c0_i32_83_r0
  v127_r0

def k1_off22 (i : grid1.Coords) (arg10_r0 : BitVec 32) : Fin 2 → Nat :=
  let c0_i32_108_r0 : BitVec 32 := 0#32
  let c128_i32_r0 : BitVec 32 := 128#32
  let c400_i32_104_r0 : BitVec 32 := 400#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v170_r0 : BitVec 32 := Scalar.addi c400_i32_104_r0 v84_r0
  let v171_r0 : BitVec 32 := Scalar.muli c128_i32_r0 v170_r0
  ![0, v171_r0.toNat]
def k1_off23 (arg7_r0 : BitVec 32) : Fin 1 → Nat :=
  let c2_i32_105_r0 : BitVec 32 := 2#32
  let v172_r0 : BitVec 32 := Scalar.remui arg7_r0 c2_i32_105_r0
  ![v172_r0.toNat]
def k1_off24 (arg8_r0 : BitVec 32) : Fin 3 → Nat :=
  let c2_i32_87_r0 : BitVec 32 := 2#32
  let v135_r0 : BitVec 32 := Scalar.remui arg8_r0 c2_i32_87_r0
  let c0_i32_104_r2 : BitVec 32 := 0#32
  let c0_i32_105_r2 : BitVec 32 := 0#32
  ![v135_r0.toNat, 0, 0]

def k1_chk5 (i : grid1.Coords) (k1_t2 : Fin (k1_t2_loop i).trips) (arg8_r0 : BitVec 32) : Prop :=
  (∀ (k1_h1 : k1_cond1 i = 1#1), ∀ a, (k1_off24 arg8_r0) a + S1x128x128.size a ≤ S2x128x128.size a)
theorem k1_off24_inb : ∀ (i : grid1.Coords) (k1_t2 : Fin (k1_t2_loop i).trips) (arg8_r0 : BitVec 32) (k1_hw5 : k1_chk5 i k1_t2 arg8_r0), ∀ (k1_h1 : k1_cond1 i = 1#1), ∀ a, (k1_off24 arg8_r0) a + S1x128x128.size a ≤ S2x128x128.size a := fun i k1_t2 arg8_r0 k1_hw5 k1_h1 => k1_hw5 k1_h1

def k1_off25 (arg7_r0 : BitVec 32) : Fin 3 → Nat :=
  let c2_i32_86_r0 : BitVec 32 := 2#32
  let v134_r0 : BitVec 32 := Scalar.remui arg7_r0 c2_i32_86_r0
  let c0_i32_106_r2 : BitVec 32 := 0#32
  let c0_i32_107_r2 : BitVec 32 := 0#32
  ![v134_r0.toNat, 0, 0]

def k1_chk6 (i : grid1.Coords) (k1_t2 : Fin (k1_t2_loop i).trips) (arg7_r0 : BitVec 32) : Prop :=
  (∀ (k1_h1 : k1_cond1 i = 1#1), ∀ a, (k1_off25 arg7_r0) a + S1x1x128.size a ≤ S2x1x128.size a)
theorem k1_off25_inb : ∀ (i : grid1.Coords) (k1_t2 : Fin (k1_t2_loop i).trips) (arg7_r0 : BitVec 32) (k1_hw6 : k1_chk6 i k1_t2 arg7_r0), ∀ (k1_h1 : k1_cond1 i = 1#1), ∀ a, (k1_off25 arg7_r0) a + S1x1x128.size a ≤ S2x1x128.size a := fun i k1_t2 arg7_r0 k1_hw6 k1_h1 => k1_hw6 k1_h1

def k1_off26 (arg8_r0 : BitVec 32) : Fin 3 → Nat :=
  let c2_i32_104_r0 : BitVec 32 := 2#32
  let v170_r0 : BitVec 32 := Scalar.remui arg8_r0 c2_i32_104_r0
  let c0_i32_105_r0 : BitVec 32 := 0#32
  let c0_i32_106_r0 : BitVec 32 := 0#32
  ![v170_r0.toNat, 0, 0]
def k1_cond14 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v141_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k1_t2
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v142_r0 : BitVec 1 := Scalar.ori v141_r0 v83_r0
  let v143_r0 : BitVec 32 := Scalar.extui v142_r0
  let c0_i32_90_r0 : BitVec 32 := 0#32
  let v144_r0 : BitVec 1 := Scalar.cmpi .ne v143_r0 c0_i32_90_r0
  v144_r0

def k1_off27 (i : grid1.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v171_r0 : BitVec 32 := Scalar.muli c128_i32_r0 v84_r0
  let c0_i32_107_r0 : BitVec 32 := 0#32
  ![v171_r0.toNat, 0]
def k1_off28 (arg8_r0 : BitVec 32) : Fin 1 → Nat :=
  let c2_i32_104_r0 : BitVec 32 := 2#32
  let v170_r0 : BitVec 32 := Scalar.remui arg8_r0 c2_i32_104_r0
  ![v170_r0.toNat]
def k1_off29 (arg9_r0 : BitVec 32) : Fin 3 → Nat :=
  let c2_i32_104_r0 : BitVec 32 := 2#32
  let v170_r0 : BitVec 32 := Scalar.remui arg9_r0 c2_i32_104_r0
  let c0_i32_105_r0 : BitVec 32 := 0#32
  let c0_i32_106_r0 : BitVec 32 := 0#32
  ![v170_r0.toNat, 0, 0]
def k1_cond16 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v154_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k1_t2
  let c0_i32_59_r0 : BitVec 32 := 0#32
  let v81_r0 : BitVec 1 := Scalar.cmpi .eq arg5_r0 c0_i32_59_r0
  let true_96_r0 : BitVec 1 := 1#1
  let v155_r0 : BitVec 1 := Scalar.xori v81_r0 true_96_r0
  let v156_r0 : BitVec 1 := Scalar.andi v154_r0 v155_r0
  let v157_r0 : BitVec 32 := Scalar.extui v156_r0
  let c0_i32_97_r0 : BitVec 32 := 0#32
  let v158_r0 : BitVec 1 := Scalar.cmpi .ne v157_r0 c0_i32_97_r0
  v158_r0

def k1_off30 (i : grid1.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v171_r0 : BitVec 32 := Scalar.muli c128_i32_r0 v90_r0
  let c0_i32_107_r0 : BitVec 32 := 0#32
  ![v171_r0.toNat, 0]
def k1_off31 (arg9_r0 : BitVec 32) : Fin 1 → Nat :=
  let c2_i32_104_r0 : BitVec 32 := 2#32
  let v170_r0 : BitVec 32 := Scalar.remui arg9_r0 c2_i32_104_r0
  ![v170_r0.toNat]

def k1_chk4 (i : grid1.Coords) (k1_t2 : Fin (k1_t2_loop i).trips) (arg6_r0 : BitVec 32) (arg7_r0 : BitVec 32) (arg8_r0 : BitVec 32) (arg9_r0 : BitVec 32) (arg10_r0 : BitVec 32) : Prop :=
  (∀ (k1_h1 : k1_cond1 i = 1#1), ∀ (k1_h10 : k1_cond10 i k1_t2 arg10_r0 = 1#1), ∀ a, (k1_off18 arg6_r0) a + S1x1x128.size a ≤ S2x1x128.size a) ∧
  (∀ (k1_h1 : k1_cond1 i = 1#1), ∀ (k1_h10 : k1_cond10 i k1_t2 arg10_r0 = 1#1), ∀ a, (k1_off19 i arg10_r0) a + S1x128.size a ≤ S1x204800.size a) ∧
  (∀ (k1_h1 : k1_cond1 i = 1#1), ∀ (k1_h10 : k1_cond10 i k1_t2 arg10_r0 = 1#1), ∀ a, (k1_off20 arg6_r0) a + S1.size a ≤ S2.size a) ∧
  (∀ (k1_h1 : k1_cond1 i = 1#1), ∀ (k1_h11 : k1_cond11 i k1_t2 arg10_r0 = 1#1), ∀ a, (k1_off21 arg7_r0) a + S1x1x128.size a ≤ S2x1x128.size a) ∧
  (∀ (k1_h1 : k1_cond1 i = 1#1), ∀ (k1_h11 : k1_cond11 i k1_t2 arg10_r0 = 1#1), ∀ a, (k1_off22 i arg10_r0) a + S1x128.size a ≤ S1x204800.size a) ∧
  (∀ (k1_h1 : k1_cond1 i = 1#1), ∀ (k1_h11 : k1_cond11 i k1_t2 arg10_r0 = 1#1), ∀ a, (k1_off23 arg7_r0) a + S1.size a ≤ S2.size a) ∧
  (∀ (k1_h1 : k1_cond1 i = 1#1), ∀ (k1_h14 : k1_cond14 i k1_t2 arg10_r0 = 1#1), ∀ a, (k1_off26 arg8_r0) a + S1x128x128.size a ≤ S2x128x128.size a) ∧
  (∀ (k1_h1 : k1_cond1 i = 1#1), ∀ (k1_h14 : k1_cond14 i k1_t2 arg10_r0 = 1#1), ∀ a, (k1_off27 i arg10_r0) a + S128x128.size a ≤ S51200x128.size a) ∧
  (∀ (k1_h1 : k1_cond1 i = 1#1), ∀ (k1_h14 : k1_cond14 i k1_t2 arg10_r0 = 1#1), ∀ a, (k1_off28 arg8_r0) a + S1.size a ≤ S2.size a) ∧
  (∀ (k1_h1 : k1_cond1 i = 1#1), ∀ (k1_h16 : k1_cond16 i k1_t2 arg10_r0 = 1#1), ∀ a, (k1_off29 arg9_r0) a + S1x128x128.size a ≤ S2x128x128.size a) ∧
  (∀ (k1_h1 : k1_cond1 i = 1#1), ∀ (k1_h16 : k1_cond16 i k1_t2 arg10_r0 = 1#1), ∀ a, (k1_off30 i arg10_r0) a + S128x128.size a ≤ S51200x128.size a) ∧
  (∀ (k1_h1 : k1_cond1 i = 1#1), ∀ (k1_h16 : k1_cond16 i k1_t2 arg10_r0 = 1#1), ∀ a, (k1_off31 arg9_r0) a + S1.size a ≤ S2.size a)
theorem k1_off18_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off18 arg6_r0) a + S1x1x128.size a ≤ S2x1x128.size a := fun i k1_t2 arg6_r0 arg7_r0 arg8_r0 arg9_r0 arg10_r0 k1_hw4 k1_h1 k1_h10 => k1_hw4.1 k1_h1 k1_h10
theorem k1_off19_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off19 i arg10_r0) a + S1x128.size a ≤ S1x204800.size a := fun i k1_t2 arg6_r0 arg7_r0 arg8_r0 arg9_r0 arg10_r0 k1_hw4 k1_h1 k1_h10 => k1_hw4.2.1 k1_h1 k1_h10
theorem k1_off20_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off20 arg6_r0) a + S1.size a ≤ S2.size a := fun i k1_t2 arg6_r0 arg7_r0 arg8_r0 arg9_r0 arg10_r0 k1_hw4 k1_h1 k1_h10 => k1_hw4.2.2.1 k1_h1 k1_h10
theorem k1_off21_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h11 : k1_cond11 i k1_t2 arg10_r0 = 1#1), ∀ a, (k1_off21 arg7_r0) a + S1x1x128.size a ≤ S2x1x128.size a := fun i k1_t2 arg6_r0 arg7_r0 arg8_r0 arg9_r0 arg10_r0 k1_hw4 k1_h1 k1_h11 => k1_hw4.2.2.2.1 k1_h1 k1_h11
theorem k1_off22_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h11 : k1_cond11 i k1_t2 arg10_r0 = 1#1), ∀ a, (k1_off22 i arg10_r0) a + S1x128.size a ≤ S1x204800.size a := fun i k1_t2 arg6_r0 arg7_r0 arg8_r0 arg9_r0 arg10_r0 k1_hw4 k1_h1 k1_h11 => k1_hw4.2.2.2.2.1 k1_h1 k1_h11
theorem k1_off23_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h11 : k1_cond11 i k1_t2 arg10_r0 = 1#1), ∀ a, (k1_off23 arg7_r0) a + S1.size a ≤ S2.size a := fun i k1_t2 arg6_r0 arg7_r0 arg8_r0 arg9_r0 arg10_r0 k1_hw4 k1_h1 k1_h11 => k1_hw4.2.2.2.2.2.1 k1_h1 k1_h11
theorem k1_off26_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h14 : k1_cond14 i k1_t2 arg10_r0 = 1#1), ∀ a, (k1_off26 arg8_r0) a + S1x128x128.size a ≤ S2x128x128.size a := fun i k1_t2 arg6_r0 arg7_r0 arg8_r0 arg9_r0 arg10_r0 k1_hw4 k1_h1 k1_h14 => k1_hw4.2.2.2.2.2.2.1 k1_h1 k1_h14
theorem k1_off27_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h14 : k1_cond14 i k1_t2 arg10_r0 = 1#1), ∀ a, (k1_off27 i arg10_r0) a + S128x128.size a ≤ S51200x128.size a := fun i k1_t2 arg6_r0 arg7_r0 arg8_r0 arg9_r0 arg10_r0 k1_hw4 k1_h1 k1_h14 => k1_hw4.2.2.2.2.2.2.2.1 k1_h1 k1_h14
theorem k1_off28_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h14 : k1_cond14 i k1_t2 arg10_r0 = 1#1), ∀ a, (k1_off28 arg8_r0) a + S1.size a ≤ S2.size a := fun i k1_t2 arg6_r0 arg7_r0 arg8_r0 arg9_r0 arg10_r0 k1_hw4 k1_h1 k1_h14 => k1_hw4.2.2.2.2.2.2.2.2.1 k1_h1 k1_h14
theorem k1_off29_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h16 : k1_cond16 i k1_t2 arg10_r0 = 1#1), ∀ a, (k1_off29 arg9_r0) a + S1x128x128.size a ≤ S2x128x128.size a := fun i k1_t2 arg6_r0 arg7_r0 arg8_r0 arg9_r0 arg10_r0 k1_hw4 k1_h1 k1_h16 => k1_hw4.2.2.2.2.2.2.2.2.2.1 k1_h1 k1_h16
theorem k1_off30_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h16 : k1_cond16 i k1_t2 arg10_r0 = 1#1), ∀ a, (k1_off30 i arg10_r0) a + S128x128.size a ≤ S51200x128.size a := fun i k1_t2 arg6_r0 arg7_r0 arg8_r0 arg9_r0 arg10_r0 k1_hw4 k1_h1 k1_h16 => k1_hw4.2.2.2.2.2.2.2.2.2.2.1 k1_h1 k1_h16
theorem k1_off31_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h16 : k1_cond16 i k1_t2 arg10_r0 = 1#1), ∀ a, (k1_off31 arg9_r0) a + S1.size a ≤ S2.size a := fun i k1_t2 arg6_r0 arg7_r0 arg8_r0 arg9_r0 arg10_r0 k1_hw4 k1_h1 k1_h16 => k1_hw4.2.2.2.2.2.2.2.2.2.2.2 k1_h1 k1_h16

def k1_cond18 (i : grid1.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let c1_i32_42_r0 : BitVec 32 := 1#32
  let v54_r0 : BitVec 32 := Scalar.subi v11 c1_i32_42_r0
  let c1_i32_43_r0 : BitVec 32 := 1#32
  let v55_r0 : BitVec 32 := Scalar.muli c1_i32_43_r0 v5
  let c1_i32_45_r0 : BitVec 32 := 1#32
  let v57_r0 : BitVec 32 := Scalar.subi v55_r0 c1_i32_45_r0
  let v58_r0 : BitVec 1 := Scalar.cmpi .eq v54_r0 v57_r0
  let v78_r0 : BitVec 32 := Scalar.extui v58_r0
  let c0_i32_57_r0 : BitVec 32 := 0#32
  let v79_r0 : BitVec 1 := Scalar.cmpi .ne v78_r0 c0_i32_57_r0
  v79_r0

def k1_off32 (v48_3_r0 : BitVec 32) : Fin 3 → Nat :=
  let c2_i32_r0 : BitVec 32 := 2#32
  let v80_r0 : BitVec 32 := Scalar.remui v48_3_r0 c2_i32_r0
  let c0_i32_58_r0 : BitVec 32 := 0#32
  let c0_i32_59_r0 : BitVec 32 := 0#32
  ![v80_r0.toNat, 0, 0]

def k1_off33 (i : grid1.Coords) (v48_4_r0 : BitVec 32) : Fin 2 → Nat :=
  let c128_i32_r0 : BitVec 32 := 128#32
  let true_39_r0 : BitVec 1 := 1#1
  let c1_i32_38_r0 : BitVec 32 := 1#32
  let v49_r0 : BitVec 32 := Scalar.subi v48_4_r0 c1_i32_38_r0
  let v50_r0 : BitVec 32 := Scalar.select true_39_r0 v49_r0 v48_4_r0
  let c_m1_i32_40_r0 : BitVec 32 := 4294967295#32
  let v51_r0 : BitVec 1 := Scalar.cmpi .eq v50_r0 c_m1_i32_40_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let c1_i32_41_r0 : BitVec 32 := 1#32
  let v52_r0 : BitVec 32 := Scalar.subi v5 c1_i32_41_r0
  let v53_r0 : BitVec 32 := Scalar.select v51_r0 v52_r0 v50_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v59_r0 : BitVec 32 := Scalar.addi v53_r0 v10
  let v81_r0 : BitVec 32 := Scalar.muli c128_i32_r0 v59_r0
  let c0_i32_60_r0 : BitVec 32 := 0#32
  ![v81_r0.toNat, 0]

def k1_chk8 (i : grid1.Coords) (v48_4_r0 : BitVec 32) : Prop :=
  (∀ (k1_h1 : k1_cond1 i = 1#1), ∀ (k1_h18 : k1_cond18 i = 1#1), ∀ a, (k1_off33 i v48_4_r0) a + S128x128.size a ≤ S51200x128.size a)
theorem k1_off33_inb : ∀ (i : grid1.Coords) (v48_4_r0 : BitVec 32) (k1_hw8 : k1_chk8 i v48_4_r0), ∀ (k1_h1 : k1_cond1 i = 1#1), ∀ (k1_h18 : k1_cond18 i = 1#1), ∀ a, (k1_off33 i v48_4_r0) a + S128x128.size a ≤ S51200x128.size a := fun i v48_4_r0 k1_hw8 k1_h1 k1_h18 => k1_hw8 k1_h1 k1_h18

def k1_off34 (v48_3_r0 : BitVec 32) : Fin 1 → Nat :=
  let c2_i32_r0 : BitVec 32 := 2#32
  let v80_r0 : BitVec 32 := Scalar.remui v48_3_r0 c2_i32_r0
  ![v80_r0.toNat]
def k1_off35 (v48_3_r0 : BitVec 32) : Fin 3 → Nat :=
  let c2_i32_r0 : BitVec 32 := 2#32
  let v80_r0 : BitVec 32 := Scalar.remui v48_3_r0 c2_i32_r0
  let c0_i32_62_r0 : BitVec 32 := 0#32
  let c0_i32_63_r0 : BitVec 32 := 0#32
  ![v80_r0.toNat, 0, 0]

def k1_chk7 (i : grid1.Coords) (v48_3_r0 : BitVec 32) : Prop :=
  (∀ (k1_h1 : k1_cond1 i = 1#1), ∀ (k1_h18 : k1_cond18 i = 1#1), ∀ a, (k1_off32 v48_3_r0) a + S1x128x128.size a ≤ S2x128x128.size a) ∧
  (∀ (k1_h1 : k1_cond1 i = 1#1), ∀ (k1_h18 : k1_cond18 i = 1#1), ∀ a, (k1_off34 v48_3_r0) a + S1.size a ≤ S2.size a) ∧
  (∀ (k1_h1 : k1_cond1 i = 1#1), ∀ (k1_h18 : k1_cond18 i = 1#1), ∀ a, (k1_off35 v48_3_r0) a + S1x128x128.size a ≤ S2x128x128.size a)
theorem k1_off32_inb : ∀ (i : grid1.Coords) (v48_3_r0 : BitVec 32) (k1_hw7 : k1_chk7 i v48_3_r0), ∀ (k1_h1 : k1_cond1 i = 1#1), ∀ (k1_h18 : k1_cond18 i = 1#1), ∀ a, (k1_off32 v48_3_r0) a + S1x128x128.size a ≤ S2x128x128.size a := fun i v48_3_r0 k1_hw7 k1_h1 k1_h18 => k1_hw7.1 k1_h1 k1_h18
theorem k1_off34_inb : ∀ (i : grid1.Coords) (v48_3_r0 : BitVec 32) (k1_hw7 : k1_chk7 i v48_3_r0), ∀ (k1_h1 : k1_cond1 i = 1#1), ∀ (k1_h18 : k1_cond18 i = 1#1), ∀ a, (k1_off34 v48_3_r0) a + S1.size a ≤ S2.size a := fun i v48_3_r0 k1_hw7 k1_h1 k1_h18 => k1_hw7.2.1 k1_h1 k1_h18
theorem k1_off35_inb : ∀ (i : grid1.Coords) (v48_3_r0 : BitVec 32) (k1_hw7 : k1_chk7 i v48_3_r0), ∀ (k1_h1 : k1_cond1 i = 1#1), ∀ (k1_h18 : k1_cond18 i = 1#1), ∀ a, (k1_off35 v48_3_r0) a + S1x128x128.size a ≤ S2x128x128.size a := fun i v48_3_r0 k1_hw7 k1_h1 k1_h18 => k1_hw7.2.2 k1_h1 k1_h18

abbrev grid2 : Pipeline.Grid := ⟨2, ![2, 16], ![false, false]⟩

def k2_cond1 (i : grid2.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let c0_i32_6_r0 : BitVec 32 := 0#32
  let v14_r0 : BitVec 1 := Scalar.cmpi .sgt v11 c0_i32_6_r0
  let v15_r0 : BitVec 32 := Scalar.extui v14_r0
  let c0_i32_7_r0 : BitVec 32 := 0#32
  let v16_r0 : BitVec 1 := Scalar.cmpi .ne v15_r0 c0_i32_7_r0
  v16_r0

def k2_cond2 (i : grid2.Coords) : BitVec 1 :=
  let true_23_r0 : BitVec 1 := 1#1
  let c1_i32_8_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v17_r0 : BitVec 32 := Scalar.muli c1_i32_8_r0 v5
  let c0_i32_22_r0 : BitVec 32 := 0#32
  let v35_r0 : BitVec 1 := Scalar.cmpi .sgt v17_r0 c0_i32_22_r0
  let v36_r0 : BitVec 1 := Scalar.andi true_23_r0 v35_r0
  let true_24_r0 : BitVec 1 := 1#1
  let v37_r0 : BitVec 1 := Scalar.andi v36_r0 true_24_r0
  let v38_r0 : BitVec 32 := Scalar.extui v37_r0
  let c0_i32_26_r0 : BitVec 32 := 0#32
  let v39_r0 : BitVec 1 := Scalar.cmpi .ne v38_r0 c0_i32_26_r0
  v39_r0

def k2_off1 : Fin 3 → Nat :=
  let c0_i32_25_r0 : BitVec 32 := 0#32
  let c2_i32_r0 : BitVec 32 := 2#32
  let v80_r0 : BitVec 32 := Scalar.remui c0_i32_25_r0 c2_i32_r0
  let c0_i32_58_r0 : BitVec 32 := 0#32
  let c0_i32_59_r0 : BitVec 32 := 0#32
  ![v80_r0.toNat, 0, 0]
def k2_off2 (i : grid2.Coords) : Fin 2 → Nat :=
  let c0_i32_60_r0 : BitVec 32 := 0#32
  let c128_i32_r0 : BitVec 32 := 128#32
  let c800_i32_r0 : BitVec 32 := 800#32
  let c0_i32_11_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v20_r0 : BitVec 32 := Scalar.addi c0_i32_11_r0 v10
  let v81_r0 : BitVec 32 := Scalar.addi c800_i32_r0 v20_r0
  let v82_r0 : BitVec 32 := Scalar.muli c128_i32_r0 v81_r0
  ![0, v82_r0.toNat]
def k2_off3 : Fin 1 → Nat :=
  let c0_i32_25_r0 : BitVec 32 := 0#32
  let c2_i32_r0 : BitVec 32 := 2#32
  let v80_r0 : BitVec 32 := Scalar.remui c0_i32_25_r0 c2_i32_r0
  ![v80_r0.toNat]
@[reducible] def k2_t1_loop (i : grid2.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_36_r0 : BitVec 32 := 1#32
  ⟨c0_i32_30_r0, v46_r0, c1_i32_36_r0⟩
def k2_off4 (arg6_r0 : BitVec 32) : Fin 3 → Nat :=
  let c2_i32_104_r0 : BitVec 32 := 2#32
  let v170_r0 : BitVec 32 := Scalar.remui arg6_r0 c2_i32_104_r0
  let c0_i32_106_r0 : BitVec 32 := 0#32
  let c0_i32_107_r0 : BitVec 32 := 0#32
  ![v170_r0.toNat, 0, 0]
def k2_cond3 (i : grid2.Coords) (k2_t1 : Fin (k2_t1_loop i).trips) (arg10_r0 : BitVec 32) : BitVec 1 :=
  let c800_i32_r0 : BitVec 32 := 800#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v101_r0 : BitVec 32 := Scalar.addi c800_i32_r0 v84_r0
  let c800_i32_71_r0 : BitVec 32 := 800#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v102_r0 : BitVec 32 := Scalar.addi c800_i32_71_r0 v95_r0
  let v103_r0 : BitVec 1 := Scalar.cmpi .ne v101_r0 v102_r0
  let c0_i32_30_r0 : BitVec 32 := 0#32
  let c1_i32_36_r0 : BitVec 32 := 1#32
  let arg5_r0 : BitVec 32 := Scf.iv c0_i32_30_r0 c1_i32_36_r0 k2_t1
  let c1_i32_58_r0 : BitVec 32 := 1#32
  let v80_r0 : BitVec 32 := Scalar.muli c1_i32_58_r0 v5
  let c2_i32_r0 : BitVec 32 := 2#32
  let v104_r0 : BitVec 32 := Scalar.subi v80_r0 c2_i32_r0
  let c1_i32_72_r0 : BitVec 32 := 1#32
  let v105_r0 : BitVec 32 := Scalar.addi v104_r0 c1_i32_72_r0
  let v106_r0 : BitVec 1 := Scalar.cmpi .sge arg5_r0 v105_r0
  let true_73_r0 : BitVec 1 := 1#1
  let v107_r0 : BitVec 1 := Scalar.xori v106_r0 true_73_r0
  let v108_r0 : BitVec 1 := Scalar.andi v103_r0 v107_r0
  let true_74_r0 : BitVec 1 := 1#1
  let v109_r0 : BitVec 1 := Scalar.andi v108_r0 true_74_r0
  let v110_r0 : BitVec 32 := Scalar.extui v109_r0
  let c0_i32_75_r0 : BitVec 32 := 0#32
  let v111_r0 : BitVec 1 := Scalar.cmpi .ne v110_r0 c0_i32_75_r0
  v111_r0

def k2_off5 (i : grid2.Coords) (arg10_r0 : BitVec 32) : Fin 2 → Nat :=
  let c0_i32_108_r0 : BitVec 32 := 0#32
  let c128_i32_r0 : BitVec 32 := 128#32
  let c800_i32_105_r0 : BitVec 32 := 800#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v171_r0 : BitVec 32 := Scalar.addi c800_i32_105_r0 v95_r0
  let v172_r0 : BitVec 32 := Scalar.muli c128_i32_r0 v171_r0
  ![0, v172_r0.toNat]
def k2_off6 (arg6_r0 : BitVec 32) : Fin 1 → Nat :=
  let c2_i32_104_r0 : BitVec 32 := 2#32
  let v170_r0 : BitVec 32 := Scalar.remui arg6_r0 c2_i32_104_r0
  ![v170_r0.toNat]
def k2_off7 (arg7_r0 : BitVec 32) : Fin 3 → Nat :=
  let c2_i32_105_r0 : BitVec 32 := 2#32
  let v172_r0 : BitVec 32 := Scalar.remui arg7_r0 c2_i32_105_r0
  let c0_i32_106_r0 : BitVec 32 := 0#32
  let c0_i32_107_r0 : BitVec 32 := 0#32
  ![v172_r0.toNat, 0, 0]
def k2_cond4 (i : grid2.Coords) (k2_t1 : Fin (k2_t1_loop i).trips) (arg10_r0 : BitVec 32) : BitVec 1 :=
  let c800_i32_r0 : BitVec 32 := 800#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v101_r0 : BitVec 32 := Scalar.addi c800_i32_r0 v84_r0
  let c800_i32_81_r0 : BitVec 32 := 800#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v121_r0 : BitVec 32 := Scalar.addi c800_i32_81_r0 v90_r0
  let v122_r0 : BitVec 1 := Scalar.cmpi .ne v101_r0 v121_r0
  let c0_i32_30_r0 : BitVec 32 := 0#32
  let c1_i32_36_r0 : BitVec 32 := 1#32
  let arg5_r0 : BitVec 32 := Scf.iv c0_i32_30_r0 c1_i32_36_r0 k2_t1
  let c0_i32_59_r0 : BitVec 32 := 0#32
  let v81_r0 : BitVec 1 := Scalar.cmpi .eq arg5_r0 c0_i32_59_r0
  let v123_r0 : BitVec 1 := Scalar.ori v122_r0 v81_r0
  let c0_i32_82_r0 : BitVec 32 := 0#32
  let v124_r0 : BitVec 1 := Scalar.cmpi .sge arg5_r0 c0_i32_82_r0
  let v125_r0 : BitVec 1 := Scalar.andi v123_r0 v124_r0
  let v126_r0 : BitVec 32 := Scalar.extui v125_r0
  let c0_i32_83_r0 : BitVec 32 := 0#32
  let v127_r0 : BitVec 1 := Scalar.cmpi .ne v126_r0 c0_i32_83_r0
  v127_r0

def k2_off8 (i : grid2.Coords) (arg10_r0 : BitVec 32) : Fin 2 → Nat :=
  let c0_i32_108_r0 : BitVec 32 := 0#32
  let c128_i32_r0 : BitVec 32 := 128#32
  let c800_i32_104_r0 : BitVec 32 := 800#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v170_r0 : BitVec 32 := Scalar.addi c800_i32_104_r0 v84_r0
  let v171_r0 : BitVec 32 := Scalar.muli c128_i32_r0 v170_r0
  ![0, v171_r0.toNat]
def k2_off9 (arg7_r0 : BitVec 32) : Fin 1 → Nat :=
  let c2_i32_105_r0 : BitVec 32 := 2#32
  let v172_r0 : BitVec 32 := Scalar.remui arg7_r0 c2_i32_105_r0
  ![v172_r0.toNat]
def k2_off10 (arg8_r0 : BitVec 32) : Fin 3 → Nat :=
  let c2_i32_87_r0 : BitVec 32 := 2#32
  let v135_r0 : BitVec 32 := Scalar.remui arg8_r0 c2_i32_87_r0
  let c0_i32_104_r1 : BitVec 32 := 0#32
  let c0_i32_105_r1 : BitVec 32 := 0#32
  ![v135_r0.toNat, 0, 0]

def k2_chk2 (i : grid2.Coords) (arg8_r0 : BitVec 32) : Prop :=
  (∀ (k2_h1 : k2_cond1 i = 1#1), ∀ a, (k2_off10 arg8_r0) a + S1x128x128.size a ≤ S2x128x128.size a)
theorem k2_off10_inb : ∀ (i : grid2.Coords) (arg8_r0 : BitVec 32) (k2_hw2 : k2_chk2 i arg8_r0), ∀ (k2_h1 : k2_cond1 i = 1#1), ∀ a, (k2_off10 arg8_r0) a + S1x128x128.size a ≤ S2x128x128.size a := fun i arg8_r0 k2_hw2 k2_h1 => k2_hw2 k2_h1

def k2_off11 (arg7_r0 : BitVec 32) : Fin 3 → Nat :=
  let c2_i32_86_r0 : BitVec 32 := 2#32
  let v134_r0 : BitVec 32 := Scalar.remui arg7_r0 c2_i32_86_r0
  let c0_i32_106_r1 : BitVec 32 := 0#32
  let c0_i32_107_r1 : BitVec 32 := 0#32
  ![v134_r0.toNat, 0, 0]

def k2_chk3 (i : grid2.Coords) (arg7_r0 : BitVec 32) : Prop :=
  (∀ (k2_h1 : k2_cond1 i = 1#1), ∀ a, (k2_off11 arg7_r0) a + S1x1x128.size a ≤ S2x1x128.size a)
theorem k2_off11_inb : ∀ (i : grid2.Coords) (arg7_r0 : BitVec 32) (k2_hw3 : k2_chk3 i arg7_r0), ∀ (k2_h1 : k2_cond1 i = 1#1), ∀ a, (k2_off11 arg7_r0) a + S1x1x128.size a ≤ S2x1x128.size a := fun i arg7_r0 k2_hw3 k2_h1 => k2_hw3 k2_h1

def k2_off12 (arg8_r0 : BitVec 32) : Fin 3 → Nat :=
  let c2_i32_104_r0 : BitVec 32 := 2#32
  let v170_r0 : BitVec 32 := Scalar.remui arg8_r0 c2_i32_104_r0
  let c0_i32_105_r0 : BitVec 32 := 0#32
  let c0_i32_106_r0 : BitVec 32 := 0#32
  ![v170_r0.toNat, 0, 0]
def k2_cond7 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v141_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k2_t1
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v142_r0 : BitVec 1 := Scalar.ori v141_r0 v83_r0
  let v143_r0 : BitVec 32 := Scalar.extui v142_r0
  let c0_i32_90_r0 : BitVec 32 := 0#32
  let v144_r0 : BitVec 1 := Scalar.cmpi .ne v143_r0 c0_i32_90_r0
  v144_r0

def k2_off13 (i : grid2.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v171_r0 : BitVec 32 := Scalar.muli c128_i32_r0 v84_r0
  let c0_i32_107_r0 : BitVec 32 := 0#32
  ![v171_r0.toNat, 0]
def k2_off14 (arg8_r0 : BitVec 32) : Fin 1 → Nat :=
  let c2_i32_104_r0 : BitVec 32 := 2#32
  let v170_r0 : BitVec 32 := Scalar.remui arg8_r0 c2_i32_104_r0
  ![v170_r0.toNat]
def k2_off15 (arg9_r0 : BitVec 32) : Fin 3 → Nat :=
  let c2_i32_104_r0 : BitVec 32 := 2#32
  let v170_r0 : BitVec 32 := Scalar.remui arg9_r0 c2_i32_104_r0
  let c0_i32_105_r0 : BitVec 32 := 0#32
  let c0_i32_106_r0 : BitVec 32 := 0#32
  ![v170_r0.toNat, 0, 0]
def k2_cond9 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v154_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k2_t1
  let c0_i32_59_r0 : BitVec 32 := 0#32
  let v81_r0 : BitVec 1 := Scalar.cmpi .eq arg5_r0 c0_i32_59_r0
  let true_96_r0 : BitVec 1 := 1#1
  let v155_r0 : BitVec 1 := Scalar.xori v81_r0 true_96_r0
  let v156_r0 : BitVec 1 := Scalar.andi v154_r0 v155_r0
  let v157_r0 : BitVec 32 := Scalar.extui v156_r0
  let c0_i32_97_r0 : BitVec 32 := 0#32
  let v158_r0 : BitVec 1 := Scalar.cmpi .ne v157_r0 c0_i32_97_r0
  v158_r0

def k2_off16 (i : grid2.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v171_r0 : BitVec 32 := Scalar.muli c128_i32_r0 v90_r0
  let c0_i32_107_r0 : BitVec 32 := 0#32
  ![v171_r0.toNat, 0]
def k2_off17 (arg9_r0 : BitVec 32) : Fin 1 → Nat :=
  let c2_i32_104_r0 : BitVec 32 := 2#32
  let v170_r0 : BitVec 32 := Scalar.remui arg9_r0 c2_i32_104_r0
  ![v170_r0.toNat]

def k2_chk1 (i : grid2.Coords) (k2_t1 : Fin (k2_t1_loop i).trips) (arg6_r0 : BitVec 32) (arg7_r0 : BitVec 32) (arg8_r0 : BitVec 32) (arg9_r0 : BitVec 32) (arg10_r0 : BitVec 32) : Prop :=
  (∀ (k2_h1 : k2_cond1 i = 1#1), ∀ (k2_h3 : k2_cond3 i k2_t1 arg10_r0 = 1#1), ∀ a, (k2_off4 arg6_r0) a + S1x1x128.size a ≤ S2x1x128.size a) ∧
  (∀ (k2_h1 : k2_cond1 i = 1#1), ∀ (k2_h3 : k2_cond3 i k2_t1 arg10_r0 = 1#1), ∀ a, (k2_off5 i arg10_r0) a + S1x128.size a ≤ S1x204800.size a) ∧
  (∀ (k2_h1 : k2_cond1 i = 1#1), ∀ (k2_h3 : k2_cond3 i k2_t1 arg10_r0 = 1#1), ∀ a, (k2_off6 arg6_r0) a + S1.size a ≤ S2.size a) ∧
  (∀ (k2_h1 : k2_cond1 i = 1#1), ∀ (k2_h4 : k2_cond4 i k2_t1 arg10_r0 = 1#1), ∀ a, (k2_off7 arg7_r0) a + S1x1x128.size a ≤ S2x1x128.size a) ∧
  (∀ (k2_h1 : k2_cond1 i = 1#1), ∀ (k2_h4 : k2_cond4 i k2_t1 arg10_r0 = 1#1), ∀ a, (k2_off8 i arg10_r0) a + S1x128.size a ≤ S1x204800.size a) ∧
  (∀ (k2_h1 : k2_cond1 i = 1#1), ∀ (k2_h4 : k2_cond4 i k2_t1 arg10_r0 = 1#1), ∀ a, (k2_off9 arg7_r0) a + S1.size a ≤ S2.size a) ∧
  (∀ (k2_h1 : k2_cond1 i = 1#1), ∀ (k2_h7 : k2_cond7 i k2_t1 arg10_r0 = 1#1), ∀ a, (k2_off12 arg8_r0) a + S1x128x128.size a ≤ S2x128x128.size a) ∧
  (∀ (k2_h1 : k2_cond1 i = 1#1), ∀ (k2_h7 : k2_cond7 i k2_t1 arg10_r0 = 1#1), ∀ a, (k2_off13 i arg10_r0) a + S128x128.size a ≤ S51200x128.size a) ∧
  (∀ (k2_h1 : k2_cond1 i = 1#1), ∀ (k2_h7 : k2_cond7 i k2_t1 arg10_r0 = 1#1), ∀ a, (k2_off14 arg8_r0) a + S1.size a ≤ S2.size a) ∧
  (∀ (k2_h1 : k2_cond1 i = 1#1), ∀ (k2_h9 : k2_cond9 i k2_t1 arg10_r0 = 1#1), ∀ a, (k2_off15 arg9_r0) a + S1x128x128.size a ≤ S2x128x128.size a) ∧
  (∀ (k2_h1 : k2_cond1 i = 1#1), ∀ (k2_h9 : k2_cond9 i k2_t1 arg10_r0 = 1#1), ∀ a, (k2_off16 i arg10_r0) a + S128x128.size a ≤ S51200x128.size a) ∧
  (∀ (k2_h1 : k2_cond1 i = 1#1), ∀ (k2_h9 : k2_cond9 i k2_t1 arg10_r0 = 1#1), ∀ a, (k2_off17 arg9_r0) a + S1.size a ≤ S2.size a)
theorem k2_off4_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off4 arg6_r0) a + S1x1x128.size a ≤ S2x1x128.size a := fun i k2_t1 arg6_r0 arg7_r0 arg8_r0 arg9_r0 arg10_r0 k2_hw1 k2_h1 k2_h3 => k2_hw1.1 k2_h1 k2_h3
theorem k2_off5_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off5 i arg10_r0) a + S1x128.size a ≤ S1x204800.size a := fun i k2_t1 arg6_r0 arg7_r0 arg8_r0 arg9_r0 arg10_r0 k2_hw1 k2_h1 k2_h3 => k2_hw1.2.1 k2_h1 k2_h3
theorem k2_off6_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off6 arg6_r0) a + S1.size a ≤ S2.size a := fun i k2_t1 arg6_r0 arg7_r0 arg8_r0 arg9_r0 arg10_r0 k2_hw1 k2_h1 k2_h3 => k2_hw1.2.2.1 k2_h1 k2_h3
theorem k2_off7_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off7 arg7_r0) a + S1x1x128.size a ≤ S2x1x128.size a := fun i k2_t1 arg6_r0 arg7_r0 arg8_r0 arg9_r0 arg10_r0 k2_hw1 k2_h1 k2_h4 => k2_hw1.2.2.2.1 k2_h1 k2_h4
theorem k2_off8_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off8 i arg10_r0) a + S1x128.size a ≤ S1x204800.size a := fun i k2_t1 arg6_r0 arg7_r0 arg8_r0 arg9_r0 arg10_r0 k2_hw1 k2_h1 k2_h4 => k2_hw1.2.2.2.2.1 k2_h1 k2_h4
theorem k2_off9_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off9 arg7_r0) a + S1.size a ≤ S2.size a := fun i k2_t1 arg6_r0 arg7_r0 arg8_r0 arg9_r0 arg10_r0 k2_hw1 k2_h1 k2_h4 => k2_hw1.2.2.2.2.2.1 k2_h1 k2_h4
theorem k2_off12_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off12 arg8_r0) a + S1x128x128.size a ≤ S2x128x128.size a := fun i k2_t1 arg6_r0 arg7_r0 arg8_r0 arg9_r0 arg10_r0 k2_hw1 k2_h1 k2_h7 => k2_hw1.2.2.2.2.2.2.1 k2_h1 k2_h7
theorem k2_off13_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off13 i arg10_r0) a + S128x128.size a ≤ S51200x128.size a := fun i k2_t1 arg6_r0 arg7_r0 arg8_r0 arg9_r0 arg10_r0 k2_hw1 k2_h1 k2_h7 => k2_hw1.2.2.2.2.2.2.2.1 k2_h1 k2_h7
theorem k2_off14_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off14 arg8_r0) a + S1.size a ≤ S2.size a := fun i k2_t1 arg6_r0 arg7_r0 arg8_r0 arg9_r0 arg10_r0 k2_hw1 k2_h1 k2_h7 => k2_hw1.2.2.2.2.2.2.2.2.1 k2_h1 k2_h7
theorem k2_off15_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off15 arg9_r0) a + S1x128x128.size a ≤ S2x128x128.size a := fun i k2_t1 arg6_r0 arg7_r0 arg8_r0 arg9_r0 arg10_r0 k2_hw1 k2_h1 k2_h9 => k2_hw1.2.2.2.2.2.2.2.2.2.1 k2_h1 k2_h9
theorem k2_off16_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off16 i arg10_r0) a + S128x128.size a ≤ S51200x128.size a := fun i k2_t1 arg6_r0 arg7_r0 arg8_r0 arg9_r0 arg10_r0 k2_hw1 k2_h1 k2_h9 => k2_hw1.2.2.2.2.2.2.2.2.2.2.1 k2_h1 k2_h9
theorem k2_off17_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off17 arg9_r0) a + S1.size a ≤ S2.size a := fun i k2_t1 arg6_r0 arg7_r0 arg8_r0 arg9_r0 arg10_r0 k2_hw1 k2_h1 k2_h9 => k2_hw1.2.2.2.2.2.2.2.2.2.2.2 k2_h1 k2_h9

@[reducible] def k2_t2_loop (i : grid2.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let v43_r0 : BitVec 32 := Scalar.addi c0_i32_30_r0 v42_r0
  let c1_i32_37_r0 : BitVec 32 := 1#32
  ⟨v46_r0, v43_r0, c1_i32_37_r0⟩
def k2_off18 (arg6_r0 : BitVec 32) : Fin 3 → Nat :=
  let c2_i32_104_r0 : BitVec 32 := 2#32
  let v170_r0 : BitVec 32 := Scalar.remui arg6_r0 c2_i32_104_r0
  let c0_i32_106_r0 : BitVec 32 := 0#32
  let c0_i32_107_r0 : BitVec 32 := 0#32
  ![v170_r0.toNat, 0, 0]
def k2_cond10 (i : grid2.Coords) (k2_t2 : Fin (k2_t2_loop i).trips) (arg10_r0 : BitVec 32) : BitVec 1 :=
  let c800_i32_r0 : BitVec 32 := 800#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v101_r0 : BitVec 32 := Scalar.addi c800_i32_r0 v84_r0
  let c800_i32_71_r0 : BitVec 32 := 800#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v102_r0 : BitVec 32 := Scalar.addi c800_i32_71_r0 v95_r0
  let v103_r0 : BitVec 1 := Scalar.cmpi .ne v101_r0 v102_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k2_t2
  let c1_i32_58_r0 : BitVec 32 := 1#32
  let v80_r0 : BitVec 32 := Scalar.muli c1_i32_58_r0 v5
  let c2_i32_r0 : BitVec 32 := 2#32
  let v104_r0 : BitVec 32 := Scalar.subi v80_r0 c2_i32_r0
  let c1_i32_72_r0 : BitVec 32 := 1#32
  let v105_r0 : BitVec 32 := Scalar.addi v104_r0 c1_i32_72_r0
  let v106_r0 : BitVec 1 := Scalar.cmpi .sge arg5_r0 v105_r0
  let true_73_r0 : BitVec 1 := 1#1
  let v107_r0 : BitVec 1 := Scalar.xori v106_r0 true_73_r0
  let v108_r0 : BitVec 1 := Scalar.andi v103_r0 v107_r0
  let true_74_r0 : BitVec 1 := 1#1
  let v109_r0 : BitVec 1 := Scalar.andi v108_r0 true_74_r0
  let v110_r0 : BitVec 32 := Scalar.extui v109_r0
  let c0_i32_75_r0 : BitVec 32 := 0#32
  let v111_r0 : BitVec 1 := Scalar.cmpi .ne v110_r0 c0_i32_75_r0
  v111_r0

def k2_off19 (i : grid2.Coords) (arg10_r0 : BitVec 32) : Fin 2 → Nat :=
  let c0_i32_108_r0 : BitVec 32 := 0#32
  let c128_i32_r0 : BitVec 32 := 128#32
  let c800_i32_105_r0 : BitVec 32 := 800#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v171_r0 : BitVec 32 := Scalar.addi c800_i32_105_r0 v95_r0
  let v172_r0 : BitVec 32 := Scalar.muli c128_i32_r0 v171_r0
  ![0, v172_r0.toNat]
def k2_off20 (arg6_r0 : BitVec 32) : Fin 1 → Nat :=
  let c2_i32_104_r0 : BitVec 32 := 2#32
  let v170_r0 : BitVec 32 := Scalar.remui arg6_r0 c2_i32_104_r0
  ![v170_r0.toNat]
def k2_off21 (arg7_r0 : BitVec 32) : Fin 3 → Nat :=
  let c2_i32_105_r0 : BitVec 32 := 2#32
  let v172_r0 : BitVec 32 := Scalar.remui arg7_r0 c2_i32_105_r0
  let c0_i32_106_r0 : BitVec 32 := 0#32
  let c0_i32_107_r0 : BitVec 32 := 0#32
  ![v172_r0.toNat, 0, 0]
def k2_cond11 (i : grid2.Coords) (k2_t2 : Fin (k2_t2_loop i).trips) (arg10_r0 : BitVec 32) : BitVec 1 :=
  let c800_i32_r0 : BitVec 32 := 800#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v101_r0 : BitVec 32 := Scalar.addi c800_i32_r0 v84_r0
  let c800_i32_81_r0 : BitVec 32 := 800#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v121_r0 : BitVec 32 := Scalar.addi c800_i32_81_r0 v90_r0
  let v122_r0 : BitVec 1 := Scalar.cmpi .ne v101_r0 v121_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k2_t2
  let c0_i32_59_r0 : BitVec 32 := 0#32
  let v81_r0 : BitVec 1 := Scalar.cmpi .eq arg5_r0 c0_i32_59_r0
  let v123_r0 : BitVec 1 := Scalar.ori v122_r0 v81_r0
  let c0_i32_82_r0 : BitVec 32 := 0#32
  let v124_r0 : BitVec 1 := Scalar.cmpi .sge arg5_r0 c0_i32_82_r0
  let v125_r0 : BitVec 1 := Scalar.andi v123_r0 v124_r0
  let v126_r0 : BitVec 32 := Scalar.extui v125_r0
  let c0_i32_83_r0 : BitVec 32 := 0#32
  let v127_r0 : BitVec 1 := Scalar.cmpi .ne v126_r0 c0_i32_83_r0
  v127_r0

def k2_off22 (i : grid2.Coords) (arg10_r0 : BitVec 32) : Fin 2 → Nat :=
  let c0_i32_108_r0 : BitVec 32 := 0#32
  let c128_i32_r0 : BitVec 32 := 128#32
  let c800_i32_104_r0 : BitVec 32 := 800#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v170_r0 : BitVec 32 := Scalar.addi c800_i32_104_r0 v84_r0
  let v171_r0 : BitVec 32 := Scalar.muli c128_i32_r0 v170_r0
  ![0, v171_r0.toNat]
def k2_off23 (arg7_r0 : BitVec 32) : Fin 1 → Nat :=
  let c2_i32_105_r0 : BitVec 32 := 2#32
  let v172_r0 : BitVec 32 := Scalar.remui arg7_r0 c2_i32_105_r0
  ![v172_r0.toNat]
def k2_off24 (arg8_r0 : BitVec 32) : Fin 3 → Nat :=
  let c2_i32_87_r0 : BitVec 32 := 2#32
  let v135_r0 : BitVec 32 := Scalar.remui arg8_r0 c2_i32_87_r0
  let c0_i32_104_r2 : BitVec 32 := 0#32
  let c0_i32_105_r2 : BitVec 32 := 0#32
  ![v135_r0.toNat, 0, 0]

def k2_chk5 (i : grid2.Coords) (k2_t2 : Fin (k2_t2_loop i).trips) (arg8_r0 : BitVec 32) : Prop :=
  (∀ (k2_h1 : k2_cond1 i = 1#1), ∀ a, (k2_off24 arg8_r0) a + S1x128x128.size a ≤ S2x128x128.size a)
theorem k2_off24_inb : ∀ (i : grid2.Coords) (k2_t2 : Fin (k2_t2_loop i).trips) (arg8_r0 : BitVec 32) (k2_hw5 : k2_chk5 i k2_t2 arg8_r0), ∀ (k2_h1 : k2_cond1 i = 1#1), ∀ a, (k2_off24 arg8_r0) a + S1x128x128.size a ≤ S2x128x128.size a := fun i k2_t2 arg8_r0 k2_hw5 k2_h1 => k2_hw5 k2_h1

def k2_off25 (arg7_r0 : BitVec 32) : Fin 3 → Nat :=
  let c2_i32_86_r0 : BitVec 32 := 2#32
  let v134_r0 : BitVec 32 := Scalar.remui arg7_r0 c2_i32_86_r0
  let c0_i32_106_r2 : BitVec 32 := 0#32
  let c0_i32_107_r2 : BitVec 32 := 0#32
  ![v134_r0.toNat, 0, 0]

def k2_chk6 (i : grid2.Coords) (k2_t2 : Fin (k2_t2_loop i).trips) (arg7_r0 : BitVec 32) : Prop :=
  (∀ (k2_h1 : k2_cond1 i = 1#1), ∀ a, (k2_off25 arg7_r0) a + S1x1x128.size a ≤ S2x1x128.size a)
theorem k2_off25_inb : ∀ (i : grid2.Coords) (k2_t2 : Fin (k2_t2_loop i).trips) (arg7_r0 : BitVec 32) (k2_hw6 : k2_chk6 i k2_t2 arg7_r0), ∀ (k2_h1 : k2_cond1 i = 1#1), ∀ a, (k2_off25 arg7_r0) a + S1x1x128.size a ≤ S2x1x128.size a := fun i k2_t2 arg7_r0 k2_hw6 k2_h1 => k2_hw6 k2_h1

def k2_off26 (arg8_r0 : BitVec 32) : Fin 3 → Nat :=
  let c2_i32_104_r0 : BitVec 32 := 2#32
  let v170_r0 : BitVec 32 := Scalar.remui arg8_r0 c2_i32_104_r0
  let c0_i32_105_r0 : BitVec 32 := 0#32
  let c0_i32_106_r0 : BitVec 32 := 0#32
  ![v170_r0.toNat, 0, 0]
def k2_cond14 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v141_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k2_t2
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v142_r0 : BitVec 1 := Scalar.ori v141_r0 v83_r0
  let v143_r0 : BitVec 32 := Scalar.extui v142_r0
  let c0_i32_90_r0 : BitVec 32 := 0#32
  let v144_r0 : BitVec 1 := Scalar.cmpi .ne v143_r0 c0_i32_90_r0
  v144_r0

def k2_off27 (i : grid2.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v171_r0 : BitVec 32 := Scalar.muli c128_i32_r0 v84_r0
  let c0_i32_107_r0 : BitVec 32 := 0#32
  ![v171_r0.toNat, 0]
def k2_off28 (arg8_r0 : BitVec 32) : Fin 1 → Nat :=
  let c2_i32_104_r0 : BitVec 32 := 2#32
  let v170_r0 : BitVec 32 := Scalar.remui arg8_r0 c2_i32_104_r0
  ![v170_r0.toNat]
def k2_off29 (arg9_r0 : BitVec 32) : Fin 3 → Nat :=
  let c2_i32_104_r0 : BitVec 32 := 2#32
  let v170_r0 : BitVec 32 := Scalar.remui arg9_r0 c2_i32_104_r0
  let c0_i32_105_r0 : BitVec 32 := 0#32
  let c0_i32_106_r0 : BitVec 32 := 0#32
  ![v170_r0.toNat, 0, 0]
def k2_cond16 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v154_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k2_t2
  let c0_i32_59_r0 : BitVec 32 := 0#32
  let v81_r0 : BitVec 1 := Scalar.cmpi .eq arg5_r0 c0_i32_59_r0
  let true_96_r0 : BitVec 1 := 1#1
  let v155_r0 : BitVec 1 := Scalar.xori v81_r0 true_96_r0
  let v156_r0 : BitVec 1 := Scalar.andi v154_r0 v155_r0
  let v157_r0 : BitVec 32 := Scalar.extui v156_r0
  let c0_i32_97_r0 : BitVec 32 := 0#32
  let v158_r0 : BitVec 1 := Scalar.cmpi .ne v157_r0 c0_i32_97_r0
  v158_r0

def k2_off30 (i : grid2.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v171_r0 : BitVec 32 := Scalar.muli c128_i32_r0 v90_r0
  let c0_i32_107_r0 : BitVec 32 := 0#32
  ![v171_r0.toNat, 0]
def k2_off31 (arg9_r0 : BitVec 32) : Fin 1 → Nat :=
  let c2_i32_104_r0 : BitVec 32 := 2#32
  let v170_r0 : BitVec 32 := Scalar.remui arg9_r0 c2_i32_104_r0
  ![v170_r0.toNat]

def k2_chk4 (i : grid2.Coords) (k2_t2 : Fin (k2_t2_loop i).trips) (arg6_r0 : BitVec 32) (arg7_r0 : BitVec 32) (arg8_r0 : BitVec 32) (arg9_r0 : BitVec 32) (arg10_r0 : BitVec 32) : Prop :=
  (∀ (k2_h1 : k2_cond1 i = 1#1), ∀ (k2_h10 : k2_cond10 i k2_t2 arg10_r0 = 1#1), ∀ a, (k2_off18 arg6_r0) a + S1x1x128.size a ≤ S2x1x128.size a) ∧
  (∀ (k2_h1 : k2_cond1 i = 1#1), ∀ (k2_h10 : k2_cond10 i k2_t2 arg10_r0 = 1#1), ∀ a, (k2_off19 i arg10_r0) a + S1x128.size a ≤ S1x204800.size a) ∧
  (∀ (k2_h1 : k2_cond1 i = 1#1), ∀ (k2_h10 : k2_cond10 i k2_t2 arg10_r0 = 1#1), ∀ a, (k2_off20 arg6_r0) a + S1.size a ≤ S2.size a) ∧
  (∀ (k2_h1 : k2_cond1 i = 1#1), ∀ (k2_h11 : k2_cond11 i k2_t2 arg10_r0 = 1#1), ∀ a, (k2_off21 arg7_r0) a + S1x1x128.size a ≤ S2x1x128.size a) ∧
  (∀ (k2_h1 : k2_cond1 i = 1#1), ∀ (k2_h11 : k2_cond11 i k2_t2 arg10_r0 = 1#1), ∀ a, (k2_off22 i arg10_r0) a + S1x128.size a ≤ S1x204800.size a) ∧
  (∀ (k2_h1 : k2_cond1 i = 1#1), ∀ (k2_h11 : k2_cond11 i k2_t2 arg10_r0 = 1#1), ∀ a, (k2_off23 arg7_r0) a + S1.size a ≤ S2.size a) ∧
  (∀ (k2_h1 : k2_cond1 i = 1#1), ∀ (k2_h14 : k2_cond14 i k2_t2 arg10_r0 = 1#1), ∀ a, (k2_off26 arg8_r0) a + S1x128x128.size a ≤ S2x128x128.size a) ∧
  (∀ (k2_h1 : k2_cond1 i = 1#1), ∀ (k2_h14 : k2_cond14 i k2_t2 arg10_r0 = 1#1), ∀ a, (k2_off27 i arg10_r0) a + S128x128.size a ≤ S51200x128.size a) ∧
  (∀ (k2_h1 : k2_cond1 i = 1#1), ∀ (k2_h14 : k2_cond14 i k2_t2 arg10_r0 = 1#1), ∀ a, (k2_off28 arg8_r0) a + S1.size a ≤ S2.size a) ∧
  (∀ (k2_h1 : k2_cond1 i = 1#1), ∀ (k2_h16 : k2_cond16 i k2_t2 arg10_r0 = 1#1), ∀ a, (k2_off29 arg9_r0) a + S1x128x128.size a ≤ S2x128x128.size a) ∧
  (∀ (k2_h1 : k2_cond1 i = 1#1), ∀ (k2_h16 : k2_cond16 i k2_t2 arg10_r0 = 1#1), ∀ a, (k2_off30 i arg10_r0) a + S128x128.size a ≤ S51200x128.size a) ∧
  (∀ (k2_h1 : k2_cond1 i = 1#1), ∀ (k2_h16 : k2_cond16 i k2_t2 arg10_r0 = 1#1), ∀ a, (k2_off31 arg9_r0) a + S1.size a ≤ S2.size a)
theorem k2_off18_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off18 arg6_r0) a + S1x1x128.size a ≤ S2x1x128.size a := fun i k2_t2 arg6_r0 arg7_r0 arg8_r0 arg9_r0 arg10_r0 k2_hw4 k2_h1 k2_h10 => k2_hw4.1 k2_h1 k2_h10
theorem k2_off19_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off19 i arg10_r0) a + S1x128.size a ≤ S1x204800.size a := fun i k2_t2 arg6_r0 arg7_r0 arg8_r0 arg9_r0 arg10_r0 k2_hw4 k2_h1 k2_h10 => k2_hw4.2.1 k2_h1 k2_h10
theorem k2_off20_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off20 arg6_r0) a + S1.size a ≤ S2.size a := fun i k2_t2 arg6_r0 arg7_r0 arg8_r0 arg9_r0 arg10_r0 k2_hw4 k2_h1 k2_h10 => k2_hw4.2.2.1 k2_h1 k2_h10
theorem k2_off21_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off21 arg7_r0) a + S1x1x128.size a ≤ S2x1x128.size a := fun i k2_t2 arg6_r0 arg7_r0 arg8_r0 arg9_r0 arg10_r0 k2_hw4 k2_h1 k2_h11 => k2_hw4.2.2.2.1 k2_h1 k2_h11
theorem k2_off22_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off22 i arg10_r0) a + S1x128.size a ≤ S1x204800.size a := fun i k2_t2 arg6_r0 arg7_r0 arg8_r0 arg9_r0 arg10_r0 k2_hw4 k2_h1 k2_h11 => k2_hw4.2.2.2.2.1 k2_h1 k2_h11
theorem k2_off23_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off23 arg7_r0) a + S1.size a ≤ S2.size a := fun i k2_t2 arg6_r0 arg7_r0 arg8_r0 arg9_r0 arg10_r0 k2_hw4 k2_h1 k2_h11 => k2_hw4.2.2.2.2.2.1 k2_h1 k2_h11
theorem k2_off26_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off26 arg8_r0) a + S1x128x128.size a ≤ S2x128x128.size a := fun i k2_t2 arg6_r0 arg7_r0 arg8_r0 arg9_r0 arg10_r0 k2_hw4 k2_h1 k2_h14 => k2_hw4.2.2.2.2.2.2.1 k2_h1 k2_h14
theorem k2_off27_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off27 i arg10_r0) a + S128x128.size a ≤ S51200x128.size a := fun i k2_t2 arg6_r0 arg7_r0 arg8_r0 arg9_r0 arg10_r0 k2_hw4 k2_h1 k2_h14 => k2_hw4.2.2.2.2.2.2.2.1 k2_h1 k2_h14
theorem k2_off28_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off28 arg8_r0) a + S1.size a ≤ S2.size a := fun i k2_t2 arg6_r0 arg7_r0 arg8_r0 arg9_r0 arg10_r0 k2_hw4 k2_h1 k2_h14 => k2_hw4.2.2.2.2.2.2.2.2.1 k2_h1 k2_h14
theorem k2_off29_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off29 arg9_r0) a + S1x128x128.size a ≤ S2x128x128.size a := fun i k2_t2 arg6_r0 arg7_r0 arg8_r0 arg9_r0 arg10_r0 k2_hw4 k2_h1 k2_h16 => k2_hw4.2.2.2.2.2.2.2.2.2.1 k2_h1 k2_h16
theorem k2_off30_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off30 i arg10_r0) a + S128x128.size a ≤ S51200x128.size a := fun i k2_t2 arg6_r0 arg7_r0 arg8_r0 arg9_r0 arg10_r0 k2_hw4 k2_h1 k2_h16 => k2_hw4.2.2.2.2.2.2.2.2.2.2.1 k2_h1 k2_h16
theorem k2_off31_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off31 arg9_r0) a + S1.size a ≤ S2.size a := fun i k2_t2 arg6_r0 arg7_r0 arg8_r0 arg9_r0 arg10_r0 k2_hw4 k2_h1 k2_h16 => k2_hw4.2.2.2.2.2.2.2.2.2.2.2 k2_h1 k2_h16

def k2_cond18 (i : grid2.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let c1_i32_42_r0 : BitVec 32 := 1#32
  let v54_r0 : BitVec 32 := Scalar.subi v11 c1_i32_42_r0
  let c1_i32_43_r0 : BitVec 32 := 1#32
  let v55_r0 : BitVec 32 := Scalar.muli c1_i32_43_r0 v5
  let c1_i32_45_r0 : BitVec 32 := 1#32
  let v57_r0 : BitVec 32 := Scalar.subi v55_r0 c1_i32_45_r0
  let v58_r0 : BitVec 1 := Scalar.cmpi .eq v54_r0 v57_r0
  let v78_r0 : BitVec 32 := Scalar.extui v58_r0
  let c0_i32_57_r0 : BitVec 32 := 0#32
  let v79_r0 : BitVec 1 := Scalar.cmpi .ne v78_r0 c0_i32_57_r0
  v79_r0

def k2_off32 (v48_3_r0 : BitVec 32) : Fin 3 → Nat :=
  let c2_i32_r0 : BitVec 32 := 2#32
  let v80_r0 : BitVec 32 := Scalar.remui v48_3_r0 c2_i32_r0
  let c0_i32_58_r0 : BitVec 32 := 0#32
  let c0_i32_59_r0 : BitVec 32 := 0#32
  ![v80_r0.toNat, 0, 0]

def k2_off33 (i : grid2.Coords) (v48_4_r0 : BitVec 32) : Fin 2 → Nat :=
  let c128_i32_r0 : BitVec 32 := 128#32
  let true_39_r0 : BitVec 1 := 1#1
  let c1_i32_38_r0 : BitVec 32 := 1#32
  let v49_r0 : BitVec 32 := Scalar.subi v48_4_r0 c1_i32_38_r0
  let v50_r0 : BitVec 32 := Scalar.select true_39_r0 v49_r0 v48_4_r0
  let c_m1_i32_40_r0 : BitVec 32 := 4294967295#32
  let v51_r0 : BitVec 1 := Scalar.cmpi .eq v50_r0 c_m1_i32_40_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let c1_i32_41_r0 : BitVec 32 := 1#32
  let v52_r0 : BitVec 32 := Scalar.subi v5 c1_i32_41_r0
  let v53_r0 : BitVec 32 := Scalar.select v51_r0 v52_r0 v50_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v59_r0 : BitVec 32 := Scalar.addi v53_r0 v10
  let v81_r0 : BitVec 32 := Scalar.muli c128_i32_r0 v59_r0
  let c0_i32_60_r0 : BitVec 32 := 0#32
  ![v81_r0.toNat, 0]

def k2_chk8 (i : grid2.Coords) (v48_4_r0 : BitVec 32) : Prop :=
  (∀ (k2_h1 : k2_cond1 i = 1#1), ∀ (k2_h18 : k2_cond18 i = 1#1), ∀ a, (k2_off33 i v48_4_r0) a + S128x128.size a ≤ S51200x128.size a)
theorem k2_off33_inb : ∀ (i : grid2.Coords) (v48_4_r0 : BitVec 32) (k2_hw8 : k2_chk8 i v48_4_r0), ∀ (k2_h1 : k2_cond1 i = 1#1), ∀ (k2_h18 : k2_cond18 i = 1#1), ∀ a, (k2_off33 i v48_4_r0) a + S128x128.size a ≤ S51200x128.size a := fun i v48_4_r0 k2_hw8 k2_h1 k2_h18 => k2_hw8 k2_h1 k2_h18

def k2_off34 (v48_3_r0 : BitVec 32) : Fin 1 → Nat :=
  let c2_i32_r0 : BitVec 32 := 2#32
  let v80_r0 : BitVec 32 := Scalar.remui v48_3_r0 c2_i32_r0
  ![v80_r0.toNat]
def k2_off35 (v48_3_r0 : BitVec 32) : Fin 3 → Nat :=
  let c2_i32_r0 : BitVec 32 := 2#32
  let v80_r0 : BitVec 32 := Scalar.remui v48_3_r0 c2_i32_r0
  let c0_i32_62_r0 : BitVec 32 := 0#32
  let c0_i32_63_r0 : BitVec 32 := 0#32
  ![v80_r0.toNat, 0, 0]

def k2_chk7 (i : grid2.Coords) (v48_3_r0 : BitVec 32) : Prop :=
  (∀ (k2_h1 : k2_cond1 i = 1#1), ∀ (k2_h18 : k2_cond18 i = 1#1), ∀ a, (k2_off32 v48_3_r0) a + S1x128x128.size a ≤ S2x128x128.size a) ∧
  (∀ (k2_h1 : k2_cond1 i = 1#1), ∀ (k2_h18 : k2_cond18 i = 1#1), ∀ a, (k2_off34 v48_3_r0) a + S1.size a ≤ S2.size a) ∧
  (∀ (k2_h1 : k2_cond1 i = 1#1), ∀ (k2_h18 : k2_cond18 i = 1#1), ∀ a, (k2_off35 v48_3_r0) a + S1x128x128.size a ≤ S2x128x128.size a)
theorem k2_off32_inb : ∀ (i : grid2.Coords) (v48_3_r0 : BitVec 32) (k2_hw7 : k2_chk7 i v48_3_r0), ∀ (k2_h1 : k2_cond1 i = 1#1), ∀ (k2_h18 : k2_cond18 i = 1#1), ∀ a, (k2_off32 v48_3_r0) a + S1x128x128.size a ≤ S2x128x128.size a := fun i v48_3_r0 k2_hw7 k2_h1 k2_h18 => k2_hw7.1 k2_h1 k2_h18
theorem k2_off34_inb : ∀ (i : grid2.Coords) (v48_3_r0 : BitVec 32) (k2_hw7 : k2_chk7 i v48_3_r0), ∀ (k2_h1 : k2_cond1 i = 1#1), ∀ (k2_h18 : k2_cond18 i = 1#1), ∀ a, (k2_off34 v48_3_r0) a + S1.size a ≤ S2.size a := fun i v48_3_r0 k2_hw7 k2_h1 k2_h18 => k2_hw7.2.1 k2_h1 k2_h18
theorem k2_off35_inb : ∀ (i : grid2.Coords) (v48_3_r0 : BitVec 32) (k2_hw7 : k2_chk7 i v48_3_r0), ∀ (k2_h1 : k2_cond1 i = 1#1), ∀ (k2_h18 : k2_cond18 i = 1#1), ∀ a, (k2_off35 v48_3_r0) a + S1x128x128.size a ≤ S2x128x128.size a := fun i v48_3_r0 k2_hw7 k2_h1 k2_h18 => k2_hw7.2.2 k2_h1 k2_h18

abbrev grid3 : Pipeline.Grid := ⟨2, ![2, 16], ![false, false]⟩

def k3_cond1 (i : grid3.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let c0_i32_6_r0 : BitVec 32 := 0#32
  let v14_r0 : BitVec 1 := Scalar.cmpi .sgt v11 c0_i32_6_r0
  let v15_r0 : BitVec 32 := Scalar.extui v14_r0
  let c0_i32_7_r0 : BitVec 32 := 0#32
  let v16_r0 : BitVec 1 := Scalar.cmpi .ne v15_r0 c0_i32_7_r0
  v16_r0

def k3_cond2 (i : grid3.Coords) : BitVec 1 :=
  let true_23_r0 : BitVec 1 := 1#1
  let c1_i32_8_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v17_r0 : BitVec 32 := Scalar.muli c1_i32_8_r0 v5
  let c0_i32_22_r0 : BitVec 32 := 0#32
  let v35_r0 : BitVec 1 := Scalar.cmpi .sgt v17_r0 c0_i32_22_r0
  let v36_r0 : BitVec 1 := Scalar.andi true_23_r0 v35_r0
  let true_24_r0 : BitVec 1 := 1#1
  let v37_r0 : BitVec 1 := Scalar.andi v36_r0 true_24_r0
  let v38_r0 : BitVec 32 := Scalar.extui v37_r0
  let c0_i32_26_r0 : BitVec 32 := 0#32
  let v39_r0 : BitVec 1 := Scalar.cmpi .ne v38_r0 c0_i32_26_r0
  v39_r0

def k3_off1 : Fin 3 → Nat :=
  let c0_i32_25_r0 : BitVec 32 := 0#32
  let c2_i32_r0 : BitVec 32 := 2#32
  let v80_r0 : BitVec 32 := Scalar.remui c0_i32_25_r0 c2_i32_r0
  let c0_i32_58_r0 : BitVec 32 := 0#32
  let c0_i32_59_r0 : BitVec 32 := 0#32
  ![v80_r0.toNat, 0, 0]
def k3_off2 (i : grid3.Coords) : Fin 2 → Nat :=
  let c0_i32_60_r0 : BitVec 32 := 0#32
  let c128_i32_r0 : BitVec 32 := 128#32
  let c1200_i32_r0 : BitVec 32 := 1200#32
  let c0_i32_11_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v20_r0 : BitVec 32 := Scalar.addi c0_i32_11_r0 v10
  let v81_r0 : BitVec 32 := Scalar.addi c1200_i32_r0 v20_r0
  let v82_r0 : BitVec 32 := Scalar.muli c128_i32_r0 v81_r0
  ![0, v82_r0.toNat]
def k3_off3 : Fin 1 → Nat :=
  let c0_i32_25_r0 : BitVec 32 := 0#32
  let c2_i32_r0 : BitVec 32 := 2#32
  let v80_r0 : BitVec 32 := Scalar.remui c0_i32_25_r0 c2_i32_r0
  ![v80_r0.toNat]
@[reducible] def k3_t1_loop (i : grid3.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_36_r0 : BitVec 32 := 1#32
  ⟨c0_i32_30_r0, v46_r0, c1_i32_36_r0⟩
def k3_off4 (arg6_r0 : BitVec 32) : Fin 3 → Nat :=
  let c2_i32_104_r0 : BitVec 32 := 2#32
  let v170_r0 : BitVec 32 := Scalar.remui arg6_r0 c2_i32_104_r0
  let c0_i32_106_r0 : BitVec 32 := 0#32
  let c0_i32_107_r0 : BitVec 32 := 0#32
  ![v170_r0.toNat, 0, 0]
def k3_cond3 (i : grid3.Coords) (k3_t1 : Fin (k3_t1_loop i).trips) (arg10_r0 : BitVec 32) : BitVec 1 :=
  let c1200_i32_r0 : BitVec 32 := 1200#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v101_r0 : BitVec 32 := Scalar.addi c1200_i32_r0 v84_r0
  let c1200_i32_71_r0 : BitVec 32 := 1200#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v102_r0 : BitVec 32 := Scalar.addi c1200_i32_71_r0 v95_r0
  let v103_r0 : BitVec 1 := Scalar.cmpi .ne v101_r0 v102_r0
  let c0_i32_30_r0 : BitVec 32 := 0#32
  let c1_i32_36_r0 : BitVec 32 := 1#32
  let arg5_r0 : BitVec 32 := Scf.iv c0_i32_30_r0 c1_i32_36_r0 k3_t1
  let c1_i32_58_r0 : BitVec 32 := 1#32
  let v80_r0 : BitVec 32 := Scalar.muli c1_i32_58_r0 v5
  let c2_i32_r0 : BitVec 32 := 2#32
  let v104_r0 : BitVec 32 := Scalar.subi v80_r0 c2_i32_r0
  let c1_i32_72_r0 : BitVec 32 := 1#32
  let v105_r0 : BitVec 32 := Scalar.addi v104_r0 c1_i32_72_r0
  let v106_r0 : BitVec 1 := Scalar.cmpi .sge arg5_r0 v105_r0
  let true_73_r0 : BitVec 1 := 1#1
  let v107_r0 : BitVec 1 := Scalar.xori v106_r0 true_73_r0
  let v108_r0 : BitVec 1 := Scalar.andi v103_r0 v107_r0
  let true_74_r0 : BitVec 1 := 1#1
  let v109_r0 : BitVec 1 := Scalar.andi v108_r0 true_74_r0
  let v110_r0 : BitVec 32 := Scalar.extui v109_r0
  let c0_i32_75_r0 : BitVec 32 := 0#32
  let v111_r0 : BitVec 1 := Scalar.cmpi .ne v110_r0 c0_i32_75_r0
  v111_r0

def k3_off5 (i : grid3.Coords) (arg10_r0 : BitVec 32) : Fin 2 → Nat :=
  let c0_i32_108_r0 : BitVec 32 := 0#32
  let c128_i32_r0 : BitVec 32 := 128#32
  let c1200_i32_105_r0 : BitVec 32 := 1200#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v171_r0 : BitVec 32 := Scalar.addi c1200_i32_105_r0 v95_r0
  let v172_r0 : BitVec 32 := Scalar.muli c128_i32_r0 v171_r0
  ![0, v172_r0.toNat]
def k3_off6 (arg6_r0 : BitVec 32) : Fin 1 → Nat :=
  let c2_i32_104_r0 : BitVec 32 := 2#32
  let v170_r0 : BitVec 32 := Scalar.remui arg6_r0 c2_i32_104_r0
  ![v170_r0.toNat]
def k3_off7 (arg7_r0 : BitVec 32) : Fin 3 → Nat :=
  let c2_i32_105_r0 : BitVec 32 := 2#32
  let v172_r0 : BitVec 32 := Scalar.remui arg7_r0 c2_i32_105_r0
  let c0_i32_106_r0 : BitVec 32 := 0#32
  let c0_i32_107_r0 : BitVec 32 := 0#32
  ![v172_r0.toNat, 0, 0]
def k3_cond4 (i : grid3.Coords) (k3_t1 : Fin (k3_t1_loop i).trips) (arg10_r0 : BitVec 32) : BitVec 1 :=
  let c1200_i32_r0 : BitVec 32 := 1200#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v101_r0 : BitVec 32 := Scalar.addi c1200_i32_r0 v84_r0
  let c1200_i32_81_r0 : BitVec 32 := 1200#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v121_r0 : BitVec 32 := Scalar.addi c1200_i32_81_r0 v90_r0
  let v122_r0 : BitVec 1 := Scalar.cmpi .ne v101_r0 v121_r0
  let c0_i32_30_r0 : BitVec 32 := 0#32
  let c1_i32_36_r0 : BitVec 32 := 1#32
  let arg5_r0 : BitVec 32 := Scf.iv c0_i32_30_r0 c1_i32_36_r0 k3_t1
  let c0_i32_59_r0 : BitVec 32 := 0#32
  let v81_r0 : BitVec 1 := Scalar.cmpi .eq arg5_r0 c0_i32_59_r0
  let v123_r0 : BitVec 1 := Scalar.ori v122_r0 v81_r0
  let c0_i32_82_r0 : BitVec 32 := 0#32
  let v124_r0 : BitVec 1 := Scalar.cmpi .sge arg5_r0 c0_i32_82_r0
  let v125_r0 : BitVec 1 := Scalar.andi v123_r0 v124_r0
  let v126_r0 : BitVec 32 := Scalar.extui v125_r0
  let c0_i32_83_r0 : BitVec 32 := 0#32
  let v127_r0 : BitVec 1 := Scalar.cmpi .ne v126_r0 c0_i32_83_r0
  v127_r0

def k3_off8 (i : grid3.Coords) (arg10_r0 : BitVec 32) : Fin 2 → Nat :=
  let c0_i32_108_r0 : BitVec 32 := 0#32
  let c128_i32_r0 : BitVec 32 := 128#32
  let c1200_i32_104_r0 : BitVec 32 := 1200#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v170_r0 : BitVec 32 := Scalar.addi c1200_i32_104_r0 v84_r0
  let v171_r0 : BitVec 32 := Scalar.muli c128_i32_r0 v170_r0
  ![0, v171_r0.toNat]
def k3_off9 (arg7_r0 : BitVec 32) : Fin 1 → Nat :=
  let c2_i32_105_r0 : BitVec 32 := 2#32
  let v172_r0 : BitVec 32 := Scalar.remui arg7_r0 c2_i32_105_r0
  ![v172_r0.toNat]
def k3_off10 (arg8_r0 : BitVec 32) : Fin 3 → Nat :=
  let c2_i32_87_r0 : BitVec 32 := 2#32
  let v135_r0 : BitVec 32 := Scalar.remui arg8_r0 c2_i32_87_r0
  let c0_i32_104_r1 : BitVec 32 := 0#32
  let c0_i32_105_r1 : BitVec 32 := 0#32
  ![v135_r0.toNat, 0, 0]

def k3_chk2 (i : grid3.Coords) (arg8_r0 : BitVec 32) : Prop :=
  (∀ (k3_h1 : k3_cond1 i = 1#1), ∀ a, (k3_off10 arg8_r0) a + S1x128x128.size a ≤ S2x128x128.size a)
theorem k3_off10_inb : ∀ (i : grid3.Coords) (arg8_r0 : BitVec 32) (k3_hw2 : k3_chk2 i arg8_r0), ∀ (k3_h1 : k3_cond1 i = 1#1), ∀ a, (k3_off10 arg8_r0) a + S1x128x128.size a ≤ S2x128x128.size a := fun i arg8_r0 k3_hw2 k3_h1 => k3_hw2 k3_h1

def k3_off11 (arg7_r0 : BitVec 32) : Fin 3 → Nat :=
  let c2_i32_86_r0 : BitVec 32 := 2#32
  let v134_r0 : BitVec 32 := Scalar.remui arg7_r0 c2_i32_86_r0
  let c0_i32_106_r1 : BitVec 32 := 0#32
  let c0_i32_107_r1 : BitVec 32 := 0#32
  ![v134_r0.toNat, 0, 0]

def k3_chk3 (i : grid3.Coords) (arg7_r0 : BitVec 32) : Prop :=
  (∀ (k3_h1 : k3_cond1 i = 1#1), ∀ a, (k3_off11 arg7_r0) a + S1x1x128.size a ≤ S2x1x128.size a)
theorem k3_off11_inb : ∀ (i : grid3.Coords) (arg7_r0 : BitVec 32) (k3_hw3 : k3_chk3 i arg7_r0), ∀ (k3_h1 : k3_cond1 i = 1#1), ∀ a, (k3_off11 arg7_r0) a + S1x1x128.size a ≤ S2x1x128.size a := fun i arg7_r0 k3_hw3 k3_h1 => k3_hw3 k3_h1

def k3_off12 (arg8_r0 : BitVec 32) : Fin 3 → Nat :=
  let c2_i32_104_r0 : BitVec 32 := 2#32
  let v170_r0 : BitVec 32 := Scalar.remui arg8_r0 c2_i32_104_r0
  let c0_i32_105_r0 : BitVec 32 := 0#32
  let c0_i32_106_r0 : BitVec 32 := 0#32
  ![v170_r0.toNat, 0, 0]
def k3_cond7 (i : grid3.Coords) (k3_t1 : Fin (k3_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v141_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k3_t1
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v142_r0 : BitVec 1 := Scalar.ori v141_r0 v83_r0
  let v143_r0 : BitVec 32 := Scalar.extui v142_r0
  let c0_i32_90_r0 : BitVec 32 := 0#32
  let v144_r0 : BitVec 1 := Scalar.cmpi .ne v143_r0 c0_i32_90_r0
  v144_r0

def k3_off13 (i : grid3.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v171_r0 : BitVec 32 := Scalar.muli c128_i32_r0 v84_r0
  let c0_i32_107_r0 : BitVec 32 := 0#32
  ![v171_r0.toNat, 0]
def k3_off14 (arg8_r0 : BitVec 32) : Fin 1 → Nat :=
  let c2_i32_104_r0 : BitVec 32 := 2#32
  let v170_r0 : BitVec 32 := Scalar.remui arg8_r0 c2_i32_104_r0
  ![v170_r0.toNat]
def k3_off15 (arg9_r0 : BitVec 32) : Fin 3 → Nat :=
  let c2_i32_104_r0 : BitVec 32 := 2#32
  let v170_r0 : BitVec 32 := Scalar.remui arg9_r0 c2_i32_104_r0
  let c0_i32_105_r0 : BitVec 32 := 0#32
  let c0_i32_106_r0 : BitVec 32 := 0#32
  ![v170_r0.toNat, 0, 0]
def k3_cond9 (i : grid3.Coords) (k3_t1 : Fin (k3_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v154_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k3_t1
  let c0_i32_59_r0 : BitVec 32 := 0#32
  let v81_r0 : BitVec 1 := Scalar.cmpi .eq arg5_r0 c0_i32_59_r0
  let true_96_r0 : BitVec 1 := 1#1
  let v155_r0 : BitVec 1 := Scalar.xori v81_r0 true_96_r0
  let v156_r0 : BitVec 1 := Scalar.andi v154_r0 v155_r0
  let v157_r0 : BitVec 32 := Scalar.extui v156_r0
  let c0_i32_97_r0 : BitVec 32 := 0#32
  let v158_r0 : BitVec 1 := Scalar.cmpi .ne v157_r0 c0_i32_97_r0
  v158_r0

def k3_off16 (i : grid3.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v171_r0 : BitVec 32 := Scalar.muli c128_i32_r0 v90_r0
  let c0_i32_107_r0 : BitVec 32 := 0#32
  ![v171_r0.toNat, 0]
def k3_off17 (arg9_r0 : BitVec 32) : Fin 1 → Nat :=
  let c2_i32_104_r0 : BitVec 32 := 2#32
  let v170_r0 : BitVec 32 := Scalar.remui arg9_r0 c2_i32_104_r0
  ![v170_r0.toNat]

def k3_chk1 (i : grid3.Coords) (k3_t1 : Fin (k3_t1_loop i).trips) (arg6_r0 : BitVec 32) (arg7_r0 : BitVec 32) (arg8_r0 : BitVec 32) (arg9_r0 : BitVec 32) (arg10_r0 : BitVec 32) : Prop :=
  (∀ (k3_h1 : k3_cond1 i = 1#1), ∀ (k3_h3 : k3_cond3 i k3_t1 arg10_r0 = 1#1), ∀ a, (k3_off4 arg6_r0) a + S1x1x128.size a ≤ S2x1x128.size a) ∧
  (∀ (k3_h1 : k3_cond1 i = 1#1), ∀ (k3_h3 : k3_cond3 i k3_t1 arg10_r0 = 1#1), ∀ a, (k3_off5 i arg10_r0) a + S1x128.size a ≤ S1x204800.size a) ∧
  (∀ (k3_h1 : k3_cond1 i = 1#1), ∀ (k3_h3 : k3_cond3 i k3_t1 arg10_r0 = 1#1), ∀ a, (k3_off6 arg6_r0) a + S1.size a ≤ S2.size a) ∧
  (∀ (k3_h1 : k3_cond1 i = 1#1), ∀ (k3_h4 : k3_cond4 i k3_t1 arg10_r0 = 1#1), ∀ a, (k3_off7 arg7_r0) a + S1x1x128.size a ≤ S2x1x128.size a) ∧
  (∀ (k3_h1 : k3_cond1 i = 1#1), ∀ (k3_h4 : k3_cond4 i k3_t1 arg10_r0 = 1#1), ∀ a, (k3_off8 i arg10_r0) a + S1x128.size a ≤ S1x204800.size a) ∧
  (∀ (k3_h1 : k3_cond1 i = 1#1), ∀ (k3_h4 : k3_cond4 i k3_t1 arg10_r0 = 1#1), ∀ a, (k3_off9 arg7_r0) a + S1.size a ≤ S2.size a) ∧
  (∀ (k3_h1 : k3_cond1 i = 1#1), ∀ (k3_h7 : k3_cond7 i k3_t1 arg10_r0 = 1#1), ∀ a, (k3_off12 arg8_r0) a + S1x128x128.size a ≤ S2x128x128.size a) ∧
  (∀ (k3_h1 : k3_cond1 i = 1#1), ∀ (k3_h7 : k3_cond7 i k3_t1 arg10_r0 = 1#1), ∀ a, (k3_off13 i arg10_r0) a + S128x128.size a ≤ S51200x128.size a) ∧
  (∀ (k3_h1 : k3_cond1 i = 1#1), ∀ (k3_h7 : k3_cond7 i k3_t1 arg10_r0 = 1#1), ∀ a, (k3_off14 arg8_r0) a + S1.size a ≤ S2.size a) ∧
  (∀ (k3_h1 : k3_cond1 i = 1#1), ∀ (k3_h9 : k3_cond9 i k3_t1 arg10_r0 = 1#1), ∀ a, (k3_off15 arg9_r0) a + S1x128x128.size a ≤ S2x128x128.size a) ∧
  (∀ (k3_h1 : k3_cond1 i = 1#1), ∀ (k3_h9 : k3_cond9 i k3_t1 arg10_r0 = 1#1), ∀ a, (k3_off16 i arg10_r0) a + S128x128.size a ≤ S51200x128.size a) ∧
  (∀ (k3_h1 : k3_cond1 i = 1#1), ∀ (k3_h9 : k3_cond9 i k3_t1 arg10_r0 = 1#1), ∀ a, (k3_off17 arg9_r0) a + S1.size a ≤ S2.size a)
theorem k3_off4_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h3 : k3_cond3 i k3_t1 arg10_r0 = 1#1), ∀ a, (k3_off4 arg6_r0) a + S1x1x128.size a ≤ S2x1x128.size a := fun i k3_t1 arg6_r0 arg7_r0 arg8_r0 arg9_r0 arg10_r0 k3_hw1 k3_h1 k3_h3 => k3_hw1.1 k3_h1 k3_h3
theorem k3_off5_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h3 : k3_cond3 i k3_t1 arg10_r0 = 1#1), ∀ a, (k3_off5 i arg10_r0) a + S1x128.size a ≤ S1x204800.size a := fun i k3_t1 arg6_r0 arg7_r0 arg8_r0 arg9_r0 arg10_r0 k3_hw1 k3_h1 k3_h3 => k3_hw1.2.1 k3_h1 k3_h3
theorem k3_off6_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h3 : k3_cond3 i k3_t1 arg10_r0 = 1#1), ∀ a, (k3_off6 arg6_r0) a + S1.size a ≤ S2.size a := fun i k3_t1 arg6_r0 arg7_r0 arg8_r0 arg9_r0 arg10_r0 k3_hw1 k3_h1 k3_h3 => k3_hw1.2.2.1 k3_h1 k3_h3
theorem k3_off7_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h4 : k3_cond4 i k3_t1 arg10_r0 = 1#1), ∀ a, (k3_off7 arg7_r0) a + S1x1x128.size a ≤ S2x1x128.size a := fun i k3_t1 arg6_r0 arg7_r0 arg8_r0 arg9_r0 arg10_r0 k3_hw1 k3_h1 k3_h4 => k3_hw1.2.2.2.1 k3_h1 k3_h4
theorem k3_off8_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h4 : k3_cond4 i k3_t1 arg10_r0 = 1#1), ∀ a, (k3_off8 i arg10_r0) a + S1x128.size a ≤ S1x204800.size a := fun i k3_t1 arg6_r0 arg7_r0 arg8_r0 arg9_r0 arg10_r0 k3_hw1 k3_h1 k3_h4 => k3_hw1.2.2.2.2.1 k3_h1 k3_h4
theorem k3_off9_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h4 : k3_cond4 i k3_t1 arg10_r0 = 1#1), ∀ a, (k3_off9 arg7_r0) a + S1.size a ≤ S2.size a := fun i k3_t1 arg6_r0 arg7_r0 arg8_r0 arg9_r0 arg10_r0 k3_hw1 k3_h1 k3_h4 => k3_hw1.2.2.2.2.2.1 k3_h1 k3_h4
theorem k3_off12_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h7 : k3_cond7 i k3_t1 arg10_r0 = 1#1), ∀ a, (k3_off12 arg8_r0) a + S1x128x128.size a ≤ S2x128x128.size a := fun i k3_t1 arg6_r0 arg7_r0 arg8_r0 arg9_r0 arg10_r0 k3_hw1 k3_h1 k3_h7 => k3_hw1.2.2.2.2.2.2.1 k3_h1 k3_h7
theorem k3_off13_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h7 : k3_cond7 i k3_t1 arg10_r0 = 1#1), ∀ a, (k3_off13 i arg10_r0) a + S128x128.size a ≤ S51200x128.size a := fun i k3_t1 arg6_r0 arg7_r0 arg8_r0 arg9_r0 arg10_r0 k3_hw1 k3_h1 k3_h7 => k3_hw1.2.2.2.2.2.2.2.1 k3_h1 k3_h7
theorem k3_off14_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h7 : k3_cond7 i k3_t1 arg10_r0 = 1#1), ∀ a, (k3_off14 arg8_r0) a + S1.size a ≤ S2.size a := fun i k3_t1 arg6_r0 arg7_r0 arg8_r0 arg9_r0 arg10_r0 k3_hw1 k3_h1 k3_h7 => k3_hw1.2.2.2.2.2.2.2.2.1 k3_h1 k3_h7
theorem k3_off15_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h9 : k3_cond9 i k3_t1 arg10_r0 = 1#1), ∀ a, (k3_off15 arg9_r0) a + S1x128x128.size a ≤ S2x128x128.size a := fun i k3_t1 arg6_r0 arg7_r0 arg8_r0 arg9_r0 arg10_r0 k3_hw1 k3_h1 k3_h9 => k3_hw1.2.2.2.2.2.2.2.2.2.1 k3_h1 k3_h9
theorem k3_off16_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h9 : k3_cond9 i k3_t1 arg10_r0 = 1#1), ∀ a, (k3_off16 i arg10_r0) a + S128x128.size a ≤ S51200x128.size a := fun i k3_t1 arg6_r0 arg7_r0 arg8_r0 arg9_r0 arg10_r0 k3_hw1 k3_h1 k3_h9 => k3_hw1.2.2.2.2.2.2.2.2.2.2.1 k3_h1 k3_h9
theorem k3_off17_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h9 : k3_cond9 i k3_t1 arg10_r0 = 1#1), ∀ a, (k3_off17 arg9_r0) a + S1.size a ≤ S2.size a := fun i k3_t1 arg6_r0 arg7_r0 arg8_r0 arg9_r0 arg10_r0 k3_hw1 k3_h1 k3_h9 => k3_hw1.2.2.2.2.2.2.2.2.2.2.2 k3_h1 k3_h9

@[reducible] def k3_t2_loop (i : grid3.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let v43_r0 : BitVec 32 := Scalar.addi c0_i32_30_r0 v42_r0
  let c1_i32_37_r0 : BitVec 32 := 1#32
  ⟨v46_r0, v43_r0, c1_i32_37_r0⟩
def k3_off18 (arg6_r0 : BitVec 32) : Fin 3 → Nat :=
  let c2_i32_104_r0 : BitVec 32 := 2#32
  let v170_r0 : BitVec 32 := Scalar.remui arg6_r0 c2_i32_104_r0
  let c0_i32_106_r0 : BitVec 32 := 0#32
  let c0_i32_107_r0 : BitVec 32 := 0#32
  ![v170_r0.toNat, 0, 0]
def k3_cond10 (i : grid3.Coords) (k3_t2 : Fin (k3_t2_loop i).trips) (arg10_r0 : BitVec 32) : BitVec 1 :=
  let c1200_i32_r0 : BitVec 32 := 1200#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v101_r0 : BitVec 32 := Scalar.addi c1200_i32_r0 v84_r0
  let c1200_i32_71_r0 : BitVec 32 := 1200#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v102_r0 : BitVec 32 := Scalar.addi c1200_i32_71_r0 v95_r0
  let v103_r0 : BitVec 1 := Scalar.cmpi .ne v101_r0 v102_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k3_t2
  let c1_i32_58_r0 : BitVec 32 := 1#32
  let v80_r0 : BitVec 32 := Scalar.muli c1_i32_58_r0 v5
  let c2_i32_r0 : BitVec 32 := 2#32
  let v104_r0 : BitVec 32 := Scalar.subi v80_r0 c2_i32_r0
  let c1_i32_72_r0 : BitVec 32 := 1#32
  let v105_r0 : BitVec 32 := Scalar.addi v104_r0 c1_i32_72_r0
  let v106_r0 : BitVec 1 := Scalar.cmpi .sge arg5_r0 v105_r0
  let true_73_r0 : BitVec 1 := 1#1
  let v107_r0 : BitVec 1 := Scalar.xori v106_r0 true_73_r0
  let v108_r0 : BitVec 1 := Scalar.andi v103_r0 v107_r0
  let true_74_r0 : BitVec 1 := 1#1
  let v109_r0 : BitVec 1 := Scalar.andi v108_r0 true_74_r0
  let v110_r0 : BitVec 32 := Scalar.extui v109_r0
  let c0_i32_75_r0 : BitVec 32 := 0#32
  let v111_r0 : BitVec 1 := Scalar.cmpi .ne v110_r0 c0_i32_75_r0
  v111_r0

def k3_off19 (i : grid3.Coords) (arg10_r0 : BitVec 32) : Fin 2 → Nat :=
  let c0_i32_108_r0 : BitVec 32 := 0#32
  let c128_i32_r0 : BitVec 32 := 128#32
  let c1200_i32_105_r0 : BitVec 32 := 1200#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v171_r0 : BitVec 32 := Scalar.addi c1200_i32_105_r0 v95_r0
  let v172_r0 : BitVec 32 := Scalar.muli c128_i32_r0 v171_r0
  ![0, v172_r0.toNat]
def k3_off20 (arg6_r0 : BitVec 32) : Fin 1 → Nat :=
  let c2_i32_104_r0 : BitVec 32 := 2#32
  let v170_r0 : BitVec 32 := Scalar.remui arg6_r0 c2_i32_104_r0
  ![v170_r0.toNat]
def k3_off21 (arg7_r0 : BitVec 32) : Fin 3 → Nat :=
  let c2_i32_105_r0 : BitVec 32 := 2#32
  let v172_r0 : BitVec 32 := Scalar.remui arg7_r0 c2_i32_105_r0
  let c0_i32_106_r0 : BitVec 32 := 0#32
  let c0_i32_107_r0 : BitVec 32 := 0#32
  ![v172_r0.toNat, 0, 0]
def k3_cond11 (i : grid3.Coords) (k3_t2 : Fin (k3_t2_loop i).trips) (arg10_r0 : BitVec 32) : BitVec 1 :=
  let c1200_i32_r0 : BitVec 32 := 1200#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v101_r0 : BitVec 32 := Scalar.addi c1200_i32_r0 v84_r0
  let c1200_i32_81_r0 : BitVec 32 := 1200#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v121_r0 : BitVec 32 := Scalar.addi c1200_i32_81_r0 v90_r0
  let v122_r0 : BitVec 1 := Scalar.cmpi .ne v101_r0 v121_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k3_t2
  let c0_i32_59_r0 : BitVec 32 := 0#32
  let v81_r0 : BitVec 1 := Scalar.cmpi .eq arg5_r0 c0_i32_59_r0
  let v123_r0 : BitVec 1 := Scalar.ori v122_r0 v81_r0
  let c0_i32_82_r0 : BitVec 32 := 0#32
  let v124_r0 : BitVec 1 := Scalar.cmpi .sge arg5_r0 c0_i32_82_r0
  let v125_r0 : BitVec 1 := Scalar.andi v123_r0 v124_r0
  let v126_r0 : BitVec 32 := Scalar.extui v125_r0
  let c0_i32_83_r0 : BitVec 32 := 0#32
  let v127_r0 : BitVec 1 := Scalar.cmpi .ne v126_r0 c0_i32_83_r0
  v127_r0

def k3_off22 (i : grid3.Coords) (arg10_r0 : BitVec 32) : Fin 2 → Nat :=
  let c0_i32_108_r0 : BitVec 32 := 0#32
  let c128_i32_r0 : BitVec 32 := 128#32
  let c1200_i32_104_r0 : BitVec 32 := 1200#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v170_r0 : BitVec 32 := Scalar.addi c1200_i32_104_r0 v84_r0
  let v171_r0 : BitVec 32 := Scalar.muli c128_i32_r0 v170_r0
  ![0, v171_r0.toNat]
def k3_off23 (arg7_r0 : BitVec 32) : Fin 1 → Nat :=
  let c2_i32_105_r0 : BitVec 32 := 2#32
  let v172_r0 : BitVec 32 := Scalar.remui arg7_r0 c2_i32_105_r0
  ![v172_r0.toNat]
def k3_off24 (arg8_r0 : BitVec 32) : Fin 3 → Nat :=
  let c2_i32_87_r0 : BitVec 32 := 2#32
  let v135_r0 : BitVec 32 := Scalar.remui arg8_r0 c2_i32_87_r0
  let c0_i32_104_r2 : BitVec 32 := 0#32
  let c0_i32_105_r2 : BitVec 32 := 0#32
  ![v135_r0.toNat, 0, 0]

def k3_chk5 (i : grid3.Coords) (k3_t2 : Fin (k3_t2_loop i).trips) (arg8_r0 : BitVec 32) : Prop :=
  (∀ (k3_h1 : k3_cond1 i = 1#1), ∀ a, (k3_off24 arg8_r0) a + S1x128x128.size a ≤ S2x128x128.size a)
theorem k3_off24_inb : ∀ (i : grid3.Coords) (k3_t2 : Fin (k3_t2_loop i).trips) (arg8_r0 : BitVec 32) (k3_hw5 : k3_chk5 i k3_t2 arg8_r0), ∀ (k3_h1 : k3_cond1 i = 1#1), ∀ a, (k3_off24 arg8_r0) a + S1x128x128.size a ≤ S2x128x128.size a := fun i k3_t2 arg8_r0 k3_hw5 k3_h1 => k3_hw5 k3_h1

def k3_off25 (arg7_r0 : BitVec 32) : Fin 3 → Nat :=
  let c2_i32_86_r0 : BitVec 32 := 2#32
  let v134_r0 : BitVec 32 := Scalar.remui arg7_r0 c2_i32_86_r0
  let c0_i32_106_r2 : BitVec 32 := 0#32
  let c0_i32_107_r2 : BitVec 32 := 0#32
  ![v134_r0.toNat, 0, 0]

def k3_chk6 (i : grid3.Coords) (k3_t2 : Fin (k3_t2_loop i).trips) (arg7_r0 : BitVec 32) : Prop :=
  (∀ (k3_h1 : k3_cond1 i = 1#1), ∀ a, (k3_off25 arg7_r0) a + S1x1x128.size a ≤ S2x1x128.size a)
theorem k3_off25_inb : ∀ (i : grid3.Coords) (k3_t2 : Fin (k3_t2_loop i).trips) (arg7_r0 : BitVec 32) (k3_hw6 : k3_chk6 i k3_t2 arg7_r0), ∀ (k3_h1 : k3_cond1 i = 1#1), ∀ a, (k3_off25 arg7_r0) a + S1x1x128.size a ≤ S2x1x128.size a := fun i k3_t2 arg7_r0 k3_hw6 k3_h1 => k3_hw6 k3_h1

def k3_off26 (arg8_r0 : BitVec 32) : Fin 3 → Nat :=
  let c2_i32_104_r0 : BitVec 32 := 2#32
  let v170_r0 : BitVec 32 := Scalar.remui arg8_r0 c2_i32_104_r0
  let c0_i32_105_r0 : BitVec 32 := 0#32
  let c0_i32_106_r0 : BitVec 32 := 0#32
  ![v170_r0.toNat, 0, 0]
def k3_cond14 (i : grid3.Coords) (k3_t2 : Fin (k3_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v141_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k3_t2
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v142_r0 : BitVec 1 := Scalar.ori v141_r0 v83_r0
  let v143_r0 : BitVec 32 := Scalar.extui v142_r0
  let c0_i32_90_r0 : BitVec 32 := 0#32
  let v144_r0 : BitVec 1 := Scalar.cmpi .ne v143_r0 c0_i32_90_r0
  v144_r0

def k3_off27 (i : grid3.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v171_r0 : BitVec 32 := Scalar.muli c128_i32_r0 v84_r0
  let c0_i32_107_r0 : BitVec 32 := 0#32
  ![v171_r0.toNat, 0]
def k3_off28 (arg8_r0 : BitVec 32) : Fin 1 → Nat :=
  let c2_i32_104_r0 : BitVec 32 := 2#32
  let v170_r0 : BitVec 32 := Scalar.remui arg8_r0 c2_i32_104_r0
  ![v170_r0.toNat]
def k3_off29 (arg9_r0 : BitVec 32) : Fin 3 → Nat :=
  let c2_i32_104_r0 : BitVec 32 := 2#32
  let v170_r0 : BitVec 32 := Scalar.remui arg9_r0 c2_i32_104_r0
  let c0_i32_105_r0 : BitVec 32 := 0#32
  let c0_i32_106_r0 : BitVec 32 := 0#32
  ![v170_r0.toNat, 0, 0]
def k3_cond16 (i : grid3.Coords) (k3_t2 : Fin (k3_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v154_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k3_t2
  let c0_i32_59_r0 : BitVec 32 := 0#32
  let v81_r0 : BitVec 1 := Scalar.cmpi .eq arg5_r0 c0_i32_59_r0
  let true_96_r0 : BitVec 1 := 1#1
  let v155_r0 : BitVec 1 := Scalar.xori v81_r0 true_96_r0
  let v156_r0 : BitVec 1 := Scalar.andi v154_r0 v155_r0
  let v157_r0 : BitVec 32 := Scalar.extui v156_r0
  let c0_i32_97_r0 : BitVec 32 := 0#32
  let v158_r0 : BitVec 1 := Scalar.cmpi .ne v157_r0 c0_i32_97_r0
  v158_r0

def k3_off30 (i : grid3.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v171_r0 : BitVec 32 := Scalar.muli c128_i32_r0 v90_r0
  let c0_i32_107_r0 : BitVec 32 := 0#32
  ![v171_r0.toNat, 0]
def k3_off31 (arg9_r0 : BitVec 32) : Fin 1 → Nat :=
  let c2_i32_104_r0 : BitVec 32 := 2#32
  let v170_r0 : BitVec 32 := Scalar.remui arg9_r0 c2_i32_104_r0
  ![v170_r0.toNat]

def k3_chk4 (i : grid3.Coords) (k3_t2 : Fin (k3_t2_loop i).trips) (arg6_r0 : BitVec 32) (arg7_r0 : BitVec 32) (arg8_r0 : BitVec 32) (arg9_r0 : BitVec 32) (arg10_r0 : BitVec 32) : Prop :=
  (∀ (k3_h1 : k3_cond1 i = 1#1), ∀ (k3_h10 : k3_cond10 i k3_t2 arg10_r0 = 1#1), ∀ a, (k3_off18 arg6_r0) a + S1x1x128.size a ≤ S2x1x128.size a) ∧
  (∀ (k3_h1 : k3_cond1 i = 1#1), ∀ (k3_h10 : k3_cond10 i k3_t2 arg10_r0 = 1#1), ∀ a, (k3_off19 i arg10_r0) a + S1x128.size a ≤ S1x204800.size a) ∧
  (∀ (k3_h1 : k3_cond1 i = 1#1), ∀ (k3_h10 : k3_cond10 i k3_t2 arg10_r0 = 1#1), ∀ a, (k3_off20 arg6_r0) a + S1.size a ≤ S2.size a) ∧
  (∀ (k3_h1 : k3_cond1 i = 1#1), ∀ (k3_h11 : k3_cond11 i k3_t2 arg10_r0 = 1#1), ∀ a, (k3_off21 arg7_r0) a + S1x1x128.size a ≤ S2x1x128.size a) ∧
  (∀ (k3_h1 : k3_cond1 i = 1#1), ∀ (k3_h11 : k3_cond11 i k3_t2 arg10_r0 = 1#1), ∀ a, (k3_off22 i arg10_r0) a + S1x128.size a ≤ S1x204800.size a) ∧
  (∀ (k3_h1 : k3_cond1 i = 1#1), ∀ (k3_h11 : k3_cond11 i k3_t2 arg10_r0 = 1#1), ∀ a, (k3_off23 arg7_r0) a + S1.size a ≤ S2.size a) ∧
  (∀ (k3_h1 : k3_cond1 i = 1#1), ∀ (k3_h14 : k3_cond14 i k3_t2 arg10_r0 = 1#1), ∀ a, (k3_off26 arg8_r0) a + S1x128x128.size a ≤ S2x128x128.size a) ∧
  (∀ (k3_h1 : k3_cond1 i = 1#1), ∀ (k3_h14 : k3_cond14 i k3_t2 arg10_r0 = 1#1), ∀ a, (k3_off27 i arg10_r0) a + S128x128.size a ≤ S51200x128.size a) ∧
  (∀ (k3_h1 : k3_cond1 i = 1#1), ∀ (k3_h14 : k3_cond14 i k3_t2 arg10_r0 = 1#1), ∀ a, (k3_off28 arg8_r0) a + S1.size a ≤ S2.size a) ∧
  (∀ (k3_h1 : k3_cond1 i = 1#1), ∀ (k3_h16 : k3_cond16 i k3_t2 arg10_r0 = 1#1), ∀ a, (k3_off29 arg9_r0) a + S1x128x128.size a ≤ S2x128x128.size a) ∧
  (∀ (k3_h1 : k3_cond1 i = 1#1), ∀ (k3_h16 : k3_cond16 i k3_t2 arg10_r0 = 1#1), ∀ a, (k3_off30 i arg10_r0) a + S128x128.size a ≤ S51200x128.size a) ∧
  (∀ (k3_h1 : k3_cond1 i = 1#1), ∀ (k3_h16 : k3_cond16 i k3_t2 arg10_r0 = 1#1), ∀ a, (k3_off31 arg9_r0) a + S1.size a ≤ S2.size a)
theorem k3_off18_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h10 : k3_cond10 i k3_t2 arg10_r0 = 1#1), ∀ a, (k3_off18 arg6_r0) a + S1x1x128.size a ≤ S2x1x128.size a := fun i k3_t2 arg6_r0 arg7_r0 arg8_r0 arg9_r0 arg10_r0 k3_hw4 k3_h1 k3_h10 => k3_hw4.1 k3_h1 k3_h10
theorem k3_off19_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h10 : k3_cond10 i k3_t2 arg10_r0 = 1#1), ∀ a, (k3_off19 i arg10_r0) a + S1x128.size a ≤ S1x204800.size a := fun i k3_t2 arg6_r0 arg7_r0 arg8_r0 arg9_r0 arg10_r0 k3_hw4 k3_h1 k3_h10 => k3_hw4.2.1 k3_h1 k3_h10
theorem k3_off20_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h10 : k3_cond10 i k3_t2 arg10_r0 = 1#1), ∀ a, (k3_off20 arg6_r0) a + S1.size a ≤ S2.size a := fun i k3_t2 arg6_r0 arg7_r0 arg8_r0 arg9_r0 arg10_r0 k3_hw4 k3_h1 k3_h10 => k3_hw4.2.2.1 k3_h1 k3_h10
theorem k3_off21_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h11 : k3_cond11 i k3_t2 arg10_r0 = 1#1), ∀ a, (k3_off21 arg7_r0) a + S1x1x128.size a ≤ S2x1x128.size a := fun i k3_t2 arg6_r0 arg7_r0 arg8_r0 arg9_r0 arg10_r0 k3_hw4 k3_h1 k3_h11 => k3_hw4.2.2.2.1 k3_h1 k3_h11
theorem k3_off22_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h11 : k3_cond11 i k3_t2 arg10_r0 = 1#1), ∀ a, (k3_off22 i arg10_r0) a + S1x128.size a ≤ S1x204800.size a := fun i k3_t2 arg6_r0 arg7_r0 arg8_r0 arg9_r0 arg10_r0 k3_hw4 k3_h1 k3_h11 => k3_hw4.2.2.2.2.1 k3_h1 k3_h11
theorem k3_off23_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h11 : k3_cond11 i k3_t2 arg10_r0 = 1#1), ∀ a, (k3_off23 arg7_r0) a + S1.size a ≤ S2.size a := fun i k3_t2 arg6_r0 arg7_r0 arg8_r0 arg9_r0 arg10_r0 k3_hw4 k3_h1 k3_h11 => k3_hw4.2.2.2.2.2.1 k3_h1 k3_h11
theorem k3_off26_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h14 : k3_cond14 i k3_t2 arg10_r0 = 1#1), ∀ a, (k3_off26 arg8_r0) a + S1x128x128.size a ≤ S2x128x128.size a := fun i k3_t2 arg6_r0 arg7_r0 arg8_r0 arg9_r0 arg10_r0 k3_hw4 k3_h1 k3_h14 => k3_hw4.2.2.2.2.2.2.1 k3_h1 k3_h14
theorem k3_off27_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h14 : k3_cond14 i k3_t2 arg10_r0 = 1#1), ∀ a, (k3_off27 i arg10_r0) a + S128x128.size a ≤ S51200x128.size a := fun i k3_t2 arg6_r0 arg7_r0 arg8_r0 arg9_r0 arg10_r0 k3_hw4 k3_h1 k3_h14 => k3_hw4.2.2.2.2.2.2.2.1 k3_h1 k3_h14
theorem k3_off28_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h14 : k3_cond14 i k3_t2 arg10_r0 = 1#1), ∀ a, (k3_off28 arg8_r0) a + S1.size a ≤ S2.size a := fun i k3_t2 arg6_r0 arg7_r0 arg8_r0 arg9_r0 arg10_r0 k3_hw4 k3_h1 k3_h14 => k3_hw4.2.2.2.2.2.2.2.2.1 k3_h1 k3_h14
theorem k3_off29_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h16 : k3_cond16 i k3_t2 arg10_r0 = 1#1), ∀ a, (k3_off29 arg9_r0) a + S1x128x128.size a ≤ S2x128x128.size a := fun i k3_t2 arg6_r0 arg7_r0 arg8_r0 arg9_r0 arg10_r0 k3_hw4 k3_h1 k3_h16 => k3_hw4.2.2.2.2.2.2.2.2.2.1 k3_h1 k3_h16
theorem k3_off30_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h16 : k3_cond16 i k3_t2 arg10_r0 = 1#1), ∀ a, (k3_off30 i arg10_r0) a + S128x128.size a ≤ S51200x128.size a := fun i k3_t2 arg6_r0 arg7_r0 arg8_r0 arg9_r0 arg10_r0 k3_hw4 k3_h1 k3_h16 => k3_hw4.2.2.2.2.2.2.2.2.2.2.1 k3_h1 k3_h16
theorem k3_off31_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h16 : k3_cond16 i k3_t2 arg10_r0 = 1#1), ∀ a, (k3_off31 arg9_r0) a + S1.size a ≤ S2.size a := fun i k3_t2 arg6_r0 arg7_r0 arg8_r0 arg9_r0 arg10_r0 k3_hw4 k3_h1 k3_h16 => k3_hw4.2.2.2.2.2.2.2.2.2.2.2 k3_h1 k3_h16

def k3_cond18 (i : grid3.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let c1_i32_42_r0 : BitVec 32 := 1#32
  let v54_r0 : BitVec 32 := Scalar.subi v11 c1_i32_42_r0
  let c1_i32_43_r0 : BitVec 32 := 1#32
  let v55_r0 : BitVec 32 := Scalar.muli c1_i32_43_r0 v5
  let c1_i32_45_r0 : BitVec 32 := 1#32
  let v57_r0 : BitVec 32 := Scalar.subi v55_r0 c1_i32_45_r0
  let v58_r0 : BitVec 1 := Scalar.cmpi .eq v54_r0 v57_r0
  let v78_r0 : BitVec 32 := Scalar.extui v58_r0
  let c0_i32_57_r0 : BitVec 32 := 0#32
  let v79_r0 : BitVec 1 := Scalar.cmpi .ne v78_r0 c0_i32_57_r0
  v79_r0

def k3_off32 (v48_3_r0 : BitVec 32) : Fin 3 → Nat :=
  let c2_i32_r0 : BitVec 32 := 2#32
  let v80_r0 : BitVec 32 := Scalar.remui v48_3_r0 c2_i32_r0
  let c0_i32_58_r0 : BitVec 32 := 0#32
  let c0_i32_59_r0 : BitVec 32 := 0#32
  ![v80_r0.toNat, 0, 0]

def k3_off33 (i : grid3.Coords) (v48_4_r0 : BitVec 32) : Fin 2 → Nat :=
  let c128_i32_r0 : BitVec 32 := 128#32
  let true_39_r0 : BitVec 1 := 1#1
  let c1_i32_38_r0 : BitVec 32 := 1#32
  let v49_r0 : BitVec 32 := Scalar.subi v48_4_r0 c1_i32_38_r0
  let v50_r0 : BitVec 32 := Scalar.select true_39_r0 v49_r0 v48_4_r0
  let c_m1_i32_40_r0 : BitVec 32 := 4294967295#32
  let v51_r0 : BitVec 1 := Scalar.cmpi .eq v50_r0 c_m1_i32_40_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let c1_i32_41_r0 : BitVec 32 := 1#32
  let v52_r0 : BitVec 32 := Scalar.subi v5 c1_i32_41_r0
  let v53_r0 : BitVec 32 := Scalar.select v51_r0 v52_r0 v50_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v59_r0 : BitVec 32 := Scalar.addi v53_r0 v10
  let v81_r0 : BitVec 32 := Scalar.muli c128_i32_r0 v59_r0
  let c0_i32_60_r0 : BitVec 32 := 0#32
  ![v81_r0.toNat, 0]

def k3_chk8 (i : grid3.Coords) (v48_4_r0 : BitVec 32) : Prop :=
  (∀ (k3_h1 : k3_cond1 i = 1#1), ∀ (k3_h18 : k3_cond18 i = 1#1), ∀ a, (k3_off33 i v48_4_r0) a + S128x128.size a ≤ S51200x128.size a)
theorem k3_off33_inb : ∀ (i : grid3.Coords) (v48_4_r0 : BitVec 32) (k3_hw8 : k3_chk8 i v48_4_r0), ∀ (k3_h1 : k3_cond1 i = 1#1), ∀ (k3_h18 : k3_cond18 i = 1#1), ∀ a, (k3_off33 i v48_4_r0) a + S128x128.size a ≤ S51200x128.size a := fun i v48_4_r0 k3_hw8 k3_h1 k3_h18 => k3_hw8 k3_h1 k3_h18

def k3_off34 (v48_3_r0 : BitVec 32) : Fin 1 → Nat :=
  let c2_i32_r0 : BitVec 32 := 2#32
  let v80_r0 : BitVec 32 := Scalar.remui v48_3_r0 c2_i32_r0
  ![v80_r0.toNat]
def k3_off35 (v48_3_r0 : BitVec 32) : Fin 3 → Nat :=
  let c2_i32_r0 : BitVec 32 := 2#32
  let v80_r0 : BitVec 32 := Scalar.remui v48_3_r0 c2_i32_r0
  let c0_i32_62_r0 : BitVec 32 := 0#32
  let c0_i32_63_r0 : BitVec 32 := 0#32
  ![v80_r0.toNat, 0, 0]

def k3_chk7 (i : grid3.Coords) (v48_3_r0 : BitVec 32) : Prop :=
  (∀ (k3_h1 : k3_cond1 i = 1#1), ∀ (k3_h18 : k3_cond18 i = 1#1), ∀ a, (k3_off32 v48_3_r0) a + S1x128x128.size a ≤ S2x128x128.size a) ∧
  (∀ (k3_h1 : k3_cond1 i = 1#1), ∀ (k3_h18 : k3_cond18 i = 1#1), ∀ a, (k3_off34 v48_3_r0) a + S1.size a ≤ S2.size a) ∧
  (∀ (k3_h1 : k3_cond1 i = 1#1), ∀ (k3_h18 : k3_cond18 i = 1#1), ∀ a, (k3_off35 v48_3_r0) a + S1x128x128.size a ≤ S2x128x128.size a)
theorem k3_off32_inb : ∀ (i : grid3.Coords) (v48_3_r0 : BitVec 32) (k3_hw7 : k3_chk7 i v48_3_r0), ∀ (k3_h1 : k3_cond1 i = 1#1), ∀ (k3_h18 : k3_cond18 i = 1#1), ∀ a, (k3_off32 v48_3_r0) a + S1x128x128.size a ≤ S2x128x128.size a := fun i v48_3_r0 k3_hw7 k3_h1 k3_h18 => k3_hw7.1 k3_h1 k3_h18
theorem k3_off34_inb : ∀ (i : grid3.Coords) (v48_3_r0 : BitVec 32) (k3_hw7 : k3_chk7 i v48_3_r0), ∀ (k3_h1 : k3_cond1 i = 1#1), ∀ (k3_h18 : k3_cond18 i = 1#1), ∀ a, (k3_off34 v48_3_r0) a + S1.size a ≤ S2.size a := fun i v48_3_r0 k3_hw7 k3_h1 k3_h18 => k3_hw7.2.1 k3_h1 k3_h18
theorem k3_off35_inb : ∀ (i : grid3.Coords) (v48_3_r0 : BitVec 32) (k3_hw7 : k3_chk7 i v48_3_r0), ∀ (k3_h1 : k3_cond1 i = 1#1), ∀ (k3_h18 : k3_cond18 i = 1#1), ∀ a, (k3_off35 v48_3_r0) a + S1x128x128.size a ≤ S2x128x128.size a := fun i v48_3_r0 k3_hw7 k3_h1 k3_h18 => k3_hw7.2.2 k3_h1 k3_h18

abbrev grid4 : Pipeline.Grid := ⟨1, ![8], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

abbrev stage4_0 : Fin 2 → Memref sig .tc .vmem S32x200x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S32x200 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S200x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S32x200x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![8], ![false]⟩

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, c0_i32.toNat, c0_i32_0.toNat]

abbrev stage5_0 : Fin 2 → Memref sig .tc .vmem S32x200x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S32x200 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S200x128 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S2x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S32x200x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![8], ![false]⟩

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

abbrev stage6_0 : Fin 2 → Memref sig .tc .vmem S32x200x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S32x200 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S200x128 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S2x128 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .bf16 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S32x200x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![8], ![false]⟩

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 3 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  let c0_i32_1 : BitVec 32 := 0#32
  ![v0.toNat, c0_i32.toNat, c0_i32_0.toNat]

abbrev stage7_0 : Fin 2 → Memref sig .tc .vmem S32x200x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S32x200 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S200x128 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S2x128 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S32x200x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S200 : Shape := ⟨1, ![200]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S200x1 : Shape := ⟨2, ![200, 1]⟩
abbrev S1x1 : Shape := ⟨2, ![1, 1]⟩
abbrev S200x128 : Shape := ⟨2, ![200, 128]⟩
abbrev S1x200x128 : Shape := ⟨3, ![1, 200, 128]⟩
abbrev S1x1x128 : Shape := ⟨3, ![1, 1, 128]⟩

abbrev nBuf : Space → Nat
  | .hbm => 110
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1024x200, .i32⟩
  | .hbm, ⟨2, _⟩ => ⟨S100000x128, .f32⟩
  | .hbm, ⟨3, _⟩ => ⟨S512x128, .f32⟩
  | .hbm, ⟨4, _⟩ => ⟨S2x128, .f32⟩
  | .hbm, ⟨5, _⟩ => ⟨S128, .f32⟩
  | .hbm, ⟨6, _⟩ => ⟨S128, .f32⟩
  | .hbm, ⟨7, _⟩ => ⟨S200, .i32⟩
  | .hbm, ⟨8, _⟩ => ⟨S_, .i32⟩
  | .hbm, ⟨9, _⟩ => ⟨S1024x200, .i32⟩
  | .hbm, ⟨10, _⟩ => ⟨S1024x200, .i1⟩
  | .hbm, ⟨11, _⟩ => ⟨S_, .i32⟩
  | .hbm, ⟨12, _⟩ => ⟨S1024x200, .i32⟩
  | .hbm, ⟨13, _⟩ => ⟨S1024x200, .i32⟩
  | .hbm, ⟨14, _⟩ => ⟨S1024x200, .i32⟩
  | .hbm, ⟨15, _⟩ => ⟨S1024x200x1, .i32⟩
  | .hbm, ⟨16, _⟩ => ⟨S1, .i32⟩
  | .hbm, ⟨17, _⟩ => ⟨S_, .i32⟩
  | .hbm, ⟨18, _⟩ => ⟨S1024x200x1, .i32⟩
  | .hbm, ⟨19, _⟩ => ⟨S1024x200x1, .i1⟩
  | .hbm, ⟨20, _⟩ => ⟨S1x1x1, .i32⟩
  | .hbm, ⟨21, _⟩ => ⟨S1024x200x1, .i32⟩
  | .hbm, ⟨22, _⟩ => ⟨S1024x200x1, .i1⟩
  | .hbm, ⟨23, _⟩ => ⟨S1024x200x1, .i1⟩
  | .hbm, ⟨24, _⟩ => ⟨S_, .i1⟩
  | .hbm, ⟨25, _⟩ => ⟨S1024x200, .i1⟩
  | .hbm, ⟨26, _⟩ => ⟨S1024x200x128, .f32⟩
  | .hbm, ⟨27, _⟩ => ⟨S1024x200x128, .i1⟩
  | .hbm, ⟨28, _⟩ => ⟨S_, .f32⟩
  | .hbm, ⟨29, _⟩ => ⟨S1024x200x128, .f32⟩
  | .hbm, ⟨30, _⟩ => ⟨S1024x200x128, .f32⟩
  | .hbm, ⟨31, _⟩ => ⟨S_, .i32⟩
  | .hbm, ⟨32, _⟩ => ⟨S200, .i32⟩
  | .hbm, ⟨33, _⟩ => ⟨S200, .i1⟩
  | .hbm, ⟨34, _⟩ => ⟨S_, .i32⟩
  | .hbm, ⟨35, _⟩ => ⟨S200, .i32⟩
  | .hbm, ⟨36, _⟩ => ⟨S200, .i32⟩
  | .hbm, ⟨37, _⟩ => ⟨S200, .i32⟩
  | .hbm, ⟨38, _⟩ => ⟨S200x1, .i32⟩
  | .hbm, ⟨39, _⟩ => ⟨S1, .i32⟩
  | .hbm, ⟨40, _⟩ => ⟨S_, .i32⟩
  | .hbm, ⟨41, _⟩ => ⟨S200x1, .i32⟩
  | .hbm, ⟨42, _⟩ => ⟨S200x1, .i1⟩
  | .hbm, ⟨43, _⟩ => ⟨S1x1, .i32⟩
  | .hbm, ⟨44, _⟩ => ⟨S200x1, .i32⟩
  | .hbm, ⟨45, _⟩ => ⟨S200x1, .i1⟩
  | .hbm, ⟨46, _⟩ => ⟨S200x1, .i1⟩
  | .hbm, ⟨47, _⟩ => ⟨S_, .i1⟩
  | .hbm, ⟨48, _⟩ => ⟨S200, .i1⟩
  | .hbm, ⟨49, _⟩ => ⟨S200x128, .f32⟩
  | .hbm, ⟨50, _⟩ => ⟨S200x128, .i1⟩
  | .hbm, ⟨51, _⟩ => ⟨S_, .f32⟩
  | .hbm, ⟨52, _⟩ => ⟨S200x128, .f32⟩
  | .hbm, ⟨53, _⟩ => ⟨S200x128, .f32⟩
  | .hbm, ⟨54, _⟩ => ⟨S_, .i32⟩
  | .hbm, ⟨55, _⟩ => ⟨S1024x200, .i32⟩
  | .hbm, ⟨56, _⟩ => ⟨S1024x200, .i1⟩
  | .hbm, ⟨57, _⟩ => ⟨S_, .i32⟩
  | .hbm, ⟨58, _⟩ => ⟨S1024x200, .i32⟩
  | .hbm, ⟨59, _⟩ => ⟨S1024x200, .i32⟩
  | .hbm, ⟨60, _⟩ => ⟨S1024x200, .i32⟩
  | .hbm, ⟨61, _⟩ => ⟨S1024x200x1, .i32⟩
  | .hbm, ⟨62, _⟩ => ⟨S1, .i32⟩
  | .hbm, ⟨63, _⟩ => ⟨S_, .i32⟩
  | .hbm, ⟨64, _⟩ => ⟨S1024x200x1, .i32⟩
  | .hbm, ⟨65, _⟩ => ⟨S1024x200x1, .i1⟩
  | .hbm, ⟨66, _⟩ => ⟨S1x1x1, .i32⟩
  | .hbm, ⟨67, _⟩ => ⟨S1024x200x1, .i32⟩
  | .hbm, ⟨68, _⟩ => ⟨S1024x200x1, .i1⟩
  | .hbm, ⟨69, _⟩ => ⟨S1024x200x1, .i1⟩
  | .hbm, ⟨70, _⟩ => ⟨S_, .i1⟩
  | .hbm, ⟨71, _⟩ => ⟨S1024x200, .i1⟩
  | .hbm, ⟨72, _⟩ => ⟨S1024x200x128, .f32⟩
  | .hbm, ⟨73, _⟩ => ⟨S1024x200x128, .i1⟩
  | .hbm, ⟨74, _⟩ => ⟨S_, .f32⟩
  | .hbm, ⟨75, _⟩ => ⟨S1024x200x128, .f32⟩
  | .hbm, ⟨76, _⟩ => ⟨S1024x200x128, .f32⟩
  | .hbm, ⟨77, _⟩ => ⟨S1x200x128, .f32⟩
  | .hbm, ⟨78, _⟩ => ⟨S1024x200x128, .f32⟩
  | .hbm, ⟨79, _⟩ => ⟨S1024x200x128, .f32⟩
  | .hbm, ⟨80, _⟩ => ⟨S1024x200x128, .f32⟩
  | .hbm, ⟨81, _⟩ => ⟨S_, .f32⟩
  | .hbm, ⟨82, _⟩ => ⟨S1024x200, .f32⟩
  | .hbm, ⟨83, _⟩ => ⟨S1024x200x1, .f32⟩
  | .hbm, ⟨84, _⟩ => ⟨S_, .f32⟩
  | .hbm, ⟨85, _⟩ => ⟨S1024x200x1, .f32⟩
  | .hbm, ⟨86, _⟩ => ⟨S1024x200x1, .f32⟩
  | .hbm, ⟨87, _⟩ => ⟨S1024x200x128, .f32⟩
  | .hbm, ⟨88, _⟩ => ⟨S1024x200x128, .f32⟩
  | .hbm, ⟨89, _⟩ => ⟨S1024x200x128, .f32⟩
  | .hbm, ⟨90, _⟩ => ⟨S_, .f32⟩
  | .hbm, ⟨91, _⟩ => ⟨S1024x200, .f32⟩
  | .hbm, ⟨92, _⟩ => ⟨S1024x200x1, .f32⟩
  | .hbm, ⟨93, _⟩ => ⟨S_, .f32⟩
  | .hbm, ⟨94, _⟩ => ⟨S1024x200x1, .f32⟩
  | .hbm, ⟨95, _⟩ => ⟨S1024x200x1, .f32⟩
  | .hbm, ⟨96, _⟩ => ⟨S1024x200x128, .f32⟩
  | .hbm, ⟨97, _⟩ => ⟨S1024x200x128, .f32⟩
  | .hbm, ⟨98, _⟩ => ⟨S_, .f32⟩
  | .hbm, ⟨99, _⟩ => ⟨S1024x200x1, .f32⟩
  | .hbm, ⟨100, _⟩ => ⟨S1024x200x1, .f32⟩
  | .hbm, ⟨101, _⟩ => ⟨S1024x200x1, .f32⟩
  | .hbm, ⟨102, _⟩ => ⟨S1024x200x128, .f32⟩
  | .hbm, ⟨103, _⟩ => ⟨S1024x200x128, .f32⟩
  | .hbm, ⟨104, _⟩ => ⟨S1x1x128, .f32⟩
  | .hbm, ⟨105, _⟩ => ⟨S1024x200x128, .f32⟩
  | .hbm, ⟨106, _⟩ => ⟨S1024x200x128, .f32⟩
  | .hbm, ⟨107, _⟩ => ⟨S1x1x128, .f32⟩
  | .hbm, ⟨108, _⟩ => ⟨S1024x200x128, .f32⟩
  | .hbm, ⟨109, _⟩ => ⟨S1024x200x128, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v2 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_call2_cst : Ref sig .tc := ⟨.hbm, 74, rfl⟩
abbrev main_call2_v15 : Ref sig .tc := ⟨.hbm, 75, rfl⟩
abbrev main_v3 : Ref sig .tc := ⟨.hbm, 76, rfl⟩
abbrev main_v4 : Ref sig .tc := ⟨.hbm, 77, rfl⟩
abbrev main_v5 : Ref sig .tc := ⟨.hbm, 78, rfl⟩
abbrev main_v6 : Ref sig .tc := ⟨.hbm, 79, rfl⟩
abbrev main_v7 : Ref sig .tc := ⟨.hbm, 80, rfl⟩
abbrev main_cst : Ref sig .tc := ⟨.hbm, 81, rfl⟩
abbrev main_v8 : Ref sig .tc := ⟨.hbm, 82, rfl⟩
abbrev main_v9 : Ref sig .tc := ⟨.hbm, 83, rfl⟩
abbrev main_cst_0 : Ref sig .tc := ⟨.hbm, 84, rfl⟩
abbrev main_v10 : Ref sig .tc := ⟨.hbm, 85, rfl⟩
abbrev main_v11 : Ref sig .tc := ⟨.hbm, 86, rfl⟩
abbrev main_v12 : Ref sig .tc := ⟨.hbm, 87, rfl⟩
abbrev main_v13 : Ref sig .tc := ⟨.hbm, 88, rfl⟩
abbrev main_v14 : Ref sig .tc := ⟨.hbm, 89, rfl⟩
abbrev main_cst_1 : Ref sig .tc := ⟨.hbm, 90, rfl⟩
abbrev main_v15 : Ref sig .tc := ⟨.hbm, 91, rfl⟩
abbrev main_v16 : Ref sig .tc := ⟨.hbm, 92, rfl⟩
abbrev main_cst_2 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_cst_3 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩

abbrev nD : Nat := 1
abbrev τ : Topo := Topo.v7x

variable {F : FTy → Type} [FloatOps F]
-- ==== Proof.Call.lean ====
/-
  The four gather calls are ONE kernel at four bases: call `q` gathers the rows of blocks `400 q … 400 q + 399` of the
  index list, and its text differs from the others' in that number alone. `gker b` is that text with the base `b` a
  parameter, over whichever references the call passes; `gker_zero … gker_three` state that the four printed kernels
  are its instances, so that everything after is proved once.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option synthInstance.maxSize 4096

noncomputable section

namespace Cert.Proof.Gather

open Cert.KernelIdeal Cert.KernelIdeal.Gen
open Idealize.ShloMosaic Idealize.SL.Sem

/-! ## The scalars of a subcore -/

/-- The subcore's number among the thirty-two. -/
def core (i : grid0.Coords) : BitVec 32 :=
  Scalar.addi (Scalar.addi 0#32 (Scalar.muli (BitVec.ofNat 32 (i 1).val) 1#32)) (Scalar.muli (BitVec.ofNat 32 (i 0).val) 16#32)
/-- How many blocks it gathers. -/
def cnt (i : grid0.Coords) : BitVec 32 := Scalar.select (Scalar.cmpi .slt (core i) 16#32) 13#32 12#32
/-- The first of them, within the call. -/
def frst (i : grid0.Coords) : BitVec 32 :=
  Scalar.select (Scalar.cmpi .slt (core i) 16#32) (Scalar.muli (core i) (cnt i)) (Scalar.addi (Scalar.muli (core i) 12#32) 16#32)
/-- The position after `a`, wrapping to the first. -/
def nxt (i : grid0.Coords) (a : BitVec 32) : BitVec 32 :=
  Scalar.select (Scalar.cmpi .eq (Scalar.select 1#1 (Scalar.addi a 1#32) a) (cnt i)) 0#32 (Scalar.select 1#1 (Scalar.addi a 1#32) a)
/-- The position before `a`, wrapping to the last. -/
def prv (i : grid0.Coords) (a : BitVec 32) : BitVec 32 :=
  Scalar.select (Scalar.cmpi .eq (Scalar.select 1#1 (Scalar.subi a 1#32) a) 4294967295#32) (Scalar.subi (cnt i) 1#32)
    (Scalar.select 1#1 (Scalar.subi a 1#32) a)

/-- Where the first, the next and the present block of the index list lie. -/
def goff2 (b : BitVec 32) (i : grid0.Coords) : Fin 2 → ℕ :=
  ![0, (Scalar.muli 128#32 (Scalar.addi b (Scalar.addi 0#32 (frst i)))).toNat]
@[inherit_doc goff2] def goff5 (b : BitVec 32) (i : grid0.Coords) (a : BitVec 32) : Fin 2 → ℕ :=
  ![0, (Scalar.muli 128#32 (Scalar.addi b (Scalar.addi (nxt i a) (frst i)))).toNat]
@[inherit_doc goff2] def goff8 (b : BitVec 32) (i : grid0.Coords) (a : BitVec 32) : Fin 2 → ℕ :=
  ![0, (Scalar.muli 128#32 (Scalar.addi b (Scalar.addi a (frst i)))).toNat]

/-- Whether a trip starts the fetch of the next block of the list, and whether it waits for the present one. -/
def gcond3 (b : BitVec 32) (i : grid0.Coords) (t : Fin (k0_t1_loop i).trips) (a : BitVec 32) : BitVec 1 :=
  Scalar.cmpi .ne (Scalar.extui (Scalar.andi (Scalar.andi
    (Scalar.cmpi .ne (Scalar.addi b (Scalar.addi a (frst i))) (Scalar.addi b (Scalar.addi (nxt i a) (frst i))))
    (Scalar.xori (Scalar.cmpi .sge (Scf.iv 0#32 1#32 t) (Scalar.addi (Scalar.subi (Scalar.muli 1#32 (cnt i)) 2#32) 1#32)) 1#1)) 1#1) : BitVec 32) 0#32
@[inherit_doc gcond3] def gcond4 (b : BitVec 32) (i : grid0.Coords) (t : Fin (k0_t1_loop i).trips) (a : BitVec 32) : BitVec 1 :=
  Scalar.cmpi .ne (Scalar.extui (Scalar.andi (Scalar.ori
    (Scalar.cmpi .ne (Scalar.addi b (Scalar.addi a (frst i))) (Scalar.addi b (Scalar.addi (prv i a) (frst i))))
    (Scalar.cmpi .eq (Scf.iv 0#32 1#32 t) 0#32)) (Scalar.cmpi .sge (Scf.iv 0#32 1#32 t) 0#32)) : BitVec 32) 0#32

/-- The bounds a trip checks before it issues anything. -/
def gchk1 (b : BitVec 32) (i : grid0.Coords) (t : Fin (k0_t1_loop i).trips) (a6 a7 a8 a9 a10 : BitVec 32) : Prop :=
  (∀ (h1 : k0_cond1 i = 1#1), ∀ (h3 : gcond3 b i t a10 = 1#1), ∀ a, (k0_off4 a6) a + S1x1x128.size a ≤ S2x1x128.size a) ∧
  (∀ (h1 : k0_cond1 i = 1#1), ∀ (h3 : gcond3 b i t a10 = 1#1), ∀ a, (goff5 b i a10) a + S1x128.size a ≤ S1x204800.size a) ∧
  (∀ (h1 : k0_cond1 i = 1#1), ∀ (h3 : gcond3 b i t a10 = 1#1), ∀ a, (k0_off6 a6) a + S1.size a ≤ S2.size a) ∧
  (∀ (h1 : k0_cond1 i = 1#1), ∀ (h4 : gcond4 b i t a10 = 1#1), ∀ a, (k0_off7 a7) a + S1x1x128.size a ≤ S2x1x128.size a) ∧
  (∀ (h1 : k0_cond1 i = 1#1), ∀ (h4 : gcond4 b i t a10 = 1#1), ∀ a, (goff8 b i a10) a + S1x128.size a ≤ S1x204800.size a) ∧
  (∀ (h1 : k0_cond1 i = 1#1), ∀ (h4 : gcond4 b i t a10 = 1#1), ∀ a, (k0_off9 a7) a + S1.size a ≤ S2.size a) ∧
  (∀ (h1 : k0_cond1 i = 1#1), ∀ (h7 : k0_cond7 i t a10 = 1#1), ∀ a, (k0_off12 a8) a + S1x128x128.size a ≤ S2x128x128.size a) ∧
  (∀ (h1 : k0_cond1 i = 1#1), ∀ (h7 : k0_cond7 i t a10 = 1#1), ∀ a, (k0_off13 i a10) a + S128x128.size a ≤ S51200x128.size a) ∧
  (∀ (h1 : k0_cond1 i = 1#1), ∀ (h7 : k0_cond7 i t a10 = 1#1), ∀ a, (k0_off14 a8) a + S1.size a ≤ S2.size a) ∧
  (∀ (h1 : k0_cond1 i = 1#1), ∀ (h9 : k0_cond9 i t a10 = 1#1), ∀ a, (k0_off15 a9) a + S1x128x128.size a ≤ S2x128x128.size a) ∧
  (∀ (h1 : k0_cond1 i = 1#1), ∀ (h9 : k0_cond9 i t a10 = 1#1), ∀ a, (k0_off16 i a10) a + S128x128.size a ≤ S51200x128.size a) ∧
  (∀ (h1 : k0_cond1 i = 1#1), ∀ (h9 : k0_cond9 i t a10 = 1#1), ∀ a, (k0_off17 a9) a + S1.size a ≤ S2.size a)
set_option synthInstance.maxSize 1000000 in set_option synthInstance.maxHeartbeats 0 in
instance gchk1.dec (b : BitVec 32) (i : grid0.Coords) (t : Fin (k0_t1_loop i).trips) (a6 a7 a8 a9 a10 : BitVec 32) :
    Decidable (gchk1 b i t a6 a7 a8 a9 a10) := decidable_of_iff' _ (Iff.of_eq (gchk1.eq_1 b i t a6 a7 a8 a9 a10))

/-! ## The kernel -/

section Text

variable {F : FTy → Type} [FloatOps F]
variable (b : BitVec 32) (i : grid0.Coords)
  (tab : Memref sig .scVector .hbm S100000x128 .f32) (ids : Memref sig .scVector .hbm S1x204800 .i32)
  (out : Memref sig .scVector .hbm S51200x128 .f32) (ib : Memref sig .scVector .vmem S2x1x128 .i32) (is : DmaSems sig S2)
  (ob : Memref sig .scVector .vmem S2x128x128 .f32) (os : DmaSems sig S2) (gs : DmaSems sig S_)

/-- A block of the index list. -/
abbrev idsAt (o : Fin 2 → ℕ) (h : ∀ a, o a + S1x128.size a ≤ S1x204800.size a) : Memref sig .scVector .hbm S1x128 .i32 :=
  ids.slice (Rect.unit (s := S1x204800) o S1x128.size h) (fun _ => rfl)
/-- A slot of the index buffer. -/
abbrev inAt (o : Fin 3 → ℕ) (h : ∀ a, o a + S1x1x128.size a ≤ S2x1x128.size a) : Memref sig .scVector .vmem S1x128 .i32 :=
  (ib.slice (Rect.unit (s := S2x1x128) o S1x1x128.size h) (fun _ => rfl)).squeeze S1x128 squeezes_S1x1x128_S1x128
/-- That slot as the list the gather reads. -/
abbrev listAt (o : Fin 3 → ℕ) (h : ∀ a, o a + S1x1x128.size a ≤ S2x1x128.size a) : Memref sig .scVector .vmem S128 .i32 :=
  ((inAt ib o h).slice (Rect.unit (s := S1x128) ![0, 0] S1x128.size inb_S1x128_S1x128_0_0) (fun _ => rfl)).squeeze S128 squeezes_S1x128_S128
/-- A slot of the row buffer. -/
abbrev rowAt (o : Fin 3 → ℕ) (h : ∀ a, o a + S1x128x128.size a ≤ S2x128x128.size a) : Memref sig .scVector .vmem S128x128 .f32 :=
  (ob.slice (Rect.unit (s := S2x128x128) o S1x128x128.size h) (fun _ => rfl)).squeeze S128x128 squeezes_S1x128x128_S128x128
/-- A block of the output. -/
abbrev outAt (o : Fin 2 → ℕ) (h : ∀ a, o a + S128x128.size a ≤ S51200x128.size a) : Memref sig .scVector .hbm S128x128 .f32 :=
  out.slice (Rect.unit (s := S51200x128) o S128x128.size h) (fun _ => rfl)
/-- A semaphore of a pair. -/
abbrev semAt (s : DmaSems sig S2) (o : Fin 1 → ℕ) (h : ∀ a, o a + S1.size a ≤ S2.size a) : DmaSem sig :=
  ((s.slice (Rect.unit (s := S2) o S1.size h)).squeeze S_ squeezes_S1_S_).sem
/-- The whole table, as the gather addresses it. -/
abbrev tabAll : Memref sig .scVector .hbm S100000x128 .f32 :=
  tab.slice (Rect.unit (s := S100000x128) ![0, 0] S100000x128.size inb_S100000x128_S100000x128_0_0) (fun _ => rfl)

/-- The programs of subcore `i`. -/
abbrev TProg (α : Type) : Type 1 := Prog (TpuEff nD τ sig (Elt F) Λ₀ (.scVector ((i 0).castLE hcore0) ((i 1).castLE hsub0))) α
/-- What a trip carries: the turns of the four window pointers and the position. -/
abbrev Turn : Type := BitVec 32 × BitVec 32 × BitVec 32 × BitVec 32 × BitVec 32

/-- A trip's first part: the checks, and the fetch of the next block of the list. -/
def gpart1 (v5 v10 : BitVec 32) (h1 : k0_cond1 i = 1#1) (c0 c1 : BitVec 32) (t : Fin (k0_t1_loop i).trips) (a6 a7 a8 a9 a10 : BitVec 32) :
    TProg (F := F) i (Σ' (hw3 : k0_chk3 i a7) (hw2 : k0_chk2 i a8) (hw1 : gchk1 b i t a6 a7 a8 a9 a10) (arg5 : BitVec 32) (v80 : BitVec 32)
      (v81 : BitVec 1) (v83 : BitVec 1) (v84 : BitVec 32) (v90 : BitVec 32) (v95 : BitVec 32) (v101 : BitVec 32) (v102 : BitVec 32)
      (v112 : BitVec 1), BitVec 32) := do
  have hw3 : k0_chk3 i a7 := (← Prog.lift (TpuEff.assume (k0_chk3 i a7) (k0_chk3.dec i a7))).down
  have hw2 : k0_chk2 i a8 := (← Prog.lift (TpuEff.assume (k0_chk2 i a8) (k0_chk2.dec i a8))).down
  have hw1 : gchk1 b i t a6 a7 a8 a9 a10 := (← Prog.lift (TpuEff.assume (gchk1 b i t a6 a7 a8 a9 a10) (gchk1.dec b i t a6 a7 a8 a9 a10))).down
  let arg5 : BitVec 32 := Scf.iv c0 c1 t
  let v80 : BitVec 32 := Scalar.muli 1#32 v5
  let v81 : BitVec 1 := Scalar.cmpi .eq arg5 0#32
  let v82 : BitVec 32 := Scalar.subi v80 1#32
  let v83 : BitVec 1 := Scalar.cmpi .eq arg5 v82
  let v84 : BitVec 32 := Scalar.addi a10 v10
  let v85 : BitVec 32 := Scalar.subi a10 1#32
  let v86 : BitVec 32 := Scalar.select 1#1 v85 a10
  let v87 : BitVec 1 := Scalar.cmpi .eq v86 4294967295#32
  let v88 : BitVec 32 := Scalar.subi v5 1#32
  let v89 : BitVec 32 := Scalar.select v87 v88 v86
  let v90 : BitVec 32 := Scalar.addi v89 v10
  let v91 : BitVec 32 := Scalar.addi a10 1#32
  let v92 : BitVec 32 := Scalar.select 1#1 v91 a10
  let v93 : BitVec 1 := Scalar.cmpi .eq v92 v5
  let v94 : BitVec 32 := Scalar.select v93 0#32 v92
  let v95 : BitVec 32 := Scalar.addi v94 v10
  let v101 : BitVec 32 := Scalar.addi b v84
  let v102 : BitVec 32 := Scalar.addi b v95
  let v103 : BitVec 1 := Scalar.cmpi .ne v101 v102
  let v104 : BitVec 32 := Scalar.subi v80 2#32
  let v105 : BitVec 32 := Scalar.addi v104 1#32
  let v106 : BitVec 1 := Scalar.cmpi .sge arg5 v105
  let v107 : BitVec 1 := Scalar.xori v106 1#1
  let v108 : BitVec 1 := Scalar.andi v103 v107
  if h3 : gcond3 b i t a10 = 1#1 then do
    Prog.lift (.enqueueDma (idsAt ids (goff5 b i a10) (hw1.2.1 h1 h3)) (.here (inAt ib (k0_off4 a6) (hw1.1 h1 h3)))
      (.dma (semAt is (k0_off6 a6) (hw1.2.2.1 h1 h3))) (View.wordExact_bits rfl) ((View.wordExact_bits rfl).reshape _ _) ⟨Or.inl rfl, trivial⟩)
    pure ⟨⟩
  else do
    pure ⟨⟩
  let v112 : BitVec 1 := Scalar.andi v108 1#1
  pure ⟨hw3, hw2, hw1, arg5, v80, v81, v83, v84, v90, v95, v101, v102, v112, 1#32⟩

/-- A trip's second part: the wait for the present block of the list, and the gather's start. -/
def gpart2 (h1 : k0_cond1 i = 1#1) (t : Fin (k0_t1_loop i).trips) (a6 a7 a8 a9 a10 : BitVec 32)
    (hw3 : k0_chk3 i a7) (hw2 : k0_chk2 i a8) (hw1 : gchk1 b i t a6 a7 a8 a9 a10) (arg5 : BitVec 32) (v80 : BitVec 32) (v81 : BitVec 1)
    (v84 : BitVec 32) (v90 : BitVec 32) (v95 : BitVec 32) (v101 : BitVec 32) (v112 : BitVec 1) (c1 : BitVec 32) :
    TProg (F := F) i (Σ' (v114 : BitVec 32), BitVec 32) := do
  let v113 : BitVec 32 := Scalar.addi a6 c1
  let v114 : BitVec 32 := Scalar.select v112 v113 a6
  let v121 : BitVec 32 := Scalar.addi b v90
  if h4 : gcond4 b i t a10 = 1#1 then do
    Prog.lift (.waitDma2 (semAt is (k0_off9 a7) (hw1.2.2.2.2.2.1 h1 h4)) (idsAt ids (goff8 b i a10) (hw1.2.2.2.2.1 h1 h4))
      (inAt ib (k0_off7 a7) (hw1.2.2.2.1 h1 h4)) (View.wordExact_bits rfl) ((View.wordExact_bits rfl).reshape _ _))
    pure ⟨⟩
  else do
    pure ⟨⟩
  let v128 : BitVec 1 := Scalar.cmpi .ne v84 v90
  let v129 : BitVec 1 := Scalar.ori v128 v81
  let v130 : BitVec 1 := Scalar.cmpi .sge arg5 0#32
  let v131 : BitVec 1 := Scalar.andi v129 v130
  let v132 : BitVec 32 := Scalar.extui v131
  let v133 : BitVec 1 := Scalar.cmpi .ne v132 0#32
  if v133 = 1#1 then do
    pure ⟨⟩
  else do
    pure ⟨⟩
  SparseCore.enqueueIndirectGather rfl (tabAll tab) (rowAt ob (k0_off10 a8) (k0_off10_inb i a8 hw2 h1)) gathers_S100000x128_S128x128
    (listAt ib (k0_off11 a7) (k0_off11_inb i a7 hw3 h1)) rfl gs.sem (View.wordExact_bits rfl) rfl (Or.inl rfl)
  pure ⟨v114, v121⟩

/-- A trip's third part: the gather's end, the start of the block's way out, the end of the one before it. -/
def gpart3 (v5 : BitVec 32) (h1 : k0_cond1 i = 1#1) (t : Fin (k0_t1_loop i).trips) (a6 a7 a8 a9 a10 : BitVec 32)
    (hw3 : k0_chk3 i a7) (hw2 : k0_chk2 i a8) (hw1 : gchk1 b i t a6 a7 a8 a9 a10) (v81 : BitVec 1) (v83 : BitVec 1) (v84 : BitVec 32)
    (v90 : BitVec 32) (v95 : BitVec 32) (v101 : BitVec 32) (v102 : BitVec 32) (v121 : BitVec 32) :
    TProg (F := F) i (Σ' (v147 : BitVec 32) (v161 : BitVec 32) (v165 : BitVec 32), BitVec 32) := do
  SparseCore.waitIndirectGather gs.sem (tabAll tab) (rowAt ob (k0_off10 a8) (k0_off10_inb i a8 hw2 h1)) (View.wordExact_bits rfl)
    ((View.wordExact_bits rfl).reshape _ _)
  let v136 : BitVec 1 := Scalar.cmpi .ne v101 v102
  let v137 : BitVec 1 := Scalar.ori v136 v83
  let v138 : BitVec 32 := Scalar.extui v137
  let v139 : BitVec 1 := Scalar.cmpi .ne v138 0#32
  if v139 = 1#1 then do
    pure ⟨⟩
  else do
    pure ⟨⟩
  let v141 : BitVec 1 := Scalar.cmpi .ne v84 v95
  let v142 : BitVec 1 := Scalar.ori v141 v83
  if h7 : k0_cond7 i t a10 = 1#1 then do
    Prog.lift (.enqueueDma (rowAt ob (k0_off12 a8) (hw1.2.2.2.2.2.2.1 h1 h7)) (.here (outAt out (k0_off13 i a10) (hw1.2.2.2.2.2.2.2.1 h1 h7)))
      (.dma (semAt os (k0_off14 a8) (hw1.2.2.2.2.2.2.2.2.1 h1 h7))) ((View.wordExact_bits rfl).reshape _ _) (View.wordExact_bits rfl) ⟨Or.inl rfl, trivial⟩)
    pure ⟨⟩
  else do
    pure ⟨⟩
  let v145 : BitVec 1 := Scalar.andi v142 1#1
  let v146 : BitVec 32 := Scalar.addi a8 1#32
  let v147 : BitVec 32 := Scalar.select v145 v146 a8
  let v148 : BitVec 1 := Scalar.cmpi .ne v101 v121
  let v149 : BitVec 1 := Scalar.xori v81 1#1
  let v150 : BitVec 1 := Scalar.andi v148 v149
  let v151 : BitVec 32 := Scalar.extui v150
  let v152 : BitVec 1 := Scalar.cmpi .ne v151 0#32
  if v152 = 1#1 then do
    pure ⟨⟩
  else do
    pure ⟨⟩
  let v154 : BitVec 1 := Scalar.cmpi .ne v84 v90
  let v155 : BitVec 1 := Scalar.xori v81 1#1
  let v156 : BitVec 1 := Scalar.andi v154 v155
  if h9 : k0_cond9 i t a10 = 1#1 then do
    Prog.lift (.waitDma2 (semAt os (k0_off17 a9) (hw1.2.2.2.2.2.2.2.2.2.2.2 h1 h9)) (rowAt ob (k0_off15 a9) (hw1.2.2.2.2.2.2.2.2.2.1 h1 h9))
      (outAt out (k0_off16 i a10) (hw1.2.2.2.2.2.2.2.2.2.2.1 h1 h9)) ((View.wordExact_bits rfl).reshape _ _) (View.wordExact_bits rfl))
    pure ⟨⟩
  else do
    pure ⟨⟩
  let v159 : BitVec 1 := Scalar.andi v156 1#1
  let v160 : BitVec 32 := Scalar.addi a9 1#32
  let v161 : BitVec 32 := Scalar.select v159 v160 a9
  let v162 : BitVec 1 := Scalar.cmpi .ne v101 v102
  let v163 : BitVec 1 := Scalar.ori v162 v83
  let v164 : BitVec 32 := Scalar.addi a7 1#32
  let v165 : BitVec 32 := Scalar.select v163 v164 a7
  let v166 : BitVec 32 := Scalar.addi a10 1#32
  let v167 : BitVec 32 := Scalar.select 1#1 v166 a10
  let v168 : BitVec 1 := Scalar.cmpi .eq v167 v5
  let v169 : BitVec 32 := Scalar.select v168 0#32 v167
  pure ⟨v147, v161, v165, v169⟩

/-- A trip of the pipeline. -/
def gtrip (v5 v10 : BitVec 32) (h1 : k0_cond1 i = 1#1) (c0 : BitVec 32) : Fin (k0_t1_loop i).trips → Turn → TProg (F := F) i Turn :=
  fun t (a6, a7, a8, a9, a10) => do
    let ⟨hw3, hw2, hw1, arg5, v80, v81, v83, v84, v90, v95, v101, v102, v112, c1⟩ ← gpart1 b i ids ib is v5 v10 h1 c0 1#32 t a6 a7 a8 a9 a10
    let ⟨v114, v121⟩ ← gpart2 b i tab ids ib is ob gs h1 t a6 a7 a8 a9 a10 hw3 hw2 hw1 arg5 v80 v81 v84 v90 v95 v101 v112 c1
    let ⟨v147, v161, v165, v169⟩ ← gpart3 b i tab out ob os gs v5 h1 t a6 a7 a8 a9 a10 hw3 hw2 hw1 v81 v83 v84 v90 v95 v101 v102 v121
    pure (v114, v165, v147, v161, v169)

/-- Before the loop: the fetch of the first block of the list. -/
def gpart7 (v5 v11 : BitVec 32) (h1 : k0_cond1 i = 1#1) (hb : ∀ (h2 : k0_cond2 i = 1#1) a, (goff2 b i) a + S1x128.size a ≤ S1x204800.size a) :
    TProg (F := F) i (Σ' (v41 : BitVec 32) (c0 : BitVec 32) (c1 : BitVec 32) (c2 : BitVec 32) (c3 : BitVec 32) (c4 : BitVec 32), BitVec 32) := do
  let v17 : BitVec 32 := Scalar.muli 1#32 v5
  let v35 : BitVec 1 := Scalar.cmpi .sgt v17 0#32
  let v36 : BitVec 1 := Scalar.andi 1#1 v35
  if h2 : k0_cond2 i = 1#1 then do
    Prog.lift (.enqueueDma (idsAt ids (goff2 b i) (hb h2)) (.here (inAt ib k0_off1 (k0_off1_inb i h1 h2)))
      (.dma (semAt is k0_off3 (k0_off3_inb i h1 h2))) (View.wordExact_bits rfl) ((View.wordExact_bits rfl).reshape _ _) ⟨Or.inl rfl, trivial⟩)
    pure ⟨⟩
  else do
    pure ⟨⟩
  let v40 : BitVec 32 := Scalar.addi 0#32 1#32
  let v41 : BitVec 32 := Scalar.select v36 v40 0#32
  let v42 : BitVec 32 := Scalar.subi v11 0#32
  let v44 : BitVec 32 := Scalar.divsi v42 1#32
  let v45 : BitVec 32 := Scalar.muli v44 1#32
  pure ⟨v41, 0#32, 0#32, 0#32, 0#32, 0#32, v45⟩

/-- The type of the remainder loop's body: the loop makes no trip, so the body is left a parameter. -/
abbrev Rest : Type 1 := BitVec 32 → BitVec 32 → BitVec 32 → k0_cond1 i = 1#1 → BitVec 32 → BitVec 32 → BitVec 32 → BitVec 32 → BitVec 32 →
  BitVec 32 → BitVec 32 → BitVec 32 → Fin (k0_t2_loop i).trips → Turn → TProg (F := F) i Turn

/-- The loop, the remainder loop, and the end of the last block's way out. -/
def gpart8 (rest : Rest (F := F) i) (v5 v10 v11 : BitVec 32) (h1 : k0_cond1 i = 1#1) (v41 c0 c1 c2 c3 c4 v45 : BitVec 32) :
    TProg (F := F) i PUnit := do
  let v46 : BitVec 32 := Scalar.addi c0 v45
  let (v47_0, v47_1, v47_2, v47_3, v47_4) ← Scf.Loop.for (k0_t1_loop i) (k0_t1_ok i h1) (v41, c1, c2, c3, c4)
    (gtrip b i tab ids out ib is ob os gs v5 v10 h1 c0)
  let (v48_0, v48_1, v48_2, v48_3, v48_4) ← Scf.Loop.for (k0_t2_loop i) (k0_t2_ok i h1) (v47_0, v47_1, v47_2, v47_3, v47_4)
    (rest v5 v10 v11 h1 v41 c0 c1 c2 c3 c4 v45 v46)
  have hw8 : k0_chk8 i v48_4 := (← Prog.lift (TpuEff.assume (k0_chk8 i v48_4) (k0_chk8.dec i v48_4))).down
  have hw7 : k0_chk7 i v48_3 := (← Prog.lift (TpuEff.assume (k0_chk7 i v48_3) (k0_chk7.dec i v48_3))).down
  let v54 : BitVec 32 := Scalar.subi v11 1#32
  let v55 : BitVec 32 := Scalar.muli 1#32 v5
  let v57 : BitVec 32 := Scalar.subi v55 1#32
  let v58 : BitVec 1 := Scalar.cmpi .eq v54 v57
  let v76 : BitVec 32 := Scalar.extui v58
  let v77 : BitVec 1 := Scalar.cmpi .ne v76 0#32
  if h17 : v77 = 1#1 then do
    pure ⟨⟩
  else do
    pure ⟨⟩
  if h18 : k0_cond18 i = 1#1 then do
    Prog.lift (.waitDma2 (semAt os (k0_off34 v48_3) (k0_off34_inb i v48_3 hw7 h1 h18)) (rowAt ob (k0_off35 v48_3) (k0_off35_inb i v48_3 hw7 h1 h18))
      (outAt out (k0_off33 i v48_4) (k0_off33_inb i v48_4 hw8 h1 h18)) ((View.wordExact_bits rfl).reshape _ _) (View.wordExact_bits rfl))
    pure ⟨⟩
  else do
    pure ⟨⟩
  pure ⟨⟩

/-- The gather kernel at base `b`. -/
def gker (hb : ∀ (h1 : k0_cond1 i = 1#1) (h2 : k0_cond2 i = 1#1) a, (goff2 b i) a + S1x128.size a ≤ S1x204800.size a) (rest : Rest (F := F) i) :
    TProg (F := F) i PUnit := do
  let v11 : BitVec 32 := Scalar.muli 1#32 (cnt i)
  if h1 : k0_cond1 i = 1#1 then do
    let ⟨v41, c0, c1, c2, c3, c4, v45⟩ ← gpart7 b i ids ib is (cnt i) v11 h1 (hb h1)
    gpart8 b i tab ids out ib is ob os gs rest (cnt i) (frst i) v11 h1 v41 c0 c1 c2 c3 c4 v45
    pure ⟨⟩
  else do
    pure ⟨⟩
  pure ⟨⟩

end Text

section Instances

variable {F : FTy → Type} [FloatOps F]
variable (i : grid0.Coords)
  (tab : Memref sig .scVector .hbm S100000x128 .f32) (htab : tab.IsWhole) (ids : Memref sig .scVector .hbm S1x204800 .i32) (hids : ids.IsWhole)
  (out : Memref sig .scVector .hbm S51200x128 .f32) (hout : out.IsWhole) (ib : Memref sig .scVector .vmem S2x1x128 .i32) (hib : ib.IsWhole)
  (is : DmaSems sig S2) (ob : Memref sig .scVector .vmem S2x128x128 .f32) (hob : ob.IsWhole) (os : DmaSems sig S2) (gs gs' : DmaSems sig S_)

set_option maxRecDepth 65536 in
set_option maxHeartbeats 4000000 in
/-- The first call's kernel is the gather kernel at base 0. -/
theorem gker_zero : cc0_gather_kernel (F := F) i tab htab ids hids out hout ib hib is ob hob os gs gs'
    = gker 0#32 i tab ids out ib is ob os gs (fun h1 h2 => k0_off2_inb i h1 h2)
        (k0_t2_body (F := F) i tab htab ids hids out hout ib hib is ob hob os gs gs') := rfl
set_option maxRecDepth 65536 in
set_option maxHeartbeats 4000000 in
/-- The second call's is it at base 400. -/
theorem gker_one : cc1_gather_kernel (F := F) i tab htab ids hids out hout ib hib is ob hob os gs gs'
    = gker 400#32 i tab ids out ib is ob os gs (fun h1 h2 => k1_off2_inb i h1 h2)
        (k1_t2_body (F := F) i tab htab ids hids out hout ib hib is ob hob os gs gs') := rfl
set_option maxRecDepth 65536 in
set_option maxHeartbeats 4000000 in
/-- The third call's is it at base 800. -/
theorem gker_two : cc2_gather_kernel (F := F) i tab htab ids hids out hout ib hib is ob hob os gs gs'
    = gker 800#32 i tab ids out ib is ob os gs (fun h1 h2 => k2_off2_inb i h1 h2)
        (k2_t2_body (F := F) i tab htab ids hids out hout ib hib is ob hob os gs gs') := rfl
set_option maxRecDepth 65536 in
set_option maxHeartbeats 4000000 in
/-- The fourth call's is it at base 1200. -/
theorem gker_three : cc3_gather_kernel (F := F) i tab htab ids hids out hout ib hib is ob hob os gs gs'
    = gker 1200#32 i tab ids out ib is ob os gs (fun h1 h2 => k3_off2_inb i h1 h2)
        (k3_t2_body (F := F) i tab htab ids hids out hout ib hib is ob hob os gs gs') := rfl

end Instances

end Cert.Proof.Gather
-- ==== Proof.Scalars.lean ====
/-
  The scalars of the gather kernel in closed form. Subcore `i` (number `g i` of thirty-two) gathers `cn i` blocks of
  128 rows, from block `st i` of its call on; in trip `t` the window pointers stand at `turn i t`. Every offset and
  condition the text computes is decided here once, over the four bases, the thirty-two subcores and their trips.
-/
module

public import proofs.«01_k».proof.Proof.Call

@[expose] public section

noncomputable section

namespace Cert.Proof.Gather

open Cert.KernelIdeal Cert.KernelIdeal.Gen
open Idealize.ShloMosaic Idealize.SL.Sem

/-- The base of call `q`, counted in blocks of the index list. -/
def base (q : Fin 4) : BitVec 32 := BitVec.ofNat 32 (400 * q.val)
/-- The subcore's number. -/
def g (i : grid0.Coords) : ℕ := (i 1).val + 16 * (i 0).val
/-- The number of blocks it gathers. -/
def cn (i : grid0.Coords) : ℕ := if g i < 16 then 13 else 12
/-- Its first block, within the call. -/
def st (i : grid0.Coords) : ℕ := if g i < 16 then 13 * g i else 12 * g i + 16
/-- What the loop carries into trip `t`. -/
def turn (i : grid0.Coords) (t : ℕ) : Turn :=
  (BitVec.ofNat 32 (min (t + 1) (cn i)), BitVec.ofNat 32 t, BitVec.ofNat 32 t, BitVec.ofNat 32 (t - 1),
    BitVec.ofNat 32 (if t < cn i then t else 0))

theorem st_add_cn_le : ∀ i : grid0.Coords, st i + cn i ≤ 400 := by decide +kernel
theorem cn_pos : ∀ i : grid0.Coords, 1 < cn i := by decide +kernel
theorem trips1 : ∀ i : grid0.Coords, (k0_t1_loop i).trips = cn i := by decide +kernel
theorem trips2 : ∀ i : grid0.Coords, (k0_t2_loop i).trips = 0 := by decide +kernel
theorem cond1_eq : ∀ i : grid0.Coords, k0_cond1 i = 1#1 := by decide +kernel
theorem cond2_eq : ∀ i : grid0.Coords, k0_cond2 i = 1#1 := by decide +kernel
theorem cond18_eq : ∀ i : grid0.Coords, k0_cond18 i = 1#1 := by decide +kernel
theorem goff2_eq : ∀ (q : Fin 4) (i : grid0.Coords), goff2 (base q) i = ![0, 128 * (400 * q.val + st i)] := by decide +kernel
theorem gchk1_ok : ∀ (q : Fin 4) (i : grid0.Coords) (t : Fin (k0_t1_loop i).trips),
    gchk1 (base q) i t (turn i t).1 (turn i t).2.1 (turn i t).2.2.1 (turn i t).2.2.2.1 (turn i t).2.2.2.2 := by decide +kernel
theorem chk23_ok : ∀ (i : grid0.Coords) (t : Fin (k0_t1_loop i).trips),
    k0_chk3 i (turn i t).2.1 ∧ k0_chk2 i (turn i t).2.2.1 := by decide +kernel
/-- Whether and from where trip `t` fetches the next block, and that it waits for the present one. -/
theorem gcond3_eq : ∀ (q : Fin 4) (i : grid0.Coords) (t : Fin (k0_t1_loop i).trips),
    gcond3 (base q) i t (turn i t).2.2.2.2 = if t.val + 1 < cn i then 1#1 else 0#1 := by decide +kernel
theorem gcond4_eq : ∀ (q : Fin 4) (i : grid0.Coords) (t : Fin (k0_t1_loop i).trips),
    gcond4 (base q) i t (turn i t).2.2.2.2 = 1#1 := by decide +kernel
theorem goff5_eq : ∀ (q : Fin 4) (i : grid0.Coords) (t : Fin (k0_t1_loop i).trips), t.val + 1 < cn i →
    goff5 (base q) i (turn i t).2.2.2.2 = ![0, 128 * (400 * q.val + st i + (t.val + 1))] := by decide +kernel
theorem goff8_eq : ∀ (q : Fin 4) (i : grid0.Coords) (t : Fin (k0_t1_loop i).trips),
    goff8 (base q) i (turn i t).2.2.2.2 = ![0, 128 * (400 * q.val + st i + t.val)] := by decide +kernel
/-- The slots trip `t` touches: the next block's, the present one's, the one before's. -/
theorem off46_eq : ∀ (i : grid0.Coords) (t : Fin (k0_t1_loop i).trips), t.val + 1 < cn i →
    k0_off4 (turn i t).1 = ![(t.val + 1) % 2, 0, 0] ∧ k0_off6 (turn i t).1 = ![(t.val + 1) % 2] := by decide +kernel
theorem off7_eq : ∀ (i : grid0.Coords) (t : Fin (k0_t1_loop i).trips), k0_off7 (turn i t).2.1 = ![t.val % 2, 0, 0]
    ∧ k0_off9 (turn i t).2.1 = ![t.val % 2] ∧ k0_off11 (turn i t).2.1 = ![t.val % 2, 0, 0] := by decide +kernel
theorem off10_eq : ∀ (i : grid0.Coords) (t : Fin (k0_t1_loop i).trips), k0_off10 (turn i t).2.2.1 = ![t.val % 2, 0, 0]
    ∧ k0_off12 (turn i t).2.2.1 = ![t.val % 2, 0, 0] ∧ k0_off14 (turn i t).2.2.1 = ![t.val % 2] := by decide +kernel
theorem cond7_eq : ∀ (i : grid0.Coords) (t : Fin (k0_t1_loop i).trips), k0_cond7 i t (turn i t).2.2.2.2 = 1#1 := by decide +kernel
theorem off13_eq : ∀ (i : grid0.Coords) (t : Fin (k0_t1_loop i).trips),
    k0_off13 i (turn i t).2.2.2.2 = ![128 * (st i + t.val), 0] := by decide +kernel
theorem cond9_eq : ∀ (i : grid0.Coords) (t : Fin (k0_t1_loop i).trips),
    k0_cond9 i t (turn i t).2.2.2.2 = if 0 < t.val then 1#1 else 0#1 := by decide +kernel
theorem off15_eq : ∀ (i : grid0.Coords) (t : Fin (k0_t1_loop i).trips), 0 < t.val →
    k0_off15 (turn i t).2.2.2.1 = ![(t.val - 1) % 2, 0, 0] ∧ k0_off17 (turn i t).2.2.2.1 = ![(t.val - 1) % 2]
      ∧ k0_off16 i (turn i t).2.2.2.2 = ![128 * (st i + (t.val - 1)), 0] := by decide +kernel
/-- The end of the last block's way out. -/
theorem off33_eq : ∀ i : grid0.Coords, k0_off33 i (turn i (cn i)).2.2.2.2 = ![128 * (st i + (cn i - 1)), 0]
    ∧ k0_off34 (turn i (cn i)).2.2.2.1 = ![(cn i - 1) % 2] ∧ k0_off35 (turn i (cn i)).2.2.2.1 = ![(cn i - 1) % 2, 0, 0] := by decide +kernel
theorem chk78_ok : ∀ i : grid0.Coords, k0_chk8 i (turn i (cn i)).2.2.2.2 ∧ k0_chk7 i (turn i (cn i)).2.2.2.1 := by decide +kernel
/-- What the loop begins with. -/
theorem turn_zero : ∀ i : grid0.Coords, turn i 0
    = (Scalar.select (Scalar.andi 1#1 (Scalar.cmpi .sgt (Scalar.muli 1#32 (cnt i)) 0#32)) (Scalar.addi 0#32 1#32) 0#32, 0#32, 0#32, 0#32, 0#32) := by
  decide +kernel

/-- What a trip passes on, as its text computes it. -/
def step (b : BitVec 32) (i : grid0.Coords) (t : Fin (k0_t1_loop i).trips) (a6 a7 a8 a9 a10 : BitVec 32) : Turn :=
  let arg5 := Scf.iv 0#32 1#32 t
  let v80 := Scalar.muli 1#32 (cnt i)
  let v81 := Scalar.cmpi .eq arg5 0#32
  let v83 := Scalar.cmpi .eq arg5 (Scalar.subi v80 1#32)
  let v84 := Scalar.addi a10 (frst i)
  let v90 := Scalar.addi (prv i a10) (frst i)
  let v95 := Scalar.addi (nxt i a10) (frst i)
  let v101 := Scalar.addi b v84
  let v102 := Scalar.addi b v95
  let v108 := Scalar.andi (Scalar.cmpi .ne v101 v102) (Scalar.xori (Scalar.cmpi .sge arg5 (Scalar.addi (Scalar.subi v80 2#32) 1#32)) 1#1)
  (Scalar.select (Scalar.andi v108 1#1) (Scalar.addi a6 1#32) a6,
    Scalar.select (Scalar.ori (Scalar.cmpi .ne v101 v102) v83) (Scalar.addi a7 1#32) a7,
    Scalar.select (Scalar.andi (Scalar.ori (Scalar.cmpi .ne v84 v95) v83) 1#1) (Scalar.addi a8 1#32) a8,
    Scalar.select (Scalar.andi (Scalar.andi (Scalar.cmpi .ne v84 v90) (Scalar.xori v81 1#1)) 1#1) (Scalar.addi a9 1#32) a9,
    nxt i a10)
/-- A trip moves the pointers to the next trip's. -/
theorem step_eq : ∀ (q : Fin 4) (i : grid0.Coords) (t : Fin (k0_t1_loop i).trips),
    step (base q) i t (turn i t).1 (turn i t).2.1 (turn i t).2.2.1 (turn i t).2.2.2.1 (turn i t).2.2.2.2 = turn i (t.val + 1) := by decide +kernel

end Cert.Proof.Gather
-- ==== Proof.Steps.lean ====
/-
  The five moves a trip of the gather kernel is made of, each over the kernel's own words for the memory it touches:
  a block of the index list starts into a slot, and lands; the rows it names are gathered into a row slot; a row slot
  starts to a block of the output, and lands. What a subcore holds of a slot, a semaphore or a block is a named
  assertion here, so that the loop's invariant is a list of those names.
-/
module

public import proofs.«01_k».proof.Proof.Scalars

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the block pipelines' rounds, the transfers' counters. -/
abbrev UH : Type := URounds (GSem nD τ sig) ℕ
abbrev UP : Type := URounds (GSem nD τ sig) Unit
abbrev UU : Type := UH × (UP × Counters)

local notation "𝕄" => MT nD τ sig (HIx 4) (Elt F) ℕ UU ℕ

abbrev cV (L : grid0.Coords) : Fin τ.nSC := (L 0).castLE hcore0
abbrev jV (L : grid0.Coords) : Fin τ.nSub := (L 1).castLE hsub0

variable [FloatOps F]
variable (q : Fin 4) (d : Dev nD) (i : grid0.Coords)
  (tab : Memref sig .scVector .hbm S100000x128 .f32) (ids : Memref sig .scVector .hbm S1x204800 .i32)
  (out : Memref sig .scVector .hbm S51200x128 .f32) (ib : Memref sig .scVector .vmem S2x1x128 .i32) (is : DmaSems sig S2)
  (ob : Memref sig .scVector .vmem S2x128x128 .f32) (os : DmaSems sig S2) (gs : DmaSems sig S_)

/-- The subcore's thread. -/
abbrev thr : Thread nD τ := V d (cV i) (jV i)
/-- The subcore's programs' correctness. -/
abbrev wpT {α : Type} (p : TProg (F := F) i α) (Q : α → sProp 𝕄) : sProp 𝕄 :=
  wp frame (wpE (defs₀ (F := F)) 𝒱₀ (thr d i) none) Set.univ p Q

theorem slot_in (t : ℕ) : ∀ a, (![t % 2, 0, 0] : Fin 3 → ℕ) a + S1x1x128.size a ≤ S2x1x128.size a := by
  intro a; have := Nat.mod_lt t (by decide : 0 < 2)
  match a with
  | 0 => show t % 2 + 1 ≤ 2; omega
  | 1 => show 0 + 1 ≤ 1; omega
  | 2 => show 0 + 128 ≤ 128; omega
theorem slot_row (t : ℕ) : ∀ a, (![t % 2, 0, 0] : Fin 3 → ℕ) a + S1x128x128.size a ≤ S2x128x128.size a := by
  intro a; have := Nat.mod_lt t (by decide : 0 < 2)
  match a with
  | 0 => show t % 2 + 1 ≤ 2; omega
  | 1 => show 0 + 128 ≤ 128; omega
  | 2 => show 0 + 128 ≤ 128; omega
theorem slot_sem (t : ℕ) : ∀ a, (![t % 2] : Fin 1 → ℕ) a + S1.size a ≤ S2.size a := by
  intro a; have := Nat.mod_lt t (by decide : 0 < 2)
  match a with
  | 0 => show t % 2 + 1 ≤ 2; omega
theorem ids_inb (t : ℕ) (h : t < cn i) : ∀ a, (![0, 128 * (400 * q.val + st i + t)] : Fin 2 → ℕ) a + S1x128.size a ≤ S1x204800.size a := by
  intro a; have := st_add_cn_le i; have := q.isLt
  match a with
  | 0 => show 0 + 1 ≤ 1; omega
  | 1 => show 128 * (400 * q.val + st i + t) + 128 ≤ 204800; omega
theorem out_inb (t : ℕ) (h : t < cn i) : ∀ a, (![128 * (st i + t), 0] : Fin 2 → ℕ) a + S128x128.size a ≤ S51200x128.size a := by
  intro a; have := st_add_cn_le i
  match a with
  | 0 => show 128 * (st i + t) + 128 ≤ 51200; omega
  | 1 => show 0 + 128 ≤ 128; omega

/-- The slot of block `t` in the index buffer and in the row buffer, and their semaphores. -/
abbrev inS (t : ℕ) : Memref sig .scVector .vmem S1x128 .i32 := inAt ib ![t % 2, 0, 0] (slot_in t)
@[inherit_doc inS] abbrev rowS (t : ℕ) : Memref sig .scVector .vmem S128x128 .f32 := rowAt ob ![t % 2, 0, 0] (slot_row t)
@[inherit_doc inS] abbrev semI (t : ℕ) : DmaSem sig := semAt is ![t % 2] (slot_sem t)
@[inherit_doc inS] abbrev semO (t : ℕ) : DmaSem sig := semAt os ![t % 2] (slot_sem t)
/-- Block `t` of the subcore's in the index list and in the output. -/
abbrev idsB (t : ℕ) (h : t < cn i) : Memref sig .scVector .hbm S1x128 .i32 := idsAt ids ![0, 128 * (400 * q.val + st i + t)] (ids_inb q i t h)
@[inherit_doc idsB] abbrev outB (t : ℕ) (h : t < cn i) : Memref sig .scVector .hbm S128x128 .f32 := outAt out ![128 * (st i + t), 0] (out_inb i t h)

/-! ## What a subcore holds -/

/-- A piece of memory at any contents. -/
def any {sp : Space} {s : Shape} {e : EltTy} (m : Memref sig .scVector sp s e) : sProp 𝕄 :=
  iprop(∃ f, m.view.loc (thr d i) ↦[m.view.set]{fullShare} f)
/-- A piece of memory that reads as `w`. -/
def at' {sp : Space} {s : Shape} {e : EltTy} (m : Memref sig .scVector sp s e) (w : s.Idx → Elt F e) : sProp 𝕄 :=
  iprop(∃ f, ⌜m.view.read (Elt F) f = w⌝ ∗ (m.view.loc (thr d i) ↦[m.view.set]{fullShare} f))

omit [FloatOps F] in
theorem at'_any {sp : Space} {s : Shape} {e : EltTy} (m : Memref sig .scVector sp s e) (w : s.Idx → Elt F e) :
    at' (F := F) d i m w ⊢ any (F := F) d i m := by
  unfold at' any; iintro ⟨%f, -, H⟩; iexists f; iexact H
omit [FloatOps F] in
/-- Written through a view, the view reads as what was written. -/
theorem at'_write {sp : Space} {s : Shape} {e : EltTy} (m : Memref sig .scVector sp s e) (f : Buf (Elt F) (m.view.loc (thr d i)))
    (w : s.Idx → Elt F e) :
    (m.view.loc (thr d i) ↦[m.view.set]{fullShare} (m.view.write (Elt F) f w Finset.univ) : sProp 𝕄) ⊢ at' (F := F) d i m w := by
  unfold at'; iintro H; iexists _; isplitr
  swap; · iexact H
  ipureintro; exact View.read_write_univ _ _

variable (fx : Buf (Elt F) (ids.view.loc (thr d i))) (ft : Buf (Elt F) (tab.view.loc (thr d i))) (qx qt : PosShare TreeShare)

/-- The index list's share a slot works with. -/
def half (t : ℕ) : PosShare TreeShare := if t % 2 = 0 then qx.left else qx.right
/-- Block `t` of the index list. -/
def idsV (t : ℕ) (h : t < cn i) : S1x128.Idx → Elt F .i32 := (idsB q i ids t h).view.read (Elt F) fx
/-- A block of the list, as the list of row numbers the gather reads. -/
def relist (w : S1x128.Idx → Elt F .i32) : S128.Idx → Elt F .i32 := fun x =>
  w ((Rect.unit (s := S1x128) ![0, 0] S1x128.size inb_S1x128_S1x128_0_0).emb (Shape.reshapeEquiv squeezes_S1x128_S128.numel_eq x))
/-- The rows it names. -/
def rowsV (t : ℕ) (h : t < cn i)
    (hin : ∀ t h x, (relist (F := F) (idsV q d i ids fx t h) x).toNat < S100000x128.size gathers_S100000x128_S128x128.axis) : S128x128.Idx → Elt F .f32 :=
  SparseCore.gatherPayload gathers_S100000x128_S128x128 ((tabAll tab).view.read (Elt F) ft)
    (SparseCore.rows (relist (F := F) (idsV q d i ids fx t h)) rfl (hin t h))

/-- A free slot of the index buffer: its words, its semaphore at rest, its share of the index list. -/
def inFree (t : ℕ) : sProp 𝕄 :=
  iprop(any (F := F) d i (inS ib t) ∗ semVal (thr d i, SemLoc.dma (semI is t)) 0 ∗ (ids.view.loc (thr d i) ↦[ids.view.set]{half qx t} fx))
/-- Block `t` of the list on its way into its slot. -/
def inFly (t : ℕ) (h : t < cn i) : sProp 𝕄 :=
  iprop(Transfers.Flight countersEmb (thr d i) (.dma (semI is t)) (default : HIx 4) (inS ib t).view.dmaCredit
      iprop(at' (F := F) d i (inS ib t) (idsV q d i ids fx t h) ∗ ((idsB q i ids t h).view.loc (thr d i) ↦[(idsB q i ids t h).view.set]{half qx t} fx))
    ∗ (ids.view.loc (thr d i) ↦[ids.view.set \ (idsB q i ids t h).view.set]{half qx t} fx))
/-- Block `t` of the list in its slot. -/
def inHas (t : ℕ) (h : t < cn i) : sProp 𝕄 :=
  iprop(at' (F := F) d i (inS ib t) (idsV q d i ids fx t h) ∗ semVal (thr d i, SemLoc.dma (semI is t)) 0
    ∗ (ids.view.loc (thr d i) ↦[ids.view.set]{half qx t} fx))
/-- A free slot of the row buffer. -/
def outFree (t : ℕ) : sProp 𝕄 := iprop(any (F := F) d i (rowS ob t) ∗ semVal (thr d i, SemLoc.dma (semO os t)) 0)
/-- A slot of the row buffer that holds the rows `w`. -/
def outHas (t : ℕ) (w : S128x128.Idx → Elt F .f32) : sProp 𝕄 := iprop(at' (F := F) d i (rowS ob t) w ∗ semVal (thr d i, SemLoc.dma (semO os t)) 0)
/-- The rows `w` on their way to block `t` of the output. -/
def outFly (t : ℕ) (h : t < cn i) (w : S128x128.Idx → Elt F .f32) : sProp 𝕄 :=
  Transfers.Flight countersEmb (thr d i) (.dma (semO os t)) (default : HIx 4) (outB i out t h).view.dmaCredit
      iprop(at' (F := F) d i (outB i out t h) w ∗ any (F := F) d i (rowS ob t))
/-- The gather of block `t` on its way into the row slot, with what else the subcore then holds. -/
def gFly (hin : ∀ t h x, (relist (F := F) (idsV q d i ids fx t h) x).toNat < S100000x128.size gathers_S100000x128_S128x128.axis)
    (t : ℕ) (h : t < cn i) : sProp 𝕄 :=
  iprop(Transfers.Flight countersEmb (thr d i) (.dma gs.sem) (default : HIx 4) (rowS ob t).view.dmaCredit
      iprop(at' (F := F) d i (rowS ob t) (rowsV q d i tab ids fx ft t h hin)
        ∗ ((tabAll tab).view.loc (thr d i) ↦[(tabAll tab).view.set]{qt} ft) ∗ any (F := F) d i (inS ib t))
    ∗ (tab.view.loc (thr d i) ↦[tab.view.set \ (tabAll tab).view.set]{qt} ft)
    ∗ semVal (thr d i, SemLoc.dma (semI is t)) 0 ∗ (ids.view.loc (thr d i) ↦[ids.view.set]{half qx t} fx)
    ∗ semVal (thr d i, SemLoc.dma (semO os t)) 0)
/-- What is owed, with whatever the subcore has waited for meanwhile. -/
def owe (O : CellTallies nD τ sig (HIx 4)) (W : Waits sig (HIx 4)) : sProp 𝕄 :=
  iprop(∃ W', ⌜∀ p ∈ W', p ∈ W ∨ p.2 = none⌝ ∗ owes (thr d i) O W')

omit [FloatOps F] in
theorem inFree_congr {s t : ℕ} (h : s % 2 = t % 2) : inFree (F := F) d i ids ib is fx qx s = inFree (F := F) d i ids ib is fx qx t := by
  have hs : slot_in s = h ▸ slot_in t := rfl
  unfold inFree inS semI half; simp only [h]
omit [FloatOps F] in
theorem outFree_congr {s t : ℕ} (h : s % 2 = t % 2) : outFree (F := F) d i ob os s = outFree (F := F) d i ob os t := by
  unfold outFree rowS semO; simp only [h]

/-! ## The moves -/

section Moves

variable {O : CellTallies nD τ sig (HIx 4)} {W : Waits sig (HIx 4)}

omit [FloatOps F] in
theorem owe_wait {W' : Waits sig (HIx 4)} (hW : ∀ p ∈ W', p ∈ W ∨ p.2 = none) (sm : SemLoc sig) :
    (owes (thr d i) O (insert (sm, (default : HIx 4)) W') : sProp 𝕄) ⊢ owe (F := F) d i O W := by
  unfold owe; iintro H; iexists _; isplitr
  swap; · iexact H
  ipureintro; intro p hp
  rcases Finset.mem_insert.mp hp with hp | hp; · exact .inr (hp ▸ rfl)
  exact hW p hp

/-- A block of the index list starts into a free slot. -/
theorem in_start (t : ℕ) (h : t < cn i) {oi : Fin 2 → ℕ} {os' : Fin 3 → ℕ} {om : Fin 1 → ℕ} (hi) (hs) (hm)
    (ei : oi = ![0, 128 * (400 * q.val + st i + t)]) (es : os' = ![t % 2, 0, 0]) (em : om = ![t % 2]) {h₁ h₂ h₃} {Q : PUnit → sProp 𝕄} :
    iprop(inFree (F := F) d i ids ib is fx qx t ∗ (inFly (F := F) q d i ids ib is fx qx t h -∗ Q ⟨⟩))
      ⊢ wpT (F := F) d i (Prog.lift (.enqueueDma (idsAt ids oi hi) (.here (inAt ib os' hs)) (.dma (semAt is om hm)) h₁ h₂ h₃)) Q := by
  subst ei es em
  have hsub : (idsB q i ids t h).view.set ⊆ ids.view.set := View.set_slice_subset _ _
  unfold inFree inFly any
  iintro ⟨⟨⟨%f, Hs⟩, Hv, Hx⟩, HQ⟩
  ihave Hx' := (pointsTo_split_subset (q := half qx t) (f := fx) hsub).1 $$ Hx
  icases Hx' with ⟨Hx, Hr⟩
  iapply (Transfers.wp_dmaLocal countersEmb 𝒱₀ (thr d i) none (default : HIx 4) (inS ib t).view.dmaCredit rfl
    (View.dmaCredit_pos _ (by decide)) (Finset.Subset.refl _)) $$ [Hs Hv Hx]
  · isplitl [Hx]; · iexact Hx
    isplitl [Hs]; · iexact Hs
    iexact Hv
  iintro Hf
  rw [wp_ret]; imodintro
  iapply HQ
  isplitl [Hf]
  · iapply (Transfers.Flight_mono ?_) $$ Hf
    exact BIClass.sep_mono (at'_write (F := F) d i (inS ib t) f _) .rfl
  · iexact Hr

/-- The block lands. -/
theorem in_wait (t : ℕ) (h : t < cn i) {oi : Fin 2 → ℕ} {os' : Fin 3 → ℕ} {om : Fin 1 → ℕ} (hi) (hs) (hm)
    (es : os' = ![t % 2, 0, 0]) (em : om = ![t % 2]) {h₁ h₂} {Q : PUnit → sProp 𝕄} :
    iprop(inFly (F := F) q d i ids ib is fx qx t h ∗ owe (F := F) d i O W ∗ Transfers.MayWaits (thr d i) (default : HIx 4) O
        ∗ (inHas (F := F) q d i ids ib is fx qx t h -∗ owe (F := F) d i O W -∗ Q ⟨⟩))
      ⊢ wpT (F := F) d i (Prog.lift (.waitDma2 (semAt is om hm) (idsAt ids oi hi) (inAt ib os' hs) h₁ h₂)) Q := by
  subst es em
  have hsub : (idsB q i ids t h).view.set ⊆ ids.view.set := View.set_slice_subset _ _
  unfold inFly owe
  iintro ⟨⟨Hf, Hr⟩, ⟨%W', %hW, HO⟩, #Hmw, HQ⟩
  iapply (Transfers.wp_waitLocalO countersEmb 𝒱₀ (thr d i) none (default : HIx 4) rfl) $$ [Hf HO]
  · isplitl [Hf]; · iexact Hf
    isplitl [HO]; · iexact HO
    iapply (Transfers.MayWaits.elim (SemLoc.dma (semI is t))) $$ Hmw
  iintro ⟨⟨Hs, Hx⟩, Hv, HO⟩
  rw [wp_ret]; imodintro
  iapply HQ $$ [Hs Hx Hr Hv]
  · unfold inHas
    isplitl [Hs]; · iexact Hs
    isplitl [Hv]; · iexact Hv
    iapply (pointsTo_split_subset (q := half qx t) (f := fx) hsub).2
    isplitl [Hx]; · iexact Hx
    iexact Hr
  · have hw := owe_wait (F := F) d i (O := O) hW (SemLoc.dma (semI is t))
    unfold owe at hw; iapply hw $$ HO

/-- A slot of rows starts to a block of the output. -/
theorem out_start (t : ℕ) (h : t < cn i) (w : S128x128.Idx → Elt F .f32) {oo : Fin 2 → ℕ} {os' : Fin 3 → ℕ} {om : Fin 1 → ℕ} (ho) (hs) (hm)
    (eo : oo = ![128 * (st i + t), 0]) (es : os' = ![t % 2, 0, 0]) (em : om = ![t % 2]) {h₁ h₂ h₃} {Q : PUnit → sProp 𝕄} :
    iprop(outHas (F := F) d i ob os t w ∗ any (F := F) d i (outB i out t h) ∗ (outFly (F := F) d i out ob os t h w -∗ Q ⟨⟩))
      ⊢ wpT (F := F) d i (Prog.lift (.enqueueDma (rowAt ob os' hs) (.here (outAt out oo ho)) (.dma (semAt os om hm)) h₁ h₂ h₃)) Q := by
  subst eo es em
  unfold outHas outFly any at'
  iintro ⟨⟨⟨%f, %hf, Hs⟩, Hv⟩, ⟨%g, Ho⟩, HQ⟩
  iapply (Transfers.wp_dmaLocal countersEmb 𝒱₀ (thr d i) none (default : HIx 4) (outB i out t h).view.dmaCredit rfl
    (View.dmaCredit_pos _ (by decide)) (Finset.Subset.refl _)) $$ [Hs Hv Ho]
  · isplitl [Hs]; · iexact Hs
    isplitl [Ho]; · iexact Ho
    iexact Hv
  iintro Hf
  rw [wp_ret]; imodintro
  iapply HQ
  iapply (Transfers.Flight_mono ?_) $$ Hf
  subst hf
  refine BIClass.sep_mono (at'_write (F := F) d i (outB i out t h) g _) ?_
  iintro H; iexists f; iexact H

/-- The block is written. -/
theorem out_wait (t : ℕ) (h : t < cn i) (w : S128x128.Idx → Elt F .f32) {oo : Fin 2 → ℕ} {os' : Fin 3 → ℕ} {om : Fin 1 → ℕ} (ho) (hs) (hm)
    (em : om = ![t % 2]) (eo : oo = ![128 * (st i + t), 0]) {h₁ h₂} {Q : PUnit → sProp 𝕄} :
    iprop(outFly (F := F) d i out ob os t h w ∗ owe (F := F) d i O W ∗ Transfers.MayWaits (thr d i) (default : HIx 4) O
        ∗ (outFree (F := F) d i ob os t -∗ at' (F := F) d i (outB i out t h) w -∗ owe (F := F) d i O W -∗ Q ⟨⟩))
      ⊢ wpT (F := F) d i (Prog.lift (.waitDma2 (semAt os om hm) (rowAt ob os' hs) (outAt out oo ho) h₁ h₂)) Q := by
  subst em eo
  unfold outFly owe
  iintro ⟨Hf, ⟨%W', %hW, HO⟩, #Hmw, HQ⟩
  iapply (Transfers.wp_waitLocalO countersEmb 𝒱₀ (thr d i) none (default : HIx 4) rfl) $$ [Hf HO]
  · isplitl [Hf]; · iexact Hf
    isplitl [HO]; · iexact HO
    iapply (Transfers.MayWaits.elim (SemLoc.dma (semO os t))) $$ Hmw
  iintro ⟨⟨Ho, Hs⟩, Hv, HO⟩
  rw [wp_ret]; imodintro
  iapply HQ $$ [Hs Hv] [Ho]
  · unfold outFree
    isplitl [Hs]; · iexact Hs
    iexact Hv
  · iexact Ho
  · have hw := owe_wait (F := F) d i (O := O) hW (SemLoc.dma (semO os t))
    unfold owe at hw; iapply hw $$ HO

/-- The list the gather reads is the slot, read in order, -/
theorem listAt_read (o : Fin 3 → ℕ) (h) (f : (inAt ib o h).view.ty.Contents (Elt F)) :
    (listAt ib o h).view.read (Elt F) f = relist (F := F) ((inAt ib o h).view.read (Elt F) f) := rfl
/-- and is the whole of it. -/
theorem listAt_set (o : Fin 3 → ℕ) (h) : (listAt ib o h).view.set = (inAt ib o h).view.set := by
  show (((inAt ib o h).view.slice (Rect.unit (s := S1x128) ![0, 0] S1x128.size inb_S1x128_S1x128_0_0)).reshape S128 squeezes_S1x128_S128.numel_eq).set = _
  rw [View.set_reshape, View.set_slice]
  have : (Rect.unit (s := S1x128) ![0, 0] S1x128.size inb_S1x128_S1x128_0_0).set = Finset.univ := by
    refine Finset.eq_univ_of_card _ ?_
    rw [← Rect.map_emb_univ, Finset.card_map]; rfl
  rw [this]; rfl
omit [FloatOps F] in
theorem payload_congr (s : S100000x128.Idx → Elt F .f32) {w w' : S128.Idx → Elt F .i32} (e : w = w') (hw) (hw') :
    SparseCore.gatherPayload gathers_S100000x128_S128x128 s (SparseCore.rows w rfl hw)
      = SparseCore.gatherPayload (e := .f32) (F := F) gathers_S100000x128_S128x128 s (SparseCore.rows w' rfl hw') := by
  subst e; rfl

/-- The gather: the rows block `t` of the list names, into the row slot, the whole of it — its start and its end. -/
theorem gather (t : ℕ) (h : t < cn i)
    (hN : ∑ j, ((rowS ob t).slice (S128x128.rowRect gathers_S100000x128_S128x128.axis' j)
      (S128x128.stride_rowRect gathers_S100000x128_S128x128.axis' j)).view.dmaCredit = (rowS ob t).view.dmaCredit)
    (hin : ∀ t h x, (relist (F := F) (idsV q d i ids fx t h) x).toNat < S100000x128.size gathers_S100000x128_S128x128.axis)
    {ol or' : Fin 3 → ℕ} (hl) (hr) (el : ol = ![t % 2, 0, 0]) (er : or' = ![t % 2, 0, 0]) {h₁ h₂ h₃ h₄} {α : Type} {k : PUnit → TProg (F := F) i α} {Q : α → sProp 𝕄} :
    iprop(inHas (F := F) q d i ids ib is fx qx t h ∗ outFree (F := F) d i ob os t
        ∗ (tab.view.loc (thr d i) ↦[tab.view.set]{qt} ft) ∗ semVal (thr d i, SemLoc.dma gs.sem) 0
        ∗ (gFly (F := F) q d i tab ids ib is ob os gs fx ft qx qt hin t h -∗ wpT (F := F) d i (k ⟨⟩) Q))
      ⊢ wpT (F := F) d i (SparseCore.enqueueIndirectGather rfl (tabAll tab) (rowAt ob or' hr) gathers_S100000x128_S128x128
          (listAt ib ol hl) h₁ gs.sem h₂ h₃ h₄ >>= k) Q := by
  subst el er
  have hsub : (tabAll tab).view.set ⊆ tab.view.set := View.set_slice_subset _ _
  have hset : (listAt ib ![t % 2, 0, 0] (slot_in t)).view.set = (inS ib t).view.set := listAt_set ib _ _
  unfold inHas outFree gFly any at'
  iintro ⟨⟨⟨%f, %hf, Hl⟩, Hvi, Hx⟩, ⟨⟨%g, Hr⟩, Hvo⟩, Ht, Hg, HQ⟩
  ihave Ht' := (pointsTo_split_subset (q := qt) (f := ft) hsub).1 $$ Ht
  icases Ht' with ⟨Ht, Htr⟩
  have hrd : (listAt ib ![t % 2, 0, 0] (slot_in t)).view.read (Elt F) f = relist (F := F) (idsV q d i ids fx t h) := by
    rw [← hf]; exact listAt_read ib _ _ f
  have hin' : ∀ x, ((listAt ib ![t % 2, 0, 0] (slot_in t)).view.read (Elt F) f x).toNat < S100000x128.size gathers_S100000x128_S128x128.axis := by
    rw [hrd]; exact hin t h
  ihave Hl' := (Entails.of_eq (show ((inS ib t).view.loc (thr d i) ↦[(inS ib t).view.set]{fullShare} f : sProp 𝕄)
      = (listAt ib ![t % 2, 0, 0] (slot_in t)).view.loc (thr d i) ↦[(listAt ib ![t % 2, 0, 0] (slot_in t)).view.set]{fullShare} f by rw [hset])) $$ Hl
  iapply (SparseCore.wp_indirectGatherLocal countersEmb 𝒱₀ (thr d i) none (hg := gathers_S100000x128_S128x128) (default : HIx 4)
      (rowS ob t).view.dmaCredit hN (by decide) hin') $$ [Ht Hr Hl' Hg]
  · isplitl [Ht]; · iexact Ht
    isplitl [Hr]; · iexact Hr
    isplitl [Hl']; · iexact Hl'
    iexact Hg
  iintro Hf
  iapply HQ
  isplitl [Hf]
  · iapply (Transfers.Flight_mono ?_) $$ Hf
    have hw := at'_write (F := F) d i (rowS ob t) g
    refine BIClass.sep_mono ((hw _).trans (Entails.of_eq ?_)) (BIClass.sep_mono .rfl ?_)
    · exact congrArg (at' (F := F) d i (rowS ob t)) (payload_congr _ hrd _ _)
    · rw [hset]; iintro H; iexists f; iexact H
  isplitl [Htr]; · iexact Htr
  isplitl [Hvi]; · iexact Hvi
  isplitl [Hx]; · iexact Hx
  iexact Hvo

/-- The gather lands: the rows in the row slot, the index slot free again, the table's share whole. -/
theorem gather_wait (t : ℕ) (h : t < cn i)
    (hin : ∀ t h x, (relist (F := F) (idsV q d i ids fx t h) x).toNat < S100000x128.size gathers_S100000x128_S128x128.axis)
    {or' : Fin 3 → ℕ} (hr) (er : or' = ![t % 2, 0, 0]) {h₁ h₂} {Q : PUnit → sProp 𝕄} :
    iprop(gFly (F := F) q d i tab ids ib is ob os gs fx ft qx qt hin t h ∗ owe (F := F) d i O W ∗ Transfers.MayWaits (thr d i) (default : HIx 4) O
        ∗ (outHas (F := F) d i ob os t (rowsV q d i tab ids fx ft t h hin) -∗ inFree (F := F) d i ids ib is fx qx t
            -∗ (tab.view.loc (thr d i) ↦[tab.view.set]{qt} ft) -∗ semVal (thr d i, SemLoc.dma gs.sem) 0 -∗ owe (F := F) d i O W -∗ Q ⟨⟩))
      ⊢ wpT (F := F) d i (SparseCore.waitIndirectGather gs.sem (tabAll tab) (rowAt ob or' hr) h₁ h₂) Q := by
  subst er
  have hsub : (tabAll tab).view.set ⊆ tab.view.set := View.set_slice_subset _ _
  unfold gFly owe
  iintro ⟨⟨Hf, Htr, Hvi, Hx, Hvo⟩, ⟨%W', %hW, HO⟩, #Hmw, HQ⟩
  unfold SparseCore.waitIndirectGather
  iapply (Transfers.wp_waitLocalO countersEmb 𝒱₀ (thr d i) none (default : HIx 4) rfl) $$ [Hf HO]
  · isplitl [Hf]; · iexact Hf
    isplitl [HO]; · iexact HO
    iapply (Transfers.MayWaits.elim (SemLoc.dma gs.sem)) $$ Hmw
  iintro ⟨⟨Hr, Ht, Hs⟩, Hvg, HO⟩
  rw [wp_ret]; imodintro
  iapply HQ $$ [Hr Hvo] [Hs Hvi Hx] [Ht Htr] [Hvg] [HO]
  · unfold outHas
    isplitl [Hr]; · iexact Hr
    iexact Hvo
  · unfold inFree
    isplitl [Hs]; · iexact Hs
    isplitl [Hvi]; · iexact Hvi
    iexact Hx
  · iapply (pointsTo_split_subset (q := qt) (f := ft) hsub).2
    isplitl [Ht]; · iexact Ht
    iexact Htr
  · iexact Hvg
  · have hw := owe_wait (F := F) d i (O := O) hW (SemLoc.dma gs.sem)
    unfold owe at hw; iapply hw $$ HO

end Moves

end Cert.Proof.Gather
-- ==== Proof.LnBody.lean ====
/-
  The layer-norm body of the four TensorCore calls: one run of it on any staging buffers. It loads the five
  operand blocks whole (the segment rows one by one), computes, and stores the result block whole.
-/
module

public import proofs.«01_k».proof.Proof.Steps
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Tactic

@[expose] public section

noncomputable section

namespace Cert.Proof.Gather

open Cert.KernelIdeal Cert.KernelIdeal.Gen
open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-- What the body stores, from the contents of its six operand blocks: the layer norm of the rows. -/
def lnOut (ex : S32x200x128.Idx → Elt F .f32) (sg : S32x200.Idx → Elt F .bf16) (ps : S200x128.Idx → Elt F .bf16)
    (sw : S2x128.Idx → Elt F .bf16) (g b : S1x128.Idx → Elt F .bf16) : S32x200x128.Idx → Elt F .f32 :=
  k4_pay1 (k4_pay2 ex sg ps (View.ld sw (Rect.unit (s := S2x128) ![0, 0] S1x128.size inb_S2x128_S1x128_0_0)) (View.ld sw (Rect.unit (s := S2x128) ![1, 0] S1x128.size inb_S2x128_S1x128_1_0)) (View.ld sw (Rect.unit (s := S2x128) ![0, 0] S1x128.size inb_S2x128_S1x128_0_0)))
    (k4_pay3 ex sg ps (View.ld sw (Rect.unit (s := S2x128) ![0, 0] S1x128.size inb_S2x128_S1x128_0_0)) (View.ld sw (Rect.unit (s := S2x128) ![1, 0] S1x128.size inb_S2x128_S1x128_1_0)) (View.ld sw (Rect.unit (s := S2x128) ![0, 0] S1x128.size inb_S2x128_S1x128_0_0)))
    g b

/-- Memref `M`'s buffer on core `c`, held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem unit_zero_idx {s : Shape} (off : Fin s.rank → Nat) (h0 : off = fun _ => 0) (h) (x) :
    (Rect.unit (s := s) off s.size h).emb x = x := by
  subst h0; funext a; apply Fin.ext; show 0 + 1 * (x a).val = (x a).val; omega

theorem ld_whole {Val : EltTy → Type} {e : EltTy} {s : Shape} (off : Fin s.rank → Nat) (h0 : off = fun _ => 0) (h) (X : s.Idx → Val e) :
    View.ld (Val := Val) (e' := e) X (Rect.unit (s := s) off s.size h) = X := by
  funext x; exact congrArg X (unit_zero_idx off h0 h x)

/-- The body's run: from the seven staging buffers held whole it returns them, the first six as they were and the
    seventh reading the layer norm of what the others read. -/
theorem ln_run (c : Dev nD) (i : grid4.Coords) (M0 : Memref sig .tc .vmem S32x200x128 .f32) (h0 : M0.IsWhole) (M1 : Memref sig .tc .vmem S32x200 .bf16) (h1 : M1.IsWhole) (M2 : Memref sig .tc .vmem S200x128 .bf16) (h2 : M2.IsWhole) (M3 : Memref sig .tc .vmem S2x128 .bf16) (h3 : M3.IsWhole) (M4 : Memref sig .tc .vmem S1x128 .bf16) (h4 : M4.IsWhole) (M5 : Memref sig .tc .vmem S1x128 .bf16) (h5 : M5.IsWhole) (M6 : Memref sig .tc .vmem S32x200x128 .f32) (h6 : M6.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6)
    (Q : PUnit → sProp 𝕄) :
    (iprop(pt c M0 f0 ∗ pt c M1 f1 ∗ pt c M2 f2 ∗ pt c M3 f3 ∗ pt c M4 f4 ∗ pt c M5 f5 ∗ pt c M6 f6
      ∗ (∀ W : Bf (F := F) c M6, iprop(⌜M6.view.read (Elt F) W = lnOut (M0.view.read (Elt F) f0) (M1.view.read (Elt F) f1) (M2.view.read (Elt F) f2) (M3.view.read (Elt F) f3) (M4.view.read (Elt F) f4) (M5.view.read (Elt F) f5)⌝
        ∗ pt c M0 f0 ∗ pt c M1 f1 ∗ pt c M2 f2 ∗ pt c M3 f3 ∗ pt c M4 f4 ∗ pt c M5 f5 ∗ pt c M6 W) -∗ Q ⟨⟩)) : sProp 𝕄)
      ⊢ wp frame (wpE (defs₀ (F := F)) 𝒱₀ (c : Thread nD τ) none) Set.univ (cc4__ln_body_first i M0 h0 M1 h1 M2 h2 M3 h3 M4 h4 M5 h5 M6 h6) Q := by
  rw [cc4__ln_body_first_eq_skeleton]
  unfold cc4__ln_body_first_skel
  rw [k4_part1_eq_skeleton]
  unfold k4_part1_skel
  iintro ⟨H0, H1, H2, H3, H4, H5, H6, Hk⟩
  sl_exec!
  sl_step
  iapply Hk $$ %_
  isplitr
  rotate_left
  · isplitl [H0]; · iexact H0
    isplitl [H1]; · iexact H1
    isplitl [H2]; · iexact H2
    isplitl [H3]; · iexact H3
    isplitl [H4]; · iexact H4
    isplitl [H5]; · iexact H5
    iexact H6
  · ipureintro
    rw [View.read_writes_junk_eq_canon]
    funext y
    rw [← unit_zero_idx (s := S32x200x128) ![0, 0, 0] (by decide) inb_S32x200x128_S32x200x128_0_0_0 y]
    unfold ln_run.sl.H6_1
    rw [View.canon_cons_emb]
    rw [unit_zero_idx (s := S32x200x128) ![0, 0, 0] (by decide)]
    unfold lnOut
    rw [View.readAt_eq_ld, View.readAt_eq_ld, View.readAt_eq_ld, View.readAt_eq_ld, View.readAt_eq_ld, View.readAt_eq_ld, View.readAt_eq_ld,
      ld_whole _ (by decide), ld_whole _ (by decide), ld_whole _ (by decide), ld_whole _ (by decide), ld_whole _ (by decide)]

/-- A whole memref covers its buffer. -/
theorem whole_univ {sp : Space} {S : Shape} {e : EltTy} {M : Memref sig .tc sp S e} (h : M.IsWhole) : M.view.set = Finset.univ := by
  obtain ⟨b, rfl, rfl, rfl, hm⟩ := h; cases hm
  simp only [Memref.view_whole, View.set_whole]

/-- The body at a point: from the six operand buffers reading their blocks and the result buffer, to the same and
    the result buffer reading the layer norm of the blocks; whatever else is held rides along. -/
theorem ln_point (c : Dev nD) (i : grid4.Coords) (M0 : Memref sig .tc .vmem S32x200x128 .f32) (h0 : M0.IsWhole) (M1 : Memref sig .tc .vmem S32x200 .bf16) (h1 : M1.IsWhole) (M2 : Memref sig .tc .vmem S200x128 .bf16) (h2 : M2.IsWhole) (M3 : Memref sig .tc .vmem S2x128 .bf16) (h3 : M3.IsWhole) (M4 : Memref sig .tc .vmem S1x128 .bf16) (h4 : M4.IsWhole) (M5 : Memref sig .tc .vmem S1x128 .bf16) (h5 : M5.IsWhole) (M6 : Memref sig .tc .vmem S32x200x128 .f32) (h6 : M6.IsWhole)
    (X0 : S32x200x128.Idx → Elt F .f32) (X1 : S32x200.Idx → Elt F .bf16) (X2 : S200x128.Idx → Elt F .bf16) (X3 : S2x128.Idx → Elt F .bf16)
    (X4 X5 : S1x128.Idx → Elt F .bf16) (X6 : S32x200x128.Idx → Elt F .f32) (A B : sProp 𝕄) :
    (iprop(A ∗ B ∗ owns (c : Thread nD τ) M0 fullShare X0 ∗ owns (c : Thread nD τ) M1 fullShare X1 ∗ owns (c : Thread nD τ) M2 fullShare X2
      ∗ owns (c : Thread nD τ) M3 fullShare X3 ∗ owns (c : Thread nD τ) M4 fullShare X4 ∗ owns (c : Thread nD τ) M5 fullShare X5 ∗ owns (c : Thread nD τ) M6 fullShare X6) : sProp 𝕄)
      ⊢ wp frame (wpE (defs₀ (F := F)) 𝒱₀ (c : Thread nD τ) none) Set.univ (cc4__ln_body_first i M0 h0 M1 h1 M2 h2 M3 h3 M4 h4 M5 h5 M6 h6)
        fun _ => (iprop(A ∗ B ∗ owns (c : Thread nD τ) M0 fullShare X0 ∗ owns (c : Thread nD τ) M1 fullShare X1 ∗ owns (c : Thread nD τ) M2 fullShare X2
          ∗ owns (c : Thread nD τ) M3 fullShare X3 ∗ owns (c : Thread nD τ) M4 fullShare X4 ∗ owns (c : Thread nD τ) M5 fullShare X5
          ∗ owns (c : Thread nD τ) M6 fullShare (lnOut X0 X1 X2 X3 X4 X5)) : sProp 𝕄) := by
  unfold owns
  rw [whole_univ h0, whole_univ h1, whole_univ h2, whole_univ h3, whole_univ h4, whole_univ h5, whole_univ h6]
  iintro ⟨HA, HB, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩⟩
  iapply (ln_run c i M0 h0 M1 h1 M2 h2 M3 h3 M4 h4 M5 h5 M6 h6 f0 f1 f2 f3 f4 f5 f6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro %W ⟨%hW, H0, H1, H2, H3, H4, H5, H6⟩
  rw [e0, e1, e2, e3, e4, e5] at hW
  isplitl [HA]; · iexact HA
  isplitl [HB]; · iexact HB
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  iexists W; isplitr; · ipureintro; exact hW
  iexact H6

/-- The bodies of the three later calls are that body: the operand they overwrite in place they do not read. -/
theorem body5_eq (i : grid5.Coords) (A : Memref sig .tc .hbm S1024x200x128 .f32) (hA : A.IsWhole) (M0 : Memref sig .tc .vmem S32x200x128 .f32) (h0 : M0.IsWhole) (M1 : Memref sig .tc .vmem S32x200 .bf16) (h1 : M1.IsWhole) (M2 : Memref sig .tc .vmem S200x128 .bf16) (h2 : M2.IsWhole) (M3 : Memref sig .tc .vmem S2x128 .bf16) (h3 : M3.IsWhole) (M4 : Memref sig .tc .vmem S1x128 .bf16) (h4 : M4.IsWhole) (M5 : Memref sig .tc .vmem S1x128 .bf16) (h5 : M5.IsWhole) (M6 : Memref sig .tc .vmem S32x200x128 .f32) (h6 : M6.IsWhole) :
    cc5__ln_body_chain (F := F) i A hA M0 h0 M1 h1 M2 h2 M3 h3 M4 h4 M5 h5 M6 h6 = cc4__ln_body_first (F := F) i M0 h0 M1 h1 M2 h2 M3 h3 M4 h4 M5 h5 M6 h6 := rfl
theorem body6_eq (i : grid6.Coords) (A : Memref sig .tc .hbm S1024x200x128 .f32) (hA : A.IsWhole) (M0 : Memref sig .tc .vmem S32x200x128 .f32) (h0 : M0.IsWhole) (M1 : Memref sig .tc .vmem S32x200 .bf16) (h1 : M1.IsWhole) (M2 : Memref sig .tc .vmem S200x128 .bf16) (h2 : M2.IsWhole) (M3 : Memref sig .tc .vmem S2x128 .bf16) (h3 : M3.IsWhole) (M4 : Memref sig .tc .vmem S1x128 .bf16) (h4 : M4.IsWhole) (M5 : Memref sig .tc .vmem S1x128 .bf16) (h5 : M5.IsWhole) (M6 : Memref sig .tc .vmem S32x200x128 .f32) (h6 : M6.IsWhole) :
    cc6__ln_body_chain (F := F) i A hA M0 h0 M1 h1 M2 h2 M3 h3 M4 h4 M5 h5 M6 h6 = cc4__ln_body_first (F := F) i M0 h0 M1 h1 M2 h2 M3 h3 M4 h4 M5 h5 M6 h6 := rfl
theorem body7_eq (i : grid7.Coords) (A : Memref sig .tc .hbm S1024x200x128 .f32) (hA : A.IsWhole) (M0 : Memref sig .tc .vmem S32x200x128 .f32) (h0 : M0.IsWhole) (M1 : Memref sig .tc .vmem S32x200 .bf16) (h1 : M1.IsWhole) (M2 : Memref sig .tc .vmem S200x128 .bf16) (h2 : M2.IsWhole) (M3 : Memref sig .tc .vmem S2x128 .bf16) (h3 : M3.IsWhole) (M4 : Memref sig .tc .vmem S1x128 .bf16) (h4 : M4.IsWhole) (M5 : Memref sig .tc .vmem S1x128 .bf16) (h5 : M5.IsWhole) (M6 : Memref sig .tc .vmem S32x200x128 .f32) (h6 : M6.IsWhole) :
    cc7__ln_body_chain (F := F) i A hA M0 h0 M1 h1 M2 h2 M3 h3 M4 h4 M5 h5 M6 h6 = cc4__ln_body_first (F := F) i M0 h0 M1 h1 M2 h2 M3 h3 M4 h4 M5 h5 M6 h6 := rfl

end Cert.Proof.Gather
-- ==== Proof.Reg.lean ====
/-
  The four TensorCore calls as pipelines: what each holds in its staging buffers at each of its eight points, and
  its body's run there.
-/
module

public import proofs.«01_k».proof.Proof.LnBody

@[expose] public section

noncomputable section

namespace Cert.Proof.Gather

open Cert.KernelIdeal Cert.KernelIdeal.Gen
open Idealize.ShloMosaic
open Idealize.ShloMosaic.TcCoe
open Idealize.ShloMosaic.SparseCore (S T)
open Idealize.ShloMosaic.Pipeline (Dat Cfg Window BodyObligation cellOf)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]
variable (V : (c : Dev nD) → (b : Ref sig .tc) → Buf (Elt F) ((c : Thread nD τ).loc b))

/-- The waits the TensorCore may have recorded when the calls begin. -/
def recd (c : Dev nD) : Set (SemLoc sig × HIx 4) := {p | (K (F := F)).lev (T c, p.1) p.2 ≤ 8 * 4}

/-! ## Call 4 -/

/-- The scoped buffers call 4 does not stage. -/
abbrev Φ4 (c : Dev nD) : sProp 𝕄 := Pipeline.scopedRest (Ix := HIx 4) (Name := ℕ) (U := UU) (Lvl := ℕ) (Val := Elt F) spec4 c

/-- Window `w`'s block at point `t` of what the arrays hold. -/
abbrev rd4 (c : Dev nD) (t : Fin cfg4.N) (w : Fin 7) := ((cfg4.win w).blk t).view.read (Elt F) (V c (Pipeline.arrRef spec4 w))

/-- Call 4's proof data: the operand windows keep their blocks, the result window is left at the layer norm of them. -/
def dat4 (c : Dev nD) : Dat τ (Elt F) (HIx 4) ℕ UU ℕ cfg4 c where
  A w := V c (Pipeline.arrRef spec4 w)
  after w t := match w with
    | ⟨0, _⟩ => rd4 V c t 0
    | ⟨1, _⟩ => rd4 V c t 1
    | ⟨2, _⟩ => rd4 V c t 2
    | ⟨3, _⟩ => rd4 V c t 3
    | ⟨4, _⟩ => rd4 V c t 4
    | ⟨5, _⟩ => rd4 V c t 5
    | ⟨6, _⟩ => lnOut (rd4 V c t 0) (rd4 V c t 1) (rd4 V c t 2) (rd4 V c t 3) (rd4 V c t 4) (rd4 V c t 5)
  Φ _ := Φ4 c
  q _ := fullShare
  owed _ := 0
  recorded _ := recd (F := F) c

theorem before4_0 (c : Dev nD) (t : Fin cfg4.N) (d : (cfg4.win 0).block.Idx → Elt F (cfg4.win 0).elt) : (dat4 V c).before 0 t d = rd4 V c t 0 :=
  (dat4 V c).before_in_eq_fetched 0 rfl (fun _ => rfl) (fun _ _ _ => rfl) (fun _ => rfl) t d
theorem before4_1 (c : Dev nD) (t : Fin cfg4.N) (d : (cfg4.win 1).block.Idx → Elt F (cfg4.win 1).elt) : (dat4 V c).before 1 t d = rd4 V c t 1 :=
  (dat4 V c).before_in_eq_fetched 1 rfl (fun _ => rfl) (fun _ _ _ => rfl) (fun _ => rfl) t d
theorem before4_2 (c : Dev nD) (t : Fin cfg4.N) (d : (cfg4.win 2).block.Idx → Elt F (cfg4.win 2).elt) : (dat4 V c).before 2 t d = rd4 V c t 2 :=
  (dat4 V c).before_in_eq_fetched 2 rfl (fun _ => rfl) (fun _ _ _ => rfl) (fun _ => rfl) t d
theorem before4_3 (c : Dev nD) (t : Fin cfg4.N) (d : (cfg4.win 3).block.Idx → Elt F (cfg4.win 3).elt) : (dat4 V c).before 3 t d = rd4 V c t 3 :=
  (dat4 V c).before_in_eq_fetched 3 rfl (fun _ => rfl) (fun _ _ _ => rfl) (fun _ => rfl) t d
theorem before4_4 (c : Dev nD) (t : Fin cfg4.N) (d : (cfg4.win 4).block.Idx → Elt F (cfg4.win 4).elt) : (dat4 V c).before 4 t d = rd4 V c t 4 :=
  (dat4 V c).before_in_eq_fetched 4 rfl (fun _ => rfl) (fun _ _ _ => rfl) (fun _ => rfl) t d
theorem before4_5 (c : Dev nD) (t : Fin cfg4.N) (d : (cfg4.win 5).block.Idx → Elt F (cfg4.win 5).elt) : (dat4 V c).before 5 t d = rd4 V c t 5 :=
  (dat4 V c).before_in_eq_fetched 5 rfl (fun _ => rfl) (fun _ _ _ => rfl) (fun _ => rfl) t d

/-- Call 4's body at each point. -/
theorem body_obligation4 (c : Dev nD) : BodyObligation (dat4 V c) (defs₀ (F := F)) 𝒱₀ none Set.univ := fun t => by
  rw [bigSep_W4, bigSep_W4]
  rw [show (dat4 V c).Φ t.castSucc = Φ4 c from rfl, show (dat4 V c).Φ t.succ = Φ4 c from rfl,
    show (dat4 V c).owesAt none t.succ = (dat4 V c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  have h := ln_point (F := F) c (grid4.coords t) _ (hstage4_0 ((cfg4.slots t 0).cast nbuf4_0)) _ (hstage4_1 ((cfg4.slots t 1).cast nbuf4_1))
    _ (hstage4_2 ((cfg4.slots t 2).cast nbuf4_2)) _ (hstage4_3 ((cfg4.slots t 3).cast nbuf4_3)) _ (hstage4_4 ((cfg4.slots t 4).cast nbuf4_4))
    _ (hstage4_5 ((cfg4.slots t 5).cast nbuf4_5)) _ (hstage4_6 ((cfg4.slots t 6).cast nbuf4_6))
    (rd4 V c t 0) (rd4 V c t 1) (rd4 V c t 2) (rd4 V c t 3) (rd4 V c t 4) (rd4 V c t 5) ((dat4 V c).before 6 t d6) (Φ4 c) ((dat4 V c).owesAt none t.castSucc)
  rw [before4_0 V c t d0, before4_1 V c t d1, before4_2 V c t d2, before4_3 V c t d3, before4_4 V c t d4, before4_5 V c t d5]
  iapply h
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

/-! ## Call 5 -/

/-- The scoped buffers call 5 does not stage. -/
abbrev Φ5 (c : Dev nD) : sProp 𝕄 := Pipeline.scopedRest (Ix := HIx 4) (Name := ℕ) (U := UU) (Lvl := ℕ) (Val := Elt F) spec5 c

/-- Window `w`'s block at point `t` of what the arrays hold. -/
abbrev rd5 (c : Dev nD) (t : Fin cfg5.N) (w : Fin 7) := ((cfg5.win w).blk t).view.read (Elt F) (V c (Pipeline.arrRef spec5 w))

/-- Call 5's proof data: the operand windows keep their blocks, the result window is left at the layer norm of them. -/
def dat5 (c : Dev nD) : Dat τ (Elt F) (HIx 4) ℕ UU ℕ cfg5 c where
  A w := V c (Pipeline.arrRef spec5 w)
  after w t := match w with
    | ⟨0, _⟩ => rd5 V c t 0
    | ⟨1, _⟩ => rd5 V c t 1
    | ⟨2, _⟩ => rd5 V c t 2
    | ⟨3, _⟩ => rd5 V c t 3
    | ⟨4, _⟩ => rd5 V c t 4
    | ⟨5, _⟩ => rd5 V c t 5
    | ⟨6, _⟩ => lnOut (rd5 V c t 0) (rd5 V c t 1) (rd5 V c t 2) (rd5 V c t 3) (rd5 V c t 4) (rd5 V c t 5)
  Φ _ := Φ5 c
  q _ := fullShare
  owed _ := 0
  recorded _ := recd (F := F) c

theorem before5_0 (c : Dev nD) (t : Fin cfg5.N) (d : (cfg5.win 0).block.Idx → Elt F (cfg5.win 0).elt) : (dat5 V c).before 0 t d = rd5 V c t 0 :=
  (dat5 V c).before_in_eq_fetched 0 rfl (fun _ => rfl) (fun _ _ _ => rfl) (fun _ => rfl) t d
theorem before5_1 (c : Dev nD) (t : Fin cfg5.N) (d : (cfg5.win 1).block.Idx → Elt F (cfg5.win 1).elt) : (dat5 V c).before 1 t d = rd5 V c t 1 :=
  (dat5 V c).before_in_eq_fetched 1 rfl (fun _ => rfl) (fun _ _ _ => rfl) (fun _ => rfl) t d
theorem before5_2 (c : Dev nD) (t : Fin cfg5.N) (d : (cfg5.win 2).block.Idx → Elt F (cfg5.win 2).elt) : (dat5 V c).before 2 t d = rd5 V c t 2 :=
  (dat5 V c).before_in_eq_fetched 2 rfl (fun _ => rfl) (fun _ _ _ => rfl) (fun _ => rfl) t d
theorem before5_3 (c : Dev nD) (t : Fin cfg5.N) (d : (cfg5.win 3).block.Idx → Elt F (cfg5.win 3).elt) : (dat5 V c).before 3 t d = rd5 V c t 3 :=
  (dat5 V c).before_in_eq_fetched 3 rfl (fun _ => rfl) (fun _ _ _ => rfl) (fun _ => rfl) t d
theorem before5_4 (c : Dev nD) (t : Fin cfg5.N) (d : (cfg5.win 4).block.Idx → Elt F (cfg5.win 4).elt) : (dat5 V c).before 4 t d = rd5 V c t 4 :=
  (dat5 V c).before_in_eq_fetched 4 rfl (fun _ => rfl) (fun _ _ _ => rfl) (fun _ => rfl) t d
theorem before5_5 (c : Dev nD) (t : Fin cfg5.N) (d : (cfg5.win 5).block.Idx → Elt F (cfg5.win 5).elt) : (dat5 V c).before 5 t d = rd5 V c t 5 :=
  (dat5 V c).before_in_eq_fetched 5 rfl (fun _ => rfl) (fun _ _ _ => rfl) (fun _ => rfl) t d

/-- Call 5's body at each point. -/
theorem body_obligation5 (c : Dev nD) : BodyObligation (dat5 V c) (defs₀ (F := F)) 𝒱₀ none Set.univ := fun t => by
  rw [bigSep_W5, bigSep_W5]
  rw [show (dat5 V c).Φ t.castSucc = Φ5 c from rfl, show (dat5 V c).Φ t.succ = Φ5 c from rfl,
    show (dat5 V c).owesAt none t.succ = (dat5 V c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  have h := ln_point (F := F) c (grid5.coords t) _ (hstage5_0 ((cfg5.slots t 0).cast nbuf5_0)) _ (hstage5_1 ((cfg5.slots t 1).cast nbuf5_1))
    _ (hstage5_2 ((cfg5.slots t 2).cast nbuf5_2)) _ (hstage5_3 ((cfg5.slots t 3).cast nbuf5_3)) _ (hstage5_4 ((cfg5.slots t 4).cast nbuf5_4))
    _ (hstage5_5 ((cfg5.slots t 5).cast nbuf5_5)) _ (hstage5_6 ((cfg5.slots t 6).cast nbuf5_6))
    (rd5 V c t 0) (rd5 V c t 1) (rd5 V c t 2) (rd5 V c t 3) (rd5 V c t 4) (rd5 V c t 5) ((dat5 V c).before 6 t d6) (Φ5 c) ((dat5 V c).owesAt none t.castSucc)
  rw [before5_0 V c t d0, before5_1 V c t d1, before5_2 V c t d2, before5_3 V c t d3, before5_4 V c t d4, before5_5 V c t d5]
  iapply h
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

/-! ## Call 6 -/

/-- The scoped buffers call 6 does not stage. -/
abbrev Φ6 (c : Dev nD) : sProp 𝕄 := Pipeline.scopedRest (Ix := HIx 4) (Name := ℕ) (U := UU) (Lvl := ℕ) (Val := Elt F) spec6 c

/-- Window `w`'s block at point `t` of what the arrays hold. -/
abbrev rd6 (c : Dev nD) (t : Fin cfg6.N) (w : Fin 7) := ((cfg6.win w).blk t).view.read (Elt F) (V c (Pipeline.arrRef spec6 w))

/-- Call 6's proof data: the operand windows keep their blocks, the result window is left at the layer norm of them. -/
def dat6 (c : Dev nD) : Dat τ (Elt F) (HIx 4) ℕ UU ℕ cfg6 c where
  A w := V c (Pipeline.arrRef spec6 w)
  after w t := match w with
    | ⟨0, _⟩ => rd6 V c t 0
    | ⟨1, _⟩ => rd6 V c t 1
    | ⟨2, _⟩ => rd6 V c t 2
    | ⟨3, _⟩ => rd6 V c t 3
    | ⟨4, _⟩ => rd6 V c t 4
    | ⟨5, _⟩ => rd6 V c t 5
    | ⟨6, _⟩ => lnOut (rd6 V c t 0) (rd6 V c t 1) (rd6 V c t 2) (rd6 V c t 3) (rd6 V c t 4) (rd6 V c t 5)
  Φ _ := Φ6 c
  q _ := fullShare
  owed _ := 0
  recorded _ := recd (F := F) c

theorem before6_0 (c : Dev nD) (t : Fin cfg6.N) (d : (cfg6.win 0).block.Idx → Elt F (cfg6.win 0).elt) : (dat6 V c).before 0 t d = rd6 V c t 0 :=
  (dat6 V c).before_in_eq_fetched 0 rfl (fun _ => rfl) (fun _ _ _ => rfl) (fun _ => rfl) t d
theorem before6_1 (c : Dev nD) (t : Fin cfg6.N) (d : (cfg6.win 1).block.Idx → Elt F (cfg6.win 1).elt) : (dat6 V c).before 1 t d = rd6 V c t 1 :=
  (dat6 V c).before_in_eq_fetched 1 rfl (fun _ => rfl) (fun _ _ _ => rfl) (fun _ => rfl) t d
theorem before6_2 (c : Dev nD) (t : Fin cfg6.N) (d : (cfg6.win 2).block.Idx → Elt F (cfg6.win 2).elt) : (dat6 V c).before 2 t d = rd6 V c t 2 :=
  (dat6 V c).before_in_eq_fetched 2 rfl (fun _ => rfl) (fun _ _ _ => rfl) (fun _ => rfl) t d
theorem before6_3 (c : Dev nD) (t : Fin cfg6.N) (d : (cfg6.win 3).block.Idx → Elt F (cfg6.win 3).elt) : (dat6 V c).before 3 t d = rd6 V c t 3 :=
  (dat6 V c).before_in_eq_fetched 3 rfl (fun _ => rfl) (fun _ _ _ => rfl) (fun _ => rfl) t d
theorem before6_4 (c : Dev nD) (t : Fin cfg6.N) (d : (cfg6.win 4).block.Idx → Elt F (cfg6.win 4).elt) : (dat6 V c).before 4 t d = rd6 V c t 4 :=
  (dat6 V c).before_in_eq_fetched 4 rfl (fun _ => rfl) (fun _ _ _ => rfl) (fun _ => rfl) t d
theorem before6_5 (c : Dev nD) (t : Fin cfg6.N) (d : (cfg6.win 5).block.Idx → Elt F (cfg6.win 5).elt) : (dat6 V c).before 5 t d = rd6 V c t 5 :=
  (dat6 V c).before_in_eq_fetched 5 rfl (fun _ => rfl) (fun _ _ _ => rfl) (fun _ => rfl) t d

/-- Call 6's body at each point. -/
theorem body_obligation6 (c : Dev nD) : BodyObligation (dat6 V c) (defs₀ (F := F)) 𝒱₀ none Set.univ := fun t => by
  rw [bigSep_W6, bigSep_W6]
  rw [show (dat6 V c).Φ t.castSucc = Φ6 c from rfl, show (dat6 V c).Φ t.succ = Φ6 c from rfl,
    show (dat6 V c).owesAt none t.succ = (dat6 V c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  have h := ln_point (F := F) c (grid6.coords t) _ (hstage6_0 ((cfg6.slots t 0).cast nbuf6_0)) _ (hstage6_1 ((cfg6.slots t 1).cast nbuf6_1))
    _ (hstage6_2 ((cfg6.slots t 2).cast nbuf6_2)) _ (hstage6_3 ((cfg6.slots t 3).cast nbuf6_3)) _ (hstage6_4 ((cfg6.slots t 4).cast nbuf6_4))
    _ (hstage6_5 ((cfg6.slots t 5).cast nbuf6_5)) _ (hstage6_6 ((cfg6.slots t 6).cast nbuf6_6))
    (rd6 V c t 0) (rd6 V c t 1) (rd6 V c t 2) (rd6 V c t 3) (rd6 V c t 4) (rd6 V c t 5) ((dat6 V c).before 6 t d6) (Φ6 c) ((dat6 V c).owesAt none t.castSucc)
  rw [before6_0 V c t d0, before6_1 V c t d1, before6_2 V c t d2, before6_3 V c t d3, before6_4 V c t d4, before6_5 V c t d5]
  iapply h
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

/-! ## Call 7 -/

/-- The scoped buffers call 7 does not stage. -/
abbrev Φ7 (c : Dev nD) : sProp 𝕄 := Pipeline.scopedRest (Ix := HIx 4) (Name := ℕ) (U := UU) (Lvl := ℕ) (Val := Elt F) spec7 c

/-- Window `w`'s block at point `t` of what the arrays hold. -/
abbrev rd7 (c : Dev nD) (t : Fin cfg7.N) (w : Fin 7) := ((cfg7.win w).blk t).view.read (Elt F) (V c (Pipeline.arrRef spec7 w))

/-- Call 7's proof data: the operand windows keep their blocks, the result window is left at the layer norm of them. -/
def dat7 (c : Dev nD) : Dat τ (Elt F) (HIx 4) ℕ UU ℕ cfg7 c where
  A w := V c (Pipeline.arrRef spec7 w)
  after w t := match w with
    | ⟨0, _⟩ => rd7 V c t 0
    | ⟨1, _⟩ => rd7 V c t 1
    | ⟨2, _⟩ => rd7 V c t 2
    | ⟨3, _⟩ => rd7 V c t 3
    | ⟨4, _⟩ => rd7 V c t 4
    | ⟨5, _⟩ => rd7 V c t 5
    | ⟨6, _⟩ => lnOut (rd7 V c t 0) (rd7 V c t 1) (rd7 V c t 2) (rd7 V c t 3) (rd7 V c t 4) (rd7 V c t 5)
  Φ _ := Φ7 c
  q _ := fullShare
  owed _ := 0
  recorded _ := recd (F := F) c

theorem before7_0 (c : Dev nD) (t : Fin cfg7.N) (d : (cfg7.win 0).block.Idx → Elt F (cfg7.win 0).elt) : (dat7 V c).before 0 t d = rd7 V c t 0 :=
  (dat7 V c).before_in_eq_fetched 0 rfl (fun _ => rfl) (fun _ _ _ => rfl) (fun _ => rfl) t d
theorem before7_1 (c : Dev nD) (t : Fin cfg7.N) (d : (cfg7.win 1).block.Idx → Elt F (cfg7.win 1).elt) : (dat7 V c).before 1 t d = rd7 V c t 1 :=
  (dat7 V c).before_in_eq_fetched 1 rfl (fun _ => rfl) (fun _ _ _ => rfl) (fun _ => rfl) t d
theorem before7_2 (c : Dev nD) (t : Fin cfg7.N) (d : (cfg7.win 2).block.Idx → Elt F (cfg7.win 2).elt) : (dat7 V c).before 2 t d = rd7 V c t 2 :=
  (dat7 V c).before_in_eq_fetched 2 rfl (fun _ => rfl) (fun _ _ _ => rfl) (fun _ => rfl) t d
theorem before7_3 (c : Dev nD) (t : Fin cfg7.N) (d : (cfg7.win 3).block.Idx → Elt F (cfg7.win 3).elt) : (dat7 V c).before 3 t d = rd7 V c t 3 :=
  (dat7 V c).before_in_eq_fetched 3 rfl (fun _ => rfl) (fun _ _ _ => rfl) (fun _ => rfl) t d
theorem before7_4 (c : Dev nD) (t : Fin cfg7.N) (d : (cfg7.win 4).block.Idx → Elt F (cfg7.win 4).elt) : (dat7 V c).before 4 t d = rd7 V c t 4 :=
  (dat7 V c).before_in_eq_fetched 4 rfl (fun _ => rfl) (fun _ _ _ => rfl) (fun _ => rfl) t d
theorem before7_5 (c : Dev nD) (t : Fin cfg7.N) (d : (cfg7.win 5).block.Idx → Elt F (cfg7.win 5).elt) : (dat7 V c).before 5 t d = rd7 V c t 5 :=
  (dat7 V c).before_in_eq_fetched 5 rfl (fun _ => rfl) (fun _ _ _ => rfl) (fun _ => rfl) t d

/-- Call 7's body at each point. -/
theorem body_obligation7 (c : Dev nD) : BodyObligation (dat7 V c) (defs₀ (F := F)) 𝒱₀ none Set.univ := fun t => by
  rw [bigSep_W7, bigSep_W7]
  rw [show (dat7 V c).Φ t.castSucc = Φ7 c from rfl, show (dat7 V c).Φ t.succ = Φ7 c from rfl,
    show (dat7 V c).owesAt none t.succ = (dat7 V c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  have h := ln_point (F := F) c (grid7.coords t) _ (hstage7_0 ((cfg7.slots t 0).cast nbuf7_0)) _ (hstage7_1 ((cfg7.slots t 1).cast nbuf7_1))
    _ (hstage7_2 ((cfg7.slots t 2).cast nbuf7_2)) _ (hstage7_3 ((cfg7.slots t 3).cast nbuf7_3)) _ (hstage7_4 ((cfg7.slots t 4).cast nbuf7_4))
    _ (hstage7_5 ((cfg7.slots t 5).cast nbuf7_5)) _ (hstage7_6 ((cfg7.slots t 6).cast nbuf7_6))
    (rd7 V c t 0) (rd7 V c t 1) (rd7 V c t 2) (rd7 V c t 3) (rd7 V c t 4) (rd7 V c t 5) ((dat7 V c).before 6 t d6) (Φ7 c) ((dat7 V c).owesAt none t.castSucc)
  rw [before7_0 V c t d0, before7_1 V c t d1, before7_2 V c t d2, before7_3 V c t d3, before7_4 V c t d4, before7_5 V c t d5]
  iapply h
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

end Cert.Proof.Gather
-- ==== Proof.Seg.lean ====
/-
  One TensorCore call as a step of the launch's @main: entered from every unscoped buffer held at a valuation, left
  with the call's result array at what its eight write-backs left and every other buffer as it was.
-/
module

public import proofs.«01_k».proof.Proof.Reg
public import Idealize.ShloMosaic.Lib.Pipeline.RegionsLoop

@[expose] public section

noncomputable section

namespace Cert.Proof.Gather

open Cert.KernelIdeal Cert.KernelIdeal.Gen
open Idealize.ShloMosaic
open Idealize.ShloMosaic.TcCoe
open Idealize.ShloMosaic.SparseCore (S T)
open Idealize.ShloMosaic.Pipeline (Dat Cfg Window BodyObligation cellOf)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]
variable (V : (c : Dev nD) → (b : Ref sig .tc) → Buf (Elt F) ((c : Thread nD τ).loc b))

/-- No call has a prefetched table. -/
abbrev adm : (p : Fin 4) → (pcfgs (F := F) p).Adm := fun p => (cfgs p).toPCfg_adm

/-- The four calls' proof data at one valuation. -/
def pdats : (p : Fin 4) → (c : Dev nD) → Dat τ (Elt F) (HIx 4) ℕ UU ℕ (Pipeline.pin (pcfgs (F := F)) adm p) c
  | ⟨0, _⟩ => fun c => dat4 V c
  | ⟨1, _⟩ => fun c => dat5 V c
  | ⟨2, _⟩ => fun c => dat6 V c
  | ⟨3, _⟩ => fun c => dat7 V c

theorem launchP : (p : Fin 4) → Pipeline.LaunchFacts (nD := nD) (τ := τ) cfgs p
  | ⟨0, _⟩ => launch4
  | ⟨1, _⟩ => launch5
  | ⟨2, _⟩ => launch6
  | ⟨3, _⟩ => launch7

theorem pd_body : (p : Fin 4) → (c : Dev nD) → BodyObligation (pdats (F := F) V p c) (defs₀ (F := F)) 𝒱₀ none Set.univ
  | ⟨0, _⟩ => fun c => body_obligation4 V c
  | ⟨1, _⟩ => fun c => body_obligation5 V c
  | ⟨2, _⟩ => fun c => body_obligation6 V c
  | ⟨3, _⟩ => fun c => body_obligation7 V c

theorem pd_owed : (p : Fin 4) → (c : Dev nD) → (t : _) → (pdats (F := F) V p c).owed t = 0
  | ⟨0, _⟩ => fun _ _ => rfl
  | ⟨1, _⟩ => fun _ _ => rfl
  | ⟨2, _⟩ => fun _ _ => rfl
  | ⟨3, _⟩ => fun _ _ => rfl

theorem pd_recorded : (p : Fin 4) → (c : Dev nD) → (t : _) → (pdats (F := F) V p c).recorded t = recd (F := F) c
  | ⟨0, _⟩ => fun _ _ => rfl
  | ⟨1, _⟩ => fun _ _ => rfl
  | ⟨2, _⟩ => fun _ _ => rfl
  | ⟨3, _⟩ => fun _ _ => rfl

theorem pd_q : (p : Fin 4) → (c : Dev nD) → (w : _) → (pdats (F := F) V p c).q w = fullShare
  | ⟨0, _⟩ => fun _ _ => rfl
  | ⟨1, _⟩ => fun _ _ => rfl
  | ⟨2, _⟩ => fun _ _ => rfl
  | ⟨3, _⟩ => fun _ _ => rfl

theorem pd_A : (p : Fin 4) → (c : Dev nD) → (w : _) → (pdats (F := F) V p c).A w = V c (Pipeline.arrRef (Pipeline.pin (pcfgs (F := F)) adm p).spec w)
  | ⟨0, _⟩ => fun _ _ => rfl
  | ⟨1, _⟩ => fun _ _ => rfl
  | ⟨2, _⟩ => fun _ _ => rfl
  | ⟨3, _⟩ => fun _ _ => rfl

theorem pd_Φ : (p : Fin 4) → (c : Dev nD) → (t : _) → (pdats (F := F) V p c).Φ t = Pipeline.scopedRest (Pipeline.pin (pcfgs (F := F)) adm p).spec c
  | ⟨0, _⟩ => fun c _ => congrArg (fun s => Pipeline.scopedRest (Ix := HIx 4) (Name := ℕ) (U := UU) (Lvl := ℕ) (Val := Elt F) s c) (rfl : spec4 = (Pipeline.pin (pcfgs (F := F)) adm 0).spec)
  | ⟨1, _⟩ => fun c _ => congrArg (fun s => Pipeline.scopedRest (Ix := HIx 4) (Name := ℕ) (U := UU) (Lvl := ℕ) (Val := Elt F) s c) (rfl : spec5 = (Pipeline.pin (pcfgs (F := F)) adm 1).spec)
  | ⟨2, _⟩ => fun c _ => congrArg (fun s => Pipeline.scopedRest (Ix := HIx 4) (Name := ℕ) (U := UU) (Lvl := ℕ) (Val := Elt F) s c) (rfl : spec6 = (Pipeline.pin (pcfgs (F := F)) adm 2).spec)
  | ⟨3, _⟩ => fun c _ => congrArg (fun s => Pipeline.scopedRest (Ix := HIx 4) (Name := ℕ) (U := UU) (Lvl := ℕ) (Val := Elt F) s c) (rfl : spec7 = (Pipeline.pin (pcfgs (F := F)) adm 3).spec)

/-- What the TensorCore owes once the SparseCore calls are done: nothing, its recorded waits all early. -/
def owesDone (c : Dev nD) : sProp 𝕄 := iprop(∃ W, ⌜(K (F := F)).WBelow (T c) W (8 * 4)⌝ ∗ owes (T c) (0 : CellTallies nD τ sig (HIx 4)) W)

theorem owesAt_of (p : Fin 4) (c : Dev nD) (t) : owesDone (F := F) c ⊢ (pdats (F := F) V p c).owesAt none t := by
  unfold owesDone Pipeline.Dat.owesAt Pipeline.owesWithin Pipeline.Dat.bound
  rw [pd_owed, pd_recorded]
  iintro ⟨%W, %hW, HO⟩
  iexists W
  isplitr
  · ipureintro; exact fun x hx => Or.inl (hW x hx)
  iexact HO

theorem owesAt_to (p : Fin 4) (c : Dev nD) (t) : (pdats (F := F) V p c).owesAt none t ⊢ owesDone (F := F) c := by
  unfold owesDone Pipeline.Dat.owesAt Pipeline.owesWithin Pipeline.Dat.bound
  rw [pd_owed, pd_recorded]
  iintro ⟨%W, %hW, HO⟩
  iexists W
  isplitr
  · ipureintro; intro x hx
    rcases hW hx with h | h
    · exact h
    · obtain ⟨w, s, h⟩ := h
      rw [h]; exact Nat.zero_le _
  iexact HO

variable (Vp : (c : Dev nD) → (b : Ref sig .tc) → Buf (Elt F) ((c : Thread nD τ).loc b))

set_option backward.isDefEq.respectTransparency.types false in
/-- A TensorCore call over the thread state: from any valuation `V` to any `Vp` that has the call's arrays as its
    write-backs leave them and agrees with `V` off them. -/
def reg (p : Fin 4) (hF : ∀ c w, (pdats (F := F) V p c).arrAt w (Pipeline.pin (pcfgs (F := F)) adm p).N = Vp c (Pipeline.arrRef (Pipeline.pin (pcfgs (F := F)) adm p).spec w))
    (hrest : ∀ c b, b ∉ Finset.univ.image (Pipeline.arrRef (Pipeline.pin (pcfgs (F := F)) adm p).spec) → Vp c b = V c b) :
    Pipeline.RegionSeg (pcfgs (F := F)) adm (pdats V) none defs₀ 𝒱₀ (K (F := F)).L (K (F := F)).lev p where
  win := (launchP p).win.to₀
  block_pos := (launchP p).block_pos
  stage_whole := (launchP p).stage_whole
  K := PEmpty
  osem k := k.elim
  ho := Pipeline.OwnSemFacts.none _
  hbody c := (pd_body V p c).loose
  hwaits := Pipeline.hwaits_of_owed_zero _ _ _ _ _ _ p fun _ _ => pd_owed V p _ _
  pre c := iprop(unscopedBufs c (V c) ∗ owesDone (F := F) c)
  post c := iprop(unscopedBufs c (Vp c) ∗ owesDone (F := F) c)
  X _ := BI.emp
  Y _ := BI.emp
  Z c := iprop(Pipeline.unscopedRest (Ix := HIx 4) (Name := ℕ) (U := UU) (Lvl := ℕ) (Pipeline.pin (pcfgs (F := F)) adm p).spec c (V c))
  hentry c := by
    rw [Pipeline.ownSems0_none]
    have hsplit := Pipeline.arrays_of_unscopedBufs (p := p) (pcfgs (F := F)) adm (pdats V) (launchP p).win (launchP p).arr_whole c
      ((pdats V p c).share_full fun w => pd_q V p c w) (V c) fun w => pd_A V p c w
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of V p c 0); iexact HO
    isplitr; · iempintro
    iexact Hrest
  hin c := by
    rw [pd_Φ]
    iintro ⟨-, -, Hr⟩; iexact Hr
  hout c := by
    rw [Pipeline.ownSems0_none, pd_Φ]
    iintro Hr
    isplitr; · iempintro
    isplitr; · iempintro
    iexact Hr
  hexit c := by
    have hjoin := Pipeline.unscopedBufs_of_arrays (p := p) (pcfgs (F := F)) adm (Ix := HIx 4) (Name := ℕ) (U := UU) (Lvl := ℕ) (launchP p).win (launchP p).arr_whole c
      (pdats V) ((pdats V p c).share_full fun w => pd_q V p c w) (V c) (Vp c) ((pdats V p c).arrAt · (Pipeline.pin (pcfgs (F := F)) adm p).N)
      (hF c) (hrest c)
    iintro ⟨Ha, HO, -, Hrest⟩
    imodintro
    isplitl [Ha Hrest]
    · iapply hjoin; isplitl [Ha] <;> iassumption
    iapply (owesAt_to V p c _); iexact HO

/-- The rounds ghost state of the calls' staging cells. -/
abbrev EP : Emb (URounds (GSem nD τ sig) Unit) 𝕄 :=
  (((Emb.inl : Emb UP (UP × Counters)).trans (Emb.inr : Emb (UP × Counters) UU)).trans (uEmb (nD := nD) (sig := sig) (Ix := HIx 4) (Val := Elt F) (Name := ℕ) (U := UU) (Lvl := ℕ)).toEmb)
instance EP_landsIn : (EP (F := F)).LandsIn (upEmb : UEmb _ 𝕄) := by unfold EP; infer_instance

theorem phinj : Function.Injective (Pipeline.cellOf (nD := nD) (τ := τ) (Pipeline.pin (pcfgs (F := F)) adm)) := cellOf_inj

/-- What call `p` takes of the ghost state. -/
abbrev ghost (p : Fin 4) (c : Dev nD) : sProp 𝕄 := iprop(Pipeline.cellsGhost (Pipeline.pin (pcfgs (F := F)) adm) EP p c ∗ Pipeline.toksInit (Pipeline.pin (pcfgs (F := F)) adm) EP p c)

end Cert.Proof.Gather
-- ==== Proof.Trip.lean ====
/-
  A trip of the gather kernel: its three parts, and the trip as one step of the loop's invariant.
-/
module

public import proofs.«01_k».proof.Proof.Steps

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]
variable (q : Fin 4) (d : Dev nD) (i : grid0.Coords)
  (tab : Memref sig .scVector .hbm S100000x128 .f32) (ids : Memref sig .scVector .hbm S1x204800 .i32)
  (out : Memref sig .scVector .hbm S51200x128 .f32) (ib : Memref sig .scVector .vmem S2x1x128 .i32) (is : DmaSems sig S2)
  (ob : Memref sig .scVector .vmem S2x128x128 .f32) (os : DmaSems sig S2) (gs : DmaSems sig S_)
variable (fx : Buf (Elt F) (ids.view.loc (thr d i))) (ft : Buf (Elt F) (tab.view.loc (thr d i))) (qx qt : PosShare TreeShare)
variable {O : CellTallies nD τ sig (HIx 4)} {W : Waits sig (HIx 4)}

/-- One program after another. -/
theorem wpT_bind {α β : Type} (p : TProg (F := F) i α) (k : α → TProg (F := F) i β) (Q : β → sProp 𝕄) :
    wpT (F := F) d i (p >>= k) Q = wpT (F := F) d i p (fun a => wpT (F := F) d i (k a) Q) := wp_bind _ _ _ p k Q
theorem wpT_pure {α : Type} (a : α) (Q : α → sProp 𝕄) :
    wpT (F := F) d i (pure a) Q = iprop(|={Set.univ}[frame]=> Q a) := rfl

/-- A check that holds is passed. -/
theorem assume_step {P : Prop} {dec : Decidable P} (h : P) {Q : PLift P → sProp 𝕄} :
    Q ⟨h⟩ ⊢ wpT (F := F) d i (Prog.lift (TpuEff.assume P dec)) Q := by
  refine BIBase.Entails.trans ?_ (wp_assume 𝒱₀ (thr d i) none Set.univ h)
  exact fupd_intro

/-- What the index slot of the next block holds after the trip's first part. -/
def nextIn (t : ℕ) : sProp 𝕄 :=
  if h : t < cn i then inFly (F := F) q d i ids ib is fx qx t h else inFree (F := F) d i ids ib is fx qx t

/-- The trip's first part: the next block's fetch starts, if there is a next block. -/
theorem part1 (t : Fin (k0_t1_loop i).trips) (h1 : k0_cond1 i = 1#1) {Q : _ → sProp 𝕄} :
    iprop(inFree (F := F) d i ids ib is fx qx (t.val + 1)
        ∗ (nextIn (F := F) q d i ids ib is fx qx (t.val + 1)
          -∗ Q ⟨(chk23_ok i t).1, (chk23_ok i t).2, gchk1_ok q i t, Scf.iv 0#32 1#32 t, Scalar.muli 1#32 (cnt i),
            Scalar.cmpi .eq (Scf.iv 0#32 1#32 t) 0#32, Scalar.cmpi .eq (Scf.iv 0#32 1#32 t) (Scalar.subi (Scalar.muli 1#32 (cnt i)) 1#32),
            Scalar.addi (turn i t).2.2.2.2 (frst i), Scalar.addi (prv i (turn i t).2.2.2.2) (frst i), Scalar.addi (nxt i (turn i t).2.2.2.2) (frst i),
            Scalar.addi (base q) (Scalar.addi (turn i t).2.2.2.2 (frst i)),
            Scalar.addi (base q) (Scalar.addi (nxt i (turn i t).2.2.2.2) (frst i)),
            Scalar.andi (Scalar.andi (Scalar.cmpi .ne (Scalar.addi (base q) (Scalar.addi (turn i t).2.2.2.2 (frst i)))
                (Scalar.addi (base q) (Scalar.addi (nxt i (turn i t).2.2.2.2) (frst i))))
              (Scalar.xori (Scalar.cmpi .sge (Scf.iv 0#32 1#32 t) (Scalar.addi (Scalar.subi (Scalar.muli 1#32 (cnt i)) 2#32) 1#32)) 1#1)) 1#1, 1#32⟩))
      ⊢ wpT (F := F) d i (gpart1 (base q) i ids ib is (cnt i) (frst i) h1 0#32 1#32 t (turn i t).1 (turn i t).2.1 (turn i t).2.2.1
          (turn i t).2.2.2.1 (turn i t).2.2.2.2) Q := by
  have hc := gcond3_eq q i t
  unfold gpart1 nextIn nxt prv
  dsimp only
  iintro ⟨Hf, HQ⟩
  rw [wpT_bind (F := F) d i]; iapply (assume_step (F := F) d i (chk23_ok i t).1)
  rw [wpT_bind (F := F) d i]; iapply (assume_step (F := F) d i (chk23_ok i t).2)
  rw [wpT_bind (F := F) d i]; iapply (assume_step (F := F) d i (gchk1_ok q i t))
  by_cases ht : t.val + 1 < cn i
  · rw [if_pos ht] at hc
    rw [dif_pos hc, dif_pos ht]
    rw [wpT_bind (F := F) d i]
    iapply (in_start (F := F) q d i ids ib is fx qx (t.val + 1) ht _ _ _ (goff5_eq q i t ht) (off46_eq i t ht).1 (off46_eq i t ht).2)
    isplitl [Hf]; · iexact Hf
    iintro Hf
    rw [wpT_pure (F := F) d i]; imodintro
    iapply HQ $$ Hf
  · rw [if_neg ht] at hc
    rw [dif_neg (show ¬gcond3 (base q) i t (turn i t).2.2.2.2 = 1#1 by rw [hc]; decide), dif_neg ht]
    rw [wpT_pure (F := F) d i]; imodintro
    iapply HQ $$ Hf

/-- The trip's second part: the present block's fetch ends, and the gather of its rows starts. -/
theorem part2 (hin : ∀ t h x, (relist (F := F) (idsV q d i ids fx t h) x).toNat < S100000x128.size gathers_S100000x128_S128x128.axis)
    (hN : ∀ t, ∑ j, ((rowS ob t).slice (S128x128.rowRect gathers_S100000x128_S128x128.axis' j)
      (S128x128.stride_rowRect gathers_S100000x128_S128x128.axis' j)).view.dmaCredit = (rowS ob t).view.dmaCredit)
    (t : Fin (k0_t1_loop i).trips) (ht : t.val < cn i) (h1 : k0_cond1 i = 1#1) (hw3) (hw2) (hw1) (arg5 v80 : BitVec 32) (v81 : BitVec 1)
    (v84 v90 v95 v101 : BitVec 32) (v112 : BitVec 1) {Q : _ → sProp 𝕄} :
    iprop(inFly (F := F) q d i ids ib is fx qx t ht ∗ outFree (F := F) d i ob os t
        ∗ (tab.view.loc (thr d i) ↦[tab.view.set]{qt} ft) ∗ semVal (thr d i, SemLoc.dma gs.sem) 0
        ∗ owe (F := F) d i O W ∗ Transfers.MayWaits (thr d i) (default : HIx 4) O
        ∗ (gFly (F := F) q d i tab ids ib is ob os gs fx ft qx qt hin t ht -∗ owe (F := F) d i O W
          -∗ Q ⟨Scalar.select v112 (Scalar.addi (turn i t).1 1#32) (turn i t).1, Scalar.addi (base q) v90⟩))
      ⊢ wpT (F := F) d i (gpart2 (base q) i tab ids ib is ob gs h1 t (turn i t).1 (turn i t).2.1 (turn i t).2.2.1
          (turn i t).2.2.2.1 (turn i t).2.2.2.2 hw3 hw2 hw1 arg5 v80 v81 v84 v90 v95 v101 v112 1#32) Q := by
  unfold gpart2
  dsimp only
  iintro ⟨Hi, Ho, Ht, Hg, HO, #Hmw, HQ⟩
  rw [dif_pos (gcond4_eq q i t), wpT_bind (F := F) d i]
  iapply (in_wait (F := F) q d i ids ib is fx qx (O := O) (W := W) t.val ht _ _ _ (off7_eq i t).1 (off7_eq i t).2.1)
  isplitl [Hi]; · iexact Hi
  isplitl [HO]; · iexact HO
  isplitr; · iexact Hmw
  iintro Hi HO
  rw [ite_self]
  iapply (gather (F := F) q d i tab ids ib is ob os gs fx ft qx qt t.val ht (hN t.val) hin _ _ (off7_eq i t).2.2 (off10_eq i t).1)
  isplitl [Hi]; · iexact Hi
  isplitl [Ho]; · iexact Ho
  isplitl [Ht]; · iexact Ht
  isplitl [Hg]; · iexact Hg
  iintro Hg
  rw [wpT_pure (F := F) d i]; imodintro
  iapply HQ $$ Hg HO

/-- What the row slot of the block before holds before and after the trip's third part. -/
def prevOut (hin : ∀ t h x, (relist (F := F) (idsV q d i ids fx t h) x).toNat < S100000x128.size gathers_S100000x128_S128x128.axis) (t : ℕ) : sProp 𝕄 :=
  if h : 0 < t ∧ t ≤ cn i then
    outFly (F := F) d i out ob os (t - 1) (by omega) (rowsV q d i tab ids fx ft (t - 1) (by omega) hin)
  else outFree (F := F) d i ob os (t + 1)
@[inherit_doc prevOut]
def prevDone (hin : ∀ t h x, (relist (F := F) (idsV q d i ids fx t h) x).toNat < S100000x128.size gathers_S100000x128_S128x128.axis) (t : ℕ) : sProp 𝕄 :=
  if h : 0 < t ∧ t ≤ cn i then
    at' (F := F) d i (outB i out (t - 1) (by omega)) (rowsV q d i tab ids fx ft (t - 1) (by omega) hin)
  else iprop(emp)

/-- The trip's third part: the rows land in their slot and start to the output; the block before it is written. -/
theorem part3 (hin : ∀ t h x, (relist (F := F) (idsV q d i ids fx t h) x).toNat < S100000x128.size gathers_S100000x128_S128x128.axis)
    (t : Fin (k0_t1_loop i).trips) (ht : t.val < cn i) (h1 : k0_cond1 i = 1#1) (hw3) (hw2) (hw1) (v81 v83 : BitVec 1)
    (v84 v90 v95 v101 v102 v121 : BitVec 32) {Q : _ → sProp 𝕄} :
    iprop(gFly (F := F) q d i tab ids ib is ob os gs fx ft qx qt hin t ht ∗ any (F := F) d i (outB i out t ht)
        ∗ prevOut (F := F) q d i tab ids out ob os fx ft hin t
        ∗ owe (F := F) d i O W ∗ Transfers.MayWaits (thr d i) (default : HIx 4) O
        ∗ (inFree (F := F) d i ids ib is fx qx t -∗ (tab.view.loc (thr d i) ↦[tab.view.set]{qt} ft) -∗ semVal (thr d i, SemLoc.dma gs.sem) 0
          -∗ outFly (F := F) d i out ob os t ht (rowsV q d i tab ids fx ft t ht hin)
          -∗ outFree (F := F) d i ob os (t + 1) -∗ prevDone (F := F) q d i tab ids out fx ft hin t
          -∗ owe (F := F) d i O W
          -∗ Q ⟨Scalar.select (Scalar.andi (Scalar.ori (Scalar.cmpi .ne v84 v95) v83) 1#1) (Scalar.addi (turn i t).2.2.1 1#32) (turn i t).2.2.1,
              Scalar.select (Scalar.andi (Scalar.andi (Scalar.cmpi .ne v84 v90) (Scalar.xori v81 1#1)) 1#1) (Scalar.addi (turn i t).2.2.2.1 1#32) (turn i t).2.2.2.1,
              Scalar.select (Scalar.ori (Scalar.cmpi .ne v101 v102) v83) (Scalar.addi (turn i t).2.1 1#32) (turn i t).2.1,
              nxt i (turn i t).2.2.2.2⟩))
      ⊢ wpT (F := F) d i (gpart3 (base q) i tab out ob os gs (cnt i) h1 t (turn i t).1 (turn i t).2.1 (turn i t).2.2.1
          (turn i t).2.2.2.1 (turn i t).2.2.2.2 hw3 hw2 hw1 v81 v83 v84 v90 v95 v101 v102 v121) Q := by
  have hc := cond9_eq i t
  unfold gpart3 nxt
  dsimp only
  iintro ⟨Hg, Hb, Hp, HO, #Hmw, HQ⟩
  rw [wpT_bind (F := F) d i]
  iapply (gather_wait (F := F) q d i tab ids ib is ob os gs fx ft qx qt (O := O) (W := W) t.val ht hin _ (off10_eq i t).1)
  isplitl [Hg]; · iexact Hg
  isplitl [HO]; · iexact HO
  isplitr; · iexact Hmw
  iintro Ho Hi Ht Hg HO
  rw [ite_self, dif_pos (cond7_eq i t), wpT_bind (F := F) d i]
  iapply (out_start (F := F) d i out ob os t.val ht _ _ _ _ (off13_eq i t) (off10_eq i t).2.1 (off10_eq i t).2.2)
  isplitl [Ho]; · iexact Ho
  isplitl [Hb]; · iexact Hb
  iintro Ho
  rw [ite_self]
  by_cases h0 : 0 < t.val
  · rw [if_pos h0] at hc
    rw [dif_pos hc, wpT_bind (F := F) d i]
    have hp : 0 < t.val ∧ t.val ≤ cn i := ⟨h0, Nat.le_of_lt ht⟩
    ihave Hp := (Entails.of_eq (show prevOut (F := F) q d i tab ids out ob os fx ft hin t = _ from dif_pos hp)) $$ Hp
    iapply (out_wait (F := F) d i out ob os (O := O) (W := W) (t.val - 1) (by omega) _ _ _ _ (off15_eq i t h0).2.1 (off15_eq i t h0).2.2)
    isplitl [Hp]; · iexact Hp
    isplitl [HO]; · iexact HO
    isplitr; · iexact Hmw
    iintro Hp Hd HO
    rw [wpT_pure (F := F) d i]; imodintro
    iapply HQ $$ Hi Ht Hg Ho [Hp] [Hd] HO
    · iapply (Entails.of_eq (outFree_congr (F := F) d i ob os (s := t.val - 1) (t := t.val + 1) (by omega))) $$ Hp
    · iapply (Entails.of_eq (show prevDone (F := F) q d i tab ids out fx ft hin t = _ from dif_pos hp).symm) $$ Hd
  · rw [if_neg h0] at hc
    rw [dif_neg (show ¬k0_cond9 i t (turn i t).2.2.2.2 = 1#1 by rw [hc]; decide)]
    have hp : ¬(0 < t.val ∧ t.val ≤ cn i) := fun h => h0 h.1
    ihave Hp := (Entails.of_eq (show prevOut (F := F) q d i tab ids out ob os fx ft hin t = _ from dif_neg hp)) $$ Hp
    rw [wpT_pure (F := F) d i]; imodintro
    iapply HQ $$ Hi Ht Hg Ho Hp [] HO
    iapply (Entails.of_eq (show prevDone (F := F) q d i tab ids out fx ft hin t = _ from dif_neg hp).symm)
    iempintro

end Cert.Proof.Gather
-- ==== Proof.Tile.lean ====
/-
  The gather kernel on one subcore: the loop by its invariant, and the whole from the subcore's slots, semaphores and
  shares to its blocks of the output, each holding the rows its block of the list names.
-/
module

public import proofs.«01_k».proof.Proof.Trip

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]
variable (q : Fin 4) (d : Dev nD) (i : grid0.Coords)
  (tab : Memref sig .scVector .hbm S100000x128 .f32) (ids : Memref sig .scVector .hbm S1x204800 .i32)
  (out : Memref sig .scVector .hbm S51200x128 .f32) (ib : Memref sig .scVector .vmem S2x1x128 .i32) (is : DmaSems sig S2)
  (ob : Memref sig .scVector .vmem S2x128x128 .f32) (os : DmaSems sig S2) (gs : DmaSems sig S_)
variable (fx : Buf (Elt F) (ids.view.loc (thr d i))) (ft : Buf (Elt F) (tab.view.loc (thr d i))) (qx qt : PosShare TreeShare)
variable {O : CellTallies nD τ sig (HIx 4)} {W : Waits sig (HIx 4)}
variable (hin : ∀ t h x, (relist (F := F) (idsV q d i ids fx t h) x).toNat < S100000x128.size gathers_S100000x128_S128x128.axis)

/-- Block `t` of the output at any contents, and holding the rows its block of the list names. -/
def outAny (t : ℕ) : sProp 𝕄 := if h : t < cn i then any (F := F) d i (outB i out t h) else iprop(emp)
@[inherit_doc outAny] def outDone (t : ℕ) : sProp 𝕄 :=
  if h : t < cn i then at' (F := F) d i (outB i out t h) (rowsV q d i tab ids fx ft t h hin) else iprop(emp)

variable (O) (W)

/-- Where a subcore stands at the start of trip `t`: block `t` on its way in, block `t - 1` on its way out, the blocks
    before it written, the blocks from `t` on still to write. -/
def Inv (t : ℕ) (acc : Turn) : sProp 𝕄 :=
  iprop(⌜acc = turn i t⌝ ∗ Transfers.MayWaits (thr d i) (default : HIx 4) O ∗ owe (F := F) d i O W
    ∗ (tab.view.loc (thr d i) ↦[tab.view.set]{qt} ft) ∗ semVal (thr d i, SemLoc.dma gs.sem) 0
    ∗ nextIn (F := F) q d i ids ib is fx qx t ∗ inFree (F := F) d i ids ib is fx qx (t + 1)
    ∗ outFree (F := F) d i ob os t ∗ prevOut (F := F) q d i tab ids out ob os fx ft hin t
    ∗ bigSep (Finset.range (t - 1)) (outDone (F := F) q d i tab ids out fx ft hin)
    ∗ bigSep (Finset.Ico t (cn i)) (outAny (F := F) d i out))

theorem done_succ (t : ℕ) (ht : t < cn i) :
    (iprop(prevDone (F := F) q d i tab ids out fx ft hin t ∗ bigSep (Finset.range (t - 1)) (outDone (F := F) q d i tab ids out fx ft hin)) : sProp 𝕄)
      ⊢ bigSep (Finset.range t) (outDone (F := F) q d i tab ids out fx ft hin) := by
  by_cases h0 : 0 < t
  · have e : Finset.range t = insert (t - 1) (Finset.range (t - 1)) := by
      rw [← Finset.range_add_one]; congr 1; omega
    rw [e, SparseCore.bigSep_insert' (by simp)]
    refine BIClass.sep_mono (Entails.of_eq ?_) BIBase.Entails.rfl
    unfold prevDone outDone
    rw [dif_pos ⟨h0, Nat.le_of_lt ht⟩, dif_pos (show t - 1 < cn i by omega)]
  · have e : t = 0 := by omega
    subst e
    unfold prevDone; rw [dif_neg (fun h => h0 h.1)]
    iintro ⟨-, H⟩; iexact H

theorem todo_succ (t : ℕ) (ht : t < cn i) :
    bigSep (Finset.Ico t (cn i)) (outAny (F := F) d i out)
      = iprop(any (F := F) d i (outB i out t ht) ∗ bigSep (Finset.Ico (t + 1) (cn i)) (outAny (F := F) d i out)) := by
  rw [← Finset.insert_Ico_add_one_left_eq_Ico ht, SparseCore.bigSep_insert' (by simp)]
  congr 1; exact dif_pos ht

/-- A trip keeps the invariant. -/
theorem trip (hN : ∀ t, ∑ j, ((rowS ob t).slice (S128x128.rowRect gathers_S100000x128_S128x128.axis' j)
      (S128x128.stride_rowRect gathers_S100000x128_S128x128.axis' j)).view.dmaCredit = (rowS ob t).view.dmaCredit)
    (h1 : k0_cond1 i = 1#1) (t : Fin (k0_t1_loop i).trips) (acc : Turn) :
    Inv (F := F) q d i tab ids out ib is ob os gs fx ft qx qt O W hin t acc
      ⊢ wpT (F := F) d i (gtrip (base q) i tab ids out ib is ob os gs (cnt i) (frst i) h1 0#32 t acc)
          (Inv (F := F) q d i tab ids out ib is ob os gs fx ft qx qt O W hin (t.val + 1)) := by
  have ht : t.val < cn i := lt_of_lt_of_eq t.isLt (trips1 i)
  have hd := done_succ (F := F) q d i tab ids out fx ft hin t.val ht
  have htd := todo_succ (F := F) d i out t.val ht
  have hni : nextIn (F := F) q d i ids ib is fx qx t.val = inFly (F := F) q d i ids ib is fx qx t.val ht := dif_pos ht
  have hst := step_eq q i t
  unfold Inv
  iintro ⟨%hacc, #Hmw, HO, Ht, Hg, Hi, Hi', Ho, Hp, Hd, Hb⟩
  subst hacc
  unfold gtrip
  rw [wpT_bind (F := F) d i]
  iapply (part1 (F := F) q d i ids ib is fx qx t h1)
  isplitl [Hi']; · iexact Hi'
  iintro Hi'
  dsimp only
  rw [wpT_bind (F := F) d i]
  ihave Hi := (Entails.of_eq hni) $$ Hi
  iapply (part2 (F := F) q d i tab ids ib is ob os gs fx ft qx qt (O := O) (W := W) hin hN t ht h1)
  isplitl [Hi]; · iexact Hi
  isplitl [Ho]; · iexact Ho
  isplitl [Ht]; · iexact Ht
  isplitl [Hg]; · iexact Hg
  isplitl [HO]; · iexact HO
  isplitr; · iexact Hmw
  iintro Hg HO
  dsimp only
  rw [wpT_bind (F := F) d i]
  ihave Hb := (Entails.of_eq htd) $$ Hb
  icases Hb with ⟨Hb, Hbs⟩
  iapply (part3 (F := F) q d i tab ids out ib is ob os gs fx ft qx qt (O := O) (W := W) hin t ht h1)
  isplitl [Hg]; · iexact Hg
  isplitl [Hb]; · iexact Hb
  isplitl [Hp]; · iexact Hp
  isplitl [HO]; · iexact HO
  isplitr; · iexact Hmw
  iintro Hi Ht Hg Ho Ho' Hdn HO
  dsimp only
  rw [wpT_pure (F := F) d i]; imodintro
  isplitr
  · ipureintro; exact hst
  isplitr; · iexact Hmw
  isplitl [HO]; · iexact HO
  isplitl [Ht]; · iexact Ht
  isplitl [Hg]; · iexact Hg
  isplitl [Hi']; · iexact Hi'
  isplitl [Hi]; · iapply (Entails.of_eq (inFree_congr (F := F) d i ids ib is fx qx (s := t.val) (t := t.val + 1 + 1) (by omega))) $$ Hi
  isplitl [Ho']; · iexact Ho'
  isplitl [Ho]
  · iapply (Entails.of_eq (show outFly (F := F) d i out ob os t.val ht (rowsV q d i tab ids fx ft t.val ht hin)
        = prevOut (F := F) q d i tab ids out ob os fx ft hin (t.val + 1) by
        unfold prevOut; rw [dif_pos (show 0 < t.val + 1 ∧ t.val + 1 ≤ cn i from ⟨by omega, by omega⟩)]; rfl)) $$ Ho
  isplitl [Hdn Hd]
  · iapply hd
    isplitl [Hdn]; · iexact Hdn
    iexact Hd
  iexact Hbs

/-- The loop runs from the invariant at its first trip to the invariant after its last. -/
theorem loop (hN : ∀ t, ∑ j, ((rowS ob t).slice (S128x128.rowRect gathers_S100000x128_S128x128.axis' j)
      (S128x128.stride_rowRect gathers_S100000x128_S128x128.axis' j)).view.dmaCredit = (rowS ob t).view.dmaCredit)
    (h1 : k0_cond1 i = 1#1) {Q : Turn → sProp 𝕄} :
    iprop(Inv (F := F) q d i tab ids out ib is ob os gs fx ft qx qt O W hin 0 (turn i 0)
        ∗ (∀ acc, Inv (F := F) q d i tab ids out ib is ob os gs fx ft qx qt O W hin (cn i) acc -∗ Q acc))
      ⊢ wpT (F := F) d i (Scf.Loop.for (k0_t1_loop i) (k0_t1_ok i h1) (turn i 0)
          (gtrip (base q) i tab ids out ib is ob os gs (cnt i) (frst i) h1 0#32)) Q := by
  have h := Scf.wp_for frame (wpE (defs₀ (F := F)) 𝒱₀ (thr d i) none) Set.univ _ _ _ (k0_t1_ok i h1) (turn i 0) _
    (Inv (F := F) q d i tab ids out ib is ob os gs fx ft qx qt O W hin)
    (trip (F := F) q d i tab ids out ib is ob os gs fx ft qx qt O W hin hN h1) (Q := Q)
  rw [show Scf.trips (k0_t1_loop i).lb (k0_t1_loop i).ub (k0_t1_loop i).st = cn i from trips1 i] at h
  exact h

/-- The remainder loop makes no trip. -/
theorem norest {rest : Fin (k0_t2_loop i).trips → Turn → TProg (F := F) i Turn} (ok) (x : Turn) {Q : Turn → sProp 𝕄} :
    Q x ⊢ wpT (F := F) d i (Scf.Loop.for (k0_t2_loop i) ok x rest) Q :=
  Scf.wp_for0' frame (wpE (defs₀ (F := F)) 𝒱₀ (thr d i) none) Set.univ _ _ _ ok x rest (trips2 i) Q (Q x) BIBase.Entails.rfl

/-- The loop and the end of the last block's way out. -/
theorem part8 (hN : ∀ t, ∑ j, ((rowS ob t).slice (S128x128.rowRect gathers_S100000x128_S128x128.axis' j)
      (S128x128.stride_rowRect gathers_S100000x128_S128x128.axis' j)).view.dmaCredit = (rowS ob t).view.dmaCredit)
    (h1 : k0_cond1 i = 1#1) (rest) (v11 v41 v45 : BitVec 32) (e : (v41, 0#32, 0#32, 0#32, 0#32) = turn i 0) {Q : PUnit → sProp 𝕄} :
    iprop(Inv (F := F) q d i tab ids out ib is ob os gs fx ft qx qt O W hin 0 (turn i 0)
        ∗ (owe (F := F) d i O W -∗ (tab.view.loc (thr d i) ↦[tab.view.set]{qt} ft) -∗ semVal (thr d i, SemLoc.dma gs.sem) 0
          -∗ nextIn (F := F) q d i ids ib is fx qx (cn i) -∗ inFree (F := F) d i ids ib is fx qx (cn i + 1)
          -∗ outFree (F := F) d i ob os (cn i) -∗ outFree (F := F) d i ob os (cn i - 1)
          -∗ bigSep (Finset.range (cn i)) (outDone (F := F) q d i tab ids out fx ft hin) -∗ Q ⟨⟩))
      ⊢ wpT (F := F) d i (gpart8 (base q) i tab ids out ib is ob os gs rest (cnt i) (frst i) v11 h1 v41 0#32 0#32 0#32 0#32 0#32 v45) Q := by
  have hn := cn_pos i
  have hlast : bigSep (Finset.range (cn i)) (outDone (F := F) q d i tab ids out fx ft hin)
      = iprop(at' (F := F) d i (outB i out (cn i - 1) (by omega)) (rowsV q d i tab ids fx ft (cn i - 1) (by omega) hin)
        ∗ bigSep (Finset.range (cn i - 1)) (outDone (F := F) q d i tab ids out fx ft hin)) := by
    have e : Finset.range (cn i) = insert (cn i - 1) (Finset.range (cn i - 1)) := by
      rw [← Finset.range_add_one]; congr 1; omega
    rw [e, SparseCore.bigSep_insert' (by simp)]
    congr 1; exact dif_pos (by omega)
  have hprev : prevOut (F := F) q d i tab ids out ob os fx ft hin (cn i)
      = outFly (F := F) d i out ob os (cn i - 1) (by omega) (rowsV q d i tab ids fx ft (cn i - 1) (by omega) hin) := dif_pos ⟨by omega, le_refl _⟩
  unfold gpart8
  rw [e, hlast]
  iintro ⟨HI, HQ⟩
  rw [wpT_bind (F := F) d i]
  iapply (loop (F := F) q d i tab ids out ib is ob os gs fx ft qx qt O W hin hN h1)
  isplitl [HI]; · iexact HI
  iintro %acc HI
  unfold Inv
  icases HI with ⟨%hacc, #Hmw, HO, Ht, Hg, Hi, Hi', Ho, Hp, Hd, -⟩
  subst hacc
  dsimp only
  rw [wpT_bind (F := F) d i]
  iapply (norest (F := F) d i)
  dsimp only
  rw [wpT_bind (F := F) d i]; iapply (assume_step (F := F) d i (chk78_ok i).1)
  rw [wpT_bind (F := F) d i]; iapply (assume_step (F := F) d i (chk78_ok i).2)
  rw [dite_eq_ite, ite_self, dif_pos (cond18_eq i), wpT_bind (F := F) d i]
  ihave Hp := (Entails.of_eq hprev) $$ Hp
  iapply (out_wait (F := F) d i out ob os (O := O) (W := W) (cn i - 1) (by omega) _ _ _ _ (off33_eq i).2.1 (off33_eq i).1)
  isplitl [Hp]; · iexact Hp
  isplitl [HO]; · iexact HO
  isplitr; · iexact Hmw
  iintro Hp Hdn HO
  rw [wpT_pure (F := F) d i]; imodintro
  iapply HQ $$ HO Ht Hg Hi Hi' Ho Hp [Hd Hdn]
  isplitl [Hdn]; · iexact Hdn
  iexact Hd

/-- What a subcore starts from and ends with, apart from its blocks of the output. -/
def kept : sProp 𝕄 :=
  iprop(owe (F := F) d i O W ∗ (tab.view.loc (thr d i) ↦[tab.view.set]{qt} ft) ∗ semVal (thr d i, SemLoc.dma gs.sem) 0
    ∗ inFree (F := F) d i ids ib is fx qx 0 ∗ inFree (F := F) d i ids ib is fx qx 1
    ∗ outFree (F := F) d i ob os 0 ∗ outFree (F := F) d i ob os 1)

/-- The kernel on one subcore: from its blocks of the output at any contents to the blocks holding the named rows. -/
theorem ker (hN : ∀ t, ∑ j, ((rowS ob t).slice (S128x128.rowRect gathers_S100000x128_S128x128.axis' j)
      (S128x128.stride_rowRect gathers_S100000x128_S128x128.axis' j)).view.dmaCredit = (rowS ob t).view.dmaCredit) (hb) (rest) :
    iprop(Transfers.MayWaits (thr d i) (default : HIx 4) O ∗ kept (F := F) d i tab ids ib is ob os gs fx ft qx qt O W
        ∗ bigSep (Finset.range (cn i)) (outAny (F := F) d i out))
      ⊢ wpT (F := F) d i (gker (base q) i tab ids out ib is ob os gs hb rest)
          (fun _ => iprop(kept (F := F) d i tab ids ib is ob os gs fx ft qx qt O W
            ∗ bigSep (Finset.range (cn i)) (outDone (F := F) q d i tab ids out fx ft hin))) := by
  have hn := cn_pos i
  unfold gker gpart7 kept
  dsimp only
  iintro ⟨#Hmw, ⟨HO, Ht, Hg, Hi0, Hi1, Ho0, Ho1⟩, Hb⟩
  rw [dif_pos (cond1_eq i), wpT_bind (F := F) d i, dif_pos (cond2_eq i), wpT_bind (F := F) d i]
  iapply (in_start (F := F) q d i ids ib is fx qx 0 (by omega) _ _ _ (goff2_eq q i) rfl rfl)
  isplitl [Hi0]; · iexact Hi0
  iintro Hi0
  rw [wpT_pure (F := F) d i]; imodintro
  rw [wpT_bind (F := F) d i]
  iapply (part8 (F := F) q d i tab ids out ib is ob os gs fx ft qx qt O W hin hN (cond1_eq i) _ _ _ _ (turn_zero i).symm)
  isplitl [HO Ht Hg Hi0 Hi1 Ho0 Ho1 Hb]
  · unfold Inv
    isplitr; · ipureintro; rfl
    isplitr; · iexact Hmw
    isplitl [HO]; · iexact HO
    isplitl [Ht]; · iexact Ht
    isplitl [Hg]; · iexact Hg
    isplitl [Hi0]; · iapply (Entails.of_eq (show nextIn (F := F) q d i ids ib is fx qx 0 = _ from dif_pos (show 0 < cn i by omega)).symm) $$ Hi0
    isplitl [Hi1]; · iexact Hi1
    isplitl [Ho0]; · iexact Ho0
    isplitl [Ho1]; · iapply (Entails.of_eq (show prevOut (F := F) q d i tab ids out ob os fx ft hin 0 = _ from dif_neg (fun h => absurd h.1 (lt_irrefl 0))).symm) $$ Ho1
    isplitr; · iempintro
    iapply (Entails.of_eq (show bigSep (Finset.range (cn i)) (outAny (F := F) d i out) = _ by rw [Finset.range_eq_Ico])) $$ Hb
  iintro HO Ht Hg Hi Hi' Ho Hp Hd
  rw [wpT_pure (F := F) d i]; imodintro
  ihave Hi := (Entails.of_eq (show nextIn (F := F) q d i ids ib is fx qx (cn i) = _ from dif_neg (lt_irrefl _))) $$ Hi
  isplitl [HO Ht Hg Hi Hi' Ho Hp]
  swap; · iexact Hd
  isplitl [HO]; · iexact HO
  isplitl [Ht]; · iexact Ht
  isplitl [Hg]; · iexact Hg
  have h2 : cn i % 2 = 0 ∨ cn i % 2 = 1 := by omega
  rcases h2 with h2 | h2
  · isplitl [Hi]; · iapply (Entails.of_eq (inFree_congr (F := F) d i ids ib is fx qx (s := cn i) (t := 0) (by omega))) $$ Hi
    isplitl [Hi']; · iapply (Entails.of_eq (inFree_congr (F := F) d i ids ib is fx qx (s := cn i + 1) (t := 1) (by omega))) $$ Hi'
    isplitl [Ho]; · iapply (Entails.of_eq (outFree_congr (F := F) d i ob os (s := cn i) (t := 0) (by omega))) $$ Ho
    iapply (Entails.of_eq (outFree_congr (F := F) d i ob os (s := cn i - 1) (t := 1) (by omega))) $$ Hp
  · isplitl [Hi']; · iapply (Entails.of_eq (inFree_congr (F := F) d i ids ib is fx qx (s := cn i + 1) (t := 0) (by omega))) $$ Hi'
    isplitl [Hi]; · iapply (Entails.of_eq (inFree_congr (F := F) d i ids ib is fx qx (s := cn i) (t := 1) (by omega))) $$ Hi
    isplitl [Hp]; · iapply (Entails.of_eq (outFree_congr (F := F) d i ob os (s := cn i - 1) (t := 0) (by omega))) $$ Hp
    iapply (Entails.of_eq (outFree_congr (F := F) d i ob os (s := cn i) (t := 1) (by omega))) $$ Ho

end Cert.Proof.Gather
-- ==== Proof.Own.lean ====
/-
  The gather kernel on one subcore, over whole buffers: its two index slots and two row slots cut out of their buffers
  and put back, its rows of the output cut into blocks and put together again at the values they were given.
-/
module

public import proofs.«01_k».proof.Proof.Tile

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]
variable (q : Fin 4) (d : Dev nD) (i : grid0.Coords)
  (tab : Memref sig .scVector .hbm S100000x128 .f32) (ids : Memref sig .scVector .hbm S1x204800 .i32)
  (out : Memref sig .scVector .hbm S51200x128 .f32) (ib : Memref sig .scVector .vmem S2x1x128 .i32) (is : DmaSems sig S2)
  (ob : Memref sig .scVector .vmem S2x128x128 .f32) (os : DmaSems sig S2) (gs : DmaSems sig S_)
variable (fx : Buf (Elt F) (ids.view.loc (thr d i))) (ft : Buf (Elt F) (tab.view.loc (thr d i))) (qx qt : PosShare TreeShare)
variable {O : CellTallies nD τ sig (HIx 4)} {W : Waits sig (HIx 4)}
variable (hin : ∀ t h x, (relist (F := F) (idsV q d i ids fx t h) x).toNat < S100000x128.size gathers_S100000x128_S128x128.axis)

/-! ## Cutting a buffer in two -/

omit [FloatOps F] in
/-- A buffer's elements at any contents, cut in two and put together. -/
theorem pair_cut {ℓ : Loc nD τ sig} {S A B : Finset (Idx ℓ)} (hd : Disjoint A B) (hu : S = A ∪ B) :
    (iprop(∃ f, ℓ ↦[S]{fullShare} f) : sProp 𝕄) ⊣⊢ iprop((∃ f, ℓ ↦[A]{fullShare} f) ∗ ∃ f, ℓ ↦[B]{fullShare} f) := by
  subst hu
  constructor
  · iintro ⟨%f, H⟩
    ihave H := (pointsTo_union hd).1 $$ H
    icases H with ⟨HA, HB⟩
    isplitl [HA]
    · iexists f; iexact HA
    · iexists f; iexact HB
  · iintro ⟨⟨%f, HA⟩, %g, HB⟩
    ihave H := (pointsTo_join hd) $$ [HA HB]
    · isplitl [HA] <;> iassumption
    iexists _; iexact H

omit [FloatOps F] in
theorem idx_lt {s : Shape} (x : s.Idx) (a : Fin s.rank) : (x a).val < s.size a := (x a).isLt

omit [FloatOps F] in
theorem inS_pair : Disjoint (inS ib 0).view.set (inS ib 1).view.set ∧ ib.view.set = (inS ib 0).view.set ∪ (inS ib 1).view.set := by
  have e (t) : (inS ib t).view.set = ((Rect.unit (s := S2x1x128) ![t % 2, 0, 0] S1x1x128.size (slot_in t)).set).map ib.view.emb := by
    show (((ib.view.slice _).reshape _ _).set) = _
    rw [View.set_reshape, View.set_slice]
  rw [e, e]
  constructor
  · rw [Finset.disjoint_map]; exact Rect.unit_disjoint (0 : Fin 3) (Or.inl (by decide))
  · rw [← Finset.map_union]
    refine congrArg (Finset.map ib.view.emb) (Finset.eq_univ_iff_forall.mpr fun x => ?_).symm
    rw [Finset.mem_union, Rect.mem_set_unit, Rect.mem_set_unit]
    have h0 : (x 0).val < 2 := (x 0).isLt
    have h1 : (x 1).val < 1 := (x 1).isLt
    have h2 : (x 2).val < 128 := (x 2).isLt
    rcases (show (x 0).val = 0 ∨ (x 0).val = 1 by omega) with h | h
    · left; intro a
      match a with
      | 0 => exact ⟨Nat.zero_le _, by show (x 0).val < 0 % 2 + 1; omega⟩
      | 1 => exact ⟨Nat.zero_le _, by show (x 1).val < 0 + 1; omega⟩
      | 2 => exact ⟨Nat.zero_le _, by show (x 2).val < 0 + 128; omega⟩
    · right; intro a
      match a with
      | 0 => exact ⟨by show 1 % 2 ≤ (x 0).val; omega, by show (x 0).val < 1 % 2 + 1; omega⟩
      | 1 => exact ⟨Nat.zero_le _, by show (x 1).val < 0 + 1; omega⟩
      | 2 => exact ⟨Nat.zero_le _, by show (x 2).val < 0 + 128; omega⟩

omit [FloatOps F] in
theorem rowS_pair : Disjoint (rowS ob 0).view.set (rowS ob 1).view.set ∧ ob.view.set = (rowS ob 0).view.set ∪ (rowS ob 1).view.set := by
  have e (t) : (rowS ob t).view.set = ((Rect.unit (s := S2x128x128) ![t % 2, 0, 0] S1x128x128.size (slot_row t)).set).map ob.view.emb := by
    show (((ob.view.slice _).reshape _ _).set) = _
    rw [View.set_reshape, View.set_slice]
  rw [e, e]
  constructor
  · rw [Finset.disjoint_map]; exact Rect.unit_disjoint (0 : Fin 3) (Or.inl (by decide))
  · rw [← Finset.map_union]
    refine congrArg (Finset.map ob.view.emb) (Finset.eq_univ_iff_forall.mpr fun x => ?_).symm
    rw [Finset.mem_union, Rect.mem_set_unit, Rect.mem_set_unit]
    have h0 : (x 0).val < 2 := (x 0).isLt
    have h1 : (x 1).val < 128 := (x 1).isLt
    have h2 : (x 2).val < 128 := (x 2).isLt
    rcases (show (x 0).val = 0 ∨ (x 0).val = 1 by omega) with h | h
    · left; intro a
      match a with
      | 0 => exact ⟨Nat.zero_le _, by show (x 0).val < 0 % 2 + 1; omega⟩
      | 1 => exact ⟨Nat.zero_le _, by show (x 1).val < 0 + 128; omega⟩
      | 2 => exact ⟨Nat.zero_le _, by show (x 2).val < 0 + 128; omega⟩
    · right; intro a
      match a with
      | 0 => exact ⟨by show 1 % 2 ≤ (x 0).val; omega, by show (x 0).val < 1 % 2 + 1; omega⟩
      | 1 => exact ⟨Nat.zero_le _, by show (x 1).val < 0 + 128; omega⟩
      | 2 => exact ⟨Nat.zero_le _, by show (x 2).val < 0 + 128; omega⟩

/-! ## Rows of the output -/

/-- The rows of blocks `a` to `b` of the output. -/
def rowsOf (a b : ℕ) : Finset S51200x128.Idx := Finset.univ.filter fun x => 128 * a ≤ (x 0).val ∧ (x 0).val < 128 * b

theorem rowsOf_disjoint {a b a' b' : ℕ} (h : b ≤ a' ∨ b' ≤ a) : Disjoint (rowsOf a b) (rowsOf a' b') := by
  rw [Finset.disjoint_left]; intro x hx hx'
  simp only [rowsOf, Finset.mem_filter, Finset.mem_univ, true_and] at hx hx'
  omega

theorem rowsOf_blocks (a n : ℕ) : rowsOf a (a + n) = (Finset.range n).biUnion fun t => rowsOf (a + t) (a + t + 1) := by
  ext x
  simp only [rowsOf, Finset.mem_filter, Finset.mem_univ, true_and, Finset.mem_biUnion, Finset.mem_range]
  constructor
  · intro h; exact ⟨(x 0).val / 128 - a, by omega, by omega, by omega⟩
  · rintro ⟨t, ht, h⟩; omega

omit [FloatOps F] in
theorem outB_set (t : ℕ) (h : t < cn i) : (outB i out t h).view.set = (rowsOf (st i + t) (st i + t + 1)).map out.view.emb := by
  show (out.view.slice _).set = _
  rw [View.set_slice]
  refine congrArg (Finset.map out.view.emb) ?_
  ext x
  rw [Rect.mem_set_unit]
  simp only [rowsOf, Finset.mem_filter, Finset.mem_univ, true_and]
  have h1 : (x 1).val < 128 := (x 1).isLt
  constructor
  · intro h; have := h 0
    change 128 * (st i + t) ≤ (x 0).val ∧ (x 0).val < 128 * (st i + t) + 128 at this
    omega
  · intro h a
    match a with
    | 0 => show 128 * (st i + t) ≤ (x 0).val ∧ (x 0).val < 128 * (st i + t) + 128; omega
    | 1 => exact ⟨Nat.zero_le _, by show (x 1).val < 0 + 128; omega⟩

/-- The elements of the output a subcore writes. -/
def tset : Finset out.view.ty.Idx := (rowsOf (st i) (st i + cn i)).map out.view.emb

omit [FloatOps F] in
theorem tset_blocks : tset i out = (Finset.range (cn i)).biUnion fun t => (rowsOf (st i + t) (st i + t + 1)).map out.view.emb := by
  classical
  unfold tset; rw [rowsOf_blocks]; simp only [Finset.map_eq_image, Finset.biUnion_image]

omit [FloatOps F] in
theorem blocks_disjoint : ∀ t ∈ Finset.range (cn i), ∀ t' ∈ Finset.range (cn i), t ≠ t' →
    Disjoint ((rowsOf (st i + t) (st i + t + 1)).map out.view.emb) ((rowsOf (st i + t') (st i + t' + 1)).map out.view.emb) := by
  intro t _ t' _ h
  rw [Finset.disjoint_map]; exact rowsOf_disjoint (by omega)

omit [FloatOps F] in
theorem out_cut (f : Buf (Elt F) (out.view.loc (thr d i))) :
    (out.view.loc (thr d i) ↦[tset i out]{fullShare} f : sProp 𝕄) ⊢ bigSep (Finset.range (cn i)) (outAny (F := F) d i out) := by
  rw [tset_blocks, pointsTo_biUnion _ _ (blocks_disjoint i out)]
  refine bigSep_mono fun t ht => ?_
  have ht := Finset.mem_range.mp ht
  have h : (out.view.loc (thr d i) ↦[(rowsOf (st i + t) (st i + t + 1)).map out.view.emb]{fullShare} f : sProp 𝕄) ⊢ outAny (F := F) d i out t := by
    unfold outAny; rw [dif_pos ht]; unfold any
    rw [outB_set]
    iintro H; iexists f; iexact H
  exact h

omit [FloatOps F] in
/-- Two contents a view reads alike agree on its elements. -/
theorem agree_of_read {sp : Space} {s : Shape} {e : EltTy} (v : View sig .scVector sp s e) {f g : v.ty.Idx → Elt F v.ty.elt}
    (h : v.read (Elt F) f = v.read (Elt F) g) : ∀ x ∈ v.set, f x = g x := by
  intro x hx
  obtain ⟨y, -, rfl⟩ := Finset.mem_map.mp hx
  have := congrFun h y
  rw [View.read_apply, View.read_apply] at this
  exact (cast_inj _).mp this

variable (G : Buf (Elt F) (out.view.loc (thr d i)))

omit [FloatOps F] in
theorem out_join (hG : ∀ t h, (outB i out t h).view.read (Elt F) G = rowsV q d i tab ids fx ft t h hin) :
    bigSep (Finset.range (cn i)) (outDone (F := F) q d i tab ids out fx ft hin)
      ⊢ (out.view.loc (thr d i) ↦[tset i out]{fullShare} G : sProp 𝕄) := by
  rw [tset_blocks, pointsTo_biUnion _ _ (blocks_disjoint i out)]
  refine bigSep_mono fun t ht => ?_
  have ht := Finset.mem_range.mp ht
  have h : outDone (F := F) q d i tab ids out fx ft hin t
      ⊢ (out.view.loc (thr d i) ↦[(rowsOf (st i + t) (st i + t + 1)).map out.view.emb]{fullShare} G : sProp 𝕄) := by
    unfold outDone; rw [dif_pos ht]; unfold at'
    iintro ⟨%f, %hf, H⟩
    rw [← hG t ht] at hf
    iapply (Entails.of_eq (show ((outB i out t ht).view.loc (thr d i) ↦[(outB i out t ht).view.set]{fullShare} f : sProp 𝕄)
        = (out.view.loc (thr d i) ↦[(rowsOf (st i + t) (st i + t + 1)).map out.view.emb]{fullShare} G : sProp 𝕄) by
      rw [pointsTo_congr (agree_of_read (outB i out t ht).view hf), outB_set])) $$ H
  exact h

/-! ## The kernel on one subcore -/

omit [FloatOps F] in
/-- The two slots' shares of the index list. -/
theorem ids_halves : (ids.view.loc (thr d i) ↦[ids.view.set]{qx} fx : sProp 𝕄)
    ⊣⊢ iprop((ids.view.loc (thr d i) ↦[ids.view.set]{half qx 0} fx) ∗ (ids.view.loc (thr d i) ↦[ids.view.set]{half qx 1} fx)) :=
  pointsTo_share (PosShare.mem_left_op_right qx)

/-- The subcore's scratch and semaphores. -/
def gear : sProp 𝕄 :=
  iprop(any (F := F) d i ib ∗ any (F := F) d i ob ∗ semVal (thr d i, SemLoc.dma (semI is 0)) 0 ∗ semVal (thr d i, SemLoc.dma (semI is 1)) 0
    ∗ semVal (thr d i, SemLoc.dma (semO os 0)) 0 ∗ semVal (thr d i, SemLoc.dma (semO os 1)) 0 ∗ semVal (thr d i, SemLoc.dma gs.sem) 0)

omit [FloatOps F] in
/-- What a subcore is handed, as what the kernel starts from. -/
theorem take_in : (iprop(Transfers.MayWaits (thr d i) (default : HIx 4) O ∗ (tab.view.loc (thr d i) ↦[tab.view.set]{qt} ft)
        ∗ (ids.view.loc (thr d i) ↦[ids.view.set]{qx} fx) ∗ (∃ f, out.view.loc (thr d i) ↦[tset i out]{fullShare} f)
        ∗ gear (F := F) d i ib is ob os gs ∗ owes (thr d i) O W) : sProp 𝕄)
      ⊢ iprop(Transfers.MayWaits (thr d i) (default : HIx 4) O ∗ kept (F := F) d i tab ids ib is ob os gs fx ft qx qt O W
        ∗ bigSep (Finset.range (cn i)) (outAny (F := F) d i out)) := by

  have hi := pair_cut (F := F) (ℓ := ib.view.loc (thr d i)) (inS_pair ib).1 (inS_pair ib).2
  have ho := pair_cut (F := F) (ℓ := ob.view.loc (thr d i)) (rowS_pair ob).1 (rowS_pair ob).2
  unfold gear any kept inFree outFree any owe
  iintro ⟨#Hmw, Ht, Hx, ⟨%f, Ho⟩, ⟨Hib, Hob, Hs0, Hs1, Hs2, Hs3, Hg⟩, HO⟩
  ihave Hib := hi.1 $$ Hib
  icases Hib with ⟨Hi0, Hi1⟩
  ihave Hob := ho.1 $$ Hob
  icases Hob with ⟨Ho0, Ho1⟩
  ihave Hx := (ids_halves (F := F) d i ids fx qx).1 $$ Hx
  icases Hx with ⟨Hx0, Hx1⟩
  isplitr; · iexact Hmw
  isplitr [Ho]
  swap; · iapply (out_cut (F := F) d i out f) $$ Ho
  isplitl [HO]
  · iexists W; isplitr
    · ipureintro; exact fun p h => Or.inl h
    · iexact HO
  isplitl [Ht]; · iexact Ht
  isplitl [Hg]; · iexact Hg
  isplitl [Hi0 Hs0 Hx0]
  · isplitl [Hi0]; · iexact Hi0
    isplitl [Hs0]; · iexact Hs0
    iexact Hx0
  isplitl [Hi1 Hs1 Hx1]
  · isplitl [Hi1]; · iexact Hi1
    isplitl [Hs1]; · iexact Hs1
    iexact Hx1
  isplitl [Ho0 Hs2]
  · isplitl [Ho0]; · iexact Ho0
    iexact Hs2
  isplitl [Ho1]; · iexact Ho1
  iexact Hs3

omit [FloatOps F] in
/-- What the kernel ends with, as what the subcore hands back. -/
theorem give_back (hG : ∀ t h, (outB i out t h).view.read (Elt F) G = rowsV q d i tab ids fx ft t h hin) : (iprop(kept (F := F) d i tab ids ib is ob os gs fx ft qx qt O W
            ∗ bigSep (Finset.range (cn i)) (outDone (F := F) q d i tab ids out fx ft hin)) : sProp 𝕄)
      ⊢ iprop((tab.view.loc (thr d i) ↦[tab.view.set]{qt} ft)
            ∗ (ids.view.loc (thr d i) ↦[ids.view.set]{qx} fx) ∗ (out.view.loc (thr d i) ↦[tset i out]{fullShare} G)
            ∗ gear (F := F) d i ib is ob os gs ∗ owe (F := F) d i O W) := by

  have hi := pair_cut (F := F) (ℓ := ib.view.loc (thr d i)) (inS_pair ib).1 (inS_pair ib).2
  have ho := pair_cut (F := F) (ℓ := ob.view.loc (thr d i)) (rowS_pair ob).1 (rowS_pair ob).2
  unfold gear any kept inFree outFree any
  iintro ⟨⟨HO, Ht, Hg, ⟨Hi0, Hs0, Hx0⟩, ⟨Hi1, Hs1, Hx1⟩, ⟨Ho0, Hs2⟩, Ho1, Hs3⟩, Hd⟩
  isplitl [Ht]; · iexact Ht
  isplitl [Hx0 Hx1]
  · iapply (ids_halves (F := F) d i ids fx qx).2
    isplitl [Hx0] <;> iassumption
  isplitl [Hd]; · iapply (out_join (F := F) q d i tab ids out fx ft hin G hG) $$ Hd
  isplitr [HO]
  swap; · iexact HO
  isplitl [Hi0 Hi1]
  · iapply hi.2
    isplitl [Hi0] <;> iassumption
  isplitl [Ho0 Ho1]
  · iapply ho.2
    isplitl [Ho0] <;> iassumption
  isplitl [Hs0]; · iexact Hs0
  isplitl [Hs1]; · iexact Hs1
  isplitl [Hs2]; · iexact Hs2
  isplitl [Hs3]; · iexact Hs3
  iexact Hg

set_option maxHeartbeats 2000000 in
/-- The kernel on one subcore: its rows of the output go from any contents to the gathered rows; the table, the index
    list, the scratch and the semaphores come back. -/
theorem tile (hN : ∀ t, ∑ j, ((rowS ob t).slice (S128x128.rowRect gathers_S100000x128_S128x128.axis' j)
      (S128x128.stride_rowRect gathers_S100000x128_S128x128.axis' j)).view.dmaCredit = (rowS ob t).view.dmaCredit)
    (hG : ∀ t h, (outB i out t h).view.read (Elt F) G = rowsV q d i tab ids fx ft t h hin) (hb) (rest) :
    iprop(Transfers.MayWaits (thr d i) (default : HIx 4) O ∗ (tab.view.loc (thr d i) ↦[tab.view.set]{qt} ft)
        ∗ (ids.view.loc (thr d i) ↦[ids.view.set]{qx} fx) ∗ (∃ f, out.view.loc (thr d i) ↦[tset i out]{fullShare} f)
        ∗ gear (F := F) d i ib is ob os gs ∗ owes (thr d i) O W)
      ⊢ wpT (F := F) d i (gker (base q) i tab ids out ib is ob os gs hb rest)
          (fun _ => iprop((tab.view.loc (thr d i) ↦[tab.view.set]{qt} ft)
            ∗ (ids.view.loc (thr d i) ↦[ids.view.set]{qx} fx) ∗ (out.view.loc (thr d i) ↦[tset i out]{fullShare} G)
            ∗ gear (F := F) d i ib is ob os gs ∗ owe (F := F) d i O W)) := by
  have hk := @ker F _ q d i tab ids out ib is ob os gs fx ft qx qt O W hin hN hb rest
  have h1 := (take_in (F := F) d i tab ids out ib is ob os gs fx ft qx qt (O := O) (W := W)).trans hk
  refine BI.Entails.trans h1 (wp_mono frame _ _ fun _ => ?_)
  exact give_back (F := F) q d i tab ids out ib is ob os gs fx ft qx qt hin G hG

end Cert.Proof.Gather
-- ==== Proof.Rows.lean ====
/-
  What a gather call leaves in its output, as a function of the index list and the table: row `n` of call `q`'s output is
  the table's row that entry `51200 * q + n` of the list names.
-/
module

public import proofs.«01_k».proof.Proof.Own

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- An index of the table, and of the index list. -/
def tix (r : Fin 100000) (c : Fin 128) : S100000x128.Idx := fun | 0 => r | 1 => c
@[inherit_doc tix] def iix (n : Fin 204800) : S1x204800.Idx := fun | 0 => (0 : Fin 1) | 1 => n

/-- Entry `n` of call `q`'s part of the index list. -/
def entry (q : Fin 4) (w : S1x204800.Idx → BitVec 32) (n : Fin 51200) : BitVec 32 :=
  w (iix ⟨51200 * q.val + n.val, by have := q.isLt; have := n.isLt; omega⟩)

/-- The rows call `q` gathers. -/
def gat (q : Fin 4) (w : S1x204800.Idx → BitVec 32) (tb : S100000x128.Idx → Elt F .f32) : S51200x128.Idx → Elt F .f32 := fun x =>
  tb (tix ⟨(entry q w (x 0)).toNat % 100000, Nat.mod_lt _ (by decide)⟩ (x 1))

local notation "𝕄" => MT nD τ sig (HIx 4) (Elt F) ℕ UU ℕ

variable (q : Fin 4) (d : Dev nD) (i : grid0.Coords)
  (tab : Memref sig .scVector .hbm S100000x128 .f32) (ids : Memref sig .scVector .hbm S1x204800 .i32)
  (out : Memref sig .scVector .hbm S51200x128 .f32)
variable (fx : Buf (Elt F) (ids.view.loc (thr d i))) (ft : Buf (Elt F) (tab.view.loc (thr d i)))

theorem relist_idsV (t : ℕ) (h : t < cn i) (x : S128.Idx) :
    relist (F := F) (idsV q d i ids fx t h) x
      = ids.view.read (Elt F) fx (iix ⟨128 * (400 * q.val + st i + t) + (x 0).val, by
          have h0 : (x 0).val < 128 := (x 0).isLt
          have := ids_inb q i t h (1 : Fin 2)
          change 128 * (400 * q.val + st i + t) + 128 ≤ 204800 at this; omega⟩) := by
  have hx : Shape.reshapeEquiv squeezes_S1x128_S128.numel_eq x = (fun | 0 => (0 : Fin 1) | 1 => (x 0) : S1x128.Idx) :=
    Shape.reshapeEquiv_eq_of_rowMajor _ (by
      rw [Shape.rowMajor_val_two, Shape.rowMajor_val_one]
      show 0 * 128 + (x 0).val = (x 0).val
      omega)
  unfold relist; rw [hx]
  show ids.view.read (Elt F) fx _ = _
  congr 1
  funext a
  match a with
  | 0 => exact Subsingleton.elim (α := Fin 1) _ _
  | 1 =>
    apply Fin.ext
    show 128 * (400 * q.val + st i + t) + 1 * (0 + 1 * (x 0).val) = 128 * (400 * q.val + st i + t) + (x 0).val
    omega

variable (hw : ∀ y, (ids.view.read (Elt F) fx y).toNat < 100000)
include hw

theorem hin_of : ∀ t h x, (relist (F := F) (idsV q d i ids fx t h) x).toNat < S100000x128.size gathers_S100000x128_S128x128.axis := by
  intro t h x
  rw [relist_idsV]; exact hw _

theorem rows_read (hin) (t : ℕ) (h : t < cn i) (y : S128x128.Idx) :
    rowsV q d i tab ids fx ft t h hin y
      = gat q (ids.view.read (Elt F) fx) (tab.view.read (Elt F) ft) ((Rect.unit (s := S51200x128) ![128 * (st i + t), 0] S128x128.size (out_inb i t h)).emb y) := by
  unfold rowsV SparseCore.gatherPayload gat
  show tab.view.read (Elt F) ft _ = _
  congr 1
  funext a
  match a with
  | 0 =>
    apply Fin.ext
    have hr : ∀ k : Fin 128, (S128.rowMajor.symm (k.cast (rfl : (128:ℕ) = S128.numel)) 0).val = k.val := by
      intro k
      have := Shape.rowMajor_val_one (S128.rowMajor.symm (k.cast (rfl : (128:ℕ) = S128.numel)))
      rw [Equiv.apply_symm_apply] at this
      exact this.symm
    show 0 + 1 * (relist (F := F) (idsV q d i ids fx t h) (S128.rowMajor.symm ((y 0).cast _))).toNat = (entry q _ _).toNat % 100000
    rw [relist_idsV, Nat.mod_eq_of_lt (by unfold entry; exact hw _)]
    unfold entry
    rw [Nat.zero_add, Nat.one_mul]
    congr 2
    apply congrArg iix
    apply Fin.ext
    show 128 * (400 * q.val + st i + t) + _ = 51200 * q.val + (128 * (st i + t) + 1 * (y 0).val)
    refine (congrArg (128 * (400 * q.val + st i + t) + ·) (hr (y 0))).trans ?_
    dsimp only; omega
  | 1 =>
    apply Fin.ext
    show 0 + 1 * (y 1).val = 0 + 1 * (y 1).val
    rfl

theorem outB_gat (hin) (G : Buf (Elt F) (out.view.loc (thr d i)))
    (hG : out.view.read (Elt F) G = gat q (ids.view.read (Elt F) fx) (tab.view.read (Elt F) ft)) (t : ℕ) (h : t < cn i) :
    (outB i out t h).view.read (Elt F) G = rowsV q d i tab ids fx ft t h hin := by
  funext y
  rw [rows_read q d i tab ids fx ft hw hin t h y, ← hG]
  rfl

end Cert.Proof.Gather
-- ==== Proof.Pay.lean ====
/-
  What the four gather calls' handshakes carry, and each call's subcores' obligation: every subcore of a call has a share
  of the table and of the index list and its own rows of the call's output, and brings them back gathered.
-/
module

public import proofs.«01_k».proof.Proof.Rows

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun q => by fin_cases q <;> rfl⟩

/-! ## Rearranging -/

theorem sep_left (A B C : sProp 𝕄) : (iprop(A ∗ B ∗ C) : sProp 𝕄) = iprop((A ∗ B) ∗ C) := by
  have h1 : (iprop(A ∗ B ∗ C) : sProp 𝕄) ⊢ iprop((A ∗ B) ∗ C) := by
    iintro ⟨HA, HB, HC⟩
    isplitr [HC]
    · isplitl [HA] <;> iassumption
    · iexact HC
  have h2 : (iprop((A ∗ B) ∗ C) : sProp 𝕄) ⊢ iprop(A ∗ B ∗ C) := by
    iintro ⟨⟨HA, HB⟩, HC⟩
    isplitl [HA]; · iexact HA
    isplitl [HB] <;> iassumption
  exact BI.Entails.antisymm h1 h2

theorem sep_swap (A B C E : sProp 𝕄) : (iprop((A ∗ B) ∗ C ∗ E) : sProp 𝕄) = iprop((A ∗ C) ∗ B ∗ E) := by
  have h (A B C E : sProp 𝕄) : (iprop((A ∗ B) ∗ C ∗ E) : sProp 𝕄) ⊢ iprop((A ∗ C) ∗ B ∗ E) := by
    iintro ⟨⟨HA, HB⟩, HC, HE⟩
    isplitl [HA HC]; · isplitl [HA] <;> iassumption
    isplitl [HB] <;> iassumption
  exact BI.Entails.antisymm (h A B C E) (h A C B E)

/-! ## Shares -/

/-- Part `k` of a share, and what `n` parts leave of it. -/
def part : ℕ → PosShare TreeShare → PosShare TreeShare
  | 0, s => s.left
  | k + 1, s => part k s.right
@[inherit_doc part] def left : ℕ → PosShare TreeShare → PosShare TreeShare
  | 0, s => s
  | n + 1, s => left n s.right

theorem pointsTo_parts {ℓ : Loc nD τ sig} (I : Finset (Idx ℓ)) (f : Buf (Elt F) ℓ) : ∀ (n : ℕ) (s : PosShare TreeShare),
    (ℓ ↦[I]{s} f : sProp 𝕄) = iprop((bigSep Finset.univ fun k : Fin n => ℓ ↦[I]{part k.val s} f) ∗ ℓ ↦[I]{left n s} f)
  | 0, s => by
    rw [show (Finset.univ : Finset (Fin 0)) = ∅ from rfl, bigSep_empty]
    have h1 : (iprop(emp ∗ ℓ ↦[I]{s} f) : sProp 𝕄) ⊢ ℓ ↦[I]{s} f := by iintro ⟨-, H⟩; iexact H
    have h2 : (ℓ ↦[I]{s} f : sProp 𝕄) ⊢ iprop(emp ∗ ℓ ↦[I]{s} f) := by
      iintro H; isplitr
      · iempintro
      · iexact H
    exact BI.Entails.antisymm h2 h1
  | n + 1, s => by
    rw [BI.Entails.antisymm (pointsTo_share (PosShare.mem_left_op_right s)).1 (pointsTo_share (PosShare.mem_left_op_right s)).2,
      pointsTo_parts I f n s.right, bigSep_univ_succ]
    exact sep_left _ _ _

/-- A SparseCore's share of the table and of the index list. -/
def cs (c : Fin 2) : PosShare TreeShare := if c = 0 then fullShare.left else fullShare.right

/-! ## Rows -/

/-- The subcore's coordinates. -/
def coordsV (c : Fin 2) (s : Fin 16) : grid0.Coords :=
  fun | 0 => c | 1 => s | ⟨_ + 2, h⟩ => absurd h (Nat.not_lt.2 (Nat.le_add_left _ _))

/-- The rows of a call's output a SparseCore writes, and a subcore writes. -/
def cr (c : Fin 2) : Finset S51200x128.Idx := rowsOf (208 * c.val) (if c.val = 0 then 208 else 400)
@[inherit_doc cr] def tr (c : Fin 2) (s : Fin 16) : Finset S51200x128.Idx :=
  rowsOf (st (coordsV c s)) (st (coordsV c s) + cn (coordsV c s))

theorem tr_order : ∀ (c : Fin 2) (s s' : Fin 16), s ≠ s' → st (coordsV c s) + cn (coordsV c s) ≤ st (coordsV c s')
    ∨ st (coordsV c s') + cn (coordsV c s') ≤ st (coordsV c s) := by decide +kernel
theorem tr_in : ∀ (c : Fin 2) (s : Fin 16), 208 * c.val ≤ st (coordsV c s)
    ∧ st (coordsV c s) + cn (coordsV c s) ≤ (if c.val = 0 then 208 else 400) := by decide +kernel
theorem tr_all : ∀ (c : Fin 2) (b : Fin 400), 208 * c.val ≤ b.val → b.val < (if c.val = 0 then 208 else 400) →
    ∃ s : Fin 16, st (coordsV c s) ≤ b.val ∧ b.val < st (coordsV c s) + cn (coordsV c s) := by decide +kernel

theorem tr_disjoint (c : Fin 2) : ∀ s ∈ (Finset.univ : Finset (Fin 16)), ∀ s' ∈ (Finset.univ : Finset (Fin 16)), s ≠ s' → Disjoint (tr c s) (tr c s') :=
  fun s _ s' _ h => rowsOf_disjoint (tr_order c s s' h)

theorem tr_cover (c : Fin 2) : (Finset.univ : Finset (Fin 16)).biUnion (tr c) = cr c := by
  ext x
  have hx : (x 0).val < 51200 := (x 0).isLt
  simp only [Finset.mem_biUnion, Finset.mem_univ, true_and, tr, cr, rowsOf, Finset.mem_filter]
  constructor
  · rintro ⟨s, h⟩; have := tr_in c s; omega
  · intro h
    obtain ⟨s, hs⟩ := tr_all c ⟨(x 0).val / 128, by omega⟩ (show _ ≤ (x 0).val / 128 by omega) (show (x 0).val / 128 < _ by omega)
    change st (coordsV c s) ≤ (x 0).val / 128 ∧ (x 0).val / 128 < _ at hs
    exact ⟨s, by omega, by omega⟩

theorem cr_disjoint : ∀ c ∈ (Finset.univ : Finset (Fin 2)), ∀ c' ∈ (Finset.univ : Finset (Fin 2)), c ≠ c' → Disjoint (cr c) (cr c') := by
  intro c _ c' _ h
  have h0 := Fin.val_ne_of_ne h
  have h1 := c.isLt
  have h2 := c'.isLt
  refine rowsOf_disjoint ?_
  have h3 : (c.val = 0 ∧ c'.val = 1) ∨ (c.val = 1 ∧ c'.val = 0) := by omega
  rcases h3 with ⟨e, e'⟩ | ⟨e, e'⟩
  · left; rw [if_pos e, e']
  · right; rw [if_pos e', e]

theorem cr_cover : (Finset.univ : Finset (Fin 2)).biUnion cr = Finset.univ := by
  refine Finset.eq_univ_iff_forall.mpr fun x => ?_
  have hx : (x 0).val < 51200 := (x 0).isLt
  rw [Finset.mem_biUnion]
  by_cases h : (x 0).val < 128 * 208
  · exact ⟨0, Finset.mem_univ _, Finset.mem_filter.mpr ⟨Finset.mem_univ _, show 128 * (208 * 0) ≤ (x 0).val ∧ (x 0).val < 128 * 208 by omega⟩⟩
  · exact ⟨1, Finset.mem_univ _, Finset.mem_filter.mpr ⟨Finset.mem_univ _, show 128 * (208 * 1) ≤ (x 0).val ∧ (x 0).val < 128 * 400 by omega⟩⟩

/-! ## What the handshakes carry -/

/-- Elements of call `q`'s output, at a content. -/
def oPts (q : Fin 4) (d : Dev nD) (S : Finset S51200x128.Idx) (w : S51200x128.Idx → Elt F .f32) : sProp 𝕄 :=
  match q with
  | 0 => (T d : Thread nD τ).loc main_v9 ↦[S]{fullShare} w
  | 1 => (T d : Thread nD τ).loc main_v11 ↦[S]{fullShare} w
  | 2 => (T d : Thread nD τ).loc main_v13 ↦[S]{fullShare} w
  | 3 => (T d : Thread nD τ).loc main_v15 ↦[S]{fullShare} w

theorem oPts_biUnion {J : Type} (q : Fin 4) (d : Dev nD) (A : Finset J) (S : J → Finset S51200x128.Idx)
    (h : ∀ s ∈ A, ∀ s' ∈ A, s ≠ s' → Disjoint (S s) (S s')) (w : S51200x128.Idx → Elt F .f32) :
    oPts (F := F) q d (A.biUnion S) w = bigSep A fun s => oPts (F := F) q d (S s) w := by
  fin_cases q
  · exact pointsTo_biUnion (ℓ := (T d : Thread nD τ).loc main_v9) (q := fullShare) (f := w) A S h
  · exact pointsTo_biUnion (ℓ := (T d : Thread nD τ).loc main_v11) (q := fullShare) (f := w) A S h
  · exact pointsTo_biUnion (ℓ := (T d : Thread nD τ).loc main_v13) (q := fullShare) (f := w) A S h
  · exact pointsTo_biUnion (ℓ := (T d : Thread nD τ).loc main_v15) (q := fullShare) (f := w) A S h

instance oPts_storable (q : Fin 4) (d : Dev nD) (S : Finset S51200x128.Idx) (w : S51200x128.Idx → Elt F .f32) :
    BI.Storable (upEmb : UEmb _ 𝕄) (oPts (F := F) q d S w) := by
  match q with
  | 0 => exact (inferInstance : BI.Storable (upEmb : UEmb _ 𝕄) ((T d : Thread nD τ).loc main_v9 ↦[S]{fullShare} w))
  | 1 => exact (inferInstance : BI.Storable (upEmb : UEmb _ 𝕄) ((T d : Thread nD τ).loc main_v11 ↦[S]{fullShare} w))
  | 2 => exact (inferInstance : BI.Storable (upEmb : UEmb _ 𝕄) ((T d : Thread nD τ).loc main_v13 ↦[S]{fullShare} w))
  | 3 => exact (inferInstance : BI.Storable (upEmb : UEmb _ 𝕄) ((T d : Thread nD τ).loc main_v15 ↦[S]{fullShare} w))

variable (tb : Dev nD → S100000x128.Idx → Elt F .f32) (w : Dev nD → S1x204800.Idx → BitVec 32)

/-- A share of the table and of the index list. -/
def inPts (d : Dev nD) (s : PosShare TreeShare) : sProp 𝕄 :=
  iprop(((T d : Thread nD τ).loc main_arg2 ↦{s} tb d) ∗ ((T d : Thread nD τ).loc main_v8 ↦{s} w d))

instance inPts_storable (d : Dev nD) (s : PosShare TreeShare) : BI.Storable (upEmb : UEmb _ 𝕄) (inPts (F := F) tb w d s) :=
  (inferInstance : BI.Storable (upEmb : UEmb _ 𝕄) iprop(((T d : Thread nD τ).loc main_arg2 ↦{s} tb d) ∗ ((T d : Thread nD τ).loc main_v8 ↦{s} w d)))

/-- Each SparseCore has its share and its rows of the call's output, each subcore a part of the share and its own rows;
    the rows come back gathered. -/
def P : (K (F := F)).Pay (nD := nD) (Val := Elt F) (Name := ℕ) (U := UU) where
  st := fun q d c => iprop(inPts (F := F) tb w d (cs ⟨c.val, c.isLt.trans_eq (by fin_cases q <;> rfl)⟩)
    ∗ ∃ f, oPts (F := F) q d (cr ⟨c.val, c.isLt.trans_eq (by fin_cases q <;> rfl)⟩) f)
  dn := fun q d c => iprop(inPts (F := F) tb w d (cs ⟨c.val, c.isLt.trans_eq (by fin_cases q <;> rfl)⟩)
    ∗ oPts (F := F) q d (cr ⟨c.val, c.isLt.trans_eq (by fin_cases q <;> rfl)⟩) (gat q (w d) (tb d)))
  go := fun q d c s => iprop(inPts (F := F) tb w d (part s.val (cs ⟨c.val, c.isLt.trans_eq (by fin_cases q <;> rfl)⟩))
    ∗ ∃ f, oPts (F := F) q d (tr ⟨c.val, c.isLt.trans_eq (by fin_cases q <;> rfl)⟩ ⟨s.val, s.isLt.trans_eq (by fin_cases q <;> rfl)⟩) f)
  td := fun q d c s => iprop(inPts (F := F) tb w d (part s.val (cs ⟨c.val, c.isLt.trans_eq (by fin_cases q <;> rfl)⟩))
    ∗ oPts (F := F) q d (tr ⟨c.val, c.isLt.trans_eq (by fin_cases q <;> rfl)⟩ ⟨s.val, s.isLt.trans_eq (by fin_cases q <;> rfl)⟩) (gat q (w d) (tb d)))
  x := fun _ _ => iprop(emp)

instance P_storable : (P (F := F) tb w).IsStorable where
  st q d c := (inferInstance : BI.Storable (upEmb : UEmb _ 𝕄) iprop(inPts (F := F) tb w d _ ∗ ∃ f, oPts (F := F) q d _ f))
  dn q d c := (inferInstance : BI.Storable (upEmb : UEmb _ 𝕄) iprop(inPts (F := F) tb w d _ ∗ oPts (F := F) q d _ _))
  go q d c s := (inferInstance : BI.Storable (upEmb : UEmb _ 𝕄) iprop(inPts (F := F) tb w d _ ∗ ∃ f, oPts (F := F) q d _ f))
  td q d c s := (inferInstance : BI.Storable (upEmb : UEmb _ 𝕄) iprop(inPts (F := F) tb w d _ ∗ oPts (F := F) q d _ _))

/-! ## A SparseCore's share among its subcores -/

theorem inPts_parts (d : Dev nD) (n : ℕ) (s : PosShare TreeShare) :
    inPts (F := F) tb w d s = iprop((bigSep Finset.univ fun k : Fin n => inPts (F := F) tb w d (part k.val s)) ∗ inPts (F := F) tb w d (left n s)) := by
  unfold inPts
  rw [bigSep_sep', pointsTo_parts (ℓ := (T d : Thread nD τ).loc main_arg2) Finset.univ (tb d) n s, pointsTo_parts (ℓ := (T d : Thread nD τ).loc main_v8) Finset.univ (w d) n s]
  exact sep_swap _ _ _ _

theorem split16 (q : Fin 4) (d : Dev nD) (c : Fin 2) :
    iprop(inPts (F := F) tb w d (cs c) ∗ ∃ f, oPts (F := F) q d (cr c) f)
      ⊢ iprop((bigSep Finset.univ fun s : Fin 16 => iprop(inPts (F := F) tb w d (part s.val (cs c)) ∗ ∃ f, oPts (F := F) q d (tr c s) f))
        ∗ ((bigSep Finset.univ fun s : Fin 16 => iprop(inPts (F := F) tb w d (part s.val (cs c)) ∗ oPts (F := F) q d (tr c s) (gat q (w d) (tb d))))
          -∗ iprop(inPts (F := F) tb w d (cs c) ∗ oPts (F := F) q d (cr c) (gat q (w d) (tb d))))) := by
  rw [bigSep_sep', bigSep_sep', inPts_parts (F := F) tb w d 16 (cs c), ← tr_cover c]
  simp only [oPts_biUnion (F := F) q d Finset.univ (tr c) (tr_disjoint c)]
  have he : ∀ f : S51200x128.Idx → Elt F .f32, (bigSep Finset.univ fun s : Fin 16 => oPts (F := F) q d (tr c s) f)
      ⊢ bigSep Finset.univ fun s : Fin 16 => iprop(∃ f, oPts (F := F) q d (tr c s) f) := fun f =>
    bigSep_mono fun s _ => (show oPts (F := F) q d (tr c s) f ⊢ iprop(∃ f, oPts (F := F) q d (tr c s) f) by iintro H; iexists f; iexact H)
  iintro ⟨⟨Hp, Hl⟩, %f, Ho⟩
  isplitl [Hp Ho]
  · isplitl [Hp]; · iexact Hp
    iapply (he f) $$ Ho
  iintro ⟨Hp, Ho⟩
  isplitr [Ho]
  · isplitl [Hp] <;> iassumption
  iexact Ho

theorem vecSplit (q : Fin 4) : (K (F := F)).VecSplit' (P tb w) q := by
  intro d c
  match q with
  | 0 => exact (split16 (F := F) tb w 0 d c).trans fupd_intro
  | 1 => exact (split16 (F := F) tb w 1 d c).trans fupd_intro
  | 2 => exact (split16 (F := F) tb w 2 d c).trans fupd_intro
  | 3 => exact (split16 (F := F) tb w 3 d c).trans fupd_intro

end Cert.Proof.Gather
-- ==== Proof.Main.lean ====
/-
  The steps of the launch's @main on the TensorCore, each over every unscoped buffer held at a valuation: a host operation,
  a SparseCore call, a TensorCore call.
-/
module

public import proofs.«01_k».proof.Proof.Seg
public import proofs.«01_k».proof.Proof.Pay
public import Idealize.ShloMosaic.Lib.Pipeline.Frame
public import Idealize.ShloMosaic.Lib.StableHlo.Run

@[expose] public section

noncomputable section

namespace Cert.Proof.Gather

open Cert.KernelIdeal Cert.KernelIdeal.Gen
open Idealize.ShloMosaic
open Idealize.ShloMosaic.TcCoe
open Idealize.ShloMosaic.SparseCore (S T)
open Idealize.ShloMosaic.Pipeline (Dat Cfg Window BodyObligation cellOf ucRefs)
open Idealize.ShloMosaic.StableHlo (held held_sub_split held_congr wp_hlo_within)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

/-- A TensorCore buffer as a device buffer. -/
abbrev dr (b : Ref sig .tc) : DevRef τ sig := Proc.devRef .tc b

/-- Every unscoped buffer of device `d` held at a valuation. -/
def heldU (W : Dev nD → Valuation τ sig (Elt F)) (d : Dev nD) : sProp 𝕄 := held (T d : Thread nD τ) (ucRefs τ sig) (W d)

theorem mem_uc (b : Ref sig .tc) (h : b.isScoped = false) : dr b ∈ ucRefs τ sig := by
  unfold ucRefs StableHlo.tcRefs
  refine Finset.mem_filter.mpr ⟨Finset.mem_map.mpr ⟨b, Finset.mem_univ _, rfl⟩, ?_⟩
  show ¬ (dr b).isScoped = true
  rw [show (dr b).isScoped = b.isScoped from rfl, h]; exact Bool.false_ne_true

/-- The valuation with one buffer replaced. -/
def upd (W : Dev nD → Valuation τ sig (Elt F)) (b : Ref sig .tc) (f : (d : Dev nD) → Buf (Elt F) ((T d : Thread nD τ).loc b)) : Dev nD → Valuation τ sig (Elt F) :=
  fun d => Function.update (W d) (dr b) (f d)

theorem upd_self (W : Dev nD → Valuation τ sig (Elt F)) (b : Ref sig .tc) (f) (d : Dev nD) : upd W b f d (dr b) = f d := Function.update_self _ _ _
theorem upd_ne (W : Dev nD → Valuation τ sig (Elt F)) (b : Ref sig .tc) (f) (d : Dev nD) (b' : Ref sig .tc) (h : b' ≠ b) : upd W b f d (dr b') = W d (dr b') :=
  Function.update_of_ne (fun e => h (Proc.devRef_injective (τ := τ) .tc e)) _ _

/-- A buffer out of the held ones, and the held ones back at the buffer's new contents. -/
theorem held_take (W : Dev nD → Valuation τ sig (Elt F)) (d : Dev nD) (A : Finset (DevRef τ sig)) (b : Ref sig .tc) (hb : dr b ∈ A) :
    (held (T d : Thread nD τ) A (W d) : sProp 𝕄) = iprop(((T d : Thread nD τ).loc b ↦{fullShare} W d (dr b)) ∗ held (T d : Thread nD τ) (A.erase (dr b)) (W d)) := by
  unfold held
  exact SparseCore.bigSep_erase' hb

theorem held_put (W : Dev nD → Valuation τ sig (Elt F)) (d : Dev nD) (A : Finset (DevRef τ sig)) (b : Ref sig .tc) (hb : dr b ∈ A) (f : (d : Dev nD) → Buf (Elt F) ((T d : Thread nD τ).loc b)) :
    (held (T d : Thread nD τ) A (upd W b f d) : sProp 𝕄) = iprop(((T d : Thread nD τ).loc b ↦{fullShare} f d) ∗ held (T d : Thread nD τ) (A.erase (dr b)) (W d)) := by
  rw [held_take (upd W b f) d A b hb, upd_self]
  congr 1
  refine held_congr _ fun b' hb' => ?_
  exact Function.update_of_ne (Finset.ne_of_mem_erase hb') _ _

/-- The rounds ghost state of the handshakes. -/
abbrev EH : Emb (URounds (GSem nD τ sig) ℕ) 𝕄 := embL

variable [FloatOps F]

/-! ## A host operation -/

theorem hlo_step (d : Dev nD) (W : Dev nD → Valuation τ sig (Elt F)) (op : HloOp τ sig (Elt F)) (hS : op.bufs ⊆ StableHlo.tcRefs τ sig) (hf : op.fresh = ∅)
    {α : Type} (k : ((b : op.writes) → b.1.ty.Contents (Elt F)) → Prog (TpuEff nD τ sig (Elt F) (SparseCore.Sig (Pipeline.Sig Λ₀ (Fin 4) fun p => (pcfgs (F := F) p).Adm) 4) .tc) α) (Q : α → sProp 𝕄) :
    iprop(boundary (T d : Thread nD τ) ∗ heldU W d)
      ⊢ iprop(((boundary (T d : Thread nD τ) ∗ heldU (fun d => op.result (W d)) d) -∗ wp frame (wpE ((K (F := F)).defs (D (F := F))) 𝒱 (T d : Thread nD τ) none) Set.univ (k (op.fn fun b => W d b.1)) Q)
        -∗ wp frame (wpE ((K (F := F)).defs (D (F := F))) 𝒱 (T d : Thread nD τ) none) Set.univ (hlo rfl op k) Q) :=
  wp_hlo_within 𝒱 (T d : Thread nD τ) none Set.univ (Pipeline.sub_ucRefs op hS) hf

/-! ## A SparseCore call -/

/-- Call `q`'s result array. -/
def outRef : Fin 4 → Ref sig .tc
  | 0 => main_v9
  | 1 => main_v11
  | 2 => main_v13
  | 3 => main_v15

/-- Call `q`'s result. -/
def outVal (tb : Dev nD → S100000x128.Idx → Elt F .f32) (w : Dev nD → S1x204800.Idx → BitVec 32) :
    (q : Fin 4) → (d : Dev nD) → Buf (Elt F) ((T d : Thread nD τ).loc (outRef q))
  | 0 => fun d => gat 0 (w d) (tb d)
  | 1 => fun d => gat 1 (w d) (tb d)
  | 2 => fun d => gat 2 (w d) (tb d)
  | 3 => fun d => gat 3 (w d) (tb d)

variable (tb : Dev nD → S100000x128.Idx → Elt F .f32) (w : Dev nD → S1x204800.Idx → BitVec 32)

theorem inPts_two (d : Dev nD) : inPts (F := F) tb w d fullShare = iprop(inPts (F := F) tb w d (cs 0) ∗ inPts (F := F) tb w d (cs 1)) := by
  unfold inPts
  rw [show ((T d : Thread nD τ).loc main_arg2 ↦{fullShare} tb d : sProp 𝕄) = iprop(((T d : Thread nD τ).loc main_arg2 ↦{cs 0} tb d) ∗ ((T d : Thread nD τ).loc main_arg2 ↦{cs 1} tb d)) from
      BI.Entails.antisymm (pointsTo_share (PosShare.mem_left_op_right fullShare)).1 (pointsTo_share (PosShare.mem_left_op_right fullShare)).2,
    show ((T d : Thread nD τ).loc main_v8 ↦{fullShare} w d : sProp 𝕄) = iprop(((T d : Thread nD τ).loc main_v8 ↦{cs 0} w d) ∗ ((T d : Thread nD τ).loc main_v8 ↦{cs 1} w d)) from
      BI.Entails.antisymm (pointsTo_share (PosShare.mem_left_op_right fullShare)).1 (pointsTo_share (PosShare.mem_left_op_right fullShare)).2]
  exact sep_swap _ _ _ _

theorem oPts_two (q : Fin 4) (d : Dev nD) (f : S51200x128.Idx → Elt F .f32) :
    oPts (F := F) q d Finset.univ f = iprop(oPts (F := F) q d (cr 0) f ∗ oPts (F := F) q d (cr 1) f) := by
  rw [← cr_cover, oPts_biUnion q d _ _ cr_disjoint, bigSep_fin_two]
  rfl

/-- Both cores' start payloads out of the table, the ids and the result array whole. -/
theorem st_both (q : Fin 4) (d : Dev nD) (f : S51200x128.Idx → Elt F .f32) :
    iprop(inPts (F := F) tb w d fullShare ∗ oPts (F := F) q d Finset.univ f) ⊢ bigSep Finset.univ fun c : Fin ((K (F := F)).nCore q) => (P (F := F) tb w).st q d c := by
  have h : iprop(inPts (F := F) tb w d fullShare ∗ oPts (F := F) q d Finset.univ f)
      ⊢ (iprop((inPts (F := F) tb w d (cs 0) ∗ ∃ f, oPts (F := F) q d (cr 0) f) ∗ (inPts (F := F) tb w d (cs 1) ∗ ∃ f, oPts (F := F) q d (cr 1) f)) : sProp 𝕄) := by
    rw [inPts_two, oPts_two]
    iintro ⟨⟨Hi0, Hi1⟩, Ho0, Ho1⟩
    isplitl [Hi0 Ho0]
    · isplitl [Hi0]; · iexact Hi0
      iexists f; iexact Ho0
    isplitl [Hi1]; · iexact Hi1
    iexists f; iexact Ho1
  refine BI.Entails.trans h ?_
  fin_cases q
  all_goals exact Entails.of_eq (bigSep_fin_two (fun c : Fin 2 => (iprop(inPts (F := F) tb w d (cs c) ∗ ∃ f, oPts (F := F) _ d (cr c) f) : sProp 𝕄))).symm

/-- The table, the ids and the gathered rows whole out of both cores' done payloads. -/
theorem dn_both (q : Fin 4) (d : Dev nD) :
    (bigSep Finset.univ fun c : Fin ((K (F := F)).nCore q) => (P (F := F) tb w).dn q d c) ⊢ iprop(inPts (F := F) tb w d fullShare ∗ oPts (F := F) q d Finset.univ (gat q (w d) (tb d))) := by
  have h : (iprop((inPts (F := F) tb w d (cs 0) ∗ oPts (F := F) q d (cr 0) (gat q (w d) (tb d))) ∗ (inPts (F := F) tb w d (cs 1) ∗ oPts (F := F) q d (cr 1) (gat q (w d) (tb d)))) : sProp 𝕄)
      ⊢ iprop(inPts (F := F) tb w d fullShare ∗ oPts (F := F) q d Finset.univ (gat q (w d) (tb d))) := by
    rw [inPts_two, oPts_two]
    exact Entails.of_eq (sep_swap _ _ _ _)
  refine BI.Entails.trans ?_ h
  fin_cases q
  all_goals exact Entails.of_eq (bigSep_fin_two (fun c : Fin 2 => (iprop(inPts (F := F) tb w d (cs c) ∗ oPts (F := F) _ d (cr c) (gat _ (w d) (tb d))) : sProp 𝕄)))

theorem oPts_whole (q : Fin 4) (d : Dev nD) (W : Dev nD → Valuation τ sig (Elt F)) : ((T d : Thread nD τ).loc (outRef q) ↦{fullShare} W d (dr (outRef q)) : sProp 𝕄) ⊢ ∃ f, oPts (F := F) q d Finset.univ f := by
  match q with
  | 0 => exact BIBase.Entails.trans (BIBase.Entails.rfl (P := oPts (F := F) 0 d Finset.univ (W d (dr main_v9)))) (BIClass.exists_intro (Φ := fun f => oPts (F := F) 0 d Finset.univ f) (W d (dr main_v9)))
  | 1 => exact BIBase.Entails.trans (BIBase.Entails.rfl (P := oPts (F := F) 1 d Finset.univ (W d (dr main_v11)))) (BIClass.exists_intro (Φ := fun f => oPts (F := F) 1 d Finset.univ f) (W d (dr main_v11)))
  | 2 => exact BIBase.Entails.trans (BIBase.Entails.rfl (P := oPts (F := F) 2 d Finset.univ (W d (dr main_v13)))) (BIClass.exists_intro (Φ := fun f => oPts (F := F) 2 d Finset.univ f) (W d (dr main_v13)))
  | 3 => exact BIBase.Entails.trans (BIBase.Entails.rfl (P := oPts (F := F) 3 d Finset.univ (W d (dr main_v15)))) (BIClass.exists_intro (Φ := fun f => oPts (F := F) 3 d Finset.univ f) (W d (dr main_v15)))

theorem oPts_val (q : Fin 4) (d : Dev nD) : oPts (F := F) q d Finset.univ (gat q (w d) (tb d)) ⊢ ((T d : Thread nD τ).loc (outRef q) ↦{fullShare} outVal tb w q d : sProp 𝕄) := by
  match q with
  | 0 => exact BIBase.Entails.rfl
  | 1 => exact BIBase.Entails.rfl
  | 2 => exact BIBase.Entails.rfl
  | 3 => exact BIBase.Entails.rfl

theorem outRef_ne : ∀ q : Fin 4, main_arg2 ≠ outRef q ∧ main_v8 ≠ outRef q ∧ (outRef q).isScoped = false := by decide

theorem run_step (κ : GSem nD τ sig → ℕ) (d : Dev nD) (q : Fin 4) (W : Dev nD → Valuation τ sig (Elt F)) (h2 : W d (dr main_arg2) = tb d) (h8 : W d (dr main_v8) = w d) (Φ : PUnit → sProp 𝕄) :
    iprop((K (F := F)).ctx EH (P (F := F) tb w) κ ∗ (K (F := F)).tcSt EH d q.val ∗ heldU W d
        ∗ (((K (F := F)).tcSt EH d (q.val + 1) ∗ heldU (upd W (outRef q) (outVal tb w q)) d) -∗ Φ ⟨⟩))
      ⊢ wp frame (wpE ((K (F := F)).defs (D (F := F))) 𝒱 (T d : Thread nD τ) none) Set.univ ((K (F := F)).run d q) Φ := by
  obtain ⟨n2, n8, nu⟩ := outRef_ne q
  have m2 : dr main_arg2 ∈ (ucRefs τ sig).erase (dr (outRef q)) := Finset.mem_erase.mpr ⟨fun e => n2 (Proc.devRef_injective (τ := τ) .tc e), mem_uc _ rfl⟩
  have m8 : dr main_v8 ∈ ((ucRefs τ sig).erase (dr (outRef q))).erase (dr main_arg2) :=
    Finset.mem_erase.mpr ⟨fun e => absurd (Proc.devRef_injective (τ := τ) .tc e) (by decide), Finset.mem_erase.mpr ⟨fun e => n8 (Proc.devRef_injective (τ := τ) .tc e), mem_uc _ rfl⟩⟩
  unfold heldU
  rw [held_take W d _ (outRef q) (mem_uc _ nu), held_put W d _ (outRef q) (mem_uc _ nu) (outVal tb w q), held_take W d _ main_arg2 m2, held_take W d _ main_v8 m8, h2, h8]
  iintro ⟨Hctx, Hst, ⟨Ho, H2, H8, Hrest⟩, HΦ⟩
  ihave Ho := (oPts_whole (F := F) q d W) $$ Ho
  icases Ho with ⟨%f, Ho⟩
  iapply ((K (F := F)).wp_run (D (F := F)) 𝒱 (EH := EH) (P := P (F := F) tb w) κ d q)
  isplitl [Hctx]; · iexact Hctx
  isplitl [Hst]; · iexact Hst
  isplitl [H2 H8 Ho]
  · iapply (st_both (F := F) tb w q d f)
    isplitl [H2 H8]
    · unfold inPts; isplitl [H2]; · iexact H2
      iexact H8
    iexact Ho
  iintro ⟨Hst, Hdn⟩
  ihave Hdn := (dn_both (F := F) tb w q d) $$ Hdn
  icases Hdn with ⟨Hin, Ho⟩
  ihave Hin := (Entails.of_eq (show inPts (F := F) tb w d fullShare = iprop(((T d : Thread nD τ).loc main_arg2 ↦{fullShare} tb d) ∗ ((T d : Thread nD τ).loc main_v8 ↦{fullShare} w d)) from rfl)) $$ Hin
  icases Hin with ⟨H2, H8⟩
  ihave Ho := (oPts_val (F := F) tb w q d) $$ Ho
  iapply HΦ
  isplitl [Hst]; · iexact Hst
  isplitl [Ho]; · iexact Ho
  isplitl [H2]; · iexact H2
  isplitl [H8]; · iexact H8
  iexact Hrest

/-! ## A TensorCore call -/

/-- A valuation as the calls' arrays read it. -/
abbrev Vof (W : Dev nD → Valuation τ sig (Elt F)) : (c : Dev nD) → (b : Ref sig .tc) → Buf (Elt F) ((c : Thread nD τ).loc b) := fun c b => W c (dr b)

theorem heldU_eq (W : Dev nD → Valuation τ sig (Elt F)) (d : Dev nD) : (unscopedBufs d (Vof W d) : sProp 𝕄) = heldU W d :=
  Pipeline.unscopedBufs_held d (W d)

theorem region_step [∀ e, Nonempty (Elt F e)] (p : Fin 4) (d : Dev nD) (W : Dev nD → Valuation τ sig (Elt F)) (b : Ref sig .tc) (f : (d : Dev nD) → Buf (Elt F) ((T d : Thread nD τ).loc b))
    (hF : ∀ c w, (pdats (F := F) (Vof W) p c).arrAt w (Pipeline.pin (pcfgs (F := F)) adm p).N = Vof (upd W b f) c (Pipeline.arrRef (Pipeline.pin (pcfgs (F := F)) adm p).spec w))
    (hb : b ∈ Finset.univ.image (Pipeline.arrRef (Pipeline.pin (pcfgs (F := F)) adm p).spec)) (Φ : PUnit → sProp 𝕄) :
    iprop(((boundary (T d : Thread nD τ) ∗ heldU (upd W b f) d ∗ owesDone (F := F) d) -∗ Φ ⟨⟩)
        ∗ boundary (T d : Thread nD τ) ∗ heldU W d ∗ owesDone (F := F) d ∗ levAts (K (F := F)).L (K (F := F)).lev ∗ ghost (F := F) p d)
      ⊢ wp frame (wpE ((K (F := F)).defs (D (F := F))) 𝒱 (T d : Thread nD τ) none) Set.univ (Prog.lift (.customCall (SparseCore.inner (Pipeline.entry p)) ())) Φ := by
  refine BIBase.Entails.trans ?_ ((K (F := F)).wp_liftProg (D (F := F)) 𝒱 (T d) Set.univ none (.op (.customCall (Pipeline.entry p) ()) .ret) Φ)
  have hrest : ∀ c b', b' ∉ Finset.univ.image (Pipeline.arrRef (Pipeline.pin (pcfgs (F := F)) adm p).spec) → Vof (upd W b f) c b' = Vof W c b' :=
    fun c b' h => upd_ne W b f c b' (fun e => h (e ▸ hb))
  have hw := Pipeline.RegionSeg.wp (pcfgs (F := F)) adm (pdats (Vof W)) none phinj EP defs₀ 𝒱₀ (K (F := F)).L (K (F := F)).lev
    (reg (F := F) (Vof W) (Vof (upd W b f)) p hF hrest) d none (fun u hu => absurd hu (by simp)) .ret Φ
  refine BIBase.Entails.trans ?_ hw
  have e1 : (reg (F := F) (Vof W) (Vof (upd W b f)) p hF hrest).pre d = iprop(heldU W d ∗ owesDone (F := F) d) := by
    show iprop(unscopedBufs d (Vof W d) ∗ owesDone (F := F) d) = _
    rw [heldU_eq]
  have e2 : (reg (F := F) (Vof W) (Vof (upd W b f)) p hF hrest).post d = iprop(heldU (upd W b f) d ∗ owesDone (F := F) d) := by
    show iprop(unscopedBufs d (Vof (upd W b f) d) ∗ owesDone (F := F) d) = _
    rw [heldU_eq]
  rw [e1, e2]
  iintro ⟨Hk, Hb, Hh, HO, Hlv, Hg⟩
  icases Hg with ⟨Hg1, Hg2⟩
  isplitl [Hk]
  · iintro H
    rw [wp_ret]; imodintro
    iapply Hk; iexact H
  isplitl [Hb]; · iexact Hb
  isplitl [Hh HO]
  · isplitl [Hh] <;> iassumption
  isplitl [Hlv]; · iexact Hlv
  isplitl [Hg1] <;> iassumption

end Cert.Proof.Gather
-- ==== Proof.Vals.lean ====
/-
  What the unscoped buffers hold after each step of @main, as functions of the launch memory.
-/
module

public import proofs.«01_k».proof.Proof.Main
public import proofs.«01_k».proof.Proof.Pay
public import Idealize.ShloMosaic.Lib.Pipeline.Frame
public import Idealize.ShloMosaic.Lib.StableHlo.Run

@[expose] public section

noncomputable section

namespace Cert.Proof.Gather

open Cert.KernelIdeal Cert.KernelIdeal.Gen
open Idealize.ShloMosaic
open Idealize.ShloMosaic.TcCoe
open Idealize.ShloMosaic.SparseCore (S T)
open Idealize.ShloMosaic.Pipeline (Dat Cfg Window BodyObligation cellOf ucRefs)
open Idealize.ShloMosaic.StableHlo (held held_sub_split held_congr wp_hlo_within)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]
variable (m : (ℓ : Loc nD τ sig) → Buf (Elt F) ℓ)

/-- The launch contents. -/
def W0 : Dev nD → Valuation τ sig (Elt F) := fun d b => m (d, b)

/-- A host operation of @main. -/
abbrev opP0 : HloOp τ sig (Elt F) := StableHlo.unary main_arg1 main_v0 (sitofp .bf16 : (⟨S1024x200, .i32⟩ : BufTy).Contents (Elt F) → (⟨S1024x200, .bf16⟩ : BufTy).Contents (Elt F))
/-- After it. -/
def P0 : Dev nD → Valuation τ sig (Elt F) := fun d => (opP0 (F := F)).result (W0 m d)
theorem P0_ne (d : Dev nD) (b : Ref sig .tc) (h : b ≠ main_v0) : P0 m d (dr b) = W0 m d (dr b) :=
  StableHlo.unary_result_ne main_arg1 main_v0 _ _ _ _ h

/-- A host operation of @main. -/
abbrev opP1 : HloOp τ sig (Elt F) := StableHlo.unary main_arg3 main_v1 ((extractStridedSlice S200x128 ![0, 0] · slices_S512x128_S200x128_0_0) : (⟨S512x128, .f32⟩ : BufTy).Contents (Elt F) → (⟨S200x128, .f32⟩ : BufTy).Contents (Elt F))
/-- After it. -/
def P1 : Dev nD → Valuation τ sig (Elt F) := fun d => (opP1 (F := F)).result (P0 m d)
theorem P1_ne (d : Dev nD) (b : Ref sig .tc) (h : b ≠ main_v1) : P1 m d (dr b) = P0 m d (dr b) :=
  StableHlo.unary_result_ne main_arg3 main_v1 _ _ _ _ h

/-- A host operation of @main. -/
abbrev opP2 : HloOp τ sig (Elt F) := StableHlo.unary main_v1 main_v2 ((truncf .bf16 · bitsLt_bf16_f32) : (⟨S200x128, .f32⟩ : BufTy).Contents (Elt F) → (⟨S200x128, .bf16⟩ : BufTy).Contents (Elt F))
/-- After it. -/
def P2 : Dev nD → Valuation τ sig (Elt F) := fun d => (opP2 (F := F)).result (P1 m d)
theorem P2_ne (d : Dev nD) (b : Ref sig .tc) (h : b ≠ main_v2) : P2 m d (dr b) = P1 m d (dr b) :=
  StableHlo.unary_result_ne main_v1 main_v2 _ _ _ _ h

/-- A host operation of @main. -/
abbrev opP3 : HloOp τ sig (Elt F) := StableHlo.unary main_arg4 main_v3 ((truncf .bf16 · bitsLt_bf16_f32) : (⟨S2x128, .f32⟩ : BufTy).Contents (Elt F) → (⟨S2x128, .bf16⟩ : BufTy).Contents (Elt F))
/-- After it. -/
def P3 : Dev nD → Valuation τ sig (Elt F) := fun d => (opP3 (F := F)).result (P2 m d)
theorem P3_ne (d : Dev nD) (b : Ref sig .tc) (h : b ≠ main_v3) : P3 m d (dr b) = P2 m d (dr b) :=
  StableHlo.unary_result_ne main_arg4 main_v3 _ _ _ _ h

/-- A host operation of @main. -/
abbrev opP4 : HloOp τ sig (Elt F) := StableHlo.unary main_arg5 main_v4 ((truncf .bf16 · bitsLt_bf16_f32) : (⟨S128, .f32⟩ : BufTy).Contents (Elt F) → (⟨S128, .bf16⟩ : BufTy).Contents (Elt F))
/-- After it. -/
def P4 : Dev nD → Valuation τ sig (Elt F) := fun d => (opP4 (F := F)).result (P3 m d)
theorem P4_ne (d : Dev nD) (b : Ref sig .tc) (h : b ≠ main_v4) : P4 m d (dr b) = P3 m d (dr b) :=
  StableHlo.unary_result_ne main_arg5 main_v4 _ _ _ _ h

/-- A host operation of @main. -/
abbrev opP5 : HloOp τ sig (Elt F) := StableHlo.reshape main_v4 main_v5 (rfl : (.bf16 : EltTy) = .bf16) shapeCasts_S128_S1x128
/-- After it. -/
def P5 : Dev nD → Valuation τ sig (Elt F) := fun d => (opP5 (F := F)).result (P4 m d)
theorem P5_ne (d : Dev nD) (b : Ref sig .tc) (h : b ≠ main_v5) : P5 m d (dr b) = P4 m d (dr b) :=
  StableHlo.reshape_result_ne main_v4 main_v5 _ _ _ _ _ h

/-- A host operation of @main. -/
abbrev opP6 : HloOp τ sig (Elt F) := StableHlo.unary main_arg6 main_v6 ((truncf .bf16 · bitsLt_bf16_f32) : (⟨S128, .f32⟩ : BufTy).Contents (Elt F) → (⟨S128, .bf16⟩ : BufTy).Contents (Elt F))
/-- After it. -/
def P6 : Dev nD → Valuation τ sig (Elt F) := fun d => (opP6 (F := F)).result (P5 m d)
theorem P6_ne (d : Dev nD) (b : Ref sig .tc) (h : b ≠ main_v6) : P6 m d (dr b) = P5 m d (dr b) :=
  StableHlo.unary_result_ne main_arg6 main_v6 _ _ _ _ h

/-- A host operation of @main. -/
abbrev opP7 : HloOp τ sig (Elt F) := StableHlo.reshape main_v6 main_v7 (rfl : (.bf16 : EltTy) = .bf16) shapeCasts_S128_S1x128
/-- After it. -/
def P7 : Dev nD → Valuation τ sig (Elt F) := fun d => (opP7 (F := F)).result (P6 m d)
theorem P7_ne (d : Dev nD) (b : Ref sig .tc) (h : b ≠ main_v7) : P7 m d (dr b) = P6 m d (dr b) :=
  StableHlo.reshape_result_ne main_v6 main_v7 _ _ _ _ _ h

/-- A host operation of @main. -/
abbrev opP8 : HloOp τ sig (Elt F) := StableHlo.reshape main_arg0 main_v8 (rfl : (.i32 : EltTy) = .i32) shapeCasts_S1024x200_S1x204800
/-- After it. -/
def P8 : Dev nD → Valuation τ sig (Elt F) := fun d => (opP8 (F := F)).result (P7 m d)
theorem P8_ne (d : Dev nD) (b : Ref sig .tc) (h : b ≠ main_v8) : P8 m d (dr b) = P7 m d (dr b) :=
  StableHlo.reshape_result_ne main_arg0 main_v8 _ _ _ _ _ h

/-- The table and the ids as the SparseCore calls find them. -/
def tbm : Dev nD → S100000x128.Idx → Elt F .f32 := fun d => W0 m d (dr main_arg2)
@[inherit_doc tbm] def idm : Dev nD → S1x204800.Idx → BitVec 32 := fun d => P8 m d (dr main_v8)

/-- After a call: its result array replaced. -/
def S0 : Dev nD → Valuation τ sig (Elt F) := upd (P8 m) main_v9 (outVal (tbm m) (idm m) 0)
theorem S0_ne (d : Dev nD) (b : Ref sig .tc) (h : b ≠ main_v9) : S0 m d (dr b) = P8 m d (dr b) := upd_ne _ _ _ d b h
theorem S0_self (d : Dev nD) : S0 m d (dr main_v9) = (outVal (tbm m) (idm m) 0) d := upd_self _ _ _ d

/-- A host operation of @main. -/
abbrev opR0 : HloOp τ sig (Elt F) := StableHlo.reshape main_v9 main_v10 (rfl : (.f32 : EltTy) = .f32) shapeCasts_S51200x128_S256x200x128
/-- After it. -/
def R0 : Dev nD → Valuation τ sig (Elt F) := fun d => (opR0 (F := F)).result (S0 m d)
theorem R0_ne (d : Dev nD) (b : Ref sig .tc) (h : b ≠ main_v10) : R0 m d (dr b) = S0 m d (dr b) :=
  StableHlo.reshape_result_ne main_v9 main_v10 _ _ _ _ _ h

/-- After a call: its result array replaced. -/
def S1 : Dev nD → Valuation τ sig (Elt F) := upd (R0 m) main_v11 (outVal (tbm m) (idm m) 1)
theorem S1_ne (d : Dev nD) (b : Ref sig .tc) (h : b ≠ main_v11) : S1 m d (dr b) = R0 m d (dr b) := upd_ne _ _ _ d b h
theorem S1_self (d : Dev nD) : S1 m d (dr main_v11) = (outVal (tbm m) (idm m) 1) d := upd_self _ _ _ d

/-- A host operation of @main. -/
abbrev opR1 : HloOp τ sig (Elt F) := StableHlo.reshape main_v11 main_v12 (rfl : (.f32 : EltTy) = .f32) shapeCasts_S51200x128_S256x200x128
/-- After it. -/
def R1 : Dev nD → Valuation τ sig (Elt F) := fun d => (opR1 (F := F)).result (S1 m d)
theorem R1_ne (d : Dev nD) (b : Ref sig .tc) (h : b ≠ main_v12) : R1 m d (dr b) = S1 m d (dr b) :=
  StableHlo.reshape_result_ne main_v11 main_v12 _ _ _ _ _ h

/-- After a call: its result array replaced. -/
def S2 : Dev nD → Valuation τ sig (Elt F) := upd (R1 m) main_v13 (outVal (tbm m) (idm m) 2)
theorem S2_ne (d : Dev nD) (b : Ref sig .tc) (h : b ≠ main_v13) : S2 m d (dr b) = R1 m d (dr b) := upd_ne _ _ _ d b h
theorem S2_self (d : Dev nD) : S2 m d (dr main_v13) = (outVal (tbm m) (idm m) 2) d := upd_self _ _ _ d

/-- A host operation of @main. -/
abbrev opR2 : HloOp τ sig (Elt F) := StableHlo.reshape main_v13 main_v14 (rfl : (.f32 : EltTy) = .f32) shapeCasts_S51200x128_S256x200x128
/-- After it. -/
def R2 : Dev nD → Valuation τ sig (Elt F) := fun d => (opR2 (F := F)).result (S2 m d)
theorem R2_ne (d : Dev nD) (b : Ref sig .tc) (h : b ≠ main_v14) : R2 m d (dr b) = S2 m d (dr b) :=
  StableHlo.reshape_result_ne main_v13 main_v14 _ _ _ _ _ h

/-- After a call: its result array replaced. -/
def S3 : Dev nD → Valuation τ sig (Elt F) := upd (R2 m) main_v15 (outVal (tbm m) (idm m) 3)
theorem S3_ne (d : Dev nD) (b : Ref sig .tc) (h : b ≠ main_v15) : S3 m d (dr b) = R2 m d (dr b) := upd_ne _ _ _ d b h
theorem S3_self (d : Dev nD) : S3 m d (dr main_v15) = (outVal (tbm m) (idm m) 3) d := upd_self _ _ _ d

/-- A host operation of @main. -/
abbrev opR3 : HloOp τ sig (Elt F) := StableHlo.reshape main_v15 main_v16 (rfl : (.f32 : EltTy) = .f32) shapeCasts_S51200x128_S256x200x128
/-- After it. -/
def R3 : Dev nD → Valuation τ sig (Elt F) := fun d => (opR3 (F := F)).result (S3 m d)
theorem R3_ne (d : Dev nD) (b : Ref sig .tc) (h : b ≠ main_v16) : R3 m d (dr b) = S3 m d (dr b) :=
  StableHlo.reshape_result_ne main_v15 main_v16 _ _ _ _ _ h

/-- What TensorCore call 0 leaves in its result array. -/
def tcOut0 : (d : Dev nD) → Buf (Elt F) ((T d : Thread nD τ).loc main_v17) := fun d => (dat4 (Vof (R3 m)) d).arrAt 6 cfg4.N

/-- After a call: its result array replaced. -/
def C0 : Dev nD → Valuation τ sig (Elt F) := upd (R3 m) main_v17 (tcOut0 m)
theorem C0_ne (d : Dev nD) (b : Ref sig .tc) (h : b ≠ main_v17) : C0 m d (dr b) = R3 m d (dr b) := upd_ne _ _ _ d b h
theorem C0_self (d : Dev nD) : C0 m d (dr main_v17) = (tcOut0 m) d := upd_self _ _ _ d

theorem hF0 (c : Dev nD) : ∀ w, (pdats (F := F) (Vof (R3 m)) 0 c).arrAt w (Pipeline.pin (pcfgs (F := F)) adm 0).N
    = Vof (C0 m) c (Pipeline.arrRef (Pipeline.pin (pcfgs (F := F)) adm 0).spec w) := fun
  | ⟨6, _⟩ => (C0_self m c).symm
  | ⟨0, _⟩ => ((dat4 (Vof (R3 m)) c).arrAt_in (0 : Fin 7) rfl _).trans (C0_ne m c main_v10 (by decide)).symm
  | ⟨1, _⟩ => ((dat4 (Vof (R3 m)) c).arrAt_in (1 : Fin 7) rfl _).trans (C0_ne m c main_v0 (by decide)).symm
  | ⟨2, _⟩ => ((dat4 (Vof (R3 m)) c).arrAt_in (2 : Fin 7) rfl _).trans (C0_ne m c main_v2 (by decide)).symm
  | ⟨3, _⟩ => ((dat4 (Vof (R3 m)) c).arrAt_in (3 : Fin 7) rfl _).trans (C0_ne m c main_v3 (by decide)).symm
  | ⟨4, _⟩ => ((dat4 (Vof (R3 m)) c).arrAt_in (4 : Fin 7) rfl _).trans (C0_ne m c main_v5 (by decide)).symm
  | ⟨5, _⟩ => ((dat4 (Vof (R3 m)) c).arrAt_in (5 : Fin 7) rfl _).trans (C0_ne m c main_v7 (by decide)).symm

/-- A host operation of @main. -/
abbrev opA1 : HloOp τ sig (Elt F) := StableHlo.unary main_v17 main_v18 id
/-- After it. -/
def A1 : Dev nD → Valuation τ sig (Elt F) := fun d => (opA1 (F := F)).result (C0 m d)
theorem A1_ne (d : Dev nD) (b : Ref sig .tc) (h : b ≠ main_v18) : A1 m d (dr b) = C0 m d (dr b) :=
  StableHlo.unary_result_ne main_v17 main_v18 _ _ _ _ h

/-- What TensorCore call 1 leaves in its result array. -/
def tcOut1 : (d : Dev nD) → Buf (Elt F) ((T d : Thread nD τ).loc main_v18) := fun d => (dat5 (Vof (A1 m)) d).arrAt 6 cfg5.N

/-- After a call: its result array replaced. -/
def C1 : Dev nD → Valuation τ sig (Elt F) := upd (A1 m) main_v18 (tcOut1 m)
theorem C1_ne (d : Dev nD) (b : Ref sig .tc) (h : b ≠ main_v18) : C1 m d (dr b) = A1 m d (dr b) := upd_ne _ _ _ d b h
theorem C1_self (d : Dev nD) : C1 m d (dr main_v18) = (tcOut1 m) d := upd_self _ _ _ d

theorem hF1 (c : Dev nD) : ∀ w, (pdats (F := F) (Vof (A1 m)) 1 c).arrAt w (Pipeline.pin (pcfgs (F := F)) adm 1).N
    = Vof (C1 m) c (Pipeline.arrRef (Pipeline.pin (pcfgs (F := F)) adm 1).spec w) := fun
  | ⟨6, _⟩ => (C1_self m c).symm
  | ⟨0, _⟩ => ((dat5 (Vof (A1 m)) c).arrAt_in (0 : Fin 7) rfl _).trans (C1_ne m c main_v12 (by decide)).symm
  | ⟨1, _⟩ => ((dat5 (Vof (A1 m)) c).arrAt_in (1 : Fin 7) rfl _).trans (C1_ne m c main_v0 (by decide)).symm
  | ⟨2, _⟩ => ((dat5 (Vof (A1 m)) c).arrAt_in (2 : Fin 7) rfl _).trans (C1_ne m c main_v2 (by decide)).symm
  | ⟨3, _⟩ => ((dat5 (Vof (A1 m)) c).arrAt_in (3 : Fin 7) rfl _).trans (C1_ne m c main_v3 (by decide)).symm
  | ⟨4, _⟩ => ((dat5 (Vof (A1 m)) c).arrAt_in (4 : Fin 7) rfl _).trans (C1_ne m c main_v5 (by decide)).symm
  | ⟨5, _⟩ => ((dat5 (Vof (A1 m)) c).arrAt_in (5 : Fin 7) rfl _).trans (C1_ne m c main_v7 (by decide)).symm

/-- A host operation of @main. -/
abbrev opA2 : HloOp τ sig (Elt F) := StableHlo.unary main_v18 main_v19 id
/-- After it. -/
def A2 : Dev nD → Valuation τ sig (Elt F) := fun d => (opA2 (F := F)).result (C1 m d)
theorem A2_ne (d : Dev nD) (b : Ref sig .tc) (h : b ≠ main_v19) : A2 m d (dr b) = C1 m d (dr b) :=
  StableHlo.unary_result_ne main_v18 main_v19 _ _ _ _ h

/-- What TensorCore call 2 leaves in its result array. -/
def tcOut2 : (d : Dev nD) → Buf (Elt F) ((T d : Thread nD τ).loc main_v19) := fun d => (dat6 (Vof (A2 m)) d).arrAt 6 cfg6.N

/-- After a call: its result array replaced. -/
def C2 : Dev nD → Valuation τ sig (Elt F) := upd (A2 m) main_v19 (tcOut2 m)
theorem C2_ne (d : Dev nD) (b : Ref sig .tc) (h : b ≠ main_v19) : C2 m d (dr b) = A2 m d (dr b) := upd_ne _ _ _ d b h
theorem C2_self (d : Dev nD) : C2 m d (dr main_v19) = (tcOut2 m) d := upd_self _ _ _ d

theorem hF2 (c : Dev nD) : ∀ w, (pdats (F := F) (Vof (A2 m)) 2 c).arrAt w (Pipeline.pin (pcfgs (F := F)) adm 2).N
    = Vof (C2 m) c (Pipeline.arrRef (Pipeline.pin (pcfgs (F := F)) adm 2).spec w) := fun
  | ⟨6, _⟩ => (C2_self m c).symm
  | ⟨0, _⟩ => ((dat6 (Vof (A2 m)) c).arrAt_in (0 : Fin 7) rfl _).trans (C2_ne m c main_v14 (by decide)).symm
  | ⟨1, _⟩ => ((dat6 (Vof (A2 m)) c).arrAt_in (1 : Fin 7) rfl _).trans (C2_ne m c main_v0 (by decide)).symm
  | ⟨2, _⟩ => ((dat6 (Vof (A2 m)) c).arrAt_in (2 : Fin 7) rfl _).trans (C2_ne m c main_v2 (by decide)).symm
  | ⟨3, _⟩ => ((dat6 (Vof (A2 m)) c).arrAt_in (3 : Fin 7) rfl _).trans (C2_ne m c main_v3 (by decide)).symm
  | ⟨4, _⟩ => ((dat6 (Vof (A2 m)) c).arrAt_in (4 : Fin 7) rfl _).trans (C2_ne m c main_v5 (by decide)).symm
  | ⟨5, _⟩ => ((dat6 (Vof (A2 m)) c).arrAt_in (5 : Fin 7) rfl _).trans (C2_ne m c main_v7 (by decide)).symm

/-- A host operation of @main. -/
abbrev opA3 : HloOp τ sig (Elt F) := StableHlo.unary main_v19 main_v20 id
/-- After it. -/
def A3 : Dev nD → Valuation τ sig (Elt F) := fun d => (opA3 (F := F)).result (C2 m d)
theorem A3_ne (d : Dev nD) (b : Ref sig .tc) (h : b ≠ main_v20) : A3 m d (dr b) = C2 m d (dr b) :=
  StableHlo.unary_result_ne main_v19 main_v20 _ _ _ _ h

/-- What TensorCore call 3 leaves in its result array. -/
def tcOut3 : (d : Dev nD) → Buf (Elt F) ((T d : Thread nD τ).loc main_v20) := fun d => (dat7 (Vof (A3 m)) d).arrAt 6 cfg7.N

/-- After a call: its result array replaced. -/
def C3 : Dev nD → Valuation τ sig (Elt F) := upd (A3 m) main_v20 (tcOut3 m)
theorem C3_ne (d : Dev nD) (b : Ref sig .tc) (h : b ≠ main_v20) : C3 m d (dr b) = A3 m d (dr b) := upd_ne _ _ _ d b h
theorem C3_self (d : Dev nD) : C3 m d (dr main_v20) = (tcOut3 m) d := upd_self _ _ _ d

theorem hF3 (c : Dev nD) : ∀ w, (pdats (F := F) (Vof (A3 m)) 3 c).arrAt w (Pipeline.pin (pcfgs (F := F)) adm 3).N
    = Vof (C3 m) c (Pipeline.arrRef (Pipeline.pin (pcfgs (F := F)) adm 3).spec w) := fun
  | ⟨6, _⟩ => (C3_self m c).symm
  | ⟨0, _⟩ => ((dat7 (Vof (A3 m)) c).arrAt_in (0 : Fin 7) rfl _).trans (C3_ne m c main_v16 (by decide)).symm
  | ⟨1, _⟩ => ((dat7 (Vof (A3 m)) c).arrAt_in (1 : Fin 7) rfl _).trans (C3_ne m c main_v0 (by decide)).symm
  | ⟨2, _⟩ => ((dat7 (Vof (A3 m)) c).arrAt_in (2 : Fin 7) rfl _).trans (C3_ne m c main_v2 (by decide)).symm
  | ⟨3, _⟩ => ((dat7 (Vof (A3 m)) c).arrAt_in (3 : Fin 7) rfl _).trans (C3_ne m c main_v3 (by decide)).symm
  | ⟨4, _⟩ => ((dat7 (Vof (A3 m)) c).arrAt_in (4 : Fin 7) rfl _).trans (C3_ne m c main_v5 (by decide)).symm
  | ⟨5, _⟩ => ((dat7 (Vof (A3 m)) c).arrAt_in (5 : Fin 7) rfl _).trans (C3_ne m c main_v7 (by decide)).symm

/-- What these steps leave alone. -/
theorem keepP (d : Dev nD) (b : Ref sig .tc) (h : b ∉ [main_v0, main_v1, main_v2, main_v3, main_v4, main_v5, main_v6, main_v7, main_v8]) : P8 m d (dr b) = W0 m d (dr b) := by
  simp only [List.mem_cons, List.not_mem_nil, or_false, not_or] at h
  obtain ⟨h0, h1, h2, h3, h4, h5, h6, h7, h8⟩ := h
  rw [P8_ne m d b h8, P7_ne m d b h7, P6_ne m d b h6, P5_ne m d b h5, P4_ne m d b h4, P3_ne m d b h3, P2_ne m d b h2, P1_ne m d b h1, P0_ne m d b h0]

/-- What these steps leave alone. -/
theorem keepR0 (d : Dev nD) (b : Ref sig .tc) (h : b ∉ [main_v9, main_v10]) : R0 m d (dr b) = P8 m d (dr b) := by
  simp only [List.mem_cons, List.not_mem_nil, or_false, not_or] at h
  obtain ⟨h0, h1⟩ := h
  rw [R0_ne m d b h1, S0_ne m d b h0]

/-- What these steps leave alone. -/
theorem keepR1 (d : Dev nD) (b : Ref sig .tc) (h : b ∉ [main_v9, main_v10, main_v11, main_v12]) : R1 m d (dr b) = P8 m d (dr b) := by
  simp only [List.mem_cons, List.not_mem_nil, or_false, not_or] at h
  obtain ⟨h0, h1, h2, h3⟩ := h
  rw [R1_ne m d b h3, S1_ne m d b h2, R0_ne m d b h1, S0_ne m d b h0]

/-- What these steps leave alone. -/
theorem keepR2 (d : Dev nD) (b : Ref sig .tc) (h : b ∉ [main_v9, main_v10, main_v11, main_v12, main_v13, main_v14]) : R2 m d (dr b) = P8 m d (dr b) := by
  simp only [List.mem_cons, List.not_mem_nil, or_false, not_or] at h
  obtain ⟨h0, h1, h2, h3, h4, h5⟩ := h
  rw [R2_ne m d b h5, S2_ne m d b h4, R1_ne m d b h3, S1_ne m d b h2, R0_ne m d b h1, S0_ne m d b h0]

/-- What these steps leave alone. -/
theorem keepR3 (d : Dev nD) (b : Ref sig .tc) (h : b ∉ [main_v9, main_v10, main_v11, main_v12, main_v13, main_v14, main_v15, main_v16]) : R3 m d (dr b) = P8 m d (dr b) := by
  simp only [List.mem_cons, List.not_mem_nil, or_false, not_or] at h
  obtain ⟨h0, h1, h2, h3, h4, h5, h6, h7⟩ := h
  rw [R3_ne m d b h7, S3_ne m d b h6, R2_ne m d b h5, S2_ne m d b h4, R1_ne m d b h3, S1_ne m d b h2, R0_ne m d b h1, S0_ne m d b h0]

/-- What these steps leave alone. -/
theorem keepC0 (d : Dev nD) (b : Ref sig .tc) (h : b ∉ [main_v17]) : C0 m d (dr b) = R3 m d (dr b) := by
  simp only [List.mem_cons, List.not_mem_nil, or_false, not_or] at h
  exact C0_ne m d b h

/-- What these steps leave alone. -/
theorem keepC1 (d : Dev nD) (b : Ref sig .tc) (h : b ∉ [main_v17, main_v18, main_v18]) : C1 m d (dr b) = R3 m d (dr b) := by
  simp only [List.mem_cons, List.not_mem_nil, or_false, not_or] at h
  obtain ⟨h0, h1, h2⟩ := h
  rw [C1_ne m d b h2, A1_ne m d b h1, C0_ne m d b h0]

/-- What these steps leave alone. -/
theorem keepC2 (d : Dev nD) (b : Ref sig .tc) (h : b ∉ [main_v17, main_v18, main_v18, main_v19, main_v19]) : C2 m d (dr b) = R3 m d (dr b) := by
  simp only [List.mem_cons, List.not_mem_nil, or_false, not_or] at h
  obtain ⟨h0, h1, h2, h3, h4⟩ := h
  rw [C2_ne m d b h4, A2_ne m d b h3, C1_ne m d b h2, A1_ne m d b h1, C0_ne m d b h0]

/-- What these steps leave alone. -/
theorem keepC3 (d : Dev nD) (b : Ref sig .tc) (h : b ∉ [main_v17, main_v18, main_v18, main_v19, main_v19, main_v20, main_v20]) : C3 m d (dr b) = R3 m d (dr b) := by
  simp only [List.mem_cons, List.not_mem_nil, or_false, not_or] at h
  obtain ⟨h0, h1, h2, h3, h4, h5, h6⟩ := h
  rw [C3_ne m d b h6, A3_ne m d b h5, C2_ne m d b h4, A2_ne m d b h3, C1_ne m d b h2, A1_ne m d b h1, C0_ne m d b h0]

/-- What these steps leave alone. -/
theorem keepA1 (d : Dev nD) (b : Ref sig .tc) (h : b ∉ [main_v17, main_v18]) : A1 m d (dr b) = R3 m d (dr b) := by
  simp only [List.mem_cons, List.not_mem_nil, or_false, not_or] at h
  obtain ⟨h0, h1⟩ := h
  rw [A1_ne m d b h1, C0_ne m d b h0]

/-- What these steps leave alone. -/
theorem keepA2 (d : Dev nD) (b : Ref sig .tc) (h : b ∉ [main_v17, main_v18, main_v18, main_v19]) : A2 m d (dr b) = R3 m d (dr b) := by
  simp only [List.mem_cons, List.not_mem_nil, or_false, not_or] at h
  obtain ⟨h0, h1, h2, h3⟩ := h
  rw [A2_ne m d b h3, C1_ne m d b h2, A1_ne m d b h1, C0_ne m d b h0]

/-- What these steps leave alone. -/
theorem keepA3 (d : Dev nD) (b : Ref sig .tc) (h : b ∉ [main_v17, main_v18, main_v18, main_v19, main_v19, main_v20]) : A3 m d (dr b) = R3 m d (dr b) := by
  simp only [List.mem_cons, List.not_mem_nil, or_false, not_or] at h
  obtain ⟨h0, h1, h2, h3, h4, h5⟩ := h
  rw [A3_ne m d b h5, C2_ne m d b h4, A2_ne m d b h3, C1_ne m d b h2, A1_ne m d b h1, C0_ne m d b h0]

/-- The arguments end as they began. -/
theorem keep_args (d : Dev nD) (b : Ref sig .tc) (h : b ∈ [main_arg0, main_arg1, main_arg2, main_arg3, main_arg4, main_arg5, main_arg6]) : C3 m d (dr b) = W0 m d (dr b) := by
  rw [keepC3 m d b (fun h' => absurd h' (by revert h; revert b; decide)), keepR3 m d b (fun h' => absurd h' (by revert h; revert b; decide)), keepP m d b (fun h' => absurd h' (by revert h; revert b; decide))]

end Cert.Proof.Gather
-- ==== Proof.Obl.lean ====
/-
  Each subcore of each gather call: from its share of the table and of the index list and its rows of the call's output at
  any contents, the call's kernel leaves those rows gathered.
-/
module

public import proofs.«01_k».proof.Proof.Pay

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

/-! ## A subcore's own buffers and semaphores -/

theorem ownBufs_two (d : Dev nD) (c : Fin τ.nSC) (j : Fin τ.nSub) (a b : Ref sig .scVector)
    (ha : ((Proc.scVector c j).devRef a).owner = .proc (Proc.scVector c j)) (hb : ((Proc.scVector c j).devRef b).owner = .proc (Proc.scVector c j))
    (hne : b ≠ a) :
    (ownBufs (V d c j) : sProp 𝕄)
      = iprop((∃ f, (V d c j).loc a ↦{fullShare} f) ∗ (∃ f, (V d c j).loc b ↦{fullShare} f)
          ∗ bigSep (((ownRefs (τ := τ) (.scVector c j)).erase ((Proc.scVector c j).devRef a)).erase ((Proc.scVector c j).devRef b))
              fun b => iprop(∃ f, ((d, b) : Loc nD τ sig) ↦{fullShare} f)) := by
  unfold SparseCore.Cfg.ownBufs
  refine (SparseCore.bigSep_erase' (SparseCore.Cfg.mem_ownRefs_of_owner (p := Proc.scVector c j) (b := (Proc.scVector c j).devRef a) ha)).trans ?_
  rw [SparseCore.bigSep_erase' (Finset.mem_erase.mpr ⟨fun e => absurd (Proc.devRef_injective _ e) hne,
    SparseCore.Cfg.mem_ownRefs_of_owner (p := Proc.scVector c j) (b := (Proc.scVector c j).devRef b) hb⟩)]

theorem ownSems0_five (d : Dev nD) (c : Fin τ.nSC) (j : Fin τ.nSub) (a b e f g : DmaSem sig)
    (hs : ∀ x ∈ [a, b, e, f, g], (SemLoc.dma x : SemLoc sig).isScoped .scVector = true) (hn : [a, b, e, f, g].Nodup) :
    ∃ R : sProp 𝕄, (ownSems0 (V d c j) : sProp 𝕄)
      = iprop((semVal (V d c j, SemLoc.dma a) 0 ∗ semVal (V d c j, SemLoc.dma b) 0 ∗ semVal (V d c j, SemLoc.dma e) 0
        ∗ semVal (V d c j, SemLoc.dma f) 0 ∗ semVal (V d c j, SemLoc.dma g) 0) ∗ R) := by
  have hmem : ∀ x ∈ [a, b, e, f, g], ((V d c j, SemLoc.dma x) : GSem nD τ sig) ∈ ownCells (V d c j) := fun x hx =>
    mem_ownCells.mpr ⟨rfl, hs x hx⟩
  have hne : ∀ {x y : DmaSem sig}, x ≠ y → ((V d c j, SemLoc.dma x) : GSem nD τ sig) ≠ (V d c j, SemLoc.dma y) := fun h e =>
    h (SemLoc.dma.inj (Prod.mk.inj e).2)
  simp only [List.nodup_cons, List.mem_cons, List.not_mem_nil, or_false, not_or, not_false_eq_true, List.nodup_nil, and_true] at hn
  obtain ⟨⟨h1, h2, h3, h4⟩, ⟨h5, h6, h7⟩, ⟨h8, h9⟩, h10⟩ := hn
  refine ⟨bigSep (ownCells (V d c j) \ {(V d c j, SemLoc.dma a), (V d c j, SemLoc.dma b), (V d c j, SemLoc.dma e), (V d c j, SemLoc.dma f), (V d c j, SemLoc.dma g)})
    fun g => semVal g 0, ?_⟩
  unfold SparseCore.Cfg.ownSems0
  rw [SparseCore.bigSep_sdiff_split' (s := ownCells (V d c j))
      (t := {(V d c j, SemLoc.dma a), (V d c j, SemLoc.dma b), (V d c j, SemLoc.dma e), (V d c j, SemLoc.dma f), (V d c j, SemLoc.dma g)}) (by
    intro x hx
    simp only [Finset.mem_insert, Finset.mem_singleton] at hx
    rcases hx with rfl | rfl | rfl | rfl | rfl <;> exact hmem _ (by simp))]
  rw [SparseCore.bigSep_insert' (by simp only [Finset.mem_insert, Finset.mem_singleton, not_or]; exact ⟨hne h1, hne h2, hne h3, hne h4⟩),
    SparseCore.bigSep_insert' (by simp only [Finset.mem_insert, Finset.mem_singleton, not_or]; exact ⟨hne h5, hne h6, hne h7⟩),
    SparseCore.bigSep_insert' (by simp only [Finset.mem_insert, Finset.mem_singleton, not_or]; exact ⟨hne h8, hne h9⟩),
    SparseCore.bigSep_insert' (by simp only [Finset.mem_singleton]; exact hne h10), bigSep_singleton]

/-- A whole buffer's elements are all of them. -/
theorem any_whole {d : Dev nD} {i : grid0.Coords} {sp : Space} {s : Shape} {e : EltTy} (m : Memref sig .scVector sp s e)
    (h : m.view.set = Finset.univ) :
    any (F := F) d i m = iprop(∃ f, m.view.loc (thr d i) ↦{fullShare} f) := by
  unfold any; rw [h]

variable [FloatOps F]
variable (q : Fin 4) (d : Dev nD) (i : grid0.Coords)
  (tab : Memref sig .scVector .hbm S100000x128 .f32) (ids : Memref sig .scVector .hbm S1x204800 .i32)
  (out : Memref sig .scVector .hbm S51200x128 .f32) (ib : Memref sig .scVector .vmem S2x1x128 .i32) (is : DmaSems sig S2)
  (ob : Memref sig .scVector .vmem S2x128x128 .f32) (os : DmaSems sig S2) (gs : DmaSems sig S_)
variable (fx : Buf (Elt F) (ids.view.loc (thr d i))) (ft : Buf (Elt F) (tab.view.loc (thr d i))) (s : PosShare TreeShare)

/-- What a subcore has before the kernel: its shares of the table and of the list, its rows, its own memory. -/
def preB (O : CellTallies nD τ sig (HIx 4)) (W : Waits sig (HIx 4)) : sProp 𝕄 :=
  iprop(levAts (K (F := F)).L (K (F := F)).lev ∗ emp
        ∗ (((tab.view.loc (thr d i) ↦[tab.view.set]{s} ft) ∗ (ids.view.loc (thr d i) ↦[ids.view.set]{s} fx)) ∗ (∃ f, out.view.loc (thr d i) ↦[tset i out]{fullShare} f))
        ∗ scopedBufs (thr d i) ∗ scopedSems0 (thr d i) ∗ owes (thr d i) O W)
/-- What it has after: the rows at their content. -/
def postB (G : Buf (Elt F) (out.view.loc (thr d i))) (O : CellTallies nD τ sig (HIx 4)) (W : Waits sig (HIx 4)) : sProp 𝕄 :=
  iprop((((tab.view.loc (thr d i) ↦[tab.view.set]{s} ft) ∗ (ids.view.loc (thr d i) ↦[ids.view.set]{s} fx))
              ∗ (out.view.loc (thr d i) ↦[tset i out]{fullShare} G))
            ∗ scopedBufs (thr d i) ∗ scopedSems0 (thr d i) ∗ ∃ W', ⌜∀ p ∈ W', p ∈ W ∨ p.2 = none ∨ p.2 = some q⌝ ∗ owes (thr d i) O W')

set_option maxHeartbeats 2000000 in
/-- The kernel on one subcore, from what the handshake and the launch hand the subcore to what it hands back. -/
theorem body (hw : ∀ y, (ids.view.read (Elt F) fx y).toNat < 100000)
    (hN : ∀ t, ∑ j, ((rowS ob t).slice (S128x128.rowRect gathers_S100000x128_S128x128.axis' j)
      (S128x128.stride_rowRect gathers_S100000x128_S128x128.axis' j)).view.dmaCredit = (rowS ob t).view.dmaCredit)
    (G : Buf (Elt F) (out.view.loc (thr d i)))
    (hG : out.view.read (Elt F) G = gat q (ids.view.read (Elt F) fx) (tab.view.read (Elt F) ft))
    (hB : ∃ R : sProp 𝕄, (ownBufs (thr d i) : sProp 𝕄) = iprop(any (F := F) d i ib ∗ any (F := F) d i ob ∗ R))
    (hS : ∃ R : sProp 𝕄, (ownSems0 (thr d i) : sProp 𝕄)
      = iprop((semVal (thr d i, SemLoc.dma (semI is 0)) 0 ∗ semVal (thr d i, SemLoc.dma (semI is 1)) 0 ∗ semVal (thr d i, SemLoc.dma (semO os 0)) 0
        ∗ semVal (thr d i, SemLoc.dma (semO os 1)) 0 ∗ semVal (thr d i, SemLoc.dma gs.sem) 0) ∗ R))
    (O : CellTallies nD τ sig (HIx 4)) (W : Waits sig (HIx 4)) (hO : ∀ g, O g none = 0) (hb) (rest) :
    preB (F := F) d i tab ids out fx ft s O W
      ⊢ wpT (F := F) d i (gker (base q) i tab ids out ib is ob os gs hb rest)
          (fun _ => postB (F := F) q d i tab ids out fx ft s G O W) := by
  obtain ⟨RB, hB⟩ := hB
  obtain ⟨RS, hS⟩ := hS
  have hk := @tile F _ q d i tab ids out ib is ob os gs fx ft s s O W (hin_of q d i ids fx hw) G hN
    (fun t h => outB_gat q d i tab ids out fx ft hw _ G hG t h) hb rest
  unfold preB postB
  rw [(K (F := F)).scopedBufs_V facts d (cV i) (jV i), SparseCore.Cfg.scopedSems0_V (Val := Elt F) d (cV i) (jV i), hB, hS]
  have h1 : (iprop(levAts (K (F := F)).L (K (F := F)).lev ∗ emp
        ∗ (((tab.view.loc (thr d i) ↦[tab.view.set]{s} ft) ∗ (ids.view.loc (thr d i) ↦[ids.view.set]{s} fx)) ∗ (∃ f, out.view.loc (thr d i) ↦[tset i out]{fullShare} f))
        ∗ (any (F := F) d i ib ∗ any (F := F) d i ob ∗ RB)
        ∗ ((semVal (thr d i, SemLoc.dma (semI is 0)) 0 ∗ semVal (thr d i, SemLoc.dma (semI is 1)) 0 ∗ semVal (thr d i, SemLoc.dma (semO os 0)) 0
        ∗ semVal (thr d i, SemLoc.dma (semO os 1)) 0 ∗ semVal (thr d i, SemLoc.dma gs.sem) 0) ∗ RS) ∗ owes (thr d i) O W) : sProp 𝕄)
      ⊢ iprop((RB ∗ RS) ∗ (Transfers.MayWaits (thr d i) (default : HIx 4) O ∗ (tab.view.loc (thr d i) ↦[tab.view.set]{s} ft)
        ∗ (ids.view.loc (thr d i) ↦[ids.view.set]{s} fx) ∗ (∃ f, out.view.loc (thr d i) ↦[tset i out]{fullShare} f)
        ∗ gear (F := F) d i ib is ob os gs ∗ owes (thr d i) O W)) := by
    unfold gear
    iintro ⟨#Hlv, -, ⟨⟨Ht, Hx⟩, Ho⟩, ⟨Hib, Hob, HRB⟩, ⟨⟨H1, H2, H3, H4, H5⟩, HRS⟩, HO⟩
    ihave Hmw := (show levAts (K (F := F)).L (K (F := F)).lev ⊢ Transfers.MayWaits (thr d i) (default : HIx 4) O from
      (K (F := F)).mayWaits_none (thr := thr d i) hO) $$ Hlv
    isplitl [HRB HRS]; · isplitl [HRB] <;> iassumption
    isplitl [Hmw]; · iexact Hmw
    isplitl [Ht]; · iexact Ht
    isplitl [Hx]; · iexact Hx
    isplitl [Ho]; · iexact Ho
    isplitr [HO]
    swap; · iexact HO
    isplitl [Hib]; · iexact Hib
    isplitl [Hob]; · iexact Hob
    isplitl [H1]; · iexact H1
    isplitl [H2]; · iexact H2
    isplitl [H3]; · iexact H3
    isplitl [H4]; · iexact H4
    iexact H5
  have h2 : (iprop((RB ∗ RS) ∗ (tab.view.loc (thr d i) ↦[tab.view.set]{s} ft)
            ∗ (ids.view.loc (thr d i) ↦[ids.view.set]{s} fx) ∗ (out.view.loc (thr d i) ↦[tset i out]{fullShare} G)
            ∗ gear (F := F) d i ib is ob os gs ∗ owe (F := F) d i O W) : sProp 𝕄)
      ⊢ iprop((((tab.view.loc (thr d i) ↦[tab.view.set]{s} ft) ∗ (ids.view.loc (thr d i) ↦[ids.view.set]{s} fx))
              ∗ (out.view.loc (thr d i) ↦[tset i out]{fullShare} G))
            ∗ (any (F := F) d i ib ∗ any (F := F) d i ob ∗ RB) ∗ ((semVal (thr d i, SemLoc.dma (semI is 0)) 0 ∗ semVal (thr d i, SemLoc.dma (semI is 1)) 0 ∗ semVal (thr d i, SemLoc.dma (semO os 0)) 0
        ∗ semVal (thr d i, SemLoc.dma (semO os 1)) 0 ∗ semVal (thr d i, SemLoc.dma gs.sem) 0) ∗ RS)
            ∗ ∃ W', ⌜∀ p ∈ W', p ∈ W ∨ p.2 = none ∨ p.2 = some q⌝ ∗ owes (thr d i) O W') := by
    unfold gear owe
    iintro ⟨⟨HRB, HRS⟩, Ht, Hx, Ho, ⟨Hib, Hob, H1, H2, H3, H4, H5⟩, %W', %hW, HO⟩
    isplitl [Ht Hx Ho]
    · isplitr [Ho]
      · isplitl [Ht] <;> iassumption
      · iexact Ho
    isplitl [Hib Hob HRB]
    · isplitl [Hib]; · iexact Hib
      isplitl [Hob] <;> iassumption
    isplitr [HO]
    · isplitr [HRS]
      · isplitl [H1]; · iexact H1
        isplitl [H2]; · iexact H2
        isplitl [H3]; · iexact H3
        isplitl [H4] <;> iassumption
      · iexact HRS
    iexists W'; isplitr
    · ipureintro; exact fun p hp => (hW p hp).imp_right Or.inl
    · iexact HO
  exact h1.trans ((BIClass.sep_mono BIBase.Entails.rfl hk).trans ((wp_frame_l frame _ _).trans (wp_mono frame _ _ fun _ => h2)))

end Cert.Proof.Gather
-- ==== Proof.Calls.lean ====
/-
  The four gather calls' obligations: each subcore's program of each call, from the subcore's share to its rows gathered.
-/
module

public import proofs.«01_k».proof.Proof.Obl

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

/-- What a transfer of a subcore credits, by the shape it moves. -/
abbrev crd (s : Shape) (e : EltTy) : ℕ := RefSig.kindCredit RefSig.tileCredit RefSig.tileCredit_eq_zero RefSig.tileCredit_pos .scVector s e
theorem credit_eq {sp : Space} {s : Shape} {e : EltTy} (v : View sig .scVector sp s e) : v.dmaCredit = crd s e := rfl
set_option maxRecDepth 16384 in
theorem credit_rows : 128 * crd (S128x128.rowShape gathers_S100000x128_S128x128.axis') .f32 = crd S128x128 .f32 := by decide +kernel
/-- The rows of a gather credit together what the whole slot does. -/
theorem rows_credit (ob : Memref sig .scVector .vmem S2x128x128 .f32) (t : ℕ) : ∑ j, ((rowS ob t).slice (S128x128.rowRect gathers_S100000x128_S128x128.axis' j)
      (S128x128.stride_rowRect gathers_S100000x128_S128x128.axis' j)).view.dmaCredit = (rowS ob t).view.dmaCredit := by
  refine Eq.trans (b := ∑ _j : Fin 128, crd (S128x128.rowShape gathers_S100000x128_S128x128.axis') .f32) (Finset.sum_congr rfl fun j _ => credit_eq _) ?_
  rw [credit_eq, ← credit_rows, Finset.sum_const, Finset.card_univ, Fintype.card_fin, smul_eq_mul]

theorem whole_set (r : Ref sig .scVector) : (Memref.whole r).view.set = Finset.univ := View.set_whole r

variable [FloatOps F]
variable (tb : Dev nD → S100000x128.Idx → Elt F .f32) (w : Dev nD → S1x204800.Idx → BitVec 32)

/-- What a subcore has before its program. -/
abbrev preV (q : Fin 4) (d : Dev nD) (c : Fin 2) (s : Fin 16) (O : CellTallies nD τ sig (HIx 4)) (W : Waits sig (HIx 4)) : sProp 𝕄 :=
  iprop(levAts (K (F := F)).L (K (F := F)).lev ∗ emp
    ∗ (inPts (F := F) tb w d (part s.val (cs c)) ∗ ∃ f, oPts (F := F) q d (tr c s) f)
    ∗ scopedBufs (thr d (coordsV c s)) ∗ scopedSems0 (thr d (coordsV c s)) ∗ owes (thr d (coordsV c s)) O W)
/-- What it has after it. -/
abbrev postV (q : Fin 4) (d : Dev nD) (c : Fin 2) (s : Fin 16) (O : CellTallies nD τ sig (HIx 4)) (W : Waits sig (HIx 4)) : sProp 𝕄 :=
  iprop((inPts (F := F) tb w d (part s.val (cs c)) ∗ oPts (F := F) q d (tr c s) (gat q (w d) (tb d)))
    ∗ scopedBufs (thr d (coordsV c s)) ∗ scopedSems0 (thr d (coordsV c s)) ∗ ∃ W', ⌜∀ p ∈ W', p ∈ W ∨ p.2 = none ∨ p.2 = some q⌝ ∗ owes (thr d (coordsV c s)) O W')

set_option maxHeartbeats 2000000 in
/-- One subcore's run of a call, the memory given by its views. -/
theorem body_whole (q : Fin 4) (d : Dev nD) (c : Fin 2) (s : Fin 16)
    (tab : Memref sig .scVector .hbm S100000x128 .f32) (ids : Memref sig .scVector .hbm S1x204800 .i32)
    (out : Memref sig .scVector .hbm S51200x128 .f32) (ib : Memref sig .scVector .vmem S2x1x128 .i32) (is : DmaSems sig S2)
    (ob : Memref sig .scVector .vmem S2x128x128 .f32) (os : DmaSems sig S2) (gs : DmaSems sig S_)
    (fx : Buf (Elt F) (ids.view.loc (thr d (coordsV c s)))) (ft : Buf (Elt F) (tab.view.loc (thr d (coordsV c s))))
    (G : Buf (Elt F) (out.view.loc (thr d (coordsV c s))))
    (hx : ids.view.read (Elt F) fx = w d) (ht : tab.view.read (Elt F) ft = tb d)
    (hw : ∀ d y, (w d y).toNat < 100000)
    (hG : out.view.read (Elt F) G = gat q (w d) (tb d))
    (hB : ∃ R : sProp 𝕄, (ownBufs (thr d (coordsV c s)) : sProp 𝕄)
      = iprop(any (F := F) d (coordsV c s) ib ∗ any (F := F) d (coordsV c s) ob ∗ R))
    (hS : ∃ R : sProp 𝕄, (ownSems0 (thr d (coordsV c s)) : sProp 𝕄)
      = iprop((semVal (thr d (coordsV c s), SemLoc.dma (semI is 0)) 0 ∗ semVal (thr d (coordsV c s), SemLoc.dma (semI is 1)) 0
        ∗ semVal (thr d (coordsV c s), SemLoc.dma (semO os 0)) 0
        ∗ semVal (thr d (coordsV c s), SemLoc.dma (semO os 1)) 0 ∗ semVal (thr d (coordsV c s), SemLoc.dma gs.sem) 0) ∗ R))
    (hI : (inPts (F := F) tb w d (part s.val (cs c)) : sProp 𝕄)
      = iprop((tab.view.loc (thr d (coordsV c s)) ↦[tab.view.set]{part s.val (cs c)} ft) ∗ (ids.view.loc (thr d (coordsV c s)) ↦[ids.view.set]{part s.val (cs c)} fx)))
    (hE : (iprop(∃ f, oPts (F := F) q d (tr c s) f) : sProp 𝕄)
      = iprop(∃ f, out.view.loc (thr d (coordsV c s)) ↦[tset (coordsV c s) out]{fullShare} f))
    (hD : (oPts (F := F) q d (tr c s) (gat q (w d) (tb d)) : sProp 𝕄)
      = (out.view.loc (thr d (coordsV c s)) ↦[tset (coordsV c s) out]{fullShare} G))
    (O : CellTallies nD τ sig (HIx 4)) (W : Waits sig (HIx 4)) (hO : ∀ g, O g none = 0) (hb) (rest) :
    preV (F := F) tb w q d c s O W
      ⊢ wpT (F := F) d (coordsV c s) (gker (base q) (coordsV c s) tab ids out ib is ob os gs hb rest)
          (fun _ => postV (F := F) tb w q d c s O W) := by
  have e1 : preV (F := F) tb w q d c s O W = preB (F := F) d (coordsV c s) tab ids out fx ft (part s.val (cs c)) O W := by
    unfold preV preB; rw [hE, hI]
  have e2 : postV (F := F) tb w q d c s O W = postB (F := F) q d (coordsV c s) tab ids out fx ft (part s.val (cs c)) G O W := by
    unfold postV postB; rw [hD, hI]
  rw [e1, e2]
  have h := @body F _ q d (coordsV c s) tab ids out ib is ob os gs fx ft
    (part s.val (cs c)) (fun y => by rw [hx]; exact hw d y) (rows_credit ob) G
    (by rw [hG, hx, ht]) hB hS O W hO hb rest
  exact h

theorem inPts_whole (d : Dev nD) (c : Fin 2) (s : Fin 16) :
    (inPts (F := F) tb w d (part s.val (cs c)) : sProp 𝕄)
      = iprop(((Memref.whole main_arg2_scv).view.loc (thr d (coordsV c s)) ↦[(Memref.whole main_arg2_scv).view.set]{part s.val (cs c)} tb d)
        ∗ ((Memref.whole main_v8_scv).view.loc (thr d (coordsV c s)) ↦[(Memref.whole main_v8_scv).view.set]{part s.val (cs c)} w d)) := by
  rw [whole_set main_arg2_scv, whole_set main_v8_scv]; rfl

/-- Two whole buffers out of a subcore's own. -/
theorem mem_two (d : Dev nD) (c : Fin 2) (s : Fin 16) (ib : Memref sig .scVector .vmem S2x1x128 .i32) (ob : Memref sig .scVector .vmem S2x128x128 .f32)
    (hi : ib.view.set = Finset.univ) (ho : ob.view.set = Finset.univ) {R : sProp 𝕄}
    (h : (ownBufs (thr d (coordsV c s)) : sProp 𝕄)
      = iprop((∃ f, ib.view.loc (thr d (coordsV c s)) ↦{fullShare} f) ∗ (∃ f, ob.view.loc (thr d (coordsV c s)) ↦{fullShare} f) ∗ R)) :
    ∃ R : sProp 𝕄, (ownBufs (thr d (coordsV c s)) : sProp 𝕄)
      = iprop(any (F := F) d (coordsV c s) ib ∗ any (F := F) d (coordsV c s) ob ∗ R) :=
  ⟨R, by rw [any_whole ib hi, any_whole ob ho]; exact h⟩

set_option maxRecDepth 16384 in
set_option maxHeartbeats 2000000 in
/-- Call 0 on a subcore. -/
theorem run0 (d : Dev nD) (c : Fin 2) (s : Fin 16) (hw : ∀ d y, (w d y).toNat < 100000)
    (O : CellTallies nD τ sig (HIx 4)) (W : Waits sig (HIx 4)) (hO : ∀ g, O g none = 0) :
    preV (F := F) tb w 0 d c s O W
      ⊢ wpT (F := F) d (coordsV c s) (cc0_gather_kernel (coordsV c s) (Memref.whole main_arg2_scv) (Memref.isWhole_whole _)
          (Memref.whole main_v8_scv) (Memref.isWhole_whole _) (Memref.whole main_v9_scv) (Memref.isWhole_whole _)
          (Memref.whole cc0_scoped0) (Memref.isWhole_whole _) cc0_scoped1 (Memref.whole cc0_scoped2) (Memref.isWhole_whole _) cc0_scoped3 cc0_scoped4 cc0_scoped5)
          (fun _ => postV (F := F) tb w 0 d c s O W) := by
  rw [gker_zero]
  exact @body_whole F _ tb w 0 d c s (Memref.whole main_arg2_scv) (Memref.whole main_v8_scv) (Memref.whole main_v9_scv) (Memref.whole cc0_scoped0) cc0_scoped1
    (Memref.whole cc0_scoped2) cc0_scoped3 cc0_scoped4 (w d) (tb d) (gat 0 (w d) (tb d)) (View.read_whole main_v8_scv _) (View.read_whole main_arg2_scv _) hw
    (View.read_whole main_v9_scv _) (mem_two d c s (Memref.whole cc0_scoped0) (Memref.whole cc0_scoped2) (whole_set _) (whole_set _)
      (ownBufs_two d (cV (coordsV c s)) (jV (coordsV c s)) cc0_scoped0 cc0_scoped2 rfl rfl (by decide)))
    (ownSems0_five d (cV (coordsV c s)) (jV (coordsV c s)) (semI cc0_scoped1 0) (semI cc0_scoped1 1) (semO cc0_scoped3 0) (semO cc0_scoped3 1) cc0_scoped4.sem
      (by decide +kernel) (by decide +kernel))
    (inPts_whole tb w d c s) (by rw [show tset (coordsV c s) (Memref.whole main_v9_scv) = tr c s from Finset.map_refl]; rfl)
    (by rw [show tset (coordsV c s) (Memref.whole main_v9_scv) = tr c s from Finset.map_refl]; rfl) O W hO _ _

set_option maxRecDepth 16384 in
set_option maxHeartbeats 2000000 in
/-- Call 1 on a subcore. -/
theorem run1 (d : Dev nD) (c : Fin 2) (s : Fin 16) (hw : ∀ d y, (w d y).toNat < 100000)
    (O : CellTallies nD τ sig (HIx 4)) (W : Waits sig (HIx 4)) (hO : ∀ g, O g none = 0) :
    preV (F := F) tb w 1 d c s O W
      ⊢ wpT (F := F) d (coordsV c s) (cc1_gather_kernel (coordsV c s) (Memref.whole main_arg2_scv) (Memref.isWhole_whole _)
          (Memref.whole main_v8_scv) (Memref.isWhole_whole _) (Memref.whole main_v11_scv) (Memref.isWhole_whole _)
          (Memref.whole cc1_scoped0) (Memref.isWhole_whole _) cc1_scoped1 (Memref.whole cc1_scoped2) (Memref.isWhole_whole _) cc1_scoped3 cc1_scoped4 cc1_scoped5)
          (fun _ => postV (F := F) tb w 1 d c s O W) := by
  rw [gker_one]
  exact @body_whole F _ tb w 1 d c s (Memref.whole main_arg2_scv) (Memref.whole main_v8_scv) (Memref.whole main_v11_scv) (Memref.whole cc1_scoped0) cc1_scoped1
    (Memref.whole cc1_scoped2) cc1_scoped3 cc1_scoped4 (w d) (tb d) (gat 1 (w d) (tb d)) (View.read_whole main_v8_scv _) (View.read_whole main_arg2_scv _) hw
    (View.read_whole main_v11_scv _) (mem_two d c s (Memref.whole cc1_scoped0) (Memref.whole cc1_scoped2) (whole_set _) (whole_set _)
      (ownBufs_two d (cV (coordsV c s)) (jV (coordsV c s)) cc1_scoped0 cc1_scoped2 rfl rfl (by decide)))
    (ownSems0_five d (cV (coordsV c s)) (jV (coordsV c s)) (semI cc1_scoped1 0) (semI cc1_scoped1 1) (semO cc1_scoped3 0) (semO cc1_scoped3 1) cc1_scoped4.sem
      (by decide +kernel) (by decide +kernel))
    (inPts_whole tb w d c s) (by rw [show tset (coordsV c s) (Memref.whole main_v11_scv) = tr c s from Finset.map_refl]; rfl)
    (by rw [show tset (coordsV c s) (Memref.whole main_v11_scv) = tr c s from Finset.map_refl]; rfl) O W hO _ _

set_option maxRecDepth 16384 in
set_option maxHeartbeats 2000000 in
/-- Call 2 on a subcore. -/
theorem run2 (d : Dev nD) (c : Fin 2) (s : Fin 16) (hw : ∀ d y, (w d y).toNat < 100000)
    (O : CellTallies nD τ sig (HIx 4)) (W : Waits sig (HIx 4)) (hO : ∀ g, O g none = 0) :
    preV (F := F) tb w 2 d c s O W
      ⊢ wpT (F := F) d (coordsV c s) (cc2_gather_kernel (coordsV c s) (Memref.whole main_arg2_scv) (Memref.isWhole_whole _)
          (Memref.whole main_v8_scv) (Memref.isWhole_whole _) (Memref.whole main_v13_scv) (Memref.isWhole_whole _)
          (Memref.whole cc2_scoped0) (Memref.isWhole_whole _) cc2_scoped1 (Memref.whole cc2_scoped2) (Memref.isWhole_whole _) cc2_scoped3 cc2_scoped4 cc2_scoped5)
          (fun _ => postV (F := F) tb w 2 d c s O W) := by
  rw [gker_two]
  exact @body_whole F _ tb w 2 d c s (Memref.whole main_arg2_scv) (Memref.whole main_v8_scv) (Memref.whole main_v13_scv) (Memref.whole cc2_scoped0) cc2_scoped1
    (Memref.whole cc2_scoped2) cc2_scoped3 cc2_scoped4 (w d) (tb d) (gat 2 (w d) (tb d)) (View.read_whole main_v8_scv _) (View.read_whole main_arg2_scv _) hw
    (View.read_whole main_v13_scv _) (mem_two d c s (Memref.whole cc2_scoped0) (Memref.whole cc2_scoped2) (whole_set _) (whole_set _)
      (ownBufs_two d (cV (coordsV c s)) (jV (coordsV c s)) cc2_scoped0 cc2_scoped2 rfl rfl (by decide)))
    (ownSems0_five d (cV (coordsV c s)) (jV (coordsV c s)) (semI cc2_scoped1 0) (semI cc2_scoped1 1) (semO cc2_scoped3 0) (semO cc2_scoped3 1) cc2_scoped4.sem
      (by decide +kernel) (by decide +kernel))
    (inPts_whole tb w d c s) (by rw [show tset (coordsV c s) (Memref.whole main_v13_scv) = tr c s from Finset.map_refl]; rfl)
    (by rw [show tset (coordsV c s) (Memref.whole main_v13_scv) = tr c s from Finset.map_refl]; rfl) O W hO _ _

set_option maxRecDepth 16384 in
set_option maxHeartbeats 2000000 in
/-- Call 3 on a subcore. -/
theorem run3 (d : Dev nD) (c : Fin 2) (s : Fin 16) (hw : ∀ d y, (w d y).toNat < 100000)
    (O : CellTallies nD τ sig (HIx 4)) (W : Waits sig (HIx 4)) (hO : ∀ g, O g none = 0) :
    preV (F := F) tb w 3 d c s O W
      ⊢ wpT (F := F) d (coordsV c s) (cc3_gather_kernel (coordsV c s) (Memref.whole main_arg2_scv) (Memref.isWhole_whole _)
          (Memref.whole main_v8_scv) (Memref.isWhole_whole _) (Memref.whole main_v15_scv) (Memref.isWhole_whole _)
          (Memref.whole cc3_scoped0) (Memref.isWhole_whole _) cc3_scoped1 (Memref.whole cc3_scoped2) (Memref.isWhole_whole _) cc3_scoped3 cc3_scoped4 cc3_scoped5)
          (fun _ => postV (F := F) tb w 3 d c s O W) := by
  rw [gker_three]
  exact @body_whole F _ tb w 3 d c s (Memref.whole main_arg2_scv) (Memref.whole main_v8_scv) (Memref.whole main_v15_scv) (Memref.whole cc3_scoped0) cc3_scoped1
    (Memref.whole cc3_scoped2) cc3_scoped3 cc3_scoped4 (w d) (tb d) (gat 3 (w d) (tb d)) (View.read_whole main_v8_scv _) (View.read_whole main_arg2_scv _) hw
    (View.read_whole main_v15_scv _) (mem_two d c s (Memref.whole cc3_scoped0) (Memref.whole cc3_scoped2) (whole_set _) (whole_set _)
      (ownBufs_two d (cV (coordsV c s)) (jV (coordsV c s)) cc3_scoped0 cc3_scoped2 rfl rfl (by decide)))
    (ownSems0_five d (cV (coordsV c s)) (jV (coordsV c s)) (semI cc3_scoped1 0) (semI cc3_scoped1 1) (semO cc3_scoped3 0) (semO cc3_scoped3 1) cc3_scoped4.sem
      (by decide +kernel) (by decide +kernel))
    (inPts_whole tb w d c s) (by rw [show tset (coordsV c s) (Memref.whole main_v15_scv) = tr c s from Finset.map_refl]; rfl)
    (by rw [show tset (coordsV c s) (Memref.whole main_v15_scv) = tr c s from Finset.map_refl]; rfl) O W hO _ _

end Cert.Proof.Gather
-- ==== Proof.Obls.lean ====
/-
  The gather calls' tile obligations as the launch asks for them.
-/
module

public import proofs.«01_k».proof.Proof.Calls

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]
variable (tb : Dev nD → S100000x128.Idx → Elt F .f32) (w : Dev nD → S1x204800.Idx → BitVec 32)

set_option maxHeartbeats 8000000 in
set_option maxRecDepth 16384 in
/-- A call's obligation, from what its kernel does on each subcore. -/
theorem obl_of (q : Fin 4) (hc : (K (F := F)).nCore q = 2) (hs : (K (F := F)).nSub q = 16) (p : (c : Fin τ.nSC) → (s : Fin τ.nSub) → Prog (TpuEff nD τ sig (Elt F) Λ₀ (.scVector c s)) PUnit)
    (hp : ∀ (d : Dev nD) (c : Fin τ.nSC) (s : Fin τ.nSub) (Φ : sProp 𝕄), (wp frame (wpE (D (F := F)) 𝒱 (V d c s) (some v₀)) Set.univ (Pipeline.liftProg (p c s)) (fun _ => Φ) : sProp 𝕄)
      ⊢ wp frame (wpE (D (F := F)) 𝒱 (V d c s) (some v₀)) Set.univ (D (F := F) (.scVector c s) ((K (F := F)).body q) ((K (F := F)).args q)) (fun _ => Φ))
    (H : ∀ (d : Dev nD) (c : Fin 2) (s : Fin 16) (O : CellTallies nD τ sig (HIx 4)) (W : Waits sig (HIx 4)), (∀ g, O g none = 0) →
      preV (F := F) tb w q d c s O W ⊢ wpT (F := F) d (coordsV c s) (p (cV (coordsV c s)) (jV (coordsV c s))) (fun _ => postV (F := F) tb w q d c s O W)) :
    (K (F := F)).TileObl (D (F := F)) 𝒱 (P tb w) v₀ q := by
  intro d c i O W hO _ _
  simp only [show (P (F := F) tb w).ox = fun _ _ => 0 from rfl, add_zero]
  refine BI.Entails.trans ?_ (hp d _ _ _)
  refine BI.Entails.trans ?_ (Pipeline.wp_liftProg (D (F := F)) (Pipeline.defs_kernel pcfgs defs₀) 𝒱₀ _ Set.univ none _ _)
  exact H d ⟨c.val, c.isLt.trans_eq hc⟩ ⟨i.val, i.isLt.trans_eq hs⟩ O W hO

theorem obl_vector0 (c : Fin τ.nSC) (s : Fin τ.nSub) : defs₀ (F := F) (.scVector c s) 0 () = SparseCore.onTile hcore0 hsub0 (fun c s =>
    cc0_gather_kernel (coordsV c s) (Memref.whole main_arg2_scv) (Memref.isWhole_whole _)
          (Memref.whole main_v8_scv) (Memref.isWhole_whole _) (Memref.whole main_v9_scv) (Memref.isWhole_whole _)
          (Memref.whole cc0_scoped0) (Memref.isWhole_whole _) cc0_scoped1 (Memref.whole cc0_scoped2) (Memref.isWhole_whole _) cc0_scoped3 cc0_scoped4 cc0_scoped5) ⟨⟩ c s := rfl

set_option maxHeartbeats 4000000 in
set_option maxRecDepth 16384 in
/-- Call 0's obligation. -/
theorem tileObl0 (hw : ∀ d y, (w d y).toNat < 100000) : (K (F := F)).TileObl (D (F := F)) 𝒱 (P tb w) v₀ 0 :=
  obl_of tb w 0 rfl rfl (fun c s => defs₀ (F := F) (.scVector c s) 0 ()) (fun _ _ _ _ => BIBase.Entails.rfl) fun d c s O W hO => by
    have hci : (cV (coordsV c s)).val < grid0.bound 0 ∧ (jV (coordsV c s)).val < grid0.bound 1 := ⟨c.isLt, s.isLt⟩
    rw [obl_vector0]; simp only [SparseCore.onTile, hci, and_self, ↓reduceDIte]
    exact run0 tb w d c s hw O W hO

theorem obl_vector1 (c : Fin τ.nSC) (s : Fin τ.nSub) : defs₀ (F := F) (.scVector c s) 1 () = SparseCore.onTile hcore1 hsub1 (fun c s =>
    cc1_gather_kernel (coordsV c s) (Memref.whole main_arg2_scv) (Memref.isWhole_whole _)
          (Memref.whole main_v8_scv) (Memref.isWhole_whole _) (Memref.whole main_v11_scv) (Memref.isWhole_whole _)
          (Memref.whole cc1_scoped0) (Memref.isWhole_whole _) cc1_scoped1 (Memref.whole cc1_scoped2) (Memref.isWhole_whole _) cc1_scoped3 cc1_scoped4 cc1_scoped5) ⟨⟩ c s := rfl

set_option maxHeartbeats 4000000 in
set_option maxRecDepth 16384 in
/-- Call 1's obligation. -/
theorem tileObl1 (hw : ∀ d y, (w d y).toNat < 100000) : (K (F := F)).TileObl (D (F := F)) 𝒱 (P tb w) v₀ 1 :=
  obl_of tb w 1 rfl rfl (fun c s => defs₀ (F := F) (.scVector c s) 1 ()) (fun _ _ _ _ => BIBase.Entails.rfl) fun d c s O W hO => by
    have hci : (cV (coordsV c s)).val < grid0.bound 0 ∧ (jV (coordsV c s)).val < grid0.bound 1 := ⟨c.isLt, s.isLt⟩
    rw [obl_vector1]; simp only [SparseCore.onTile, hci, and_self, ↓reduceDIte]
    exact run1 tb w d c s hw O W hO

theorem obl_vector2 (c : Fin τ.nSC) (s : Fin τ.nSub) : defs₀ (F := F) (.scVector c s) 2 () = SparseCore.onTile hcore2 hsub2 (fun c s =>
    cc2_gather_kernel (coordsV c s) (Memref.whole main_arg2_scv) (Memref.isWhole_whole _)
          (Memref.whole main_v8_scv) (Memref.isWhole_whole _) (Memref.whole main_v13_scv) (Memref.isWhole_whole _)
          (Memref.whole cc2_scoped0) (Memref.isWhole_whole _) cc2_scoped1 (Memref.whole cc2_scoped2) (Memref.isWhole_whole _) cc2_scoped3 cc2_scoped4 cc2_scoped5) ⟨⟩ c s := rfl

set_option maxHeartbeats 4000000 in
set_option maxRecDepth 16384 in
/-- Call 2's obligation. -/
theorem tileObl2 (hw : ∀ d y, (w d y).toNat < 100000) : (K (F := F)).TileObl (D (F := F)) 𝒱 (P tb w) v₀ 2 :=
  obl_of tb w 2 rfl rfl (fun c s => defs₀ (F := F) (.scVector c s) 2 ()) (fun _ _ _ _ => BIBase.Entails.rfl) fun d c s O W hO => by
    have hci : (cV (coordsV c s)).val < grid0.bound 0 ∧ (jV (coordsV c s)).val < grid0.bound 1 := ⟨c.isLt, s.isLt⟩
    rw [obl_vector2]; simp only [SparseCore.onTile, hci, and_self, ↓reduceDIte]
    exact run2 tb w d c s hw O W hO

theorem obl_vector3 (c : Fin τ.nSC) (s : Fin τ.nSub) : defs₀ (F := F) (.scVector c s) 3 () = SparseCore.onTile hcore3 hsub3 (fun c s =>
    cc3_gather_kernel (coordsV c s) (Memref.whole main_arg2_scv) (Memref.isWhole_whole _)
          (Memref.whole main_v8_scv) (Memref.isWhole_whole _) (Memref.whole main_v15_scv) (Memref.isWhole_whole _)
          (Memref.whole cc3_scoped0) (Memref.isWhole_whole _) cc3_scoped1 (Memref.whole cc3_scoped2) (Memref.isWhole_whole _) cc3_scoped3 cc3_scoped4 cc3_scoped5) ⟨⟩ c s := rfl

set_option maxHeartbeats 4000000 in
set_option maxRecDepth 16384 in
/-- Call 3's obligation. -/
theorem tileObl3 (hw : ∀ d y, (w d y).toNat < 100000) : (K (F := F)).TileObl (D (F := F)) 𝒱 (P tb w) v₀ 3 :=
  obl_of tb w 3 rfl rfl (fun c s => defs₀ (F := F) (.scVector c s) 3 ()) (fun _ _ _ _ => BIBase.Entails.rfl) fun d c s O W hO => by
    have hci : (cV (coordsV c s)).val < grid0.bound 0 ∧ (jV (coordsV c s)).val < grid0.bound 1 := ⟨c.isLt, s.isLt⟩
    rw [obl_vector3]; simp only [SparseCore.onTile, hci, and_self, ↓reduceDIte]
    exact run3 tb w d c s hw O W hO

end Cert.Proof.Gather
-- ==== Proof.Launch.lean ====
/-
  The launch: @main on the TensorCore from the arguments to the last call's result, the launch's ghost state, and the
  program's run.
-/
module

public import proofs.«01_k».proof.Proof.Vals
public import proofs.«01_k».proof.Proof.Obls
public import proofs.«01_k».proof.Proof.Pay
public import Idealize.ShloMosaic.Lib.Pipeline.Frame
public import Idealize.ShloMosaic.Lib.StableHlo.Run

@[expose] public section

noncomputable section

namespace Cert.Proof.Gather

open Cert.KernelIdeal Cert.KernelIdeal.Gen
open Idealize.ShloMosaic
open Idealize.ShloMosaic.TcCoe
open Idealize.ShloMosaic.SparseCore (S T)
open Idealize.ShloMosaic.Pipeline (Dat Cfg Window BodyObligation cellOf ucRefs)
open Idealize.ShloMosaic.StableHlo (held held_sub_split held_congr wp_hlo_within)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]
variable (m : (ℓ : Loc nD τ sig) → Buf (Elt F) ℓ) (ρ : Dev nD → PrngReg)

/-! ## The TensorCore's handshake state after the last SparseCore call -/

/-- All of it but what the TensorCore owes. -/
def tcRest (d : Dev nD) : sProp 𝕄 :=
  iprop(atPos EH ((K (F := F)).doneCell d) 4 ∅ 0 ∗ reached EH ((K (F := F)).doneCell d) 4
    ∗ (bigSep Finset.univ fun c : Fin τ.nSC => reached EH ((K (F := F)).startCell d c) ((K (F := F)).sRank c 4))
    ∗ bigSep (SparseCore.Cfg.callsFrom 4) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_four (d : Dev nD) : (K (F := F)).tcSt EH d 4 = iprop(owesDone (F := F) d ∗ tcRest (F := F) d) := by
  have h : (K (F := F)).Otc d 4 = (0 : CellTallies nD τ sig (HIx 4)) := by
    unfold SparseCore.Cfg.Otc
    exact Finset.sum_eq_zero fun q _ => if_neg (by have := q.isLt; omega)
  unfold SparseCore.Cfg.tcSt owesDone tcRest
  rw [h]
  rfl

/-! ## The launch's ghost state -/

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- The staging cells' ghost state of the four TensorCore calls. -/
def G (d : Dev nD) : sProp 𝕄 := iprop(ghost (F := F) 0 d ∗ ghost (F := F) 1 d ∗ ghost (F := F) 2 d ∗ ghost (F := F) 3 d)

theorem bigSep_four (f : Fin 4 → sProp 𝕄) : (bigSep Finset.univ f) = iprop(f 0 ∗ f 1 ∗ f 2 ∗ f 3) := by
  rw [show (Finset.univ : Finset (Fin 4)) = {0, 1, 2, 3} from rfl, SparseCore.bigSep_insert' (by decide), SparseCore.bigSep_insert' (by decide),
    SparseCore.bigSep_insert' (by decide), bigSep_singleton]

theorem bigSep_emp' {I : Type} (s : Finset I) : (bigSep s fun _ => iprop(emp)) = (iprop(emp) : sProp 𝕄) := bigSep_emp_const s

theorem deal : iprop((bigSep Finset.univ fun c : Dev nD => bigSep Finset.univ fun p => Pipeline.cellsGhost (Pipeline.pin (pcfgs (F := F)) adm) EP p c)
      ∗ (bigSep Finset.univ fun c : Dev nD => bigSep Finset.univ fun p => Pipeline.toksInit (Pipeline.pin (pcfgs (F := F)) adm) EP p c))
    ⊢ (bigSep Finset.univ fun d : Dev nD => G (F := F) d) := by
  rw [bigSep_univ_of_subsingleton (0 : Dev nD), bigSep_univ_of_subsingleton (0 : Dev nD), bigSep_univ_of_subsingleton (0 : Dev nD), bigSep_four, bigSep_four]
  unfold G
  iintro ⟨⟨H0, H1, H2, H3⟩, T0, T1, T2, T3⟩
  isplitl [H0 T0]; · isplitl [H0] <;> iassumption
  isplitl [H1 T1]; · isplitl [H1] <;> iassumption
  isplitl [H2 T2]; · isplitl [H2] <;> iassumption
  isplitl [H3] <;> iassumption

theorem ownU_split (a : UH) (b : UP) : (ownU ((a, (b, 1)) : UU) : sProp 𝕄) ⊢ iprop(BI.own (EH a) ∗ BI.own (EP (F := F) b)) :=
  BI.own_op_elim ((uEmb (nD := nD) (sig := sig) (Ix := HIx 4) (Val := Elt F) (Name := ℕ) (U := UU) (Lvl := ℕ)).toEmb.op_of_mem
    (Prod.mk_mem_op (URA.mem_op_one a) (URA.mem_one_op (b, 1))))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 4 => (P (F := F) (tbm m) (idm m)).x q thr) := by
  unfold u₀
  iintro Hu
  ihave H := (ownU_split _ _) $$ Hu
  icases H with ⟨HH, HP⟩
  imod (Pipeline.fund_ghost (Pipeline.pin (pcfgs (F := F)) adm) EP phinj) $$ HP with ⟨Hg, Ht⟩
  ihave HG := (deal (F := F)) $$ [Hg Ht]
  · isplitl [Hg] <;> iassumption
  imodintro
  isplitl [HH]; · iexact HH
  isplitl [HG]; · iexact HG
  rw [show (bigSep Finset.univ fun thr : Thread nD τ => bigSep Finset.univ fun q : Fin 4 => (P (F := F) (tbm m) (idm m)).x q thr) = bigSep Finset.univ fun _ => iprop(emp) from
    bigSep_congr fun _ _ => bigSep_emp' _, bigSep_emp']
  iempintro

/-! ## @main -/

variable [∀ e, Nonempty (Elt F e)]

/-- @main on device `d`'s TensorCore: the casts and reshapes, the four gathers, the four layer-norm calls and the copies
    between them, each step's valuation named. -/
theorem hmain (κ : GSem nD τ sig → ℕ) (d : Dev nD) :
    iprop((K (F := F)).ctx EH (P (F := F) (tbm m) (idm m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 4 ∗ heldU (C3 m) d ∗ (K (F := F)).tcEnd d) := by
  unfold SparseCore.Cfg.tcRes SparseCore.Cfg.tcEnd G
  rw [show (unscopedBufs d (fun b => m ((T d : Thread nD τ).loc b)) : sProp 𝕄) = heldU (W0 m) d from heldU_eq (W0 m) d]
  simp only [main, wp_bind, wp_pure]
  iintro ⟨#Hctx, Hst, ⟨Hb, Hh, Hts, -⟩, Hg0, Hg1, Hg2, Hg3⟩
  ihave Hlv0 := ((K (F := F)).ctx_levAts (EH := EH) (P := P (F := F) (tbm m) (idm m)) κ) $$ Hctx
  icases Hlv0 with #Hlv
  iapply (hlo_step d (W0 m) (opP0 (F := F)) (StableHlo.unary_bufs_sub _ _ _ _ _) rfl) $$ [Hb Hh]
  · isplitl [Hb] <;> iassumption
  iintro ⟨Hb, Hh⟩
  ihave Hh := (Entails.of_eq (show heldU (fun d => (opP0 (F := F)).result (W0 m d)) d = heldU (P0 m) d from rfl)) $$ Hh
  rw [wp_ret]; imodintro
  iapply (hlo_step d (P0 m) (opP1 (F := F)) (StableHlo.unary_bufs_sub _ _ _ _ _) rfl) $$ [Hb Hh]
  · isplitl [Hb] <;> iassumption
  iintro ⟨Hb, Hh⟩
  ihave Hh := (Entails.of_eq (show heldU (fun d => (opP1 (F := F)).result (P0 m d)) d = heldU (P1 m) d from rfl)) $$ Hh
  rw [wp_ret]; imodintro
  iapply (hlo_step d (P1 m) (opP2 (F := F)) (StableHlo.unary_bufs_sub _ _ _ _ _) rfl) $$ [Hb Hh]
  · isplitl [Hb] <;> iassumption
  iintro ⟨Hb, Hh⟩
  ihave Hh := (Entails.of_eq (show heldU (fun d => (opP2 (F := F)).result (P1 m d)) d = heldU (P2 m) d from rfl)) $$ Hh
  rw [wp_ret]; imodintro
  iapply (hlo_step d (P2 m) (opP3 (F := F)) (StableHlo.unary_bufs_sub _ _ _ _ _) rfl) $$ [Hb Hh]
  · isplitl [Hb] <;> iassumption
  iintro ⟨Hb, Hh⟩
  ihave Hh := (Entails.of_eq (show heldU (fun d => (opP3 (F := F)).result (P2 m d)) d = heldU (P3 m) d from rfl)) $$ Hh
  rw [wp_ret]; imodintro
  iapply (hlo_step d (P3 m) (opP4 (F := F)) (StableHlo.unary_bufs_sub _ _ _ _ _) rfl) $$ [Hb Hh]
  · isplitl [Hb] <;> iassumption
  iintro ⟨Hb, Hh⟩
  ihave Hh := (Entails.of_eq (show heldU (fun d => (opP4 (F := F)).result (P3 m d)) d = heldU (P4 m) d from rfl)) $$ Hh
  rw [wp_ret]; imodintro
  iapply (hlo_step d (P4 m) (opP5 (F := F)) (StableHlo.reshape_bufs_sub _ _ _ _ _ _) rfl) $$ [Hb Hh]
  · isplitl [Hb] <;> iassumption
  iintro ⟨Hb, Hh⟩
  ihave Hh := (Entails.of_eq (show heldU (fun d => (opP5 (F := F)).result (P4 m d)) d = heldU (P5 m) d from rfl)) $$ Hh
  rw [wp_ret]; imodintro
  iapply (hlo_step d (P5 m) (opP6 (F := F)) (StableHlo.unary_bufs_sub _ _ _ _ _) rfl) $$ [Hb Hh]
  · isplitl [Hb] <;> iassumption
  iintro ⟨Hb, Hh⟩
  ihave Hh := (Entails.of_eq (show heldU (fun d => (opP6 (F := F)).result (P5 m d)) d = heldU (P6 m) d from rfl)) $$ Hh
  rw [wp_ret]; imodintro
  iapply (hlo_step d (P6 m) (opP7 (F := F)) (StableHlo.reshape_bufs_sub _ _ _ _ _ _) rfl) $$ [Hb Hh]
  · isplitl [Hb] <;> iassumption
  iintro ⟨Hb, Hh⟩
  ihave Hh := (Entails.of_eq (show heldU (fun d => (opP7 (F := F)).result (P6 m d)) d = heldU (P7 m) d from rfl)) $$ Hh
  rw [wp_ret]; imodintro
  iapply (hlo_step d (P7 m) (opP8 (F := F)) (StableHlo.reshape_bufs_sub _ _ _ _ _ _) rfl) $$ [Hb Hh]
  · isplitl [Hb] <;> iassumption
  iintro ⟨Hb, Hh⟩
  ihave Hh := (Entails.of_eq (show heldU (fun d => (opP8 (F := F)).result (P7 m d)) d = heldU (P8 m) d from rfl)) $$ Hh
  rw [wp_ret]; imodintro
  iapply (run_step (F := F) (tbm m) (idm m) κ d 0 (P8 m) (keepP m d main_arg2 (by decide)) rfl)
  isplitr; · iexact Hctx
  isplitl [Hst]; · iexact Hst
  isplitl [Hh]; · iexact Hh
  iintro ⟨Hst, Hh⟩
  ihave Hh := (Entails.of_eq (show heldU (upd (P8 m) (outRef 0) (outVal (tbm m) (idm m) 0)) d = heldU (S0 m) d from rfl)) $$ Hh
  iapply (hlo_step d (S0 m) (opR0 (F := F)) (StableHlo.reshape_bufs_sub _ _ _ _ _ _) rfl) $$ [Hb Hh]
  · isplitl [Hb] <;> iassumption
  iintro ⟨Hb, Hh⟩
  ihave Hh := (Entails.of_eq (show heldU (fun d => (opR0 (F := F)).result (S0 m d)) d = heldU (R0 m) d from rfl)) $$ Hh
  rw [wp_ret]; imodintro
  iapply (run_step (F := F) (tbm m) (idm m) κ d 1 (R0 m) ((keepR0 m d main_arg2 (by decide)).trans (keepP m d main_arg2 (by decide))) (keepR0 m d main_v8 (by decide)))
  isplitr; · iexact Hctx
  isplitl [Hst]; · iexact Hst
  isplitl [Hh]; · iexact Hh
  iintro ⟨Hst, Hh⟩
  ihave Hh := (Entails.of_eq (show heldU (upd (R0 m) (outRef 1) (outVal (tbm m) (idm m) 1)) d = heldU (S1 m) d from rfl)) $$ Hh
  iapply (hlo_step d (S1 m) (opR1 (F := F)) (StableHlo.reshape_bufs_sub _ _ _ _ _ _) rfl) $$ [Hb Hh]
  · isplitl [Hb] <;> iassumption
  iintro ⟨Hb, Hh⟩
  ihave Hh := (Entails.of_eq (show heldU (fun d => (opR1 (F := F)).result (S1 m d)) d = heldU (R1 m) d from rfl)) $$ Hh
  rw [wp_ret]; imodintro
  iapply (run_step (F := F) (tbm m) (idm m) κ d 2 (R1 m) ((keepR1 m d main_arg2 (by decide)).trans (keepP m d main_arg2 (by decide))) (keepR1 m d main_v8 (by decide)))
  isplitr; · iexact Hctx
  isplitl [Hst]; · iexact Hst
  isplitl [Hh]; · iexact Hh
  iintro ⟨Hst, Hh⟩
  ihave Hh := (Entails.of_eq (show heldU (upd (R1 m) (outRef 2) (outVal (tbm m) (idm m) 2)) d = heldU (S2 m) d from rfl)) $$ Hh
  iapply (hlo_step d (S2 m) (opR2 (F := F)) (StableHlo.reshape_bufs_sub _ _ _ _ _ _) rfl) $$ [Hb Hh]
  · isplitl [Hb] <;> iassumption
  iintro ⟨Hb, Hh⟩
  ihave Hh := (Entails.of_eq (show heldU (fun d => (opR2 (F := F)).result (S2 m d)) d = heldU (R2 m) d from rfl)) $$ Hh
  rw [wp_ret]; imodintro
  iapply (run_step (F := F) (tbm m) (idm m) κ d 3 (R2 m) ((keepR2 m d main_arg2 (by decide)).trans (keepP m d main_arg2 (by decide))) (keepR2 m d main_v8 (by decide)))
  isplitr; · iexact Hctx
  isplitl [Hst]; · iexact Hst
  isplitl [Hh]; · iexact Hh
  iintro ⟨Hst, Hh⟩
  ihave Hh := (Entails.of_eq (show heldU (upd (R2 m) (outRef 3) (outVal (tbm m) (idm m) 3)) d = heldU (S3 m) d from rfl)) $$ Hh
  iapply (hlo_step d (S3 m) (opR3 (F := F)) (StableHlo.reshape_bufs_sub _ _ _ _ _ _) rfl) $$ [Hb Hh]
  · isplitl [Hb] <;> iassumption
  iintro ⟨Hb, Hh⟩
  ihave Hh := (Entails.of_eq (show heldU (fun d => (opR3 (F := F)).result (S3 m d)) d = heldU (R3 m) d from rfl)) $$ Hh
  rw [wp_ret]; imodintro
  ihave Hst := (Entails.of_eq (show (K (F := F)).tcSt EH d ((3 : Fin 4).val + 1) = iprop(owesDone (F := F) d ∗ tcRest d) from tcSt_four d)) $$ Hst
  icases Hst with ⟨HO, Hst⟩
  iapply (region_step (F := F) 0 d (R3 m) main_v17 (tcOut0 m) (hF0 m) (Finset.mem_image.mpr ⟨(6 : Fin 7), Finset.mem_univ _, rfl⟩))
  isplitr [Hb Hh HO Hg0]
  swap
  · isplitl [Hb]; · iexact Hb
    isplitl [Hh]; · iexact Hh
    isplitl [HO]; · iexact HO
    isplitr; · iexact Hlv
    iexact Hg0
  iintro ⟨Hb, Hh, HO⟩
  ihave Hh := (Entails.of_eq (show heldU (upd (R3 m) main_v17 (tcOut0 m)) d = heldU (C0 m) d from rfl)) $$ Hh
  iapply (hlo_step d (C0 m) (opA1 (F := F)) (StableHlo.unary_bufs_sub _ _ _ _ _) rfl) $$ [Hb Hh]
  · isplitl [Hb] <;> iassumption
  iintro ⟨Hb, Hh⟩
  ihave Hh := (Entails.of_eq (show heldU (fun d => (opA1 (F := F)).result (C0 m d)) d = heldU (A1 m) d from rfl)) $$ Hh
  rw [wp_ret]; imodintro
  iapply (region_step (F := F) 1 d (A1 m) main_v18 (tcOut1 m) (hF1 m) (Finset.mem_image.mpr ⟨(6 : Fin 7), Finset.mem_univ _, rfl⟩))
  isplitr [Hb Hh HO Hg1]
  swap
  · isplitl [Hb]; · iexact Hb
    isplitl [Hh]; · iexact Hh
    isplitl [HO]; · iexact HO
    isplitr; · iexact Hlv
    iexact Hg1
  iintro ⟨Hb, Hh, HO⟩
  ihave Hh := (Entails.of_eq (show heldU (upd (A1 m) main_v18 (tcOut1 m)) d = heldU (C1 m) d from rfl)) $$ Hh
  iapply (hlo_step d (C1 m) (opA2 (F := F)) (StableHlo.unary_bufs_sub _ _ _ _ _) rfl) $$ [Hb Hh]
  · isplitl [Hb] <;> iassumption
  iintro ⟨Hb, Hh⟩
  ihave Hh := (Entails.of_eq (show heldU (fun d => (opA2 (F := F)).result (C1 m d)) d = heldU (A2 m) d from rfl)) $$ Hh
  rw [wp_ret]; imodintro
  iapply (region_step (F := F) 2 d (A2 m) main_v19 (tcOut2 m) (hF2 m) (Finset.mem_image.mpr ⟨(6 : Fin 7), Finset.mem_univ _, rfl⟩))
  isplitr [Hb Hh HO Hg2]
  swap
  · isplitl [Hb]; · iexact Hb
    isplitl [Hh]; · iexact Hh
    isplitl [HO]; · iexact HO
    isplitr; · iexact Hlv
    iexact Hg2
  iintro ⟨Hb, Hh, HO⟩
  ihave Hh := (Entails.of_eq (show heldU (upd (A2 m) main_v19 (tcOut2 m)) d = heldU (C2 m) d from rfl)) $$ Hh
  iapply (hlo_step d (C2 m) (opA3 (F := F)) (StableHlo.unary_bufs_sub _ _ _ _ _) rfl) $$ [Hb Hh]
  · isplitl [Hb] <;> iassumption
  iintro ⟨Hb, Hh⟩
  ihave Hh := (Entails.of_eq (show heldU (fun d => (opA3 (F := F)).result (C2 m d)) d = heldU (A3 m) d from rfl)) $$ Hh
  rw [wp_ret]; imodintro
  iapply (region_step (F := F) 3 d (A3 m) main_v20 (tcOut3 m) (hF3 m) (Finset.mem_image.mpr ⟨(6 : Fin 7), Finset.mem_univ _, rfl⟩))
  isplitr [Hb Hh HO Hg3]
  swap
  · isplitl [Hb]; · iexact Hb
    isplitl [Hh]; · iexact Hh
    isplitl [HO]; · iexact HO
    isplitr; · iexact Hlv
    iexact Hg3
  iintro ⟨Hb, Hh, HO⟩
  ihave Hh := (Entails.of_eq (show heldU (upd (A3 m) main_v20 (tcOut3 m)) d = heldU (C3 m) d from rfl)) $$ Hh
  imodintro
  isplitl [HO Hst]
  · iapply (Entails.of_eq (tcSt_four (F := F) d).symm)
    isplitl [HO] <;> iassumption
  isplitl [Hh]; · iexact Hh
  isplitl [Hb] <;> iassumption

/-! ## What the claims read of the final state -/

theorem agree_one (W : Dev nD → Valuation τ sig (Elt F)) (d : Dev nD) (s' : Phys nD τ sig (Elt F)) (b : Ref sig .tc) (hb : b.isScoped = false) :
    iprop(heldU W d ∗ SI s') ⊢ (⌜s'.mem.mem ((T d : Thread nD τ).loc b) = W d (dr b)⌝ : sProp 𝕄) := by
  unfold heldU
  rw [held_take W d _ b (mem_uc b hb)]
  iintro ⟨⟨Hx, -⟩, HSI⟩
  ihave H := (SI_pointsTo_agree (st := s') (ℓ := (T d : Thread nD τ).loc b) (I := Finset.univ) (q := fullShare) (f := W d (dr b))) $$ [HSI Hx]
  · isplitl [HSI] <;> iassumption
  icases H with %hx
  ipureintro; exact funext fun i => hx i (Finset.mem_univ i)

/-- The arguments and the result, as the last step leaves them. -/
def fq (d : Dev nD) (s' : Phys nD τ sig (Elt F)) : Prop :=
  s'.mem.mem ((T d : Thread nD τ).loc main_arg0) = C3 m d (dr main_arg0)
    ∧ s'.mem.mem ((T d : Thread nD τ).loc main_arg1) = C3 m d (dr main_arg1)
    ∧ s'.mem.mem ((T d : Thread nD τ).loc main_arg2) = C3 m d (dr main_arg2)
    ∧ s'.mem.mem ((T d : Thread nD τ).loc main_arg3) = C3 m d (dr main_arg3)
    ∧ s'.mem.mem ((T d : Thread nD τ).loc main_arg4) = C3 m d (dr main_arg4)
    ∧ s'.mem.mem ((T d : Thread nD τ).loc main_arg5) = C3 m d (dr main_arg5)
    ∧ s'.mem.mem ((T d : Thread nD τ).loc main_arg6) = C3 m d (dr main_arg6)
    ∧ s'.mem.mem ((T d : Thread nD τ).loc main_v20) = C3 m d (dr main_v20)

theorem hfin (d : Dev nD) (s' : Phys nD τ sig (Elt F)) : iprop(heldU (C3 m) d ∗ SI s') ⊢ (⌜fq m d s'⌝ : sProp 𝕄) := by
  iintro H
  ihave H := (persistent_entails_right (agree_one (C3 m) d s' main_arg0 rfl)) $$ H
  icases H with ⟨%h0, H⟩
  ihave H := (persistent_entails_right (agree_one (C3 m) d s' main_arg1 rfl)) $$ H
  icases H with ⟨%h1, H⟩
  ihave H := (persistent_entails_right (agree_one (C3 m) d s' main_arg2 rfl)) $$ H
  icases H with ⟨%h2, H⟩
  ihave H := (persistent_entails_right (agree_one (C3 m) d s' main_arg3 rfl)) $$ H
  icases H with ⟨%h3, H⟩
  ihave H := (persistent_entails_right (agree_one (C3 m) d s' main_arg4 rfl)) $$ H
  icases H with ⟨%h4, H⟩
  ihave H := (persistent_entails_right (agree_one (C3 m) d s' main_arg5 rfl)) $$ H
  icases H with ⟨%h5, H⟩
  ihave H := (persistent_entails_right (agree_one (C3 m) d s' main_arg6 rfl)) $$ H
  icases H with ⟨%h6, H⟩
  ihave H := (persistent_entails_right (agree_one (C3 m) d s' main_v20 rfl)) $$ H
  icases H with ⟨%h7, H⟩
  ipureintro; exact ⟨h0, h1, h2, h3, h4, h5, h6, h7⟩

def QC : PUnit × MemSt nD τ sig (Elt F) → Prop := fun r => (∀ c : Dev nD,
  r.2.mem ((T c : Thread nD τ).loc main_arg0) = C3 m c (dr main_arg0)
    ∧ r.2.mem ((T c : Thread nD τ).loc main_arg1) = C3 m c (dr main_arg1)
    ∧ r.2.mem ((T c : Thread nD τ).loc main_arg2) = C3 m c (dr main_arg2)
    ∧ r.2.mem ((T c : Thread nD τ).loc main_arg3) = C3 m c (dr main_arg3)
    ∧ r.2.mem ((T c : Thread nD τ).loc main_arg4) = C3 m c (dr main_arg4)
    ∧ r.2.mem ((T c : Thread nD τ).loc main_arg5) = C3 m c (dr main_arg5)
    ∧ r.2.mem ((T c : Thread nD τ).loc main_arg6) = C3 m c (dr main_arg6)
    ∧ r.2.mem ((T c : Thread nD τ).loc main_v20) = C3 m c (dr main_v20)) ∧ r.2.sem = fun _ => 0

/-- The program's run over any float instance, ids in range: every argument and the result at the last valuation, every
    semaphore back at zero. -/
theorem run_main (hw : ∀ d y, (idm m d y).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (F := F) (tbm m) (idm m)) (A := ∅) facts v₀
    (fun q hq => match q with | 0 => nomatch hq | 1 => nomatch hq | 2 => nomatch hq | 3 => nomatch hq)
    (fun q _ => match q with | 0 => tileObl0 (tbm m) (idm m) hw | 1 => tileObl1 (tbm m) (idm m) hw | 2 => tileObl2 (tbm m) (idm m) hw | 3 => tileObl3 (tbm m) (idm m) hw)
    (fun q _ => SparseCore.Cfg.VecSplit.of_plain (vecSplit (tbm m) (idm m) q))
    m ρ main (fun d => G (F := F) d) (fun d => heldU (C3 m) d) (u₀ (F := F)) (sep_elim_left.trans (hu₀ m)) (hmain m ρ) (fq m) (hfin m) (QC m) (fun _ h hz => ⟨h, hz⟩)

end Cert.Proof.Gather
-- ==== Proof.Same.lean ====
/-
  The kernel read at the float bits and the kernel read at the extended reals are the same text: the body table and the
  threads of the one are those of the other, for any float values.
-/
module

public import proofs.«01_k».proof.Defs
public import proofs.«01_k».proof.Proof.Gen.Kernel
public import proofs.«01_k».proof.Proof.Gen.KernelIdeal

@[expose] public section

namespace Cert.Proof.Gather

open Idealize.ShloMosaic Idealize.SL.Sem

variable {F : FTy → Type} [FloatOps F]

set_option maxHeartbeats 4000000 in
/-- The kernels' bodies: the same on every processor at every label. -/
theorem defs₀_eq : Cert.Kernel.defs₀ (F := F) = Cert.KernelIdeal.defs₀ (F := F) := by
  funext p ℓ a
  rcases p with _ | _ | _
  all_goals rcases ℓ with ⟨_ | _ | _ | _ | _ | _ | _ | _ | n, hn⟩
  all_goals first | exact absurd hn (by omega) | rfl

set_option maxHeartbeats 4000000 in
/-- The body tables. -/
theorem defs_eq : Cert.Kernel.defs (F := F) = Cert.KernelIdeal.defs (F := F) :=
  (congrArg (fun x => Cert.Kernel.sc.defs (Pipeline.defs Cert.Kernel.pcfgs x)) defs₀_eq).trans rfl

set_option maxHeartbeats 4000000 in
/-- The threads. -/
theorem threads_eq : Cert.Kernel.threads (F := F) = Cert.KernelIdeal.threads (F := F) := rfl

/-- A run of the one is a run of the other. -/
theorem run_kernel (s : MemSt Cert.KernelIdeal.nD Cert.KernelIdeal.τ Cert.KernelIdeal.sig (Elt F)) (Q : PUnit × MemSt Cert.KernelIdeal.nD Cert.KernelIdeal.τ Cert.KernelIdeal.sig (Elt F) → Prop)
    (h : θ_run (Cert.KernelIdeal.defs (F := F)) (Cert.KernelIdeal.threads (F := F)) s Q) : θ_run (Cert.Kernel.defs (F := F)) (Cert.Kernel.threads (F := F)) s Q := by
  have key : ∀ (D : Defs Cert.KernelIdeal.nD Cert.KernelIdeal.τ Cert.KernelIdeal.sig (Elt F) _) (Th : (c : Thread Cert.KernelIdeal.nD Cert.KernelIdeal.τ) → Prog (TpuEff Cert.KernelIdeal.nD Cert.KernelIdeal.τ Cert.KernelIdeal.sig (Elt F) _ c.2) PUnit),
      D = Cert.KernelIdeal.defs (F := F) → Th = Cert.KernelIdeal.threads (F := F) → θ_run D Th s Q := by
    intro D Th hD hT; rw [hD, hT]; exact h
  exact key _ _ defs_eq threads_eq

end Cert.Proof.Gather
-- ==== Proof.Frames.lean ====
/-
  The frames: what the preconditions say of the launch memory, and each program's run under its own.
-/
module

public import proofs.«01_k».proof.Defs
public import proofs.«01_k».proof.Proof.Launch
public import proofs.«01_k».proof.Proof.Same
public import proofs.«01_k».proof.Proof.Gen.ReferenceIdeal.Run
public import proofs.«01_k».proof.Proof.Gen.Pre_ids_in_range
public import proofs.«01_k».proof.Proof.Gen.Pre_ids_in_range_segments_finite

@[expose] public section

noncomputable section

namespace Cert.Proof.Gather

open Cert.KernelIdeal Cert.KernelIdeal.Gen
open Idealize.ShloMosaic
open Idealize.ShloMosaic.TcCoe
open Idealize.ShloMosaic.SparseCore (S T)
open Idealize.ShloMosaic.Pipeline (Dat Cfg Window BodyObligation cellOf ucRefs)
open Idealize.ShloMosaic.StableHlo (held held_sub_split held_congr wp_hlo_within)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The preconditions, element by element -/

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide
theorem andi_eq_one (u v : BitVec 1) : IntOp.andi u v = 1#1 ↔ u = 1#1 ∧ v = 1#1 := by
  revert u v; decide

/-- A word between zero and a bound, both compared signed, is below the bound. -/
theorem word_lt (v : BitVec 32) (n : ℕ) (hn : n < 2147483648) (h0 : IntOp.cmpi .sge v 0#32 = 1#1) (h1 : IntOp.cmpi .slt v (BitVec.ofNat 32 n) = 1#1) : v.toNat < n := by
  simp only [IntOp.cmpi, ofBool_eq_one, BitVec.sle_eq_decide, BitVec.slt_eq_decide,
    decide_eq_true_eq, BitVec.toInt_eq_toNat_cond, BitVec.toNat_ofNat, Nat.reducePow, Nat.reduceMod] at h0 h1
  have e : n % 4294967296 = n := Nat.mod_eq_of_lt (by omega)
  rw [e] at h1
  split at h0 <;> split at h1 <;> omega

variable [FloatOps F]

theorem ids_of_pre (a0 a1 : IVec S1024x200 32) (a2 : FVec F S100000x128 .f32) (a3 : FVec F S512x128 .f32) (a4 : FVec F S2x128 .f32) (a5 a6 : FVec F S128 .f32)
    (h : Cert.Pre_ids_in_range.fn (F := F) a0 a1 a2 a3 a4 a5 a6 = fun _ => 1#1) (y : S1024x200.Idx) : (a0 y).toNat < 100000 ∧ (a1 y).toNat < 2 := by
  have e := congrFun h y
  simp only [Cert.Pre_ids_in_range.fn, andi, cmpi, broadcastInDim, constantI, andi_eq_one] at e
  obtain ⟨⟨⟨h1, h2⟩, h3⟩, h4⟩ := e
  exact ⟨word_lt _ 100000 (by decide) h1 h2, word_lt _ 2 (by decide) h3 h4⟩

theorem ids_of_pre_finite (a0 a1 : IVec S1024x200 32) (a2 : FVec F S100000x128 .f32) (a3 : FVec F S512x128 .f32) (a4 : FVec F S2x128 .f32) (a5 a6 : FVec F S128 .f32)
    (h : Cert.Pre_ids_in_range_segments_finite.fn (F := F) a0 a1 a2 a3 a4 a5 a6 = fun _ => 1#1) (y : S1024x200.Idx) : (a0 y).toNat < 100000 ∧ (a1 y).toNat < 2 := by
  have e := congrFun h y
  simp only [Cert.Pre_ids_in_range_segments_finite.fn, andi, cmpi, constantI, andi_eq_one] at e
  obtain ⟨⟨⟨⟨h1, h2⟩, h3⟩, h4⟩, -⟩ := e
  exact ⟨word_lt _ 100000 (by decide) h1 h2, word_lt _ 2 (by decide) h3 h4⟩

/-! ## The ids the SparseCore calls read -/

theorem idm_eq (m : (ℓ : Loc nD τ sig) → Buf (Elt F) ℓ) (d : Dev nD) :
    idm m d = shapeCast S1x204800 (m ((T d : Thread nD τ).loc main_arg0)) shapeCasts_S1024x200_S1x204800 := by
  unfold idm P8
  refine (StableHlo.reshape_result main_arg0 main_v8 _ _ _ _ (P7 m d)).trans ?_
  rw [P7_ne m d main_arg0 (by decide), P6_ne m d main_arg0 (by decide), P5_ne m d main_arg0 (by decide), P4_ne m d main_arg0 (by decide), P3_ne m d main_arg0 (by decide),
    P2_ne m d main_arg0 (by decide), P1_ne m d main_arg0 (by decide), P0_ne m d main_arg0 (by decide)]
  rfl

theorem ids_lt (m : (ℓ : Loc nD τ sig) → Buf (Elt F) ℓ) (h : ∀ d y, (m ((T d : Thread nD τ).loc main_arg0) y).toNat < 100000) : ∀ d y, (idm m d y).toNat < 100000 := by
  intro d y
  rw [idm_eq]
  exact h d _

/-! ## The runs -/

variable [∀ e, Nonempty (Elt F e)]

/-- The program's run, ids in range: the arguments as they were and every semaphore at zero. -/
theorem run_args (m : (ℓ : Loc nD τ sig) → Buf (Elt F) ℓ) (ρ : Dev nD → PrngReg) (h : ∀ d y, (m ((T d : Thread nD τ).loc main_arg0) y).toNat < 100000) :
    θ_run (Cert.KernelIdeal.defs (F := F)) (Cert.KernelIdeal.threads (F := F)) ⟨m, fun _ => 0, ρ⟩ (fun r => (∀ c : Dev nD,
      (r.2.mem ((T c : Thread nD τ).loc main_arg0) = m ((T c : Thread nD τ).loc main_arg0)
      ∧ r.2.mem ((T c : Thread nD τ).loc main_arg1) = m ((T c : Thread nD τ).loc main_arg1)
      ∧ r.2.mem ((T c : Thread nD τ).loc main_arg2) = m ((T c : Thread nD τ).loc main_arg2)
      ∧ r.2.mem ((T c : Thread nD τ).loc main_arg3) = m ((T c : Thread nD τ).loc main_arg3)
      ∧ r.2.mem ((T c : Thread nD τ).loc main_arg4) = m ((T c : Thread nD τ).loc main_arg4)
      ∧ r.2.mem ((T c : Thread nD τ).loc main_arg5) = m ((T c : Thread nD τ).loc main_arg5)
      ∧ r.2.mem ((T c : Thread nD τ).loc main_arg6) = m ((T c : Thread nD τ).loc main_arg6))
      ∧ r.2.mem ((T c : Thread nD τ).loc main_v20) = C3 m c (dr main_v20)) ∧ r.2.sem = fun _ => 0) :=
  (θ_run Cert.KernelIdeal.defs _ _).mono (fun _ hr => ⟨fun c => by
    obtain ⟨h0, h1, h2, h3, h4, h5, h6, h7⟩ := hr.1 c
    exact ⟨⟨h0.trans (keep_args m c main_arg0 (by decide)), h1.trans (keep_args m c main_arg1 (by decide)), h2.trans (keep_args m c main_arg2 (by decide)),
      h3.trans (keep_args m c main_arg3 (by decide)), h4.trans (keep_args m c main_arg4 (by decide)), h5.trans (keep_args m c main_arg5 (by decide)), h6.trans (keep_args m c main_arg6 (by decide))⟩, h7⟩, hr.2⟩)
    (run_main m ρ (ids_lt m h))

end Cert.Proof.Gather

namespace Cert.Proof

open Idealize.ShloMosaic Idealize.SL.Sem Cert.Proof.Gather

/-- `Cert.quiescent_KernelIdeal` (Defs.lean). -/
theorem frame_kernelIdeal : Cert.quiescent_KernelIdeal := fun m ρ hpre =>
  (θ_run Cert.KernelIdeal.defs _ _).mono (fun _ h => ⟨fun c => (h.1 c).1, h.2⟩)
    (run_args (F := Ideal) m ρ fun d y => (ids_of_pre (F := Ideal) _ _ _ _ _ _ _ (hpre d) y).1)

/-- `Cert.quiescent_KernelIdeal_pre_ids_in_range_segments_finite` (Defs.lean). -/
theorem frame_kernelIdeal_finite : Cert.quiescent_KernelIdeal_pre_ids_in_range_segments_finite := fun m ρ hpre =>
  (θ_run Cert.KernelIdeal.defs _ _).mono (fun _ h => ⟨fun c => (h.1 c).1, h.2⟩)
    (run_args (F := Ideal) m ρ fun d y => (ids_of_pre_finite (F := Ideal) _ _ _ _ _ _ _ (hpre d) y).1)

/-- `Cert.quiescent_Kernel` (Defs.lean). -/
theorem frame_kernel : Cert.quiescent_Kernel := fun m ρ hpre =>
  run_kernel (F := Bits) _ _ ((θ_run Cert.KernelIdeal.defs _ _).mono (fun _ h => ⟨fun c => (h.1 c).1, h.2⟩)
    (run_args (F := Bits) m ρ fun d y => (ids_of_pre (F := Bits) _ _ _ _ _ _ _ (hpre d) y).1))

/-- `Cert.quiescent_ReferenceIdeal` (Defs.lean): the reference is host operations in a line and has no semaphore. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- `Cert.quiescent_ReferenceIdeal_pre_ids_in_range_segments_finite` (Defs.lean): the same run. -/
theorem frame_referenceIdeal_finite : Cert.quiescent_ReferenceIdeal_pre_ids_in_range_segments_finite := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof
-- ==== Proof.Norm.lean ====
/-
  What one point of the layer-norm calls leaves in its block, element by element, at the extended reals.
-/
module

public import proofs.«01_k».proof.Proof.LnBody
public import Idealize.ShloMosaic.Lib.Pointwise

@[expose] public section

noncomputable section

namespace Cert.Proof.Gather

open Cert.KernelIdeal Cert.KernelIdeal.Gen
open Idealize.ShloMosaic

/-- The mean of a row of 128. -/
def rowMean (h : Fin 128 → EReal) : EReal := Ideal.div (∑ x, h x) (Ideal.ofBits FTy.f32 1124073472#32)

/-- The layer norm of a row of 128, at one of its elements, with the scale and the shift of that element. -/
def rowNorm (h : Fin 128 → EReal) (g b : EReal) (e : Fin 128) : EReal :=
  (h e - rowMean h) * Ideal.rsqrt (rowMean (fun x => (h x - rowMean h) * (h x - rowMean h)) + Ideal.ofBits FTy.f32 925353388#32) * g + b

set_option maxRecDepth 16384 in
/-- The block that a point writes is the layer norm of the token rows plus the position rows plus the segment rows, the
    segment row of id `s` spelt as row 0 plus `s` times the difference of the two rows. -/
theorem lnOut_apply (ex : S32x200x128.Idx → Elt Ideal .f32) (sg : S32x200.Idx → Elt Ideal .bf16) (ps : S200x128.Idx → Elt Ideal .bf16)
    (sw : S2x128.Idx → Elt Ideal .bf16) (g b : S1x128.Idx → Elt Ideal .bf16) (i : Fin 32) (l : Fin 200) (e : Fin 128) :
    lnOut (F := Ideal) ex sg ps sw g b (ix3 i l e)
      = rowNorm (fun x => ex (ix3 i l x) + (ps (ix2 l x) + sw (ix2 0 x)) + sg (ix2 i l) * (sw (ix2 1 x) - sw (ix2 0 x))) (g (ix2 0 e)) (b (ix2 0 e)) e := by
  pointwise [lnOut, k4_pay1, k4_pay2, k4_pay3]
  rfl

end Cert.Proof.Gather
-- ==== Proof.Blk.lean ====
/-
  What the layer-norm calls leave in the result array: the layer norm of the rows each call is given, at the rows it
  writes, and the array's earlier contents at the rows written before.
-/
module

public import proofs.«01_k».proof.Proof.Norm
public import proofs.«01_k».proof.Proof.Reg
public import Idealize.ShloMosaic.Lib.Pipeline.ValueKit.Basic

@[expose] public section

noncomputable section

namespace Cert.Proof.Gather

open Cert.KernelIdeal Cert.KernelIdeal.Gen
open Idealize.ShloMosaic
open Idealize.ShloMosaic.TcCoe
open Idealize.ShloMosaic.Pipeline (Dat Cfg Window arrRef)

/-- `G` holds, at chunk `k`'s 256 batches, the layer norm of that chunk's token rows `ex` plus the position and segment rows. -/
def Chunk (k : Fin 4) (ex : S256x200x128.Idx → EReal) (sg : S1024x200.Idx → EReal) (ps : S200x128.Idx → EReal) (sw : S2x128.Idx → EReal)
    (g b : S1x128.Idx → EReal) (G : S1024x200x128.Idx → EReal) : Prop :=
  ∀ (j : Fin 1024) (i : Fin 256) (l : Fin 200) (e : Fin 128), j.val = 256 * k.val + i.val →
    G (ix3 j l e) = rowNorm (fun x => ex (ix3 i l x) + (ps (ix2 l x) + sw (ix2 0 x)) + sg (ix2 j l) * (sw (ix2 1 x) - sw (ix2 0 x))) (g (ix2 0 e)) (b (ix2 0 e)) e

/-- A block of 32 batches of the chunk: what the body leaves is `G` at the block's place. -/
theorem Chunk.block {k : Fin 4} {ex sg ps sw g b G} (h : Chunk k ex sg ps sw g b G) (t : Fin 8)
    (exb : S32x200x128.Idx → EReal) (sgb : S32x200.Idx → EReal)
    (hex : ∀ i l x, exb (ix3 i l x) = ex (ix3 ⟨32 * t.val + i.val, by omega⟩ l x))
    (hsg : ∀ i l, sgb (ix2 i l) = sg (ix2 ⟨256 * k.val + 32 * t.val + i.val, by omega⟩ l)) (i : Fin 32) (l : Fin 200) (e : Fin 128) :
    lnOut (F := Ideal) exb sgb ps sw g b (ix3 i l e) = G (ix3 ⟨256 * k.val + 32 * t.val + i.val, by omega⟩ l e) := by
  rw [h _ ⟨32 * t.val + i.val, by omega⟩ l e (Nat.add_assoc _ _ _)]
  refine (lnOut_apply exb sgb ps sw g b i l e).trans (congrArg (fun r => rowNorm r (g (ix2 0 e)) (b (ix2 0 e)) e) (funext fun x => ?_))
  rw [hex, hsg]

/-- An element of a block, placed in the array: each coordinate is the block's index times its size plus the element's. -/
theorem emb_eq {g : Pipeline.Grid} (w : Window sig g) (t : Fin g.N) (y : (w.xblock (g.coords t)).Idx) (j : w.shape.Idx) (hk : w.kind = .blocked)
    (h : ∀ a, w.index t a * w.size a + (y a : ℕ) = j a) : (w.rect t).emb y = j :=
  funext fun a => Fin.ext ((w.rect_emb_val t y a hk).trans (h a))

/-- A window whose block index is zero holds its whole array in place. -/
theorem emb_zero {g : Pipeline.Grid} (w : Window sig g) (t : Fin g.N) (y : (w.xblock (g.coords t)).Idx) (j : w.shape.Idx)
    (h : ∀ a, w.index t a = 0) (hj : ∀ a, (y a : ℕ) = j a) : (w.rect t).emb y = j :=
  funext fun a => Fin.ext ((w.rect_emb_val_of_index_zero t a (h a) y).trans (hj a))

/-- A batch of chunk `k` lies in one of its eight blocks. -/
theorem exists_block (k : ℕ) (n : ℕ) (h : 256 * k ≤ n) (h' : n < 256 * (k + 1)) : ∃ t : Fin 8, (8 * k + t.val) * 32 ≤ n ∧ n < (8 * k + t.val) * 32 + 32 :=
  ⟨⟨(n - 256 * k) / 32, by omega⟩, by show (8 * k + (n - 256 * k) / 32) * 32 ≤ n; omega, by show n < (8 * k + (n - 256 * k) / 32) * 32 + 32; omega⟩

/-- The place of a block's row. -/
theorem row_pos (k t i : ℕ) : (8 * k + t) * 32 + i = 256 * k + 32 * t + i := by omega

variable (V : (c : Dev nD) → (b : Ref sig .tc) → Buf (Elt Ideal) ((c : Thread nD τ).loc b)) (c : Dev nD)

/-! ## Call 4 -/

/-- Where call 4's windows lie at each point. -/
theorem idx4 : ∀ t : Fin grid4.N, (∀ a, win4_0.index t a = ![t.val, 0, 0] a) ∧ (∀ a, win4_1.index t a = ![8 * 0 + t.val, 0] a) ∧ (∀ a, win4_2.index t a = 0)
    ∧ (∀ a, win4_3.index t a = 0) ∧ (∀ a, win4_4.index t a = 0) ∧ (∀ a, win4_5.index t a = 0) ∧ (∀ a, win4_6.index t a = ![8 * 0 + t.val, 0, 0] a) := by
  decide +kernel

/-- What call 4 writes back at a point is `G` there. -/
theorem block4 (G : S1024x200x128.Idx → EReal) (h : Chunk 0 (V c main_v10) (V c main_v0) (V c main_v2) (V c main_v3) (V c main_v5) (V c main_v7) G) (t : Fin cfg4.N) :
    (dat4 V c).flushed 6 t = ((cfg4.win 6).blk t).view.read (Elt Ideal) G := by
  obtain ⟨h0, h1, h2, h3, h4, h5, h6⟩ := idx4 t
  have e2 : rd4 V c t 2 = V c main_v2 := funext fun y => congrArg (V c main_v2) (emb_zero win4_2 t y y h2 fun _ => rfl)
  have e3 : rd4 V c t 3 = V c main_v3 := funext fun y => congrArg (V c main_v3) (emb_zero win4_3 t y y h3 fun _ => rfl)
  have e4 : rd4 V c t 4 = V c main_v5 := funext fun y => congrArg (V c main_v5) (emb_zero win4_4 t y y h4 fun _ => rfl)
  have e5 : rd4 V c t 5 = V c main_v7 := funext fun y => congrArg (V c main_v7) (emb_zero win4_5 t y y h5 fun _ => rfl)
  have key : ∀ (i : Fin 32) (l : Fin 200) (e : Fin 128), lnOut (F := Ideal) (rd4 V c t 0) (rd4 V c t 1) (V c main_v2) (V c main_v3) (V c main_v5) (V c main_v7) (ix3 i l e)
      = G ((win4_6.rect t).emb (ix3 i l e)) := fun i l e =>
    (h.block t (rd4 V c t 0) (rd4 V c t 1)
      (fun i l x => congrArg (V c main_v10) (emb_eq win4_0 t (ix3 i l x) _ rfl fun a => by
        rw [h0]; match a with
          | ⟨0, _⟩ => exact congrArg (· + i.val) (Nat.mul_comm t.val 32)
          | ⟨1, _⟩ => exact Nat.zero_add _
          | ⟨2, _⟩ => exact Nat.zero_add _))
      (fun i l => congrArg (V c main_v0) (emb_eq win4_1 t (ix2 i l) _ rfl fun a => by
        rw [h1]; match a with
          | ⟨0, _⟩ => exact row_pos 0 t.val i.val
          | ⟨1, _⟩ => exact Nat.zero_add _)) i l e).trans
      (congrArg G (emb_eq win4_6 t (ix3 i l e) _ rfl fun a => by
        rw [h6]; match a with
          | ⟨0, _⟩ => exact row_pos 0 t.val i.val
          | ⟨1, _⟩ => exact Nat.zero_add _
          | ⟨2, _⟩ => exact Nat.zero_add _)).symm
  have e6 : (dat4 V c).flushed 6 t = lnOut (F := Ideal) (rd4 V c t 0) (rd4 V c t 1) (V c main_v2) (V c main_v3) (V c main_v5) (V c main_v7) := by
    rw [← e2, ← e3, ← e4, ← e5]; rfl
  rw [e6]
  funext y
  have := key (y 0) (y 1) (y 2)
  rw [← eq_ix3] at this
  exact this

/-- The rows call 4 writes at a point. -/
theorem mem4 (t : Fin cfg4.N) (j : S1024x200x128.Idx) (h : (8 * 0 + t.val) * 32 ≤ (j 0).val) (h' : (j 0).val < (8 * 0 + t.val) * 32 + 32) : j ∈ ((cfg4.win 6).blk t).view.set := by
  have hi := (idx4 t).2.2.2.2.2.2
  refine (Finset.ext_iff.mp (View.set_slice_whole main_v17 (win4_6.rect t)) j).mpr ((win4_6.mem_rect_iff t j rfl).mpr fun a => ?_)
  rw [hi a]
  match a with
  | ⟨0, _⟩ => exact ⟨h, h'⟩
  | ⟨1, _⟩ => exact ⟨(Nat.zero_mul 200).le.trans (Nat.zero_le _), lt_of_lt_of_eq (j 1).isLt (Nat.zero_add 200).symm⟩
  | ⟨2, _⟩ => exact ⟨(Nat.zero_mul 128).le.trans (Nat.zero_le _), lt_of_lt_of_eq (j 2).isLt (Nat.zero_add 128).symm⟩

/-- Call 4 leaves `G` at the chunks up to its own, if the chunks before were `G` already. -/
theorem arr4 (G : S1024x200x128.Idx → EReal) (h : Chunk 0 (V c main_v10) (V c main_v0) (V c main_v2) (V c main_v3) (V c main_v5) (V c main_v7) G)
    (hA : ∀ j : S1024x200x128.Idx, (j 0).val < 256 * 0 → V c main_v17 j = G j) (j : S1024x200x128.Idx) (hj : (j 0).val < 256 * (0 + 1)) :
    (dat4 V c).arrAt 6 cfg4.N j = G j := by
  refine ((dat4 V c).arrAt_eq_piecewise 6 G (fun t _ => block4 V c G h t) j).trans ?_
  split
  · rfl
  rename_i hn
  by_cases hk : (j 0).val < 256 * 0
  · exact hA j hk
  obtain ⟨t, h1, h2⟩ := exists_block 0 (j 0).val (by omega) hj
  exact absurd ⟨t, flush4_6 t, mem4 t j h1 h2⟩ hn

/-! ## Call 5 -/

/-- Where call 5's windows lie at each point. -/
theorem idx5 : ∀ t : Fin grid5.N, (∀ a, win5_0.index t a = ![t.val, 0, 0] a) ∧ (∀ a, win5_1.index t a = ![8 * 1 + t.val, 0] a) ∧ (∀ a, win5_2.index t a = 0)
    ∧ (∀ a, win5_3.index t a = 0) ∧ (∀ a, win5_4.index t a = 0) ∧ (∀ a, win5_5.index t a = 0) ∧ (∀ a, win5_6.index t a = ![8 * 1 + t.val, 0, 0] a) := by
  decide +kernel

/-- What call 5 writes back at a point is `G` there. -/
theorem block5 (G : S1024x200x128.Idx → EReal) (h : Chunk 1 (V c main_v12) (V c main_v0) (V c main_v2) (V c main_v3) (V c main_v5) (V c main_v7) G) (t : Fin cfg5.N) :
    (dat5 V c).flushed 6 t = ((cfg5.win 6).blk t).view.read (Elt Ideal) G := by
  obtain ⟨h0, h1, h2, h3, h4, h5, h6⟩ := idx5 t
  have e2 : rd5 V c t 2 = V c main_v2 := funext fun y => congrArg (V c main_v2) (emb_zero win5_2 t y y h2 fun _ => rfl)
  have e3 : rd5 V c t 3 = V c main_v3 := funext fun y => congrArg (V c main_v3) (emb_zero win5_3 t y y h3 fun _ => rfl)
  have e4 : rd5 V c t 4 = V c main_v5 := funext fun y => congrArg (V c main_v5) (emb_zero win5_4 t y y h4 fun _ => rfl)
  have e5 : rd5 V c t 5 = V c main_v7 := funext fun y => congrArg (V c main_v7) (emb_zero win5_5 t y y h5 fun _ => rfl)
  have key : ∀ (i : Fin 32) (l : Fin 200) (e : Fin 128), lnOut (F := Ideal) (rd5 V c t 0) (rd5 V c t 1) (V c main_v2) (V c main_v3) (V c main_v5) (V c main_v7) (ix3 i l e)
      = G ((win5_6.rect t).emb (ix3 i l e)) := fun i l e =>
    (h.block t (rd5 V c t 0) (rd5 V c t 1)
      (fun i l x => congrArg (V c main_v12) (emb_eq win5_0 t (ix3 i l x) _ rfl fun a => by
        rw [h0]; match a with
          | ⟨0, _⟩ => exact congrArg (· + i.val) (Nat.mul_comm t.val 32)
          | ⟨1, _⟩ => exact Nat.zero_add _
          | ⟨2, _⟩ => exact Nat.zero_add _))
      (fun i l => congrArg (V c main_v0) (emb_eq win5_1 t (ix2 i l) _ rfl fun a => by
        rw [h1]; match a with
          | ⟨0, _⟩ => exact row_pos 1 t.val i.val
          | ⟨1, _⟩ => exact Nat.zero_add _)) i l e).trans
      (congrArg G (emb_eq win5_6 t (ix3 i l e) _ rfl fun a => by
        rw [h6]; match a with
          | ⟨0, _⟩ => exact row_pos 1 t.val i.val
          | ⟨1, _⟩ => exact Nat.zero_add _
          | ⟨2, _⟩ => exact Nat.zero_add _)).symm
  have e6 : (dat5 V c).flushed 6 t = lnOut (F := Ideal) (rd5 V c t 0) (rd5 V c t 1) (V c main_v2) (V c main_v3) (V c main_v5) (V c main_v7) := by
    rw [← e2, ← e3, ← e4, ← e5]; rfl
  rw [e6]
  funext y
  have := key (y 0) (y 1) (y 2)
  rw [← eq_ix3] at this
  exact this

/-- The rows call 5 writes at a point. -/
theorem mem5 (t : Fin cfg5.N) (j : S1024x200x128.Idx) (h : (8 * 1 + t.val) * 32 ≤ (j 0).val) (h' : (j 0).val < (8 * 1 + t.val) * 32 + 32) : j ∈ ((cfg5.win 6).blk t).view.set := by
  have hi := (idx5 t).2.2.2.2.2.2
  refine (Finset.ext_iff.mp (View.set_slice_whole main_v18 (win5_6.rect t)) j).mpr ((win5_6.mem_rect_iff t j rfl).mpr fun a => ?_)
  rw [hi a]
  match a with
  | ⟨0, _⟩ => exact ⟨h, h'⟩
  | ⟨1, _⟩ => exact ⟨(Nat.zero_mul 200).le.trans (Nat.zero_le _), lt_of_lt_of_eq (j 1).isLt (Nat.zero_add 200).symm⟩
  | ⟨2, _⟩ => exact ⟨(Nat.zero_mul 128).le.trans (Nat.zero_le _), lt_of_lt_of_eq (j 2).isLt (Nat.zero_add 128).symm⟩

/-- Call 5 leaves `G` at the chunks up to its own, if the chunks before were `G` already. -/
theorem arr5 (G : S1024x200x128.Idx → EReal) (h : Chunk 1 (V c main_v12) (V c main_v0) (V c main_v2) (V c main_v3) (V c main_v5) (V c main_v7) G)
    (hA : ∀ j : S1024x200x128.Idx, (j 0).val < 256 * 1 → V c main_v18 j = G j) (j : S1024x200x128.Idx) (hj : (j 0).val < 256 * (1 + 1)) :
    (dat5 V c).arrAt 6 cfg5.N j = G j := by
  refine ((dat5 V c).arrAt_eq_piecewise 6 G (fun t _ => block5 V c G h t) j).trans ?_
  split
  · rfl
  rename_i hn
  by_cases hk : (j 0).val < 256 * 1
  · exact hA j hk
  obtain ⟨t, h1, h2⟩ := exists_block 1 (j 0).val (by omega) hj
  exact absurd ⟨t, flush5_6 t, mem5 t j h1 h2⟩ hn

/-! ## Call 6 -/

/-- Where call 6's windows lie at each point. -/
theorem idx6 : ∀ t : Fin grid6.N, (∀ a, win6_0.index t a = ![t.val, 0, 0] a) ∧ (∀ a, win6_1.index t a = ![8 * 2 + t.val, 0] a) ∧ (∀ a, win6_2.index t a = 0)
    ∧ (∀ a, win6_3.index t a = 0) ∧ (∀ a, win6_4.index t a = 0) ∧ (∀ a, win6_5.index t a = 0) ∧ (∀ a, win6_6.index t a = ![8 * 2 + t.val, 0, 0] a) := by
  decide +kernel

/-- What call 6 writes back at a point is `G` there. -/
theorem block6 (G : S1024x200x128.Idx → EReal) (h : Chunk 2 (V c main_v14) (V c main_v0) (V c main_v2) (V c main_v3) (V c main_v5) (V c main_v7) G) (t : Fin cfg6.N) :
    (dat6 V c).flushed 6 t = ((cfg6.win 6).blk t).view.read (Elt Ideal) G := by
  obtain ⟨h0, h1, h2, h3, h4, h5, h6⟩ := idx6 t
  have e2 : rd6 V c t 2 = V c main_v2 := funext fun y => congrArg (V c main_v2) (emb_zero win6_2 t y y h2 fun _ => rfl)
  have e3 : rd6 V c t 3 = V c main_v3 := funext fun y => congrArg (V c main_v3) (emb_zero win6_3 t y y h3 fun _ => rfl)
  have e4 : rd6 V c t 4 = V c main_v5 := funext fun y => congrArg (V c main_v5) (emb_zero win6_4 t y y h4 fun _ => rfl)
  have e5 : rd6 V c t 5 = V c main_v7 := funext fun y => congrArg (V c main_v7) (emb_zero win6_5 t y y h5 fun _ => rfl)
  have key : ∀ (i : Fin 32) (l : Fin 200) (e : Fin 128), lnOut (F := Ideal) (rd6 V c t 0) (rd6 V c t 1) (V c main_v2) (V c main_v3) (V c main_v5) (V c main_v7) (ix3 i l e)
      = G ((win6_6.rect t).emb (ix3 i l e)) := fun i l e =>
    (h.block t (rd6 V c t 0) (rd6 V c t 1)
      (fun i l x => congrArg (V c main_v14) (emb_eq win6_0 t (ix3 i l x) _ rfl fun a => by
        rw [h0]; match a with
          | ⟨0, _⟩ => exact congrArg (· + i.val) (Nat.mul_comm t.val 32)
          | ⟨1, _⟩ => exact Nat.zero_add _
          | ⟨2, _⟩ => exact Nat.zero_add _))
      (fun i l => congrArg (V c main_v0) (emb_eq win6_1 t (ix2 i l) _ rfl fun a => by
        rw [h1]; match a with
          | ⟨0, _⟩ => exact row_pos 2 t.val i.val
          | ⟨1, _⟩ => exact Nat.zero_add _)) i l e).trans
      (congrArg G (emb_eq win6_6 t (ix3 i l e) _ rfl fun a => by
        rw [h6]; match a with
          | ⟨0, _⟩ => exact row_pos 2 t.val i.val
          | ⟨1, _⟩ => exact Nat.zero_add _
          | ⟨2, _⟩ => exact Nat.zero_add _)).symm
  have e6 : (dat6 V c).flushed 6 t = lnOut (F := Ideal) (rd6 V c t 0) (rd6 V c t 1) (V c main_v2) (V c main_v3) (V c main_v5) (V c main_v7) := by
    rw [← e2, ← e3, ← e4, ← e5]; rfl
  rw [e6]
  funext y
  have := key (y 0) (y 1) (y 2)
  rw [← eq_ix3] at this
  exact this

/-- The rows call 6 writes at a point. -/
theorem mem6 (t : Fin cfg6.N) (j : S1024x200x128.Idx) (h : (8 * 2 + t.val) * 32 ≤ (j 0).val) (h' : (j 0).val < (8 * 2 + t.val) * 32 + 32) : j ∈ ((cfg6.win 6).blk t).view.set := by
  have hi := (idx6 t).2.2.2.2.2.2
  refine (Finset.ext_iff.mp (View.set_slice_whole main_v19 (win6_6.rect t)) j).mpr ((win6_6.mem_rect_iff t j rfl).mpr fun a => ?_)
  rw [hi a]
  match a with
  | ⟨0, _⟩ => exact ⟨h, h'⟩
  | ⟨1, _⟩ => exact ⟨(Nat.zero_mul 200).le.trans (Nat.zero_le _), lt_of_lt_of_eq (j 1).isLt (Nat.zero_add 200).symm⟩
  | ⟨2, _⟩ => exact ⟨(Nat.zero_mul 128).le.trans (Nat.zero_le _), lt_of_lt_of_eq (j 2).isLt (Nat.zero_add 128).symm⟩

/-- Call 6 leaves `G` at the chunks up to its own, if the chunks before were `G` already. -/
theorem arr6 (G : S1024x200x128.Idx → EReal) (h : Chunk 2 (V c main_v14) (V c main_v0) (V c main_v2) (V c main_v3) (V c main_v5) (V c main_v7) G)
    (hA : ∀ j : S1024x200x128.Idx, (j 0).val < 256 * 2 → V c main_v19 j = G j) (j : S1024x200x128.Idx) (hj : (j 0).val < 256 * (2 + 1)) :
    (dat6 V c).arrAt 6 cfg6.N j = G j := by
  refine ((dat6 V c).arrAt_eq_piecewise 6 G (fun t _ => block6 V c G h t) j).trans ?_
  split
  · rfl
  rename_i hn
  by_cases hk : (j 0).val < 256 * 2
  · exact hA j hk
  obtain ⟨t, h1, h2⟩ := exists_block 2 (j 0).val (by omega) hj
  exact absurd ⟨t, flush6_6 t, mem6 t j h1 h2⟩ hn

/-! ## Call 7 -/

/-- Where call 7's windows lie at each point. -/
theorem idx7 : ∀ t : Fin grid7.N, (∀ a, win7_0.index t a = ![t.val, 0, 0] a) ∧ (∀ a, win7_1.index t a = ![8 * 3 + t.val, 0] a) ∧ (∀ a, win7_2.index t a = 0)
    ∧ (∀ a, win7_3.index t a = 0) ∧ (∀ a, win7_4.index t a = 0) ∧ (∀ a, win7_5.index t a = 0) ∧ (∀ a, win7_6.index t a = ![8 * 3 + t.val, 0, 0] a) := by
  decide +kernel

/-- What call 7 writes back at a point is `G` there. -/
theorem block7 (G : S1024x200x128.Idx → EReal) (h : Chunk 3 (V c main_v16) (V c main_v0) (V c main_v2) (V c main_v3) (V c main_v5) (V c main_v7) G) (t : Fin cfg7.N) :
    (dat7 V c).flushed 6 t = ((cfg7.win 6).blk t).view.read (Elt Ideal) G := by
  obtain ⟨h0, h1, h2, h3, h4, h5, h6⟩ := idx7 t
  have e2 : rd7 V c t 2 = V c main_v2 := funext fun y => congrArg (V c main_v2) (emb_zero win7_2 t y y h2 fun _ => rfl)
  have e3 : rd7 V c t 3 = V c main_v3 := funext fun y => congrArg (V c main_v3) (emb_zero win7_3 t y y h3 fun _ => rfl)
  have e4 : rd7 V c t 4 = V c main_v5 := funext fun y => congrArg (V c main_v5) (emb_zero win7_4 t y y h4 fun _ => rfl)
  have e5 : rd7 V c t 5 = V c main_v7 := funext fun y => congrArg (V c main_v7) (emb_zero win7_5 t y y h5 fun _ => rfl)
  have key : ∀ (i : Fin 32) (l : Fin 200) (e : Fin 128), lnOut (F := Ideal) (rd7 V c t 0) (rd7 V c t 1) (V c main_v2) (V c main_v3) (V c main_v5) (V c main_v7) (ix3 i l e)
      = G ((win7_6.rect t).emb (ix3 i l e)) := fun i l e =>
    (h.block t (rd7 V c t 0) (rd7 V c t 1)
      (fun i l x => congrArg (V c main_v16) (emb_eq win7_0 t (ix3 i l x) _ rfl fun a => by
        rw [h0]; match a with
          | ⟨0, _⟩ => exact congrArg (· + i.val) (Nat.mul_comm t.val 32)
          | ⟨1, _⟩ => exact Nat.zero_add _
          | ⟨2, _⟩ => exact Nat.zero_add _))
      (fun i l => congrArg (V c main_v0) (emb_eq win7_1 t (ix2 i l) _ rfl fun a => by
        rw [h1]; match a with
          | ⟨0, _⟩ => exact row_pos 3 t.val i.val
          | ⟨1, _⟩ => exact Nat.zero_add _)) i l e).trans
      (congrArg G (emb_eq win7_6 t (ix3 i l e) _ rfl fun a => by
        rw [h6]; match a with
          | ⟨0, _⟩ => exact row_pos 3 t.val i.val
          | ⟨1, _⟩ => exact Nat.zero_add _
          | ⟨2, _⟩ => exact Nat.zero_add _)).symm
  have e6 : (dat7 V c).flushed 6 t = lnOut (F := Ideal) (rd7 V c t 0) (rd7 V c t 1) (V c main_v2) (V c main_v3) (V c main_v5) (V c main_v7) := by
    rw [← e2, ← e3, ← e4, ← e5]; rfl
  rw [e6]
  funext y
  have := key (y 0) (y 1) (y 2)
  rw [← eq_ix3] at this
  exact this

/-- The rows call 7 writes at a point. -/
theorem mem7 (t : Fin cfg7.N) (j : S1024x200x128.Idx) (h : (8 * 3 + t.val) * 32 ≤ (j 0).val) (h' : (j 0).val < (8 * 3 + t.val) * 32 + 32) : j ∈ ((cfg7.win 6).blk t).view.set := by
  have hi := (idx7 t).2.2.2.2.2.2
  refine (Finset.ext_iff.mp (View.set_slice_whole main_v20 (win7_6.rect t)) j).mpr ((win7_6.mem_rect_iff t j rfl).mpr fun a => ?_)
  rw [hi a]
  match a with
  | ⟨0, _⟩ => exact ⟨h, h'⟩
  | ⟨1, _⟩ => exact ⟨(Nat.zero_mul 200).le.trans (Nat.zero_le _), lt_of_lt_of_eq (j 1).isLt (Nat.zero_add 200).symm⟩
  | ⟨2, _⟩ => exact ⟨(Nat.zero_mul 128).le.trans (Nat.zero_le _), lt_of_lt_of_eq (j 2).isLt (Nat.zero_add 128).symm⟩

/-- Call 7 leaves `G` at the chunks up to its own, if the chunks before were `G` already. -/
theorem arr7 (G : S1024x200x128.Idx → EReal) (h : Chunk 3 (V c main_v16) (V c main_v0) (V c main_v2) (V c main_v3) (V c main_v5) (V c main_v7) G)
    (hA : ∀ j : S1024x200x128.Idx, (j 0).val < 256 * 3 → V c main_v20 j = G j) (j : S1024x200x128.Idx) (hj : (j 0).val < 256 * (3 + 1)) :
    (dat7 V c).arrAt 6 cfg7.N j = G j := by
  refine ((dat7 V c).arrAt_eq_piecewise 6 G (fun t _ => block7 V c G h t) j).trans ?_
  split
  · rfl
  rename_i hn
  by_cases hk : (j 0).val < 256 * 3
  · exact hA j hk
  obtain ⟨t, h1, h2⟩ := exists_block 3 (j 0).val (by omega) hj
  exact absurd ⟨t, flush7_6 t, mem7 t j h1 h2⟩ hn

end Cert.Proof.Gather
-- ==== Proof.RefVal.lean ====
/-
  What the reference computes, element by element, at the extended reals, for ids in range.
-/
module

public import proofs.«01_k».proof.Proof.Gen.ReferenceIdeal.Run
public import proofs.«01_k».proof.Proof.Norm

@[expose] public section

noncomputable section

namespace Cert.Proof.Ref

open Cert.ReferenceIdeal Cert.ReferenceIdeal.Gen
open Idealize.ShloMosaic
open Cert.Proof.Gather (rowNorm rowMean)

/-! ## The reference's pieces -/

/-- An id array, a negative id counted from the table's end, with an axis of extent one added. -/
def wrap (n : BitVec 32) (x : IVec S1024x200 32) : IVec S1024x200x1 32 :=
  broadcastInDim S1024x200x1 ![0, 1] bcast_S1024x200_S1024x200x1_0_1
    (select (cmpi .slt x (broadcastInDim S1024x200 ![] bcast_S_S1024x200 (constantI S_ 32 0#32)))
      (addi x (broadcastInDim S1024x200 ![] bcast_S_S1024x200 (constantI S_ 32 n))) x)

/-- Which ids name a row of the table whose last row is `hi`. -/
def valid (hi : BitVec 32) (w : IVec S1024x200x1 32) : IVec S1024x200 1 :=
  Host.reduce IntOp.andi
    (andi (cmpi .sge w (broadcastInDim S1024x200x1 ![] bcast_S_S1024x200x1 (constantI S_ 32 0#32)))
      (cmpi .sle w (broadcastInDim S1024x200x1 ![0, 1, 2] bcast_S1x1x1_S1024x200x1_0_1_2 (broadcastInDim S1x1x1 ![2] bcast_S1_S1x1x1_2 (constantI S1 32 hi)))))
    (constantI S_ 1 1#1) reducesTo_S1024x200x1_S1024x200_d2 h_S_

/-- The rows that a gather took, where the ids are valid. -/
def masked (v : IVec S1024x200 1) (r : FVec Ideal S1024x200x128 .f32) : FVec Ideal S1024x200x128 .f32 :=
  select (broadcastInDim S1024x200x128 ![0, 1] bcast_S1024x200_S1024x200x128_0_1 v) r
    (broadcastInDim S1024x200x128 ![] bcast_S_S1024x200x128 (constant S_ FTy.f32 2143289344#32))

/-- The token rows. -/
def takeX (tab : FVec Ideal S100000x128 .f32) (x : IVec S1024x200 32) : FVec Ideal S1024x200x128 .f32 :=
  masked (valid 99999#32 (wrap 100000#32 x)) (Host.gather gather_S100000x128_S1024x200x1_S1024x200x128_2_0_n_n_0_2_1128 tab (wrap 100000#32 x))

/-- The segment rows. -/
def takeS (tab : FVec Ideal S2x128 .f32) (x : IVec S1024x200 32) : FVec Ideal S1024x200x128 .f32 :=
  masked (valid 1#32 (wrap 2#32 x)) (Host.gather gather_S2x128_S1024x200x1_S1024x200x128_2_0_n_n_0_2_1128 tab (wrap 2#32 x))

/-- The positions 0, 1, …, 199 as ids. -/
def posIds : IVec S200x1 32 :=
  broadcastInDim S200x1 ![0] bcast_S200_S200x1_0
    (select (cmpi .slt (iotaInDim S200 32 0) (broadcastInDim S200 ![] bcast_S_S200 (constantI S_ 32 0#32)))
      (addi (iotaInDim S200 32 0) (broadcastInDim S200 ![] bcast_S_S200 (constantI S_ 32 512#32))) (iotaInDim S200 32 0))

/-- Which positions name a row of the position table. -/
def posValid : IVec S200 1 :=
  Host.reduce IntOp.andi
    (andi (cmpi .sge posIds (broadcastInDim S200x1 ![] bcast_S_S200x1 (constantI S_ 32 0#32)))
      (cmpi .sle posIds (broadcastInDim S200x1 ![0, 1] bcast_S1x1_S200x1_0_1 (broadcastInDim S1x1 ![1] bcast_S1_S1x1_1 (constantI S1 32 511#32)))))
    (constantI S_ 1 1#1) reducesTo_S200x1_S200_d1 h_S_

/-- The position rows. -/
def takeP (tab : FVec Ideal S512x128 .f32) : FVec Ideal S200x128 .f32 :=
  select (broadcastInDim S200x128 ![0] bcast_S200_S200x128_0 posValid)
    (Host.gather gather_S512x128_S200x1_S200x128_1_0_n_n_0_1_1128 tab posIds)
    (broadcastInDim S200x128 ![] bcast_S_S200x128 (constant S_ FTy.f32 2143289344#32))

/-- The three rows added. -/
def embed (x s : IVec S1024x200 32) (tx : FVec Ideal S100000x128 .f32) (tp : FVec Ideal S512x128 .f32) (ts : FVec Ideal S2x128 .f32) : FVec Ideal S1024x200x128 .f32 :=
  addf (addf (takeX tx x) (broadcastInDim S1024x200x128 ![0, 1, 2] bcast_S1x200x128_S1024x200x128_0_1_2 (broadcastInDim S1x200x128 ![1, 2] bcast_S200x128_S1x200x128_1_2 (takeP tp))))
    (takeS ts s)

/-! ## The ids -/

theorem slt_zero (v : BitVec 32) (h : v.toNat < 2147483648) : IntOp.cmpi .slt v 0#32 = 0#1 := by
  have e : v.slt 0#32 = false := by
    rw [BitVec.slt_eq_decide, decide_eq_false_iff_not, BitVec.toInt_eq_toNat_cond, BitVec.toInt_eq_toNat_cond]
    simp only [BitVec.toNat_ofNat]
    split <;> omega
  show BitVec.ofBool (v.slt 0#32) = 0#1
  rw [e]; rfl

theorem sge_zero (v : BitVec 32) (h : v.toNat < 2147483648) : IntOp.cmpi .sge v 0#32 = 1#1 := by
  have e : (0#32).sle v = true := by
    rw [BitVec.sle_eq_decide, decide_eq_true_iff, BitVec.toInt_eq_toNat_cond, BitVec.toInt_eq_toNat_cond]
    simp only [BitVec.toNat_ofNat]
    split <;> omega
  show BitVec.ofBool ((0#32).sle v) = 1#1
  rw [e]; rfl

theorem sle_of_le (v w : BitVec 32) (h : v.toNat ≤ w.toNat) (hw : w.toNat < 2147483648) : IntOp.cmpi .sle v w = 1#1 := by
  have e : v.sle w = true := by
    rw [BitVec.sle_eq_decide, decide_eq_true_iff, BitVec.toInt_eq_toNat_cond, BitVec.toInt_eq_toNat_cond]
    split <;> split <;> omega
  show BitVec.ofBool (v.sle w) = 1#1
  rw [e]; rfl

theorem select_one {α : Type} (a b : α) : Scalar.select (1#1) a b = a := by unfold Scalar.select; exact if_pos rfl
theorem select_zero {α : Type} (a b : α) : Scalar.select (0#1) a b = b := by unfold Scalar.select; exact if_neg (by decide)

/-- An id that is not negative is taken as it is. -/
theorem wrap_apply (n : BitVec 32) (x : IVec S1024x200 32) (i : Fin 1024) (l : Fin 200) (u : Fin 1) (h : (x (ix2 i l)).toNat < 2147483648) :
    wrap n x (ix3 i l u) = x (ix2 i l) := by
  pointwise [wrap]
  rw [slt_zero _ h, select_zero]

/-- An id in range is valid. -/
theorem valid_apply (hi : BitVec 32) (w : IVec S1024x200x1 32) (i : Fin 1024) (l : Fin 200) (h : (w (ix3 i l 0)).toNat ≤ hi.toNat) (hh : hi.toNat < 2147483648) :
    valid hi w (ix2 i l) = 1#1 := by
  pointwise [valid]
  rw [Finset.univ_unique, Finset.fold_singleton]
  show IntOp.andi (IntOp.andi (IntOp.cmpi .sge (w (ix3 i l 0)) 0#32) (IntOp.cmpi .sle (w (ix3 i l 0)) hi)) 1#1 = 1#1
  rw [sge_zero _ (by omega), sle_of_le _ _ h hh]
  rfl

/-- Position `l` is the id `l`. -/
theorem posIds_apply (l : Fin 200) (u : Fin 1) : posIds (ix2 l u) = BitVec.ofNat 32 l.val := by
  pointwise [posIds]
  have e : (BitVec.ofNat 32 l.val).toNat = l.val := by rw [BitVec.toNat_ofNat]; exact Nat.mod_eq_of_lt (by omega)
  rw [slt_zero _ (by omega), select_zero]

/-- Every position is valid. -/
theorem posValid_apply (l : Fin 200) : posValid (ix1 l) = 1#1 := by
  have e : (BitVec.ofNat 32 l.val).toNat = l.val := by rw [BitVec.toNat_ofNat]; exact Nat.mod_eq_of_lt (by omega)
  pointwise [posValid]
  rw [Finset.univ_unique, Finset.fold_singleton]
  show IntOp.andi (IntOp.andi (IntOp.cmpi .sge (posIds (ix2 l 0)) 0#32) (IntOp.cmpi .sle (posIds (ix2 l 0)) 511#32)) 1#1 = 1#1
  rw [posIds_apply, sge_zero _ (by omega), sle_of_le _ _ (show _ ≤ 511 by omega) (by decide)]
  rfl

theorem masked_apply (v : IVec S1024x200 1) (r : FVec Ideal S1024x200x128 .f32) (i : Fin 1024) (l : Fin 200) (e : Fin 128) (h : v (ix2 i l) = 1#1) :
    masked v r (ix3 i l e) = r (ix3 i l e) := by
  pointwise [masked]
  rw [h, select_one]

/-! ## The gathers -/

/-- A word below 2³¹, read signed and clamped below the table's end, is the row it names. -/
theorem clamp_word (v : BitVec 32) (N : ℕ) (hN : v.toNat < N) (h2 : N ≤ 2147483648) : min v.toInt.toNat (N - 1) = v.toNat := by
  rw [BitVec.toInt_eq_toNat_cond]; split <;> omega

theorem one_not_mem : (1 : Fin 2) ∉ [(0 : Fin 2)] := by decide

/-- The dimension numbers of rows taken from a table at a rank-2 array of ids. -/
abbrev rowsDims (N : ℕ) (wf : GatherDims.WF ⟨2, ![N, 128]⟩ S1024x200x1 S1024x200x128 [2] [0] [] [0] [] 2 ![1, 128]) :
    GatherDims ⟨2, ![N, 128]⟩ S1024x200x1 S1024x200x128 where
  offsetDims := [2]
  collapsedSliceDims := [0]
  operandBatchingDims := []
  startIndicesBatchingDims := []
  startIndexMap := [0]
  indexVectorDim := 2
  sliceSizes := ![1, 128]
  wf := wf

/-- Such a gather at an element: the element of the row that the id names. -/
theorem gather_rows {N : ℕ} (hN : 0 < N) (wf) (tab : (⟨2, ![N, 128]⟩ : Shape).Idx → EReal) (w : IVec S1024x200x1 32) (i : Fin 1024) (l : Fin 200) (e : Fin 128) :
    Host.gather (rowsDims N wf) tab w (ix3 i l e) = tab (ix2 ⟨min (w (ix3 i l 0)).toInt.toNat (N - 1), by omega⟩ e) := by
  unfold Host.gather
  congr 1
  funext a
  refine Fin.ext ?_
  show (rowsDims N wf).start (ix3 i l e) w a + (rowsDims N wf).batchCoord (ix3 i l e) a + (rowsDims N wf).offCoord (ix3 i l e) a = _
  rw [GatherDims.batchCoord_eq_zero _ _ _ List.not_mem_nil]
  match a with
  | ⟨0, _⟩ =>
    show (rowsDims N wf).start (ix3 i l e) w 0 + 0 + (rowsDims N wf).offCoord (ix3 i l e) 0 = _
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N wf).startIndexMap from List.mem_singleton.mpr rfl)]
    have hsi : (rowsDims N wf).siIdx (ix3 i l e) ⟨List.idxOf (0 : Fin 2) (rowsDims N wf).startIndexMap, List.idxOf_lt_length_iff.2 (List.mem_singleton.mpr rfl)⟩ = ix3 i l 0 := by
      funext b; refine Fin.ext ?_
      match b with
      | ⟨0, _⟩ => rfl
      | ⟨1, _⟩ => rfl
      | ⟨2, _⟩ => rfl
    rw [hsi]
    rfl
  | ⟨1, _⟩ =>
    show (rowsDims N wf).start (ix3 i l e) w 1 + 0 + (rowsDims N wf).offCoord (ix3 i l e) 1 = _
    unfold GatherDims.start GatherDims.offCoord
    rw [dif_neg (show (1 : Fin 2) ∉ (rowsDims N wf).startIndexMap from one_not_mem),
      dif_pos ((GatherDims.mem_sKept _ _).mpr ⟨one_not_mem, List.not_mem_nil⟩)]
    simp only [Nat.zero_add]
    rfl

/-- The dimension numbers of rows taken from a table at a vector of ids. -/
abbrev vecDims (wf : GatherDims.WF S512x128 S200x1 S200x128 [1] [0] [] [0] [] 1 ![1, 128]) : GatherDims S512x128 S200x1 S200x128 where
  offsetDims := [1]
  collapsedSliceDims := [0]
  operandBatchingDims := []
  startIndicesBatchingDims := []
  startIndexMap := [0]
  indexVectorDim := 1
  sliceSizes := ![1, 128]
  wf := wf

/-- Such a gather at an element. -/
theorem gather_vec (wf) (tab : S512x128.Idx → EReal) (w : IVec S200x1 32) (l : Fin 200) (e : Fin 128) :
    Host.gather (vecDims wf) tab w (ix2 l e) = tab (ix2 ⟨min (w (ix2 l 0)).toInt.toNat (512 - 1), by omega⟩ e) := by
  unfold Host.gather
  congr 1
  funext a
  refine Fin.ext ?_
  show (vecDims wf).start (ix2 l e) w a + (vecDims wf).batchCoord (ix2 l e) a + (vecDims wf).offCoord (ix2 l e) a = _
  rw [GatherDims.batchCoord_eq_zero _ _ _ List.not_mem_nil]
  match a with
  | ⟨0, _⟩ =>
    show (vecDims wf).start (ix2 l e) w 0 + 0 + (vecDims wf).offCoord (ix2 l e) 0 = _
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (vecDims wf).startIndexMap from List.mem_singleton.mpr rfl)]
    have hsi : (vecDims wf).siIdx (ix2 l e) ⟨List.idxOf (0 : Fin 2) (vecDims wf).startIndexMap, List.idxOf_lt_length_iff.2 (List.mem_singleton.mpr rfl)⟩ = ix2 l 0 := by
      funext b; refine Fin.ext ?_
      match b with
      | ⟨0, _⟩ => rfl
      | ⟨1, _⟩ => rfl
    rw [hsi]
    rfl
  | ⟨1, _⟩ =>
    show (vecDims wf).start (ix2 l e) w 1 + 0 + (vecDims wf).offCoord (ix2 l e) 1 = _
    unfold GatherDims.start GatherDims.offCoord
    rw [dif_neg (show (1 : Fin 2) ∉ (vecDims wf).startIndexMap from one_not_mem),
      dif_pos ((GatherDims.mem_sKept _ _).mpr ⟨one_not_mem, List.not_mem_nil⟩)]
    simp only [Nat.zero_add]
    rfl

theorem row_congr {N : ℕ} (tab : (⟨2, ![N, 128]⟩ : Shape).Idx → EReal) (a b : ℕ) (ha : a < N) (hb : b < N) (e : Fin 128) (h : a = b) :
    tab (ix2 ⟨a, ha⟩ e) = tab (ix2 ⟨b, hb⟩ e) := by subst h; rfl

/-- The token rows at an element. -/
theorem takeX_apply (tab : FVec Ideal S100000x128 .f32) (x : IVec S1024x200 32) (i : Fin 1024) (l : Fin 200) (e : Fin 128) (h : (x (ix2 i l)).toNat < 100000) :
    takeX tab x (ix3 i l e) = tab (ix2 ⟨(x (ix2 i l)).toNat, h⟩ e) := by
  have hw := wrap_apply 100000#32 x i l 0 (by omega)
  unfold takeX
  rw [masked_apply _ _ _ _ _ (valid_apply _ _ _ _ (by rw [hw]; show _ ≤ 99999; omega) (by decide))]
  refine (gather_rows (N := 100000) (by decide) gather_S100000x128_S1024x200x1_S1024x200x128_2_0_n_n_0_2_1128_wf tab _ i l e).trans (row_congr tab _ _ _ _ e ?_)
  rw [hw]; exact clamp_word _ _ h (by decide)

/-- The segment rows at an element. -/
theorem takeS_apply (tab : FVec Ideal S2x128 .f32) (x : IVec S1024x200 32) (i : Fin 1024) (l : Fin 200) (e : Fin 128) (h : (x (ix2 i l)).toNat < 2) :
    takeS tab x (ix3 i l e) = tab (ix2 ⟨(x (ix2 i l)).toNat, h⟩ e) := by
  have hw := wrap_apply 2#32 x i l 0 (by omega)
  unfold takeS
  rw [masked_apply _ _ _ _ _ (valid_apply _ _ _ _ (by rw [hw]; show _ ≤ 1; omega) (by decide))]
  refine (gather_rows (N := 2) (by decide) gather_S2x128_S1024x200x1_S1024x200x128_2_0_n_n_0_2_1128_wf tab _ i l e).trans (row_congr tab _ _ _ _ e ?_)
  rw [hw]; exact clamp_word _ _ h (by decide)

/-- The position rows at an element. -/
theorem takeP_apply (tab : FVec Ideal S512x128 .f32) (l : Fin 200) (e : Fin 128) : takeP tab (ix2 l e) = tab (ix2 ⟨l.val, by omega⟩ e) := by
  have e0 : (BitVec.ofNat 32 l.val).toNat = l.val := by rw [BitVec.toNat_ofNat]; exact Nat.mod_eq_of_lt (by omega)
  have hm : takeP tab (ix2 l e) = Host.gather gather_S512x128_S200x1_S200x128_1_0_n_n_0_1_1128 tab posIds (ix2 l e) := by
    pointwise [takeP]
    rw [posValid_apply, select_one]
  rw [hm]
  refine (gather_vec gather_S512x128_S200x1_S200x128_1_0_n_n_0_1_1128_wf tab _ l e).trans (row_congr tab _ _ _ _ e ?_)
  rw [posIds_apply, clamp_word _ 512 (by omega) (by decide), e0]

/-! ## The result -/

/-- The row means as the reference spells them: the sum over the last axis, divided by 128. -/
def means (h : FVec Ideal S1024x200x128 .f32) : FVec Ideal S1024x200x1 .f32 :=
  Host.divf (broadcastInDim S1024x200x1 ![0, 1] bcast_S1024x200_S1024x200x1_0_1 (Host.reduceAdd h (constant S_ .f32 0x00000000#32) reducesTo_S1024x200x128_S1024x200_d2 h_S_))
    (broadcastInDim S1024x200x1 ![] bcast_S_S1024x200x1 (constant S_ .f32 0x43000000#32))

/-- The rows less their means. -/
def centered (h : FVec Ideal S1024x200x128 .f32) : FVec Ideal S1024x200x128 .f32 :=
  subf h (broadcastInDim S1024x200x128 ![0, 1, 2] bcast_S1024x200x1_S1024x200x128_0_1_2 (means h))

/-- The layer norm as the reference spells it, of the rows `h`. -/
def layerNorm (h : FVec Ideal S1024x200x128 .f32) (g b : FVec Ideal S128 .f32) : FVec Ideal S1024x200x128 .f32 :=
  addf (mulf (mulf (centered h) (broadcastInDim S1024x200x128 ![0, 1, 2] bcast_S1024x200x1_S1024x200x128_0_1_2
      (Host.rsqrt (addf (means (mulf (centered h) (centered h))) (broadcastInDim S1024x200x1 ![] bcast_S_S1024x200x1 (constant S_ .f32 0x3727C5AC#32))))))
    (broadcastInDim S1024x200x128 ![0, 1, 2] bcast_S1x1x128_S1024x200x128_0_1_2 (broadcastInDim S1x1x128 ![2] bcast_S128_S1x1x128_2 g)))
    (broadcastInDim S1024x200x128 ![0, 1, 2] bcast_S1x1x128_S1024x200x128_0_1_2 (broadcastInDim S1x1x128 ![2] bcast_S128_S1x1x128_2 b))

/-- A mean at an element is the mean of its row. -/
theorem means_apply (h : FVec Ideal S1024x200x128 .f32) (i : Fin 1024) (l : Fin 200) (u : Fin 1) :
    means h (ix3 i l u) = rowMean (fun x => h (ix3 i l x)) := by
  pointwise [means]
  simp only [rowMean, Ideal.ofBits_zero_f32, zero_add]

theorem centered_apply (h : FVec Ideal S1024x200x128 .f32) (i : Fin 1024) (l : Fin 200) (e : Fin 128) :
    centered h (ix3 i l e) = h (ix3 i l e) - rowMean (fun x => h (ix3 i l x)) := by
  rw [← means_apply h i l 0]
  pointwise [centered]

theorem layerNorm_apply (h : FVec Ideal S1024x200x128 .f32) (g b : FVec Ideal S128 .f32) (i : Fin 1024) (l : Fin 200) (e : Fin 128) :
    layerNorm h g b (ix3 i l e) = rowNorm (fun x => h (ix3 i l x)) (g (ix1 e)) (b (ix1 e)) e := by
  pointwise [layerNorm]
  rw [means_apply, centered_apply]
  unfold rowNorm
  have : (fun x => mulf (centered h) (centered h) (ix3 i l x)) = fun x => (h (ix3 i l x) - rowMean (fun x => h (ix3 i l x))) * (h (ix3 i l x) - rowMean (fun x => h (ix3 i l x))) := by
    funext x
    show centered h (ix3 i l x) * centered h (ix3 i l x) = _
    rw [centered_apply]
  rw [this]

set_option maxRecDepth 16384 in
/-- The reference's result is the layer norm of the three rows added. -/
theorem res_eq (m : (ℓ : Loc nD τ sig) → Buf (Elt Ideal) ℓ) (c : Dev nD) :
    Value.res_main_v31 m c = layerNorm (embed (m (c.tc.loc main_arg0)) (m (c.tc.loc main_arg1)) (m (c.tc.loc main_arg2)) (m (c.tc.loc main_arg3)) (m (c.tc.loc main_arg4)))
      (m (c.tc.loc main_arg5)) (m (c.tc.loc main_arg6)) := rfl

theorem embed_apply (x s : IVec S1024x200 32) (tx : FVec Ideal S100000x128 .f32) (tp : FVec Ideal S512x128 .f32) (ts : FVec Ideal S2x128 .f32)
    (i : Fin 1024) (l : Fin 200) (e : Fin 128) (hx : (x (ix2 i l)).toNat < 100000) (hs : (s (ix2 i l)).toNat < 2) :
    embed x s tx tp ts (ix3 i l e) = tx (ix2 ⟨(x (ix2 i l)).toNat, hx⟩ e) + tp (ix2 ⟨l.val, by omega⟩ e) + ts (ix2 ⟨(s (ix2 i l)).toNat, hs⟩ e) := by
  rw [← takeX_apply tx x i l e hx, ← takeS_apply ts s i l e hs, ← takeP_apply tp l e]
  pointwise [embed]

/-- The reference's function at an element, for ids in range: the layer norm of the token's row plus the position's row plus
    the segment's row. -/
theorem result_apply (x s : IVec S1024x200 32) (tx : FVec Ideal S100000x128 .f32) (tp : FVec Ideal S512x128 .f32) (ts : FVec Ideal S2x128 .f32)
    (g b : FVec Ideal S128 .f32) (i : Fin 1024) (l : Fin 200) (e : Fin 128) (hx : (x (ix2 i l)).toNat < 100000) (hs : (s (ix2 i l)).toNat < 2) :
    layerNorm (embed x s tx tp ts) g b (ix3 i l e)
      = rowNorm (fun y => tx (ix2 ⟨(x (ix2 i l)).toNat, hx⟩ y) + tp (ix2 ⟨l.val, by omega⟩ y) + ts (ix2 ⟨(s (ix2 i l)).toNat, hs⟩ y)) (g (ix1 e)) (b (ix1 e)) e := by
  exact (layerNorm_apply _ g b i l e).trans (congrArg (fun h => rowNorm h (g (ix1 e)) (b (ix1 e)) e) (funext fun y => embed_apply x s tx tp ts i l y hx hs))

end Cert.Proof.Ref
-- ==== Proof.KVal.lean ====
/-
  What the kernel's result array holds at the end, for ids in range and a finite segment table: the reference's function of
  the arguments.
-/
module

public import proofs.«01_k».proof.Proof.Blk
public import proofs.«01_k».proof.Proof.RefVal
public import proofs.«01_k».proof.Proof.Frames

@[expose] public section

noncomputable section

namespace Cert.Proof.Gather

open Cert.KernelIdeal Cert.KernelIdeal.Gen
open Idealize.ShloMosaic
open Idealize.ShloMosaic.TcCoe
open Idealize.ShloMosaic.SparseCore (S T)

/-! ## The sum of the three rows, the two ways -/

/-- Row 0 plus `s` times the difference of the rows is row `s`, for finite rows and `s` zero or one. -/
theorem seg_row (ts : S2x128.Idx → EReal) (hf : ∀ y, ∃ r : ℝ, ts y = (r : EReal)) (s : BitVec 32) (h : s.toNat < 2) (x : Fin 128) :
    ts (ix2 0 x) + ((s.toInt : ℝ) : EReal) * (ts (ix2 1 x) - ts (ix2 0 x)) = ts (ix2 ⟨s.toNat, h⟩ x) := by
  obtain ⟨r0, h0⟩ := hf (ix2 0 x)
  obtain ⟨r1, h1⟩ := hf (ix2 1 x)
  rw [h0, h1]
  rcases (show s = 0#32 ∨ s = 1#32 by
    rcases (show s.toNat = 0 ∨ s.toNat = 1 by omega) with e | e
    · exact Or.inl (BitVec.eq_of_toNat_eq e)
    · exact Or.inr (BitVec.eq_of_toNat_eq e)) with e | e <;> subst e
  · refine Eq.trans ?_ h0.symm
    rw [show (0#32).toInt = 0 from rfl, Int.cast_zero, EReal.coe_zero, zero_mul, add_zero]
  · refine Eq.trans ?_ h1.symm
    rw [show (1#32).toInt = 1 from rfl, Int.cast_one, EReal.coe_one, one_mul, ← EReal.coe_sub, ← EReal.coe_add]
    congr 1; ring

/-- What a call of the layer norm is given, read from the arguments, makes the reference's function the chunk's layer norm. -/
theorem chunk_of (k : Fin 4) (ex : S256x200x128.Idx → EReal) (sg : S1024x200.Idx → EReal) (ps : S200x128.Idx → EReal) (sw : S2x128.Idx → EReal)
    (g b : S1x128.Idx → EReal) (x s : IVec S1024x200 32) (tx : S100000x128.Idx → EReal) (tp : S512x128.Idx → EReal) (ts : S2x128.Idx → EReal) (ga be : S128.Idx → EReal)
    (hx : ∀ y, (x y).toNat < 100000) (hs : ∀ y, (s y).toNat < 2) (hf : ∀ y, ∃ r : ℝ, ts y = (r : EReal))
    (hex : ∀ (j : Fin 1024) (i : Fin 256) (l : Fin 200) (e : Fin 128), j.val = 256 * k.val + i.val → ex (ix3 i l e) = tx (ix2 ⟨(x (ix2 j l)).toNat, hx _⟩ e))
    (hsg : ∀ y, sg y = (((s y).toInt : ℝ) : EReal)) (hps : ∀ (l : Fin 200) (e : Fin 128), ps (ix2 l e) = tp (ix2 ⟨l.val, by omega⟩ e)) (hsw : sw = ts)
    (hg : ∀ e : Fin 128, g (ix2 0 e) = ga (ix1 e)) (hb : ∀ e : Fin 128, b (ix2 0 e) = be (ix1 e)) :
    Chunk k ex sg ps sw g b (Ref.layerNorm (Ref.embed x s tx tp ts) ga be) := by
  intro j i l e hj
  refine (Ref.result_apply x s tx tp ts ga be j l e (hx _) (hs _)).trans ?_
  rw [hg, hb, hsw]
  refine congrArg (fun h => rowNorm h (ga (ix1 e)) (be (ix1 e)) e) (funext fun y => ?_)
  rw [hex j i l y hj, hps, hsg, ← seg_row ts hf (s (ix2 j l)) (hs _) y]
  simp only [add_assoc]

/-! ## What the layer-norm calls are given -/

variable (m : (ℓ : Loc nD τ sig) → Buf (Elt Ideal) ℓ) (d : Dev nD)

/-- The calls find the host operations' results as those left them. -/
theorem R3_host (b : Ref sig .tc) (h : b ∉ [main_v9, main_v10, main_v11, main_v12, main_v13, main_v14, main_v15, main_v16]) : R3 m d (dr b) = P8 m d (dr b) := keepR3 m d b h

/-- The segment ids as floats. -/
theorem v0_eq : R3 m d (dr main_v0) = sitofp (F := Ideal) .bf16 (m ((T d : Thread nD τ).loc main_arg1) : IVec S1024x200 32) := by
  rw [R3_host m d main_v0 (by decide), P8_ne m d main_v0 (by decide), P7_ne m d main_v0 (by decide), P6_ne m d main_v0 (by decide), P5_ne m d main_v0 (by decide),
    P4_ne m d main_v0 (by decide), P3_ne m d main_v0 (by decide), P2_ne m d main_v0 (by decide), P1_ne m d main_v0 (by decide)]
  exact StableHlo.unary_result main_arg1 main_v0 _ _ _ _

/-- The position rows. -/
theorem v2_eq : R3 m d (dr main_v2) = truncf (F := Ideal) .bf16 (extractStridedSlice S200x128 ![0, 0] (m ((T d : Thread nD τ).loc main_arg3) : FVec Ideal S512x128 .f32) slices_S512x128_S200x128_0_0) bitsLt_bf16_f32 := by
  rw [R3_host m d main_v2 (by decide), P8_ne m d main_v2 (by decide), P7_ne m d main_v2 (by decide), P6_ne m d main_v2 (by decide), P5_ne m d main_v2 (by decide),
    P4_ne m d main_v2 (by decide), P3_ne m d main_v2 (by decide)]
  refine (StableHlo.unary_result main_v1 main_v2 _ _ _ (P1 m d)).trans (congrArg (fun v : FVec Ideal S200x128 .f32 => truncf (F := Ideal) .bf16 v bitsLt_bf16_f32) ?_)
  refine (StableHlo.unary_result main_arg3 main_v1 _ _ _ (P0 m d)).trans ?_
  rw [P0_ne m d main_arg3 (by decide)]; rfl

/-- The segment rows. -/
theorem v3_eq : R3 m d (dr main_v3) = truncf (F := Ideal) .bf16 (m ((T d : Thread nD τ).loc main_arg4) : FVec Ideal S2x128 .f32) bitsLt_bf16_f32 := by
  rw [R3_host m d main_v3 (by decide), P8_ne m d main_v3 (by decide), P7_ne m d main_v3 (by decide), P6_ne m d main_v3 (by decide), P5_ne m d main_v3 (by decide),
    P4_ne m d main_v3 (by decide)]
  refine (StableHlo.unary_result main_arg4 main_v3 _ _ _ (P2 m d)).trans ?_
  rw [P2_ne m d main_arg4 (by decide), P1_ne m d main_arg4 (by decide), P0_ne m d main_arg4 (by decide)]; rfl

/-- The scale. -/
theorem v5_eq : R3 m d (dr main_v5) = shapeCast S1x128 (truncf (F := Ideal) .bf16 (m ((T d : Thread nD τ).loc main_arg5) : FVec Ideal S128 .f32) bitsLt_bf16_f32) shapeCasts_S128_S1x128 := by
  rw [R3_host m d main_v5 (by decide), P8_ne m d main_v5 (by decide), P7_ne m d main_v5 (by decide), P6_ne m d main_v5 (by decide)]
  refine (StableHlo.reshape_result main_v4 main_v5 _ _ _ _ (P4 m d)).trans (congrArg (fun v : FVec Ideal S128 .bf16 => shapeCast S1x128 v shapeCasts_S128_S1x128) ?_)
  refine (StableHlo.unary_result main_arg5 main_v4 _ _ _ (P3 m d)).trans ?_
  rw [P3_ne m d main_arg5 (by decide), P2_ne m d main_arg5 (by decide), P1_ne m d main_arg5 (by decide), P0_ne m d main_arg5 (by decide)]; rfl

/-- The shift. -/
theorem v7_eq : R3 m d (dr main_v7) = shapeCast S1x128 (truncf (F := Ideal) .bf16 (m ((T d : Thread nD τ).loc main_arg6) : FVec Ideal S128 .f32) bitsLt_bf16_f32) shapeCasts_S128_S1x128 := by
  rw [R3_host m d main_v7 (by decide), P8_ne m d main_v7 (by decide)]
  refine (StableHlo.reshape_result main_v6 main_v7 _ _ _ _ (P6 m d)).trans (congrArg (fun v : FVec Ideal S128 .bf16 => shapeCast S1x128 v shapeCasts_S128_S1x128) ?_)
  refine (StableHlo.unary_result main_arg6 main_v6 _ _ _ (P5 m d)).trans ?_
  rw [P5_ne m d main_arg6 (by decide), P4_ne m d main_arg6 (by decide), P3_ne m d main_arg6 (by decide), P2_ne m d main_arg6 (by decide), P1_ne m d main_arg6 (by decide), P0_ne m d main_arg6 (by decide)]; rfl

/-- A vector stored as one row, at an element. -/
theorem row_cast (g : FVec Ideal S128 .f32) (e : Fin 128) :
    (shapeCast S1x128 (truncf (F := Ideal) .bf16 g bitsLt_bf16_f32) shapeCasts_S128_S1x128 : S1x128.Idx → EReal) (ix2 0 e) = g (ix1 e) := by
  pointwise []

/-- The first 200 position rows, at an element. -/
theorem pos_cast (p : FVec Ideal S512x128 .f32) (l : Fin 200) (e : Fin 128) :
    (truncf (F := Ideal) .bf16 (extractStridedSlice S200x128 ![0, 0] p slices_S512x128_S200x128_0_0) bitsLt_bf16_f32 : S200x128.Idx → EReal) (ix2 l e) = p (ix2 ⟨l.val, by omega⟩ e) := by
  pointwise []

/-- The rows call `k` gathered, reshaped to batches: at a batch and a position the row of the token there. -/
theorem rows_cast (k : Fin 4) (x : IVec S1024x200 32) (tx : S100000x128.Idx → EReal) (hx : ∀ y, (x y).toNat < 100000)
    (j : Fin 1024) (i : Fin 256) (l : Fin 200) (e : Fin 128) (hj : j.val = 256 * k.val + i.val) :
    (shapeCast S256x200x128 (gat (F := Ideal) k (shapeCast S1x204800 x shapeCasts_S1024x200_S1x204800) tx) shapeCasts_S51200x128_S256x200x128 : S256x200x128.Idx → EReal) (ix3 i l e)
      = tx (ix2 ⟨(x (ix2 j l)).toNat, hx _⟩ e) := by
  pointwise [gat, entry]
  have key : ∀ (a : Fin 1024) (b : Fin 200), a = j → b = l →
      tx (tix ⟨(x (ix2 a b)).toNat % 100000, Nat.mod_lt _ (by decide)⟩ e) = tx (ix2 ⟨(x (ix2 j l)).toNat, hx _⟩ e) := by
    intro a b ha hb
    subst ha; subst hb
    refine congrArg tx (funext fun c => ?_)
    match c with
    | ⟨0, _⟩ => exact Fin.ext (Nat.mod_eq_of_lt (hx _))
    | ⟨1, _⟩ => rfl
  exact key _ _ (Fin.ext (show (51200 * k.val + (i.val * 200 + l.val)) / 200 = j.val by omega)) (Fin.ext (show (51200 * k.val + (i.val * 200 + l.val)) % 200 = l.val by omega))

/-- Call 0's gathered rows, as the layer norm finds them. -/
theorem v10_eq : R3 m d (dr main_v10) = shapeCast S256x200x128 (gat (F := Ideal) 0 (idm m d) (tbm m d)) shapeCasts_S51200x128_S256x200x128 := by
  rw [R3_ne m d main_v10 (by decide), S3_ne m d main_v10 (by decide), R2_ne m d main_v10 (by decide), S2_ne m d main_v10 (by decide), R1_ne m d main_v10 (by decide), S1_ne m d main_v10 (by decide)]
  exact (StableHlo.reshape_result main_v9 main_v10 _ _ _ _ (S0 m d)).trans (congrArg (fun v : FVec Ideal S51200x128 .f32 => shapeCast S256x200x128 v shapeCasts_S51200x128_S256x200x128) (S0_self m d))

/-- Call 1's gathered rows, as the layer norm finds them. -/
theorem v12_eq : R3 m d (dr main_v12) = shapeCast S256x200x128 (gat (F := Ideal) 1 (idm m d) (tbm m d)) shapeCasts_S51200x128_S256x200x128 := by
  rw [R3_ne m d main_v12 (by decide), S3_ne m d main_v12 (by decide), R2_ne m d main_v12 (by decide), S2_ne m d main_v12 (by decide)]
  exact (StableHlo.reshape_result main_v11 main_v12 _ _ _ _ (S1 m d)).trans (congrArg (fun v : FVec Ideal S51200x128 .f32 => shapeCast S256x200x128 v shapeCasts_S51200x128_S256x200x128) (S1_self m d))

/-- Call 2's gathered rows, as the layer norm finds them. -/
theorem v14_eq : R3 m d (dr main_v14) = shapeCast S256x200x128 (gat (F := Ideal) 2 (idm m d) (tbm m d)) shapeCasts_S51200x128_S256x200x128 := by
  rw [R3_ne m d main_v14 (by decide), S3_ne m d main_v14 (by decide)]
  exact (StableHlo.reshape_result main_v13 main_v14 _ _ _ _ (S2 m d)).trans (congrArg (fun v : FVec Ideal S51200x128 .f32 => shapeCast S256x200x128 v shapeCasts_S51200x128_S256x200x128) (S2_self m d))

/-- Call 3's gathered rows, as the layer norm finds them. -/
theorem v16_eq : R3 m d (dr main_v16) = shapeCast S256x200x128 (gat (F := Ideal) 3 (idm m d) (tbm m d)) shapeCasts_S51200x128_S256x200x128 := by
  exact (StableHlo.reshape_result main_v15 main_v16 _ _ _ _ (S3 m d)).trans (congrArg (fun v : FVec Ideal S51200x128 .f32 => shapeCast S256x200x128 v shapeCasts_S51200x128_S256x200x128) (S3_self m d))

/-! ## The result array through the four layer-norm calls -/

/-- The reference's function of the kernel's arguments. -/
def refVal : S1024x200x128.Idx → EReal :=
  Ref.layerNorm (Ref.embed (m ((T d : Thread nD τ).loc main_arg0)) (m ((T d : Thread nD τ).loc main_arg1)) (m ((T d : Thread nD τ).loc main_arg2))
    (m ((T d : Thread nD τ).loc main_arg3)) (m ((T d : Thread nD τ).loc main_arg4))) (m ((T d : Thread nD τ).loc main_arg5)) (m ((T d : Thread nD τ).loc main_arg6))

/-- The launch memory holds ids in range and a finite segment table. -/
structure Good : Prop where
  ids : ∀ y, ((m ((T d : Thread nD τ).loc main_arg0) : IVec S1024x200 32) y).toNat < 100000
  segs : ∀ y, ((m ((T d : Thread nD τ).loc main_arg1) : IVec S1024x200 32) y).toNat < 2
  fin : ∀ y, ∃ r : ℝ, (m ((T d : Thread nD τ).loc main_arg4) : S2x128.Idx → EReal) y = (r : EReal)

/-- A layer-norm call given the host operations' results and the rows call `k` gathered. -/
theorem chunk (hg : Good m d) (k : Fin 4) (ex : S256x200x128.Idx → EReal)
    (hex : ex = shapeCast S256x200x128 (gat (F := Ideal) k (idm m d) (tbm m d)) shapeCasts_S51200x128_S256x200x128) :
    Chunk k ex (R3 m d (dr main_v0)) (R3 m d (dr main_v2)) (R3 m d (dr main_v3)) (R3 m d (dr main_v5)) (R3 m d (dr main_v7)) (refVal m d) := by
  rw [v0_eq, v2_eq, v3_eq, v5_eq, v7_eq, hex, idm_eq]
  exact chunk_of k _ _ _ _ _ _ _ _ _ _ _ _ _ hg.ids hg.segs hg.fin (fun j i l e hj => rows_cast k _ _ hg.ids j i l e hj) (fun y => rfl)
    (fun l e => pos_cast _ l e) rfl (fun e => row_cast _ e) (fun e => row_cast _ e)

/-- After the first layer-norm call the first chunk is the reference's. -/
theorem upto0 (hg : Good m d) (j : S1024x200x128.Idx) (hj : (j 0).val < 256 * (0 + 1)) : C0 m d (dr main_v17) j = refVal m d j :=
  (congrFun (C0_self m d) j).trans (arr4 (Vof (R3 m)) d (refVal m d) (chunk m d hg 0 _ (v10_eq m d)) (fun j hj => absurd hj (by omega)) j hj)

/-- After the second call the chunks up to the second are the reference's. -/
theorem upto1 (hg : Good m d) (j : S1024x200x128.Idx) (hj : (j 0).val < 256 * (1 + 1)) : C1 m d (dr main_v18) j = refVal m d j := by
  have h := chunk m d hg 1 _ (v12_eq m d)
  rw [← keepA1 m d main_v12 (by decide), ← keepA1 m d main_v0 (by decide), ← keepA1 m d main_v2 (by decide), ← keepA1 m d main_v3 (by decide),
    ← keepA1 m d main_v5 (by decide), ← keepA1 m d main_v7 (by decide)] at h
  exact (congrFun (C1_self m d) j).trans (arr5 (Vof (A1 m)) d (refVal m d) h
    (fun j hj => (congrFun (StableHlo.unary_result main_v17 main_v18 id _ _ (C0 m d)) j).trans (upto0 m d hg j hj)) j hj)

/-- After the third call the chunks up to the third are the reference's. -/
theorem upto2 (hg : Good m d) (j : S1024x200x128.Idx) (hj : (j 0).val < 256 * (2 + 1)) : C2 m d (dr main_v19) j = refVal m d j := by
  have h := chunk m d hg 2 _ (v14_eq m d)
  rw [← keepA2 m d main_v14 (by decide), ← keepA2 m d main_v0 (by decide), ← keepA2 m d main_v2 (by decide), ← keepA2 m d main_v3 (by decide),
    ← keepA2 m d main_v5 (by decide), ← keepA2 m d main_v7 (by decide)] at h
  exact (congrFun (C2_self m d) j).trans (arr6 (Vof (A2 m)) d (refVal m d) h
    (fun j hj => (congrFun (StableHlo.unary_result main_v18 main_v19 id _ _ (C1 m d)) j).trans (upto1 m d hg j hj)) j hj)

/-- After the fourth call the chunks up to the fourth are the reference's. -/
theorem upto3 (hg : Good m d) (j : S1024x200x128.Idx) (hj : (j 0).val < 256 * (3 + 1)) : C3 m d (dr main_v20) j = refVal m d j := by
  have h := chunk m d hg 3 _ (v16_eq m d)
  rw [← keepA3 m d main_v16 (by decide), ← keepA3 m d main_v0 (by decide), ← keepA3 m d main_v2 (by decide), ← keepA3 m d main_v3 (by decide),
    ← keepA3 m d main_v5 (by decide), ← keepA3 m d main_v7 (by decide)] at h
  exact (congrFun (C3_self m d) j).trans (arr7 (Vof (A3 m)) d (refVal m d) h
    (fun j hj => (congrFun (StableHlo.unary_result main_v19 main_v20 id _ _ (C2 m d)) j).trans (upto2 m d hg j hj)) j hj)

/-- The kernel's result is the reference's function of its arguments. -/
theorem kernel_value (hg : Good m d) : C3 m d (dr main_v20) = refVal m d :=
  funext fun j => upto3 m d hg j (j 0).isLt

end Cert.Proof.Gather
-- ==== Proof.Result.lean ====
/-
  The value claim: the kernel and the reference, at the extended reals, from memories that agree on the arguments, end with
  equal results.
-/
module

public import proofs.«01_k».proof.Proof.KVal
public import Idealize.ShloMosaic.Lib.ReduceAll

@[expose] public section

noncomputable section

namespace Cert.Proof.Gather

open Cert.KernelIdeal Cert.KernelIdeal.Gen
open Idealize.ShloMosaic
open Idealize.ShloMosaic.TcCoe
open Idealize.ShloMosaic.SparseCore (S T)

/-- A value whose size is below +∞ is a real. -/
theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | bot => simp [Ideal.cmp] at h
  | coe r => exact ⟨r, rfl⟩
  | top => simp [Ideal.cmp] at h

/-- The precondition's last condition: every element of the segment table is a real. -/
theorem finite_of_pre (a0 a1 : IVec S1024x200 32) (a2 : FVec Ideal S100000x128 .f32) (a3 : FVec Ideal S512x128 .f32) (a4 : FVec Ideal S2x128 .f32) (a5 a6 : FVec Ideal S128 .f32)
    (h : Cert.Pre_ids_in_range_segments_finite.fn (F := Ideal) a0 a1 a2 a3 a4 a5 a6 = fun _ => 1#1) (y : S2x128.Idx) : ∃ r : ℝ, (a4 y : EReal) = (r : EReal) := by
  have e := congrFun h (ix2 0 0)
  simp only [Cert.Pre_ids_in_range_segments_finite.fn, andi, andi_eq_one] at e
  have : Subsingleton Cert.Pre_ids_in_range_segments_finite.S_.Idx := ⟨fun a b => funext fun i => i.elim0⟩
  exact real_of_lt _ (Host.reduce_andi_all _ _ _ _ _ e.2 y)

end Cert.Proof.Gather

namespace Cert.Proof

open Idealize.ShloMosaic
open Cert.Proof.Gather

/-- `Cert.algebraic_KernelIdeal_ReferenceIdeal_pre_ids_in_range_segments_finite` (Defs.lean): both runs end with the reference's
    function of the arguments. -/
theorem algebraic : Cert.algebraic_KernelIdeal_ReferenceIdeal_pre_ids_in_range_segments_finite := fun m g m' g' hpre hargs => by
  have hids := fun d y => ids_of_pre_finite (F := Ideal) _ _ _ _ _ _ _ (hpre d) y
  refine ⟨fun c => refVal m c, ?_, ?_⟩
  · refine (θ_run Cert.KernelIdeal.defs _ _).mono (fun _ h c => ?_) (run_args (F := Ideal) m g fun d y => (hids d y).1)
    have hg : Good m c := ⟨fun y => (hids c y).1, fun y => (hids c y).2, fun y => finite_of_pre _ _ _ _ _ _ _ (hpre c) y⟩
    exact ⟨(h.1 c).2.trans (kernel_value m c hg), (h.1 c).1⟩
  · refine (θ_run Cert.ReferenceIdeal.defs _ _).mono (fun _ h c => ?_) (Cert.ReferenceIdeal.Value.run (F := Ideal) m' g')
    obtain ⟨h0, h1, h2, h3, h4, h5, h6⟩ := hargs c
    refine ⟨(h c).1.trans ((Ref.res_eq m' c).trans ?_), (h c).2⟩
    rw [h0, h1, h2, h3, h4, h5, h6]
    rfl

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ids_in_range
public import proofs.«01_k».proof.Proof.Gen.Pre_ids_in_range_segments_finite
public import proofs.«01_k».proof.Proof.Frames
public import proofs.«01_k».proof.Proof.Result
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_ids_in_range.Gen.facts, Cert.Pre_ids_in_range_segments_finite.Gen.facts,
  frame_kernel, frame_kernelIdeal, frame_kernelIdeal_finite, frame_referenceIdeal, frame_referenceIdeal_finite, trivial, algebraic⟩

end Cert.Proof

end
